-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q [hPre_finite_q : Cert.Pre_finite_q.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q [hPre_finite_q : Cert.Pre_finite_q.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_bucketed : Cert.Pre_bucketed.Facts] (m : (ℓ : Loc Cert.Kernel2.nD Cert.Kernel2.τ Cert.Kernel2.sig) → Buf (Elt Bits) ℓ) : Prop :=
  ∀ c : Dev Cert.Kernel2.nD,
    (Cert.Pre_bucketed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_bucketed : Cert.Pre_bucketed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_bucketed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_bucketed [hPre_bucketed : Cert.Pre_bucketed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_bucketed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q [hKernelIdeal : Cert.KernelIdeal.Facts] [hPre_finite_q : Cert.Pre_finite_q.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q [hReferenceIdeal : Cert.ReferenceIdeal.Facts] [hPre_finite_q : Cert.Pre_finite_q.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_bucketed : Cert.Pre_bucketed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_bucketed : Cert.Pre_bucketed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_bucketed [hReference2Ideal : Cert.Reference2Ideal.Facts] [hPre_bucketed : Cert.Pre_bucketed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_bucketed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "scale2" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite_q [hKernelIdeal : Cert.KernelIdeal.Facts] [hReferenceIdeal : Cert.ReferenceIdeal.Facts] [hPre_finite_q : Cert.Pre_finite_q.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_bucketed : Cert.Pre_bucketed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v101) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_q : Cert.Pre_finite_q.Facts) (hPre_bucketed : Cert.Pre_bucketed.Facts),
    quiescent_Kernel (hKernel := hKernel)
    ∧ quiescent_KernelIdeal (hKernelIdeal := hKernelIdeal)
    ∧ quiescent_KernelIdeal_pre_finite_q (hKernelIdeal := hKernelIdeal) (hPre_finite_q := hPre_finite_q)
    ∧ quiescent_ReferenceIdeal (hReferenceIdeal := hReferenceIdeal)
    ∧ quiescent_ReferenceIdeal_pre_finite_q (hReferenceIdeal := hReferenceIdeal) (hPre_finite_q := hPre_finite_q)
    ∧ quiescent_Kernel2 (hKernel2 := hKernel2) (hPre_bucketed := hPre_bucketed)
    ∧ quiescent_Kernel2Ideal (hKernel2Ideal := hKernel2Ideal) (hPre_bucketed := hPre_bucketed)
    ∧ quiescent_Reference2Ideal (hReference2Ideal := hReference2Ideal)
    ∧ quiescent_Reference2Ideal_pre_bucketed (hReference2Ideal := hReference2Ideal) (hPre_bucketed := hPre_bucketed)
    ∧ preserves_Kernel_KernelIdeal
    ∧ algebraic_KernelIdeal_ReferenceIdeal_pre_finite_q (hKernelIdeal := hKernelIdeal) (hReferenceIdeal := hReferenceIdeal) (hPre_finite_q := hPre_finite_q)
    ∧ preserves_Kernel2_Kernel2Ideal
    ∧ algebraic_Kernel2Ideal_Reference2Ideal (hKernel2Ideal := hKernel2Ideal) (hReference2Ideal := hReference2Ideal) (hPre_bucketed := hPre_bucketed)
-- ==== Pre_bucketed.lean ====
abbrev S128 : Shape := ⟨1, ![128]⟩
abbrev S22528x1024 : Shape := ⟨2, ![22528, 1024]⟩
abbrev S22528x2 : Shape := ⟨2, ![22528, 2]⟩
abbrev S4x16x1024x256 : Shape := ⟨4, ![4, 16, 1024, 256]⟩
abbrev S4x16x256x1024 : Shape := ⟨4, ![4, 16, 256, 1024]⟩
abbrev S1 : Shape := ⟨1, ![1]⟩
abbrev S_ : Shape := ⟨0, ![]⟩

class Facts : Prop where
  slices_S128_S1_127 : S128.Slices ![127] S1
  shapeCasts_S1_S_ : S1.ShapeCasts S_
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : IVec S128 32) (main_arg1 : FVec F S22528x1024 .f32) (main_arg2 : FVec F S22528x2 .f32) (main_arg3 : FVec F S4x16x1024x256 .f32) (main_arg4 : FVec F S4x16x1024x256 .f32) (main_arg5 : FVec F S4x16x256x1024 .f32) : IVec S_ 1 :=
  let main_v0 : IVec S1 32 := (extractStridedSlice S1 ![127] · slices_S128_S1_127) main_arg0
  let main_v1 : IVec S_ 32 := shapeCast S_ main_v0 shapeCasts_S1_S_
  let main_c : IVec S_ 32 := constantI S_ 32 0#32
  let main_v2 : IVec S128 32 := broadcastInDim S128 ![] bcast_S_S128 main_c
  let main_v3 : IVec S128 1 := cmpi .sge main_arg0 main_v2
  let main_c_0 : IVec S_ 32 := constantI S_ 32 24#32
  let main_v4 : IVec S128 32 := broadcastInDim S128 ![] bcast_S_S128 main_c_0
  let main_v5 : IVec S128 1 := cmpi .slt main_arg0 main_v4
  let main_v6 : IVec S128 1 := andi main_v3 main_v5
  let main_v7 : IVec S128 32 := iotaInDim S128 32 0
  let main_v8 : IVec S128 32 := broadcastInDim S128 ![] bcast_S_S128 main_v1
  let main_v9 : IVec S128 1 := cmpi .sge main_v7 main_v8
  let main_v10 : IVec S128 1 := ori main_v6 main_v9
  let main_c_1 : IVec S_ 32 := constantI S_ 32 1#32
  let main_v11 : IVec S_ 1 := cmpi .sge main_v1 main_c_1
  let main_c_2 : IVec S_ 32 := constantI S_ 32 88#32
  let main_v12 : IVec S_ 1 := cmpi .sle main_v1 main_c_2
  let main_v13 : IVec S_ 1 := andi main_v11 main_v12
  let main_c_3 : IVec S_ 1 := constantI S_ 1 1#1
  let main_v14 : IVec S_ 1 := (fun x v => Host.reduce IntOp.andi x v reducesTo_S128_S_d0 h_S_) main_v10 main_c_3
  let main_v15 : IVec S_ 1 := andi main_v13 main_v14
  main_v15
-- ==== Pre_finite_q.lean ====
abbrev S4x4096x512 : Shape := ⟨3, ![4, 4096, 512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel

variable [Facts]

def fn {F : FTy → Type} [FloatOps F] (main_arg0 : FVec F S4x4096x512 .f32) (main_arg1 : FVec F S4x4096x512 .f32) (main_arg2 : FVec F S4x4096x512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  main_v3
-- ==== Kernel.lean ====
abbrev S4x4096x512 : Shape := ⟨3, ![4, 4096, 512]⟩
abbrev S4x256x16x512 : Shape := ⟨4, ![4, 256, 16, 512]⟩
abbrev S4x16x256x512 : Shape := ⟨4, ![4, 16, 256, 512]⟩
abbrev S16384x512 : Shape := ⟨2, ![16384, 512]⟩
abbrev S4096x128 : Shape := ⟨2, ![4096, 128]⟩
abbrev S16x256x128 : Shape := ⟨3, ![16, 256, 128]⟩
abbrev S16x384x128 : Shape := ⟨3, ![16, 384, 128]⟩
abbrev S3x16x256x128 : Shape := ⟨4, ![3, 16, 256, 128]⟩
abbrev S3x2x256x256 : Shape := ⟨4, ![3, 2, 256, 256]⟩
abbrev S128x128 : Shape := ⟨2, ![128, 128]⟩
abbrev S256x128 : Shape := ⟨2, ![256, 128]⟩
abbrev S1x256x128 : Shape := ⟨3, ![1, 256, 128]⟩
abbrev S1x128x128 : Shape := ⟨3, ![1, 128, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S128x1 : Shape := ⟨2, ![128, 1]⟩
abbrev S1x1x128x128 : Shape := ⟨4, ![1, 1, 128, 128]⟩
abbrev S1x32x128 : Shape := ⟨3, ![1, 32, 128]⟩
abbrev S32x128 : Shape := ⟨2, ![32, 128]⟩
abbrev S1x64x128 : Shape := ⟨3, ![1, 64, 128]⟩
abbrev S64x128 : Shape := ⟨2, ![64, 128]⟩
abbrev S1x1x32x128 : Shape := ⟨4, ![1, 1, 32, 128]⟩
abbrev S16x8x128 : Shape := ⟨3, ![16, 8, 128]⟩
abbrev S16x16x128 : Shape := ⟨3, ![16, 16, 128]⟩
abbrev S1x16x8x128 : Shape := ⟨4, ![1, 16, 8, 128]⟩
abbrev S1x1x256x128 : Shape := ⟨4, ![1, 1, 256, 128]⟩

abbrev nBuf : Space → Nat
  | .hbm => 16
  | .vmem => 15
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x256x16x512, .f32⟩
  | .hbm, ⟨4, _⟩ => ⟨S4x16x256x512, .f32⟩
  | .hbm, ⟨5, _⟩ => ⟨S16384x512, .f32⟩
  | .hbm, ⟨6, _⟩ => ⟨S16384x512, .bf16⟩
  | .hbm, ⟨7, _⟩ => ⟨S4x256x16x512, .f32⟩
  | .hbm, ⟨8, _⟩ => ⟨S4x16x256x512, .f32⟩
  | .hbm, ⟨9, _⟩ => ⟨S16384x512, .f32⟩
  | .hbm, ⟨10, _⟩ => ⟨S16384x512, .bf16⟩
  | .hbm, ⟨11, _⟩ => ⟨S4x256x16x512, .f32⟩
  | .hbm, ⟨12, _⟩ => ⟨S4x16x256x512, .f32⟩
  | .hbm, ⟨13, _⟩ => ⟨S16384x512, .f32⟩
  | .hbm, ⟨14, _⟩ => ⟨S16384x512, .bf16⟩
  | .hbm, ⟨15, _⟩ => ⟨S16384x512, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S16x256x128, .f32⟩
  | .local _ .vmem, ⟨9, _⟩ => ⟨S16x384x128, .f32⟩
  | .local _ .vmem, ⟨10, _⟩ => ⟨S16x384x128, .f32⟩
  | .local _ .vmem, ⟨11, _⟩ => ⟨S3x16x256x128, .f32⟩
  | .local _ .vmem, ⟨12, _⟩ => ⟨S3x16x256x128, .f32⟩
  | .local _ .vmem, ⟨13, _⟩ => ⟨S3x16x256x128, .f32⟩
  | .local _ .vmem, ⟨14, _⟩ => ⟨S3x2x256x256, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_off1 (c0_i32_368 : BitVec 32) : Fin 3 → Nat :=
  let c16_i32_367 : BitVec 32 := 16#32
  let c0_i32 : BitVec 32 := 0#32
  let v527 : BitVec 32 := Scalar.muli c16_i32_367 c0_i32
  let v528 : BitVec 32 := Scalar.addi v527 c0_i32_368
  let v529 : Index := Scalar.indexCast v528
  let c0_369 : Index := 0#32
  let c0_370 : Index := 0#32
  ![v529.toNat, 0, 0]
def k0_off2 (c0_i32_368 : BitVec 32) : Fin 3 → Nat :=
  let c16_i32_367 : BitVec 32 := 16#32
  let c0_i32 : BitVec 32 := 0#32
  let v527 : BitVec 32 := Scalar.muli c16_i32_367 c0_i32
  let v528 : BitVec 32 := Scalar.addi v527 c0_i32_368
  let v532 : Index := Scalar.indexCast v528
  let c0_371 : Index := 0#32
  let c0_372 : Index := 0#32
  ![v532.toNat, 0, 0]
def k0_off3 (c0_i32_368 : BitVec 32) : Fin 4 → Nat :=
  let c2_384 : Index := 2#32
  let c16_i32_367 : BitVec 32 := 16#32
  let c0_i32 : BitVec 32 := 0#32
  let v527 : BitVec 32 := Scalar.muli c16_i32_367 c0_i32
  let v528 : BitVec 32 := Scalar.addi v527 c0_i32_368
  let v575 : Index := Scalar.indexCast v528
  let c0_385 : Index := 0#32
  let c0_386 : Index := 0#32
  ![2, v575.toNat, 0, 0]
def k0_off4 (c0_i32_368 : BitVec 32) : Fin 3 → Nat :=
  let c16_i32_367 : BitVec 32 := 16#32
  let c0_i32 : BitVec 32 := 0#32
  let v527 : BitVec 32 := Scalar.muli c16_i32_367 c0_i32
  let v528 : BitVec 32 := Scalar.addi v527 c0_i32_368
  let v587 : Index := Scalar.indexCast v528
  let c128_393 : Index := 128#32
  let c0_394 : Index := 0#32
  ![v587.toNat, 128, 0]
def k0_off5 (c0_i32_368 : BitVec 32) : Fin 3 → Nat :=
  let c16_i32_367 : BitVec 32 := 16#32
  let c0_i32 : BitVec 32 := 0#32
  let v527 : BitVec 32 := Scalar.muli c16_i32_367 c0_i32
  let v528 : BitVec 32 := Scalar.addi v527 c0_i32_368
  let v590 : Index := Scalar.indexCast v528
  let c128_395 : Index := 128#32
  let c0_396 : Index := 0#32
  ![v590.toNat, 128, 0]
def k0_off6 (c0_i32_368 : BitVec 32) : Fin 4 → Nat :=
  let c2_408 : Index := 2#32
  let c16_i32_367 : BitVec 32 := 16#32
  let c0_i32 : BitVec 32 := 0#32
  let v527 : BitVec 32 := Scalar.muli c16_i32_367 c0_i32
  let v528 : BitVec 32 := Scalar.addi v527 c0_i32_368
  let v633 : Index := Scalar.indexCast v528
  let c128_409 : Index := 128#32
  let c0_410 : Index := 0#32
  ![2, v633.toNat, 128, 0]
def k0_mult1 : BitVec 32 :=
  let c0_i32_1159 : BitVec 32 := 0#32
  let c8_i32_1160 : BitVec 32 := 8#32
  let v2415 : BitVec 32 := Scalar.muli c0_i32_1159 c8_i32_1160
  let c0_i32_1161 : BitVec 32 := 0#32
  let v2416 : BitVec 32 := Scalar.addi v2415 c0_i32_1161
  let c32_i32 : BitVec 32 := 32#32
  let v2417 : BitVec 32 := Scalar.muli v2416 c32_i32
  v2417
def k0_off7 : Fin 4 → Nat :=
  let c1_1165 : Index := 1#32
  let c0_i32_1159 : BitVec 32 := 0#32
  let c1_i32_1164 : BitVec 32 := 1#32
  let v2421 : BitVec 32 := Scalar.minsi c0_i32_1159 c1_i32_1164
  let v2422 : Index := Scalar.indexCast v2421
  let c0_1166 : Index := 0#32
  let c0_1167 : Index := 0#32
  ![1, v2422.toNat, 0, 0]
def k0_off8 (c0_i32_1161 : BitVec 32) : Fin 3 → Nat :=
  let c0_1168 : Index := 0#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let v2425 : Index := Scalar.indexCast v2418
  let c0_1169 : Index := 0#32
  ![0, v2425.toNat, 0]
def k0_off9 (c0_i32_1161 : BitVec 32) : Fin 3 → Nat :=
  let c4_1170 : Index := 4#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let v2428 : Index := Scalar.indexCast v2418
  let c0_1171 : Index := 0#32
  ![4, v2428.toNat, 0]
def k0_off10 (c0_i32_1161 : BitVec 32) : Fin 3 → Nat :=
  let c8_1172 : Index := 8#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let v2431 : Index := Scalar.indexCast v2418
  let c0_1173 : Index := 0#32
  ![8, v2431.toNat, 0]
def k0_off11 (c0_i32_1161 : BitVec 32) : Fin 3 → Nat :=
  let c12_1174 : Index := 12#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let v2434 : Index := Scalar.indexCast v2418
  let c0_1175 : Index := 0#32
  ![12, v2434.toNat, 0]
def k0_off12 (c0_i32_1161 : BitVec 32) : Fin 3 → Nat :=
  let c0_1176 : Index := 0#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let c128_i32_1162 : BitVec 32 := 128#32
  let v2419 : BitVec 32 := Scalar.addi v2418 c128_i32_1162
  let c32_i32_1163 : BitVec 32 := 32#32
  let v2420 : BitVec 32 := Scalar.subi v2419 c32_i32_1163
  let v2438 : Index := Scalar.indexCast v2420
  let c0_1177 : Index := 0#32
  ![0, v2438.toNat, 0]
def k0_off13 (c0_i32_1161 : BitVec 32) : Fin 3 → Nat :=
  let c4_1178 : Index := 4#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let c128_i32_1162 : BitVec 32 := 128#32
  let v2419 : BitVec 32 := Scalar.addi v2418 c128_i32_1162
  let c32_i32_1163 : BitVec 32 := 32#32
  let v2420 : BitVec 32 := Scalar.subi v2419 c32_i32_1163
  let v2441 : Index := Scalar.indexCast v2420
  let c0_1179 : Index := 0#32
  ![4, v2441.toNat, 0]
def k0_off14 (c0_i32_1161 : BitVec 32) : Fin 3 → Nat :=
  let c8_1180 : Index := 8#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let c128_i32_1162 : BitVec 32 := 128#32
  let v2419 : BitVec 32 := Scalar.addi v2418 c128_i32_1162
  let c32_i32_1163 : BitVec 32 := 32#32
  let v2420 : BitVec 32 := Scalar.subi v2419 c32_i32_1163
  let v2444 : Index := Scalar.indexCast v2420
  let c0_1181 : Index := 0#32
  ![8, v2444.toNat, 0]
def k0_off15 (c0_i32_1161 : BitVec 32) : Fin 3 → Nat :=
  let c12_1182 : Index := 12#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let c128_i32_1162 : BitVec 32 := 128#32
  let v2419 : BitVec 32 := Scalar.addi v2418 c128_i32_1162
  let c32_i32_1163 : BitVec 32 := 32#32
  let v2420 : BitVec 32 := Scalar.subi v2419 c32_i32_1163
  let v2447 : Index := Scalar.indexCast v2420
  let c0_1183 : Index := 0#32
  ![12, v2447.toNat, 0]
def k0_off16 (c0_i32_1161 : BitVec 32) : Fin 4 → Nat :=
  let c1_1197 : Index := 1#32
  let c0_1198 : Index := 0#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let v2502 : Index := Scalar.indexCast v2418
  let c0_1199 : Index := 0#32
  ![1, 0, v2502.toNat, 0]
def k0_off17 (c0_i32_1161 : BitVec 32) : Fin 4 → Nat :=
  let c1_1206 : Index := 1#32
  let c4_1207 : Index := 4#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let v2517 : Index := Scalar.indexCast v2418
  let c0_1208 : Index := 0#32
  ![1, 4, v2517.toNat, 0]
def k0_off18 (c0_i32_1161 : BitVec 32) : Fin 4 → Nat :=
  let c1_1215 : Index := 1#32
  let c8_1216 : Index := 8#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let v2532 : Index := Scalar.indexCast v2418
  let c0_1217 : Index := 0#32
  ![1, 8, v2532.toNat, 0]
def k0_off19 (c0_i32_1161 : BitVec 32) : Fin 4 → Nat :=
  let c1_1224 : Index := 1#32
  let c12_1225 : Index := 12#32
  let c0_i32_1159 : BitVec 32 := 0#32
  let c8_i32_1160 : BitVec 32 := 8#32
  let v2415 : BitVec 32 := Scalar.muli c0_i32_1159 c8_i32_1160
  let v2416 : BitVec 32 := Scalar.addi v2415 c0_i32_1161
  let c32_i32 : BitVec 32 := 32#32
  let v2417 : BitVec 32 := Scalar.muli v2416 c32_i32
  let v2418 : BitVec 32 := v2417
  let v2547 : Index := Scalar.indexCast v2418
  let c0_1226 : Index := 0#32
  ![1, 12, v2547.toNat, 0]
def k0_mult2 : BitVec 32 :=
  let c0_i32_1159 : BitVec 32 := 0#32
  let c8_i32_1233 : BitVec 32 := 8#32
  let v2559 : BitVec 32 := Scalar.muli c0_i32_1159 c8_i32_1233
  let c1_i32_1234 : BitVec 32 := 1#32
  let v2560 : BitVec 32 := Scalar.addi v2559 c1_i32_1234
  let c32_i32_1235 : BitVec 32 := 32#32
  let v2561 : BitVec 32 := Scalar.muli v2560 c32_i32_1235
  v2561
def k0_mult3 : BitVec 32 :=
  let c0_i32_1159 : BitVec 32 := 0#32
  let c8_i32_1307 : BitVec 32 := 8#32
  let v2701 : BitVec 32 := Scalar.muli c0_i32_1159 c8_i32_1307
  let c2_i32_1308 : BitVec 32 := 2#32
  let v2702 : BitVec 32 := Scalar.addi v2701 c2_i32_1308
  let c32_i32_1309 : BitVec 32 := 32#32
  let v2703 : BitVec 32 := Scalar.muli v2702 c32_i32_1309
  v2703
def k0_mult4 : BitVec 32 :=
  let c0_i32_1159 : BitVec 32 := 0#32
  let c8_i32_1381 : BitVec 32 := 8#32
  let v2843 : BitVec 32 := Scalar.muli c0_i32_1159 c8_i32_1381
  let c3_i32_1382 : BitVec 32 := 3#32
  let v2844 : BitVec 32 := Scalar.addi v2843 c3_i32_1382
  let c32_i32_1383 : BitVec 32 := 32#32
  let v2845 : BitVec 32 := Scalar.muli v2844 c32_i32_1383
  v2845
def k0_mult5 : BitVec 32 :=
  let c0_i32_1159 : BitVec 32 := 0#32
  let c8_i32_1455 : BitVec 32 := 8#32
  let v2985 : BitVec 32 := Scalar.muli c0_i32_1159 c8_i32_1455
  let c4_i32_1456 : BitVec 32 := 4#32
  let v2986 : BitVec 32 := Scalar.addi v2985 c4_i32_1456
  let c32_i32_1457 : BitVec 32 := 32#32
  let v2987 : BitVec 32 := Scalar.muli v2986 c32_i32_1457
  v2987
def k0_mult6 : BitVec 32 :=
  let c0_i32_1159 : BitVec 32 := 0#32
  let c8_i32_1529 : BitVec 32 := 8#32
  let v3127 : BitVec 32 := Scalar.muli c0_i32_1159 c8_i32_1529
  let c5_i32_1530 : BitVec 32 := 5#32
  let v3128 : BitVec 32 := Scalar.addi v3127 c5_i32_1530
  let c32_i32_1531 : BitVec 32 := 32#32
  let v3129 : BitVec 32 := Scalar.muli v3128 c32_i32_1531
  v3129
def k0_mult7 : BitVec 32 :=
  let c0_i32_1159 : BitVec 32 := 0#32
  let c8_i32_1603 : BitVec 32 := 8#32
  let v3269 : BitVec 32 := Scalar.muli c0_i32_1159 c8_i32_1603
  let c6_i32_1604 : BitVec 32 := 6#32
  let v3270 : BitVec 32 := Scalar.addi v3269 c6_i32_1604
  let c32_i32_1605 : BitVec 32 := 32#32
  let v3271 : BitVec 32 := Scalar.muli v3270 c32_i32_1605
  v3271
def k0_mult8 : BitVec 32 :=
  let c0_i32_1159 : BitVec 32 := 0#32
  let c8_i32_1677 : BitVec 32 := 8#32
  let v3411 : BitVec 32 := Scalar.muli c0_i32_1159 c8_i32_1677
  let c7_i32_1678 : BitVec 32 := 7#32
  let v3412 : BitVec 32 := Scalar.addi v3411 c7_i32_1678
  let c32_i32_1679 : BitVec 32 := 32#32
  let v3413 : BitVec 32 := Scalar.muli v3412 c32_i32_1679
  v3413
def k0_mult9 : BitVec 32 :=
  let c0_i32_1159 : BitVec 32 := 0#32
  let c8_i32_1751 : BitVec 32 := 8#32
  let v3553 : BitVec 32 := Scalar.muli c0_i32_1159 c8_i32_1751
  let c0_i32_1752 : BitVec 32 := 0#32
  let v3554 : BitVec 32 := Scalar.addi v3553 c0_i32_1752
  let c32_i32_1753 : BitVec 32 := 32#32
  let v3555 : BitVec 32 := Scalar.muli v3554 c32_i32_1753
  v3555
def k0_off20 (c0_i32_1752 : BitVec 32) : Fin 3 → Nat :=
  let c1_1760 : Index := 1#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let v3563 : Index := Scalar.indexCast v3556
  let c0_1761 : Index := 0#32
  ![1, v3563.toNat, 0]
def k0_off21 (c0_i32_1752 : BitVec 32) : Fin 3 → Nat :=
  let c5_1762 : Index := 5#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let v3566 : Index := Scalar.indexCast v3556
  let c0_1763 : Index := 0#32
  ![5, v3566.toNat, 0]
def k0_off22 (c0_i32_1752 : BitVec 32) : Fin 3 → Nat :=
  let c9_1764 : Index := 9#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let v3569 : Index := Scalar.indexCast v3556
  let c0_1765 : Index := 0#32
  ![9, v3569.toNat, 0]
def k0_off23 (c0_i32_1752 : BitVec 32) : Fin 3 → Nat :=
  let c13_1766 : Index := 13#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let v3572 : Index := Scalar.indexCast v3556
  let c0_1767 : Index := 0#32
  ![13, v3572.toNat, 0]
def k0_off24 (c0_i32_1752 : BitVec 32) : Fin 3 → Nat :=
  let c1_1768 : Index := 1#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let c128_i32_1754 : BitVec 32 := 128#32
  let v3557 : BitVec 32 := Scalar.addi v3556 c128_i32_1754
  let c32_i32_1755 : BitVec 32 := 32#32
  let v3558 : BitVec 32 := Scalar.subi v3557 c32_i32_1755
  let v3576 : Index := Scalar.indexCast v3558
  let c0_1769 : Index := 0#32
  ![1, v3576.toNat, 0]
def k0_off25 (c0_i32_1752 : BitVec 32) : Fin 3 → Nat :=
  let c5_1770 : Index := 5#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let c128_i32_1754 : BitVec 32 := 128#32
  let v3557 : BitVec 32 := Scalar.addi v3556 c128_i32_1754
  let c32_i32_1755 : BitVec 32 := 32#32
  let v3558 : BitVec 32 := Scalar.subi v3557 c32_i32_1755
  let v3579 : Index := Scalar.indexCast v3558
  let c0_1771 : Index := 0#32
  ![5, v3579.toNat, 0]
def k0_off26 (c0_i32_1752 : BitVec 32) : Fin 3 → Nat :=
  let c9_1772 : Index := 9#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let c128_i32_1754 : BitVec 32 := 128#32
  let v3557 : BitVec 32 := Scalar.addi v3556 c128_i32_1754
  let c32_i32_1755 : BitVec 32 := 32#32
  let v3558 : BitVec 32 := Scalar.subi v3557 c32_i32_1755
  let v3582 : Index := Scalar.indexCast v3558
  let c0_1773 : Index := 0#32
  ![9, v3582.toNat, 0]
def k0_off27 (c0_i32_1752 : BitVec 32) : Fin 3 → Nat :=
  let c13_1774 : Index := 13#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let c128_i32_1754 : BitVec 32 := 128#32
  let v3557 : BitVec 32 := Scalar.addi v3556 c128_i32_1754
  let c32_i32_1755 : BitVec 32 := 32#32
  let v3558 : BitVec 32 := Scalar.subi v3557 c32_i32_1755
  let v3585 : Index := Scalar.indexCast v3558
  let c0_1775 : Index := 0#32
  ![13, v3585.toNat, 0]
def k0_off28 (c0_i32_1752 : BitVec 32) : Fin 4 → Nat :=
  let c1_1789 : Index := 1#32
  let c1_1790 : Index := 1#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let v3640 : Index := Scalar.indexCast v3556
  let c0_1791 : Index := 0#32
  ![1, 1, v3640.toNat, 0]
def k0_off29 (c0_i32_1752 : BitVec 32) : Fin 4 → Nat :=
  let c1_1798 : Index := 1#32
  let c5_1799 : Index := 5#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let v3655 : Index := Scalar.indexCast v3556
  let c0_1800 : Index := 0#32
  ![1, 5, v3655.toNat, 0]
def k0_off30 (c0_i32_1752 : BitVec 32) : Fin 4 → Nat :=
  let c1_1807 : Index := 1#32
  let c9_1808 : Index := 9#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let v3670 : Index := Scalar.indexCast v3556
  let c0_1809 : Index := 0#32
  ![1, 9, v3670.toNat, 0]
def k0_off31 (c0_i32_1752 : BitVec 32) : Fin 4 → Nat :=
  let c1_1816 : Index := 1#32
  let c13_1817 : Index := 13#32
  let c0_i32_1159 : BitVec 32 := 0#32
  let c8_i32_1751 : BitVec 32 := 8#32
  let v3553 : BitVec 32 := Scalar.muli c0_i32_1159 c8_i32_1751
  let v3554 : BitVec 32 := Scalar.addi v3553 c0_i32_1752
  let c32_i32_1753 : BitVec 32 := 32#32
  let v3555 : BitVec 32 := Scalar.muli v3554 c32_i32_1753
  let v3556 : BitVec 32 := v3555
  let v3685 : Index := Scalar.indexCast v3556
  let c0_1818 : Index := 0#32
  ![1, 13, v3685.toNat, 0]
def k0_mult10 : BitVec 32 :=
  let c0_i32_1159 : BitVec 32 := 0#32
  let c8_i32_1825 : BitVec 32 := 8#32
  let v3697 : BitVec 32 := Scalar.muli c0_i32_1159 c8_i32_1825
  let c1_i32_1826 : BitVec 32 := 1#32
  let v3698 : BitVec 32 := Scalar.addi v3697 c1_i32_1826
  let c32_i32_1827 : BitVec 32 := 32#32
  let v3699 : BitVec 32 := Scalar.muli v3698 c32_i32_1827
  v3699
def k0_mult11 : BitVec 32 :=
  let c0_i32_1159 : BitVec 32 := 0#32
  let c8_i32_1899 : BitVec 32 := 8#32
  let v3839 : BitVec 32 := Scalar.muli c0_i32_1159 c8_i32_1899
  let c2_i32_1900 : BitVec 32 := 2#32
  let v3840 : BitVec 32 := Scalar.addi v3839 c2_i32_1900
  let c32_i32_1901 : BitVec 32 := 32#32
  let v3841 : BitVec 32 := Scalar.muli v3840 c32_i32_1901
  v3841
def k0_mult12 : BitVec 32 :=
  let c0_i32_1159 : BitVec 32 := 0#32
  let c8_i32_1973 : BitVec 32 := 8#32
  let v3981 : BitVec 32 := Scalar.muli c0_i32_1159 c8_i32_1973
  let c3_i32_1974 : BitVec 32 := 3#32
  let v3982 : BitVec 32 := Scalar.addi v3981 c3_i32_1974
  let c32_i32_1975 : BitVec 32 := 32#32
  let v3983 : BitVec 32 := Scalar.muli v3982 c32_i32_1975
  v3983
def k0_mult13 : BitVec 32 :=
  let c0_i32_1159 : BitVec 32 := 0#32
  let c8_i32_2047 : BitVec 32 := 8#32
  let v4123 : BitVec 32 := Scalar.muli c0_i32_1159 c8_i32_2047
  let c4_i32_2048 : BitVec 32 := 4#32
  let v4124 : BitVec 32 := Scalar.addi v4123 c4_i32_2048
  let c32_i32_2049 : BitVec 32 := 32#32
  let v4125 : BitVec 32 := Scalar.muli v4124 c32_i32_2049
  v4125
def k0_mult14 : BitVec 32 :=
  let c0_i32_1159 : BitVec 32 := 0#32
  let c8_i32_2121 : BitVec 32 := 8#32
  let v4265 : BitVec 32 := Scalar.muli c0_i32_1159 c8_i32_2121
  let c5_i32_2122 : BitVec 32 := 5#32
  let v4266 : BitVec 32 := Scalar.addi v4265 c5_i32_2122
  let c32_i32_2123 : BitVec 32 := 32#32
  let v4267 : BitVec 32 := Scalar.muli v4266 c32_i32_2123
  v4267
def k0_mult15 : BitVec 32 :=
  let c0_i32_1159 : BitVec 32 := 0#32
  let c8_i32_2195 : BitVec 32 := 8#32
  let v4407 : BitVec 32 := Scalar.muli c0_i32_1159 c8_i32_2195
  let c6_i32_2196 : BitVec 32 := 6#32
  let v4408 : BitVec 32 := Scalar.addi v4407 c6_i32_2196
  let c32_i32_2197 : BitVec 32 := 32#32
  let v4409 : BitVec 32 := Scalar.muli v4408 c32_i32_2197
  v4409
def k0_mult16 : BitVec 32 :=
  let c0_i32_1159 : BitVec 32 := 0#32
  let c8_i32_2269 : BitVec 32 := 8#32
  let v4549 : BitVec 32 := Scalar.muli c0_i32_1159 c8_i32_2269
  let c7_i32_2270 : BitVec 32 := 7#32
  let v4550 : BitVec 32 := Scalar.addi v4549 c7_i32_2270
  let c32_i32_2271 : BitVec 32 := 32#32
  let v4551 : BitVec 32 := Scalar.muli v4550 c32_i32_2271
  v4551
def k0_mult17 : BitVec 32 :=
  let c0_i32_1159 : BitVec 32 := 0#32
  let c8_i32_2343 : BitVec 32 := 8#32
  let v4691 : BitVec 32 := Scalar.muli c0_i32_1159 c8_i32_2343
  let c0_i32_2344 : BitVec 32 := 0#32
  let v4692 : BitVec 32 := Scalar.addi v4691 c0_i32_2344
  let c32_i32_2345 : BitVec 32 := 32#32
  let v4693 : BitVec 32 := Scalar.muli v4692 c32_i32_2345
  v4693
def k0_off32 (c0_i32_2344 : BitVec 32) : Fin 3 → Nat :=
  let c2_2352 : Index := 2#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let v4701 : Index := Scalar.indexCast v4694
  let c0_2353 : Index := 0#32
  ![2, v4701.toNat, 0]
def k0_off33 (c0_i32_2344 : BitVec 32) : Fin 3 → Nat :=
  let c6_2354 : Index := 6#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let v4704 : Index := Scalar.indexCast v4694
  let c0_2355 : Index := 0#32
  ![6, v4704.toNat, 0]
def k0_off34 (c0_i32_2344 : BitVec 32) : Fin 3 → Nat :=
  let c10_2356 : Index := 10#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let v4707 : Index := Scalar.indexCast v4694
  let c0_2357 : Index := 0#32
  ![10, v4707.toNat, 0]
def k0_off35 (c0_i32_2344 : BitVec 32) : Fin 3 → Nat :=
  let c14_2358 : Index := 14#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let v4710 : Index := Scalar.indexCast v4694
  let c0_2359 : Index := 0#32
  ![14, v4710.toNat, 0]
def k0_off36 (c0_i32_2344 : BitVec 32) : Fin 3 → Nat :=
  let c2_2360 : Index := 2#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let c128_i32_2346 : BitVec 32 := 128#32
  let v4695 : BitVec 32 := Scalar.addi v4694 c128_i32_2346
  let c32_i32_2347 : BitVec 32 := 32#32
  let v4696 : BitVec 32 := Scalar.subi v4695 c32_i32_2347
  let v4714 : Index := Scalar.indexCast v4696
  let c0_2361 : Index := 0#32
  ![2, v4714.toNat, 0]
def k0_off37 (c0_i32_2344 : BitVec 32) : Fin 3 → Nat :=
  let c6_2362 : Index := 6#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let c128_i32_2346 : BitVec 32 := 128#32
  let v4695 : BitVec 32 := Scalar.addi v4694 c128_i32_2346
  let c32_i32_2347 : BitVec 32 := 32#32
  let v4696 : BitVec 32 := Scalar.subi v4695 c32_i32_2347
  let v4717 : Index := Scalar.indexCast v4696
  let c0_2363 : Index := 0#32
  ![6, v4717.toNat, 0]
def k0_off38 (c0_i32_2344 : BitVec 32) : Fin 3 → Nat :=
  let c10_2364 : Index := 10#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let c128_i32_2346 : BitVec 32 := 128#32
  let v4695 : BitVec 32 := Scalar.addi v4694 c128_i32_2346
  let c32_i32_2347 : BitVec 32 := 32#32
  let v4696 : BitVec 32 := Scalar.subi v4695 c32_i32_2347
  let v4720 : Index := Scalar.indexCast v4696
  let c0_2365 : Index := 0#32
  ![10, v4720.toNat, 0]
def k0_off39 (c0_i32_2344 : BitVec 32) : Fin 3 → Nat :=
  let c14_2366 : Index := 14#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let c128_i32_2346 : BitVec 32 := 128#32
  let v4695 : BitVec 32 := Scalar.addi v4694 c128_i32_2346
  let c32_i32_2347 : BitVec 32 := 32#32
  let v4696 : BitVec 32 := Scalar.subi v4695 c32_i32_2347
  let v4723 : Index := Scalar.indexCast v4696
  let c0_2367 : Index := 0#32
  ![14, v4723.toNat, 0]
def k0_off40 (c0_i32_2344 : BitVec 32) : Fin 4 → Nat :=
  let c1_2381 : Index := 1#32
  let c2_2382 : Index := 2#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let v4778 : Index := Scalar.indexCast v4694
  let c0_2383 : Index := 0#32
  ![1, 2, v4778.toNat, 0]
def k0_off41 (c0_i32_2344 : BitVec 32) : Fin 4 → Nat :=
  let c1_2390 : Index := 1#32
  let c6_2391 : Index := 6#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let v4793 : Index := Scalar.indexCast v4694
  let c0_2392 : Index := 0#32
  ![1, 6, v4793.toNat, 0]
def k0_off42 (c0_i32_2344 : BitVec 32) : Fin 4 → Nat :=
  let c1_2399 : Index := 1#32
  let c10_2400 : Index := 10#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let v4808 : Index := Scalar.indexCast v4694
  let c0_2401 : Index := 0#32
  ![1, 10, v4808.toNat, 0]
def k0_off43 (c0_i32_2344 : BitVec 32) : Fin 4 → Nat :=
  let c1_2408 : Index := 1#32
  let c14_2409 : Index := 14#32
  let c0_i32_1159 : BitVec 32 := 0#32
  let c8_i32_2343 : BitVec 32 := 8#32
  let v4691 : BitVec 32 := Scalar.muli c0_i32_1159 c8_i32_2343
  let v4692 : BitVec 32 := Scalar.addi v4691 c0_i32_2344
  let c32_i32_2345 : BitVec 32 := 32#32
  let v4693 : BitVec 32 := Scalar.muli v4692 c32_i32_2345
  let v4694 : BitVec 32 := v4693
  let v4823 : Index := Scalar.indexCast v4694
  let c0_2410 : Index := 0#32
  ![1, 14, v4823.toNat, 0]
def k0_mult18 : BitVec 32 :=
  let c0_i32_1159 : BitVec 32 := 0#32
  let c8_i32_2417 : BitVec 32 := 8#32
  let v4835 : BitVec 32 := Scalar.muli c0_i32_1159 c8_i32_2417
  let c1_i32_2418 : BitVec 32 := 1#32
  let v4836 : BitVec 32 := Scalar.addi v4835 c1_i32_2418
  let c32_i32_2419 : BitVec 32 := 32#32
  let v4837 : BitVec 32 := Scalar.muli v4836 c32_i32_2419
  v4837
def k0_mult19 : BitVec 32 :=
  let c0_i32_1159 : BitVec 32 := 0#32
  let c8_i32_2491 : BitVec 32 := 8#32
  let v4977 : BitVec 32 := Scalar.muli c0_i32_1159 c8_i32_2491
  let c2_i32_2492 : BitVec 32 := 2#32
  let v4978 : BitVec 32 := Scalar.addi v4977 c2_i32_2492
  let c32_i32_2493 : BitVec 32 := 32#32
  let v4979 : BitVec 32 := Scalar.muli v4978 c32_i32_2493
  v4979
def k0_mult20 : BitVec 32 :=
  let c0_i32_1159 : BitVec 32 := 0#32
  let c8_i32_2565 : BitVec 32 := 8#32
  let v5119 : BitVec 32 := Scalar.muli c0_i32_1159 c8_i32_2565
  let c3_i32_2566 : BitVec 32 := 3#32
  let v5120 : BitVec 32 := Scalar.addi v5119 c3_i32_2566
  let c32_i32_2567 : BitVec 32 := 32#32
  let v5121 : BitVec 32 := Scalar.muli v5120 c32_i32_2567
  v5121
def k0_mult21 : BitVec 32 :=
  let c0_i32_1159 : BitVec 32 := 0#32
  let c8_i32_2639 : BitVec 32 := 8#32
  let v5261 : BitVec 32 := Scalar.muli c0_i32_1159 c8_i32_2639
  let c4_i32_2640 : BitVec 32 := 4#32
  let v5262 : BitVec 32 := Scalar.addi v5261 c4_i32_2640
  let c32_i32_2641 : BitVec 32 := 32#32
  let v5263 : BitVec 32 := Scalar.muli v5262 c32_i32_2641
  v5263
def k0_mult22 : BitVec 32 :=
  let c0_i32_1159 : BitVec 32 := 0#32
  let c8_i32_2713 : BitVec 32 := 8#32
  let v5403 : BitVec 32 := Scalar.muli c0_i32_1159 c8_i32_2713
  let c5_i32_2714 : BitVec 32 := 5#32
  let v5404 : BitVec 32 := Scalar.addi v5403 c5_i32_2714
  let c32_i32_2715 : BitVec 32 := 32#32
  let v5405 : BitVec 32 := Scalar.muli v5404 c32_i32_2715
  v5405
def k0_mult23 : BitVec 32 :=
  let c0_i32_1159 : BitVec 32 := 0#32
  let c8_i32_2787 : BitVec 32 := 8#32
  let v5545 : BitVec 32 := Scalar.muli c0_i32_1159 c8_i32_2787
  let c6_i32_2788 : BitVec 32 := 6#32
  let v5546 : BitVec 32 := Scalar.addi v5545 c6_i32_2788
  let c32_i32_2789 : BitVec 32 := 32#32
  let v5547 : BitVec 32 := Scalar.muli v5546 c32_i32_2789
  v5547
def k0_mult24 : BitVec 32 :=
  let c0_i32_1159 : BitVec 32 := 0#32
  let c8_i32_2861 : BitVec 32 := 8#32
  let v5687 : BitVec 32 := Scalar.muli c0_i32_1159 c8_i32_2861
  let c7_i32_2862 : BitVec 32 := 7#32
  let v5688 : BitVec 32 := Scalar.addi v5687 c7_i32_2862
  let c32_i32_2863 : BitVec 32 := 32#32
  let v5689 : BitVec 32 := Scalar.muli v5688 c32_i32_2863
  v5689
def k0_mult25 : BitVec 32 :=
  let c0_i32_1159 : BitVec 32 := 0#32
  let c8_i32_2935 : BitVec 32 := 8#32
  let v5829 : BitVec 32 := Scalar.muli c0_i32_1159 c8_i32_2935
  let c0_i32_2936 : BitVec 32 := 0#32
  let v5830 : BitVec 32 := Scalar.addi v5829 c0_i32_2936
  let c32_i32_2937 : BitVec 32 := 32#32
  let v5831 : BitVec 32 := Scalar.muli v5830 c32_i32_2937
  v5831
def k0_off44 (c0_i32_2936 : BitVec 32) : Fin 3 → Nat :=
  let c3_2944 : Index := 3#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let v5839 : Index := Scalar.indexCast v5832
  let c0_2945 : Index := 0#32
  ![3, v5839.toNat, 0]
def k0_off45 (c0_i32_2936 : BitVec 32) : Fin 3 → Nat :=
  let c7_2946 : Index := 7#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let v5842 : Index := Scalar.indexCast v5832
  let c0_2947 : Index := 0#32
  ![7, v5842.toNat, 0]
def k0_off46 (c0_i32_2936 : BitVec 32) : Fin 3 → Nat :=
  let c11_2948 : Index := 11#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let v5845 : Index := Scalar.indexCast v5832
  let c0_2949 : Index := 0#32
  ![11, v5845.toNat, 0]
def k0_off47 (c0_i32_2936 : BitVec 32) : Fin 3 → Nat :=
  let c15_2950 : Index := 15#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let v5848 : Index := Scalar.indexCast v5832
  let c0_2951 : Index := 0#32
  ![15, v5848.toNat, 0]
def k0_off48 (c0_i32_2936 : BitVec 32) : Fin 3 → Nat :=
  let c3_2952 : Index := 3#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let c128_i32_2938 : BitVec 32 := 128#32
  let v5833 : BitVec 32 := Scalar.addi v5832 c128_i32_2938
  let c32_i32_2939 : BitVec 32 := 32#32
  let v5834 : BitVec 32 := Scalar.subi v5833 c32_i32_2939
  let v5852 : Index := Scalar.indexCast v5834
  let c0_2953 : Index := 0#32
  ![3, v5852.toNat, 0]
def k0_off49 (c0_i32_2936 : BitVec 32) : Fin 3 → Nat :=
  let c7_2954 : Index := 7#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let c128_i32_2938 : BitVec 32 := 128#32
  let v5833 : BitVec 32 := Scalar.addi v5832 c128_i32_2938
  let c32_i32_2939 : BitVec 32 := 32#32
  let v5834 : BitVec 32 := Scalar.subi v5833 c32_i32_2939
  let v5855 : Index := Scalar.indexCast v5834
  let c0_2955 : Index := 0#32
  ![7, v5855.toNat, 0]
def k0_off50 (c0_i32_2936 : BitVec 32) : Fin 3 → Nat :=
  let c11_2956 : Index := 11#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let c128_i32_2938 : BitVec 32 := 128#32
  let v5833 : BitVec 32 := Scalar.addi v5832 c128_i32_2938
  let c32_i32_2939 : BitVec 32 := 32#32
  let v5834 : BitVec 32 := Scalar.subi v5833 c32_i32_2939
  let v5858 : Index := Scalar.indexCast v5834
  let c0_2957 : Index := 0#32
  ![11, v5858.toNat, 0]
def k0_off51 (c0_i32_2936 : BitVec 32) : Fin 3 → Nat :=
  let c15_2958 : Index := 15#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let c128_i32_2938 : BitVec 32 := 128#32
  let v5833 : BitVec 32 := Scalar.addi v5832 c128_i32_2938
  let c32_i32_2939 : BitVec 32 := 32#32
  let v5834 : BitVec 32 := Scalar.subi v5833 c32_i32_2939
  let v5861 : Index := Scalar.indexCast v5834
  let c0_2959 : Index := 0#32
  ![15, v5861.toNat, 0]
def k0_off52 (c0_i32_2936 : BitVec 32) : Fin 4 → Nat :=
  let c1_2973 : Index := 1#32
  let c3_2974 : Index := 3#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let v5916 : Index := Scalar.indexCast v5832
  let c0_2975 : Index := 0#32
  ![1, 3, v5916.toNat, 0]
def k0_off53 (c0_i32_2936 : BitVec 32) : Fin 4 → Nat :=
  let c1_2982 : Index := 1#32
  let c7_2983 : Index := 7#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let v5931 : Index := Scalar.indexCast v5832
  let c0_2984 : Index := 0#32
  ![1, 7, v5931.toNat, 0]
def k0_off54 (c0_i32_2936 : BitVec 32) : Fin 4 → Nat :=
  let c1_2991 : Index := 1#32
  let c11_2992 : Index := 11#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let v5946 : Index := Scalar.indexCast v5832
  let c0_2993 : Index := 0#32
  ![1, 11, v5946.toNat, 0]
def k0_off55 (c0_i32_2936 : BitVec 32) : Fin 4 → Nat :=
  let c1_3000 : Index := 1#32
  let c15_3001 : Index := 15#32
  let c0_i32_1159 : BitVec 32 := 0#32
  let c8_i32_2935 : BitVec 32 := 8#32
  let v5829 : BitVec 32 := Scalar.muli c0_i32_1159 c8_i32_2935
  let v5830 : BitVec 32 := Scalar.addi v5829 c0_i32_2936
  let c32_i32_2937 : BitVec 32 := 32#32
  let v5831 : BitVec 32 := Scalar.muli v5830 c32_i32_2937
  let v5832 : BitVec 32 := v5831
  let v5961 : Index := Scalar.indexCast v5832
  let c0_3002 : Index := 0#32
  ![1, 15, v5961.toNat, 0]
def k0_mult26 : BitVec 32 :=
  let c0_i32_1159 : BitVec 32 := 0#32
  let c8_i32_3009 : BitVec 32 := 8#32
  let v5973 : BitVec 32 := Scalar.muli c0_i32_1159 c8_i32_3009
  let c1_i32_3010 : BitVec 32 := 1#32
  let v5974 : BitVec 32 := Scalar.addi v5973 c1_i32_3010
  let c32_i32_3011 : BitVec 32 := 32#32
  let v5975 : BitVec 32 := Scalar.muli v5974 c32_i32_3011
  v5975
def k0_mult27 : BitVec 32 :=
  let c0_i32_1159 : BitVec 32 := 0#32
  let c8_i32_3083 : BitVec 32 := 8#32
  let v6115 : BitVec 32 := Scalar.muli c0_i32_1159 c8_i32_3083
  let c2_i32_3084 : BitVec 32 := 2#32
  let v6116 : BitVec 32 := Scalar.addi v6115 c2_i32_3084
  let c32_i32_3085 : BitVec 32 := 32#32
  let v6117 : BitVec 32 := Scalar.muli v6116 c32_i32_3085
  v6117
def k0_mult28 : BitVec 32 :=
  let c0_i32_1159 : BitVec 32 := 0#32
  let c8_i32_3157 : BitVec 32 := 8#32
  let v6257 : BitVec 32 := Scalar.muli c0_i32_1159 c8_i32_3157
  let c3_i32_3158 : BitVec 32 := 3#32
  let v6258 : BitVec 32 := Scalar.addi v6257 c3_i32_3158
  let c32_i32_3159 : BitVec 32 := 32#32
  let v6259 : BitVec 32 := Scalar.muli v6258 c32_i32_3159
  v6259
def k0_mult29 : BitVec 32 :=
  let c0_i32_1159 : BitVec 32 := 0#32
  let c8_i32_3231 : BitVec 32 := 8#32
  let v6399 : BitVec 32 := Scalar.muli c0_i32_1159 c8_i32_3231
  let c4_i32_3232 : BitVec 32 := 4#32
  let v6400 : BitVec 32 := Scalar.addi v6399 c4_i32_3232
  let c32_i32_3233 : BitVec 32 := 32#32
  let v6401 : BitVec 32 := Scalar.muli v6400 c32_i32_3233
  v6401
def k0_mult30 : BitVec 32 :=
  let c0_i32_1159 : BitVec 32 := 0#32
  let c8_i32_3305 : BitVec 32 := 8#32
  let v6541 : BitVec 32 := Scalar.muli c0_i32_1159 c8_i32_3305
  let c5_i32_3306 : BitVec 32 := 5#32
  let v6542 : BitVec 32 := Scalar.addi v6541 c5_i32_3306
  let c32_i32_3307 : BitVec 32 := 32#32
  let v6543 : BitVec 32 := Scalar.muli v6542 c32_i32_3307
  v6543
def k0_mult31 : BitVec 32 :=
  let c0_i32_1159 : BitVec 32 := 0#32
  let c8_i32_3379 : BitVec 32 := 8#32
  let v6683 : BitVec 32 := Scalar.muli c0_i32_1159 c8_i32_3379
  let c6_i32_3380 : BitVec 32 := 6#32
  let v6684 : BitVec 32 := Scalar.addi v6683 c6_i32_3380
  let c32_i32_3381 : BitVec 32 := 32#32
  let v6685 : BitVec 32 := Scalar.muli v6684 c32_i32_3381
  v6685
def k0_mult32 : BitVec 32 :=
  let c0_i32_1159 : BitVec 32 := 0#32
  let c8_i32_3453 : BitVec 32 := 8#32
  let v6825 : BitVec 32 := Scalar.muli c0_i32_1159 c8_i32_3453
  let c7_i32_3454 : BitVec 32 := 7#32
  let v6826 : BitVec 32 := Scalar.addi v6825 c7_i32_3454
  let c32_i32_3455 : BitVec 32 := 32#32
  let v6827 : BitVec 32 := Scalar.muli v6826 c32_i32_3455
  v6827
def k0_mult33 : BitVec 32 :=
  let c0_i32_3528 : BitVec 32 := 0#32
  let c32_i32_3529 : BitVec 32 := 32#32
  let v6967 : BitVec 32 := Scalar.muli c0_i32_3528 c32_i32_3529
  let c0_i32_3530 : BitVec 32 := 0#32
  let v6968 : BitVec 32 := Scalar.addi v6967 c0_i32_3530
  let c8_i32_3531 : BitVec 32 := 8#32
  let v6969 : BitVec 32 := Scalar.muli v6968 c8_i32_3531
  v6969
def k0_off56 : Fin 4 → Nat :=
  let c0_3535 : Index := 0#32
  let c0_i32_3528 : BitVec 32 := 0#32
  let c1_i32_3534 : BitVec 32 := 1#32
  let v6973 : BitVec 32 := Scalar.minsi c0_i32_3528 c1_i32_3534
  let v6974 : Index := Scalar.indexCast v6973
  let c0_3536 : Index := 0#32
  let c0_3537 : Index := 0#32
  ![0, v6974.toNat, 0, 0]
def k0_off57 (c0_i32_3530 : BitVec 32) : Fin 3 → Nat :=
  let c0_3538 : Index := 0#32
  let c0_i32_3528 : BitVec 32 := 0#32
  let c32_i32_3529 : BitVec 32 := 32#32
  let v6967 : BitVec 32 := Scalar.muli c0_i32_3528 c32_i32_3529
  let v6968 : BitVec 32 := Scalar.addi v6967 c0_i32_3530
  let c8_i32_3531 : BitVec 32 := 8#32
  let v6969 : BitVec 32 := Scalar.muli v6968 c8_i32_3531
  let v6970 : BitVec 32 := v6969
  let v6977 : Index := Scalar.indexCast v6970
  let c0_3539 : Index := 0#32
  ![0, v6977.toNat, 0]
def k0_off58 (c0_i32_3530 : BitVec 32) : Fin 3 → Nat :=
  let c0_3540 : Index := 0#32
  let c0_i32_3528 : BitVec 32 := 0#32
  let c32_i32_3529 : BitVec 32 := 32#32
  let v6967 : BitVec 32 := Scalar.muli c0_i32_3528 c32_i32_3529
  let v6968 : BitVec 32 := Scalar.addi v6967 c0_i32_3530
  let c8_i32_3531 : BitVec 32 := 8#32
  let v6969 : BitVec 32 := Scalar.muli v6968 c8_i32_3531
  let v6970 : BitVec 32 := v6969
  let c128_i32_3532 : BitVec 32 := 128#32
  let v6971 : BitVec 32 := Scalar.addi v6970 c128_i32_3532
  let c8_i32_3533 : BitVec 32 := 8#32
  let v6972 : BitVec 32 := Scalar.subi v6971 c8_i32_3533
  let v6980 : Index := Scalar.indexCast v6972
  let c0_3541 : Index := 0#32
  ![0, v6980.toNat, 0]
def k0_off59 (c0_i32_3530 : BitVec 32) : Fin 4 → Nat :=
  let c0_3549 : Index := 0#32
  let c0_3550 : Index := 0#32
  let c0_i32_3528 : BitVec 32 := 0#32
  let c32_i32_3529 : BitVec 32 := 32#32
  let v6967 : BitVec 32 := Scalar.muli c0_i32_3528 c32_i32_3529
  let v6968 : BitVec 32 := Scalar.addi v6967 c0_i32_3530
  let c8_i32_3531 : BitVec 32 := 8#32
  let v6969 : BitVec 32 := Scalar.muli v6968 c8_i32_3531
  let v6970 : BitVec 32 := v6969
  let v7022 : Index := Scalar.indexCast v6970
  let c0_3551 : Index := 0#32
  ![0, 0, v7022.toNat, 0]
def k0_mult34 : BitVec 32 :=
  let c0_i32_3528 : BitVec 32 := 0#32
  let c32_i32_3558 : BitVec 32 := 32#32
  let v7036 : BitVec 32 := Scalar.muli c0_i32_3528 c32_i32_3558
  let c1_i32_3559 : BitVec 32 := 1#32
  let v7037 : BitVec 32 := Scalar.addi v7036 c1_i32_3559
  let c8_i32_3560 : BitVec 32 := 8#32
  let v7038 : BitVec 32 := Scalar.muli v7037 c8_i32_3560
  v7038
def k0_mult35 : BitVec 32 :=
  let c0_i32_3528 : BitVec 32 := 0#32
  let c32_i32_3587 : BitVec 32 := 32#32
  let v7103 : BitVec 32 := Scalar.muli c0_i32_3528 c32_i32_3587
  let c2_i32_3588 : BitVec 32 := 2#32
  let v7104 : BitVec 32 := Scalar.addi v7103 c2_i32_3588
  let c8_i32_3589 : BitVec 32 := 8#32
  let v7105 : BitVec 32 := Scalar.muli v7104 c8_i32_3589
  v7105
def k0_mult36 : BitVec 32 :=
  let c0_i32_3528 : BitVec 32 := 0#32
  let c32_i32_3616 : BitVec 32 := 32#32
  let v7170 : BitVec 32 := Scalar.muli c0_i32_3528 c32_i32_3616
  let c3_i32_3617 : BitVec 32 := 3#32
  let v7171 : BitVec 32 := Scalar.addi v7170 c3_i32_3617
  let c8_i32_3618 : BitVec 32 := 8#32
  let v7172 : BitVec 32 := Scalar.muli v7171 c8_i32_3618
  v7172
def k0_mult37 : BitVec 32 :=
  let c0_i32_3528 : BitVec 32 := 0#32
  let c32_i32_3645 : BitVec 32 := 32#32
  let v7237 : BitVec 32 := Scalar.muli c0_i32_3528 c32_i32_3645
  let c4_i32_3646 : BitVec 32 := 4#32
  let v7238 : BitVec 32 := Scalar.addi v7237 c4_i32_3646
  let c8_i32_3647 : BitVec 32 := 8#32
  let v7239 : BitVec 32 := Scalar.muli v7238 c8_i32_3647
  v7239
def k0_mult38 : BitVec 32 :=
  let c0_i32_3528 : BitVec 32 := 0#32
  let c32_i32_3674 : BitVec 32 := 32#32
  let v7304 : BitVec 32 := Scalar.muli c0_i32_3528 c32_i32_3674
  let c5_i32_3675 : BitVec 32 := 5#32
  let v7305 : BitVec 32 := Scalar.addi v7304 c5_i32_3675
  let c8_i32_3676 : BitVec 32 := 8#32
  let v7306 : BitVec 32 := Scalar.muli v7305 c8_i32_3676
  v7306
def k0_mult39 : BitVec 32 :=
  let c0_i32_3528 : BitVec 32 := 0#32
  let c32_i32_3703 : BitVec 32 := 32#32
  let v7371 : BitVec 32 := Scalar.muli c0_i32_3528 c32_i32_3703
  let c6_i32_3704 : BitVec 32 := 6#32
  let v7372 : BitVec 32 := Scalar.addi v7371 c6_i32_3704
  let c8_i32_3705 : BitVec 32 := 8#32
  let v7373 : BitVec 32 := Scalar.muli v7372 c8_i32_3705
  v7373
def k0_mult40 : BitVec 32 :=
  let c0_i32_3528 : BitVec 32 := 0#32
  let c32_i32_3732 : BitVec 32 := 32#32
  let v7438 : BitVec 32 := Scalar.muli c0_i32_3528 c32_i32_3732
  let c7_i32_3733 : BitVec 32 := 7#32
  let v7439 : BitVec 32 := Scalar.addi v7438 c7_i32_3733
  let c8_i32_3734 : BitVec 32 := 8#32
  let v7440 : BitVec 32 := Scalar.muli v7439 c8_i32_3734
  v7440
def k0_mult41 : BitVec 32 :=
  let c0_i32_3528 : BitVec 32 := 0#32
  let c32_i32_3761 : BitVec 32 := 32#32
  let v7505 : BitVec 32 := Scalar.muli c0_i32_3528 c32_i32_3761
  let c8_i32_3762 : BitVec 32 := 8#32
  let v7506 : BitVec 32 := Scalar.addi v7505 c8_i32_3762
  let c8_i32_3763 : BitVec 32 := 8#32
  let v7507 : BitVec 32 := Scalar.muli v7506 c8_i32_3763
  v7507
def k0_mult42 : BitVec 32 :=
  let c0_i32_3528 : BitVec 32 := 0#32
  let c32_i32_3790 : BitVec 32 := 32#32
  let v7572 : BitVec 32 := Scalar.muli c0_i32_3528 c32_i32_3790
  let c9_i32_3791 : BitVec 32 := 9#32
  let v7573 : BitVec 32 := Scalar.addi v7572 c9_i32_3791
  let c8_i32_3792 : BitVec 32 := 8#32
  let v7574 : BitVec 32 := Scalar.muli v7573 c8_i32_3792
  v7574
def k0_mult43 : BitVec 32 :=
  let c0_i32_3528 : BitVec 32 := 0#32
  let c32_i32_3819 : BitVec 32 := 32#32
  let v7639 : BitVec 32 := Scalar.muli c0_i32_3528 c32_i32_3819
  let c10_i32_3820 : BitVec 32 := 10#32
  let v7640 : BitVec 32 := Scalar.addi v7639 c10_i32_3820
  let c8_i32_3821 : BitVec 32 := 8#32
  let v7641 : BitVec 32 := Scalar.muli v7640 c8_i32_3821
  v7641
def k0_mult44 : BitVec 32 :=
  let c0_i32_3528 : BitVec 32 := 0#32
  let c32_i32_3848 : BitVec 32 := 32#32
  let v7706 : BitVec 32 := Scalar.muli c0_i32_3528 c32_i32_3848
  let c11_i32_3849 : BitVec 32 := 11#32
  let v7707 : BitVec 32 := Scalar.addi v7706 c11_i32_3849
  let c8_i32_3850 : BitVec 32 := 8#32
  let v7708 : BitVec 32 := Scalar.muli v7707 c8_i32_3850
  v7708
def k0_mult45 : BitVec 32 :=
  let c0_i32_3528 : BitVec 32 := 0#32
  let c32_i32_3877 : BitVec 32 := 32#32
  let v7773 : BitVec 32 := Scalar.muli c0_i32_3528 c32_i32_3877
  let c12_i32_3878 : BitVec 32 := 12#32
  let v7774 : BitVec 32 := Scalar.addi v7773 c12_i32_3878
  let c8_i32_3879 : BitVec 32 := 8#32
  let v7775 : BitVec 32 := Scalar.muli v7774 c8_i32_3879
  v7775
def k0_mult46 : BitVec 32 :=
  let c0_i32_3528 : BitVec 32 := 0#32
  let c32_i32_3906 : BitVec 32 := 32#32
  let v7840 : BitVec 32 := Scalar.muli c0_i32_3528 c32_i32_3906
  let c13_i32_3907 : BitVec 32 := 13#32
  let v7841 : BitVec 32 := Scalar.addi v7840 c13_i32_3907
  let c8_i32_3908 : BitVec 32 := 8#32
  let v7842 : BitVec 32 := Scalar.muli v7841 c8_i32_3908
  v7842
def k0_mult47 : BitVec 32 :=
  let c0_i32_3528 : BitVec 32 := 0#32
  let c32_i32_3935 : BitVec 32 := 32#32
  let v7907 : BitVec 32 := Scalar.muli c0_i32_3528 c32_i32_3935
  let c14_i32_3936 : BitVec 32 := 14#32
  let v7908 : BitVec 32 := Scalar.addi v7907 c14_i32_3936
  let c8_i32_3937 : BitVec 32 := 8#32
  let v7909 : BitVec 32 := Scalar.muli v7908 c8_i32_3937
  v7909
def k0_mult48 : BitVec 32 :=
  let c0_i32_3528 : BitVec 32 := 0#32
  let c32_i32_3964 : BitVec 32 := 32#32
  let v7974 : BitVec 32 := Scalar.muli c0_i32_3528 c32_i32_3964
  let c15_i32_3965 : BitVec 32 := 15#32
  let v7975 : BitVec 32 := Scalar.addi v7974 c15_i32_3965
  let c8_i32_3966 : BitVec 32 := 8#32
  let v7976 : BitVec 32 := Scalar.muli v7975 c8_i32_3966
  v7976
def k0_mult49 : BitVec 32 :=
  let c0_i32_3528 : BitVec 32 := 0#32
  let c32_i32_3993 : BitVec 32 := 32#32
  let v8041 : BitVec 32 := Scalar.muli c0_i32_3528 c32_i32_3993
  let c16_i32_3994 : BitVec 32 := 16#32
  let v8042 : BitVec 32 := Scalar.addi v8041 c16_i32_3994
  let c8_i32_3995 : BitVec 32 := 8#32
  let v8043 : BitVec 32 := Scalar.muli v8042 c8_i32_3995
  v8043
def k0_mult50 : BitVec 32 :=
  let c0_i32_3528 : BitVec 32 := 0#32
  let c32_i32_4022 : BitVec 32 := 32#32
  let v8108 : BitVec 32 := Scalar.muli c0_i32_3528 c32_i32_4022
  let c17_i32 : BitVec 32 := 17#32
  let v8109 : BitVec 32 := Scalar.addi v8108 c17_i32
  let c8_i32_4023 : BitVec 32 := 8#32
  let v8110 : BitVec 32 := Scalar.muli v8109 c8_i32_4023
  v8110
def k0_mult51 : BitVec 32 :=
  let c0_i32_3528 : BitVec 32 := 0#32
  let c32_i32_4050 : BitVec 32 := 32#32
  let v8175 : BitVec 32 := Scalar.muli c0_i32_3528 c32_i32_4050
  let c18_i32 : BitVec 32 := 18#32
  let v8176 : BitVec 32 := Scalar.addi v8175 c18_i32
  let c8_i32_4051 : BitVec 32 := 8#32
  let v8177 : BitVec 32 := Scalar.muli v8176 c8_i32_4051
  v8177
def k0_mult52 : BitVec 32 :=
  let c0_i32_3528 : BitVec 32 := 0#32
  let c32_i32_4078 : BitVec 32 := 32#32
  let v8242 : BitVec 32 := Scalar.muli c0_i32_3528 c32_i32_4078
  let c19_i32 : BitVec 32 := 19#32
  let v8243 : BitVec 32 := Scalar.addi v8242 c19_i32
  let c8_i32_4079 : BitVec 32 := 8#32
  let v8244 : BitVec 32 := Scalar.muli v8243 c8_i32_4079
  v8244
def k0_mult53 : BitVec 32 :=
  let c0_i32_3528 : BitVec 32 := 0#32
  let c32_i32_4106 : BitVec 32 := 32#32
  let v8309 : BitVec 32 := Scalar.muli c0_i32_3528 c32_i32_4106
  let c20_i32 : BitVec 32 := 20#32
  let v8310 : BitVec 32 := Scalar.addi v8309 c20_i32
  let c8_i32_4107 : BitVec 32 := 8#32
  let v8311 : BitVec 32 := Scalar.muli v8310 c8_i32_4107
  v8311
def k0_mult54 : BitVec 32 :=
  let c0_i32_3528 : BitVec 32 := 0#32
  let c32_i32_4134 : BitVec 32 := 32#32
  let v8376 : BitVec 32 := Scalar.muli c0_i32_3528 c32_i32_4134
  let c21_i32 : BitVec 32 := 21#32
  let v8377 : BitVec 32 := Scalar.addi v8376 c21_i32
  let c8_i32_4135 : BitVec 32 := 8#32
  let v8378 : BitVec 32 := Scalar.muli v8377 c8_i32_4135
  v8378
def k0_mult55 : BitVec 32 :=
  let c0_i32_3528 : BitVec 32 := 0#32
  let c32_i32_4162 : BitVec 32 := 32#32
  let v8443 : BitVec 32 := Scalar.muli c0_i32_3528 c32_i32_4162
  let c22_i32 : BitVec 32 := 22#32
  let v8444 : BitVec 32 := Scalar.addi v8443 c22_i32
  let c8_i32_4163 : BitVec 32 := 8#32
  let v8445 : BitVec 32 := Scalar.muli v8444 c8_i32_4163
  v8445
def k0_mult56 : BitVec 32 :=
  let c0_i32_3528 : BitVec 32 := 0#32
  let c32_i32_4190 : BitVec 32 := 32#32
  let v8510 : BitVec 32 := Scalar.muli c0_i32_3528 c32_i32_4190
  let c23_i32 : BitVec 32 := 23#32
  let v8511 : BitVec 32 := Scalar.addi v8510 c23_i32
  let c8_i32_4191 : BitVec 32 := 8#32
  let v8512 : BitVec 32 := Scalar.muli v8511 c8_i32_4191
  v8512
def k0_mult57 : BitVec 32 :=
  let c0_i32_3528 : BitVec 32 := 0#32
  let c32_i32_4218 : BitVec 32 := 32#32
  let v8577 : BitVec 32 := Scalar.muli c0_i32_3528 c32_i32_4218
  let c24_i32 : BitVec 32 := 24#32
  let v8578 : BitVec 32 := Scalar.addi v8577 c24_i32
  let c8_i32_4219 : BitVec 32 := 8#32
  let v8579 : BitVec 32 := Scalar.muli v8578 c8_i32_4219
  v8579
def k0_mult58 : BitVec 32 :=
  let c0_i32_3528 : BitVec 32 := 0#32
  let c32_i32_4246 : BitVec 32 := 32#32
  let v8644 : BitVec 32 := Scalar.muli c0_i32_3528 c32_i32_4246
  let c25_i32 : BitVec 32 := 25#32
  let v8645 : BitVec 32 := Scalar.addi v8644 c25_i32
  let c8_i32_4247 : BitVec 32 := 8#32
  let v8646 : BitVec 32 := Scalar.muli v8645 c8_i32_4247
  v8646
def k0_mult59 : BitVec 32 :=
  let c0_i32_3528 : BitVec 32 := 0#32
  let c32_i32_4274 : BitVec 32 := 32#32
  let v8711 : BitVec 32 := Scalar.muli c0_i32_3528 c32_i32_4274
  let c26_i32 : BitVec 32 := 26#32
  let v8712 : BitVec 32 := Scalar.addi v8711 c26_i32
  let c8_i32_4275 : BitVec 32 := 8#32
  let v8713 : BitVec 32 := Scalar.muli v8712 c8_i32_4275
  v8713
def k0_mult60 : BitVec 32 :=
  let c0_i32_3528 : BitVec 32 := 0#32
  let c32_i32_4302 : BitVec 32 := 32#32
  let v8778 : BitVec 32 := Scalar.muli c0_i32_3528 c32_i32_4302
  let c27_i32 : BitVec 32 := 27#32
  let v8779 : BitVec 32 := Scalar.addi v8778 c27_i32
  let c8_i32_4303 : BitVec 32 := 8#32
  let v8780 : BitVec 32 := Scalar.muli v8779 c8_i32_4303
  v8780
def k0_mult61 : BitVec 32 :=
  let c0_i32_3528 : BitVec 32 := 0#32
  let c32_i32_4330 : BitVec 32 := 32#32
  let v8845 : BitVec 32 := Scalar.muli c0_i32_3528 c32_i32_4330
  let c28_i32 : BitVec 32 := 28#32
  let v8846 : BitVec 32 := Scalar.addi v8845 c28_i32
  let c8_i32_4331 : BitVec 32 := 8#32
  let v8847 : BitVec 32 := Scalar.muli v8846 c8_i32_4331
  v8847
def k0_mult62 : BitVec 32 :=
  let c0_i32_3528 : BitVec 32 := 0#32
  let c32_i32_4358 : BitVec 32 := 32#32
  let v8912 : BitVec 32 := Scalar.muli c0_i32_3528 c32_i32_4358
  let c29_i32 : BitVec 32 := 29#32
  let v8913 : BitVec 32 := Scalar.addi v8912 c29_i32
  let c8_i32_4359 : BitVec 32 := 8#32
  let v8914 : BitVec 32 := Scalar.muli v8913 c8_i32_4359
  v8914
def k0_mult63 : BitVec 32 :=
  let c0_i32_3528 : BitVec 32 := 0#32
  let c32_i32_4386 : BitVec 32 := 32#32
  let v8979 : BitVec 32 := Scalar.muli c0_i32_3528 c32_i32_4386
  let c30_i32 : BitVec 32 := 30#32
  let v8980 : BitVec 32 := Scalar.addi v8979 c30_i32
  let c8_i32_4387 : BitVec 32 := 8#32
  let v8981 : BitVec 32 := Scalar.muli v8980 c8_i32_4387
  v8981
def k0_mult64 : BitVec 32 :=
  let c0_i32_3528 : BitVec 32 := 0#32
  let c32_i32_4414 : BitVec 32 := 32#32
  let v9046 : BitVec 32 := Scalar.muli c0_i32_3528 c32_i32_4414
  let c31_i32_4415 : BitVec 32 := 31#32
  let v9047 : BitVec 32 := Scalar.addi v9046 c31_i32_4415
  let c8_i32_4416 : BitVec 32 := 8#32
  let v9048 : BitVec 32 := Scalar.muli v9047 c8_i32_4416
  v9048
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "scale2" => some (((1 / 8) * (Real.log 2)⁻¹ : ℝ) : EReal)
  | _ => none
-- ==== ReferenceIdeal.lean ====
abbrev S4x4096x512 : Shape := ⟨3, ![4, 4096, 512]⟩
abbrev S4x4096x8x64 : Shape := ⟨4, ![4, 4096, 8, 64]⟩
abbrev S_ : Shape := ⟨0, ![]⟩
abbrev S4x4096x1x8x64 : Shape := ⟨5, ![4, 4096, 1, 8, 64]⟩
abbrev S4x1x8x4096x64 : Shape := ⟨5, ![4, 1, 8, 4096, 64]⟩
abbrev S4x1x8x32x128x64 : Shape := ⟨6, ![4, 1, 8, 32, 128, 64]⟩
abbrev S4x1x8x33x128x64 : Shape := ⟨6, ![4, 1, 8, 33, 128, 64]⟩
abbrev S4x1x8x32x256x64 : Shape := ⟨6, ![4, 1, 8, 32, 256, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x1x8x32x128x256 : Shape := ⟨6, ![4, 1, 8, 32, 128, 256]⟩
abbrev S4x1x8x32x128 : Shape := ⟨5, ![4, 1, 8, 32, 128]⟩
abbrev S4x1x8x32x128x1 : Shape := ⟨6, ![4, 1, 8, 32, 128, 1]⟩
abbrev S4x1x8x4096x1 : Shape := ⟨5, ![4, 1, 8, 4096, 1]⟩
abbrev S4x4096x1x8x1 : Shape := ⟨5, ![4, 4096, 1, 8, 1]⟩
abbrev S4x4096x8x1 : Shape := ⟨4, ![4, 4096, 8, 1]⟩
abbrev S4x1024x4x8x64 : Shape := ⟨5, ![4, 1024, 4, 8, 64]⟩
abbrev S4x4x8x1024x64 : Shape := ⟨5, ![4, 4, 8, 1024, 64]⟩
abbrev S4x4x8x8x128x64 : Shape := ⟨6, ![4, 4, 8, 8, 128, 64]⟩
abbrev S4x4x8x9x128x64 : Shape := ⟨6, ![4, 4, 8, 9, 128, 64]⟩
abbrev S4x4x8x8x256x64 : Shape := ⟨6, ![4, 4, 8, 8, 256, 64]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S4x4x8x8x128x256 : Shape := ⟨6, ![4, 4, 8, 8, 128, 256]⟩
abbrev S4x4x8x8x128 : Shape := ⟨5, ![4, 4, 8, 8, 128]⟩
abbrev S4x4x8x8x128x1 : Shape := ⟨6, ![4, 4, 8, 8, 128, 1]⟩
abbrev S4x4x8x1024x1 : Shape := ⟨5, ![4, 4, 8, 1024, 1]⟩
abbrev S4x1024x4x8x1 : Shape := ⟨5, ![4, 1024, 4, 8, 1]⟩
abbrev S4x256x16x8x64 : Shape := ⟨5, ![4, 256, 16, 8, 64]⟩
abbrev S4x16x8x256x64 : Shape := ⟨5, ![4, 16, 8, 256, 64]⟩
abbrev S4x16x8x2x128x64 : Shape := ⟨6, ![4, 16, 8, 2, 128, 64]⟩
abbrev S4x16x8x3x128x64 : Shape := ⟨6, ![4, 16, 8, 3, 128, 64]⟩
abbrev S4x16x8x2x256x64 : Shape := ⟨6, ![4, 16, 8, 2, 256, 64]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S4x16x8x2x128x256 : Shape := ⟨6, ![4, 16, 8, 2, 128, 256]⟩
abbrev S4x16x8x2x128 : Shape := ⟨5, ![4, 16, 8, 2, 128]⟩
abbrev S4x16x8x2x128x1 : Shape := ⟨6, ![4, 16, 8, 2, 128, 1]⟩
abbrev S4x16x8x256x1 : Shape := ⟨5, ![4, 16, 8, 256, 1]⟩
abbrev S4x256x16x8x1 : Shape := ⟨5, ![4, 256, 16, 8, 1]⟩
abbrev S1x4x4096x8x1 : Shape := ⟨5, ![1, 4, 4096, 8, 1]⟩
abbrev S3x4x4096x8x1 : Shape := ⟨5, ![3, 4, 4096, 8, 1]⟩
abbrev S4x256x16x512 : Shape := ⟨4, ![4, 256, 16, 512]⟩
abbrev S4x16x256x512 : Shape := ⟨4, ![4, 16, 256, 512]⟩
abbrev S16384x512 : Shape := ⟨2, ![16384, 512]⟩

abbrev nBuf : Space → Nat
  | .hbm => 284
  | .vmem => 0
  | .smem => 0
  | _ => 0

abbrev hbmTy0_0 (i : Nat) : BufTy := match i % 128 with
  | 0 => ⟨S4x4096x512, .f32⟩
  | 1 => ⟨S4x4096x512, .f32⟩
  | 2 => ⟨S4x4096x512, .f32⟩
  | 3 => ⟨S4x4096x8x64, .f32⟩
  | 4 => ⟨S_, .f32⟩
  | 5 => ⟨S4x4096x8x64, .f32⟩
  | 6 => ⟨S4x4096x8x64, .f32⟩
  | 7 => ⟨S4x4096x8x64, .f32⟩
  | 8 => ⟨S4x4096x8x64, .f32⟩
  | 9 => ⟨S4x4096x1x8x64, .f32⟩
  | 10 => ⟨S4x1x8x4096x64, .f32⟩
  | 11 => ⟨S4x1x8x32x128x64, .f32⟩
  | 12 => ⟨S4x4096x1x8x64, .f32⟩
  | 13 => ⟨S4x1x8x4096x64, .f32⟩
  | 14 => ⟨S4x1x8x32x128x64, .f32⟩
  | 15 => ⟨S4x4096x1x8x64, .f32⟩
  | 16 => ⟨S4x1x8x4096x64, .f32⟩
  | 17 => ⟨S4x1x8x32x128x64, .f32⟩
  | 18 => ⟨S_, .i32⟩
  | 19 => ⟨S_, .f32⟩
  | 20 => ⟨S4x1x8x33x128x64, .f32⟩
  | 21 => ⟨S4x1x8x32x128x64, .f32⟩
  | 22 => ⟨S4x1x8x32x256x64, .f32⟩
  | 23 => ⟨S_, .i32⟩
  | 24 => ⟨S_, .f32⟩
  | 25 => ⟨S4x1x8x33x128x64, .f32⟩
  | 26 => ⟨S4x1x8x32x128x64, .f32⟩
  | 27 => ⟨S4x1x8x32x256x64, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S32, .i32⟩
  | 46 => ⟨S_, .i32⟩
  | 47 => ⟨S32, .i32⟩
  | 48 => ⟨S32, .i1⟩
  | 49 => ⟨S32x1x1, .i1⟩
  | 50 => ⟨S_, .i32⟩
  | 51 => ⟨S1x256, .i32⟩
  | 52 => ⟨S1x256, .i1⟩
  | 53 => ⟨S1x1x256, .i1⟩
  | 54 => ⟨S32x1x256, .i1⟩
  | 55 => ⟨S32x1x256, .i1⟩
  | 56 => ⟨S32x1x256, .i1⟩
  | 57 => ⟨S1x128x256, .i1⟩
  | 58 => ⟨S32x128x256, .i1⟩
  | 59 => ⟨S32x128x256, .i1⟩
  | 60 => ⟨S32x128x256, .i1⟩
  | 61 => ⟨S4x1x8x32x128x256, .f32⟩
  | 62 => ⟨S_, .f32⟩
  | 63 => ⟨S_, .f32⟩
  | 64 => ⟨S4x1x8x32x128x256, .i1⟩
  | 65 => ⟨S4x1x8x32x128x256, .f32⟩
  | 66 => ⟨S4x1x8x32x128x256, .f32⟩
  | 67 => ⟨S_, .f32⟩
  | 68 => ⟨S4x1x8x32x128, .f32⟩
  | 69 => ⟨S4x1x8x32x128x1, .f32⟩
  | 70 => ⟨S4x1x8x32x128x256, .f32⟩
  | 71 => ⟨S4x1x8x32x128x256, .f32⟩
  | 72 => ⟨S4x1x8x32x128x256, .f32⟩
  | 73 => ⟨S_, .f32⟩
  | 74 => ⟨S4x1x8x32x128, .f32⟩
  | 75 => ⟨S4x1x8x32x128x1, .f32⟩
  | 76 => ⟨S4x1x8x32x128x64, .f32⟩
  | 77 => ⟨S4x1x8x4096x64, .f32⟩
  | 78 => ⟨S4x4096x1x8x64, .f32⟩
  | 79 => ⟨S4x4096x8x64, .f32⟩
  | 80 => ⟨S4x1x8x4096x1, .f32⟩
  | 81 => ⟨S4x4096x1x8x1, .f32⟩
  | 82 => ⟨S4x4096x8x1, .f32⟩
  | 83 => ⟨S4x1x8x4096x1, .f32⟩
  | 84 => ⟨S4x4096x1x8x1, .f32⟩
  | 85 => ⟨S4x4096x8x1, .f32⟩
  | 86 => ⟨S4x1024x4x8x64, .f32⟩
  | 87 => ⟨S4x4x8x1024x64, .f32⟩
  | 88 => ⟨S4x4x8x8x128x64, .f32⟩
  | 89 => ⟨S4x1024x4x8x64, .f32⟩
  | 90 => ⟨S4x4x8x1024x64, .f32⟩
  | 91 => ⟨S4x4x8x8x128x64, .f32⟩
  | 92 => ⟨S4x1024x4x8x64, .f32⟩
  | 93 => ⟨S4x4x8x1024x64, .f32⟩
  | 94 => ⟨S4x4x8x8x128x64, .f32⟩
  | 95 => ⟨S_, .i32⟩
  | 96 => ⟨S_, .f32⟩
  | 97 => ⟨S4x4x8x9x128x64, .f32⟩
  | 98 => ⟨S4x4x8x8x128x64, .f32⟩
  | 99 => ⟨S4x4x8x8x256x64, .f32⟩
  | 100 => ⟨S_, .i32⟩
  | 101 => ⟨S_, .f32⟩
  | 102 => ⟨S4x4x8x9x128x64, .f32⟩
  | 103 => ⟨S4x4x8x8x128x64, .f32⟩
  | 104 => ⟨S4x4x8x8x256x64, .f32⟩
  | 105 => ⟨S128, .i32⟩
  | 106 => ⟨S128x1, .i32⟩
  | 107 => ⟨S256, .i32⟩
  | 108 => ⟨S1x256, .i32⟩
  | 109 => ⟨S_, .i32⟩
  | 110 => ⟨S128x1, .i32⟩
  | 111 => ⟨S128x1, .i32⟩
  | 112 => ⟨S128x256, .i32⟩
  | 113 => ⟨S128x256, .i32⟩
  | 114 => ⟨S128x256, .i32⟩
  | 115 => ⟨S_, .i32⟩
  | 116 => ⟨S128x256, .i32⟩
  | 117 => ⟨S128x256, .i1⟩
  | 118 => ⟨S_, .i32⟩
  | 119 => ⟨S128x256, .i32⟩
  | 120 => ⟨S128x256, .i1⟩
  | 121 => ⟨S128x256, .i1⟩
  | 122 => ⟨S8, .i32⟩
  | 123 => ⟨S_, .i32⟩
  | 124 => ⟨S8, .i32⟩
  | 125 => ⟨S8, .i1⟩
  | 126 => ⟨S8x1x1, .i1⟩
  | 127 => ⟨S_, .i32⟩
  | _ => ⟨S4x4096x512, .f32⟩

abbrev hbmTy0_1 (i : Nat) : BufTy := match i % 128 with
  | 0 => ⟨S1x256, .i32⟩
  | 1 => ⟨S1x256, .i1⟩
  | 2 => ⟨S1x1x256, .i1⟩
  | 3 => ⟨S8x1x256, .i1⟩
  | 4 => ⟨S8x1x256, .i1⟩
  | 5 => ⟨S8x1x256, .i1⟩
  | 6 => ⟨S1x128x256, .i1⟩
  | 7 => ⟨S8x128x256, .i1⟩
  | 8 => ⟨S8x128x256, .i1⟩
  | 9 => ⟨S8x128x256, .i1⟩
  | 10 => ⟨S4x4x8x8x128x256, .f32⟩
  | 11 => ⟨S_, .f32⟩
  | 12 => ⟨S_, .f32⟩
  | 13 => ⟨S4x4x8x8x128x256, .i1⟩
  | 14 => ⟨S4x4x8x8x128x256, .f32⟩
  | 15 => ⟨S4x4x8x8x128x256, .f32⟩
  | 16 => ⟨S_, .f32⟩
  | 17 => ⟨S4x4x8x8x128, .f32⟩
  | 18 => ⟨S4x4x8x8x128x1, .f32⟩
  | 19 => ⟨S4x4x8x8x128x256, .f32⟩
  | 20 => ⟨S4x4x8x8x128x256, .f32⟩
  | 21 => ⟨S4x4x8x8x128x256, .f32⟩
  | 22 => ⟨S_, .f32⟩
  | 23 => ⟨S4x4x8x8x128, .f32⟩
  | 24 => ⟨S4x4x8x8x128x1, .f32⟩
  | 25 => ⟨S4x4x8x8x128x64, .f32⟩
  | 26 => ⟨S4x4x8x1024x64, .f32⟩
  | 27 => ⟨S4x1024x4x8x64, .f32⟩
  | 28 => ⟨S4x4096x8x64, .f32⟩
  | 29 => ⟨S4x4x8x1024x1, .f32⟩
  | 30 => ⟨S4x1024x4x8x1, .f32⟩
  | 31 => ⟨S4x4096x8x1, .f32⟩
  | 32 => ⟨S4x4x8x1024x1, .f32⟩
  | 33 => ⟨S4x1024x4x8x1, .f32⟩
  | 34 => ⟨S4x4096x8x1, .f32⟩
  | 35 => ⟨S4x256x16x8x64, .f32⟩
  | 36 => ⟨S4x16x8x256x64, .f32⟩
  | 37 => ⟨S4x16x8x2x128x64, .f32⟩
  | 38 => ⟨S4x256x16x8x64, .f32⟩
  | 39 => ⟨S4x16x8x256x64, .f32⟩
  | 40 => ⟨S4x16x8x2x128x64, .f32⟩
  | 41 => ⟨S4x256x16x8x64, .f32⟩
  | 42 => ⟨S4x16x8x256x64, .f32⟩
  | 43 => ⟨S4x16x8x2x128x64, .f32⟩
  | 44 => ⟨S_, .i32⟩
  | 45 => ⟨S_, .f32⟩
  | 46 => ⟨S4x16x8x3x128x64, .f32⟩
  | 47 => ⟨S4x16x8x2x128x64, .f32⟩
  | 48 => ⟨S4x16x8x2x256x64, .f32⟩
  | 49 => ⟨S_, .i32⟩
  | 50 => ⟨S_, .f32⟩
  | 51 => ⟨S4x16x8x3x128x64, .f32⟩
  | 52 => ⟨S4x16x8x2x128x64, .f32⟩
  | 53 => ⟨S4x16x8x2x256x64, .f32⟩
  | 54 => ⟨S128, .i32⟩
  | 55 => ⟨S128x1, .i32⟩
  | 56 => ⟨S256, .i32⟩
  | 57 => ⟨S1x256, .i32⟩
  | 58 => ⟨S_, .i32⟩
  | 59 => ⟨S128x1, .i32⟩
  | 60 => ⟨S128x1, .i32⟩
  | 61 => ⟨S128x256, .i32⟩
  | 62 => ⟨S128x256, .i32⟩
  | 63 => ⟨S128x256, .i32⟩
  | 64 => ⟨S_, .i32⟩
  | 65 => ⟨S128x256, .i32⟩
  | 66 => ⟨S128x256, .i1⟩
  | 67 => ⟨S_, .i32⟩
  | 68 => ⟨S128x256, .i32⟩
  | 69 => ⟨S128x256, .i1⟩
  | 70 => ⟨S128x256, .i1⟩
  | 71 => ⟨S2, .i32⟩
  | 72 => ⟨S_, .i32⟩
  | 73 => ⟨S2, .i32⟩
  | 74 => ⟨S2, .i1⟩
  | 75 => ⟨S2x1x1, .i1⟩
  | 76 => ⟨S_, .i32⟩
  | 77 => ⟨S1x256, .i32⟩
  | 78 => ⟨S1x256, .i1⟩
  | 79 => ⟨S1x1x256, .i1⟩
  | 80 => ⟨S2x1x256, .i1⟩
  | 81 => ⟨S2x1x256, .i1⟩
  | 82 => ⟨S2x1x256, .i1⟩
  | 83 => ⟨S1x128x256, .i1⟩
  | 84 => ⟨S2x128x256, .i1⟩
  | 85 => ⟨S2x128x256, .i1⟩
  | 86 => ⟨S2x128x256, .i1⟩
  | 87 => ⟨S4x16x8x2x128x256, .f32⟩
  | 88 => ⟨S_, .f32⟩
  | 89 => ⟨S_, .f32⟩
  | 90 => ⟨S4x16x8x2x128x256, .i1⟩
  | 91 => ⟨S4x16x8x2x128x256, .f32⟩
  | 92 => ⟨S4x16x8x2x128x256, .f32⟩
  | 93 => ⟨S_, .f32⟩
  | 94 => ⟨S4x16x8x2x128, .f32⟩
  | 95 => ⟨S4x16x8x2x128x1, .f32⟩
  | 96 => ⟨S4x16x8x2x128x256, .f32⟩
  | 97 => ⟨S4x16x8x2x128x256, .f32⟩
  | 98 => ⟨S4x16x8x2x128x256, .f32⟩
  | 99 => ⟨S_, .f32⟩
  | 100 => ⟨S4x16x8x2x128, .f32⟩
  | 101 => ⟨S4x16x8x2x128x1, .f32⟩
  | 102 => ⟨S4x16x8x2x128x64, .f32⟩
  | 103 => ⟨S4x16x8x256x64, .f32⟩
  | 104 => ⟨S4x256x16x8x64, .f32⟩
  | 105 => ⟨S4x4096x8x64, .f32⟩
  | 106 => ⟨S4x16x8x256x1, .f32⟩
  | 107 => ⟨S4x256x16x8x1, .f32⟩
  | 108 => ⟨S4x4096x8x1, .f32⟩
  | 109 => ⟨S4x16x8x256x1, .f32⟩
  | 110 => ⟨S4x256x16x8x1, .f32⟩
  | 111 => ⟨S4x4096x8x1, .f32⟩
  | 112 => ⟨S1x4x4096x8x1, .f32⟩
  | 113 => ⟨S1x4x4096x8x1, .f32⟩
  | 114 => ⟨S1x4x4096x8x1, .f32⟩
  | 115 => ⟨S3x4x4096x8x1, .f32⟩
  | 116 => ⟨S_, .f32⟩
  | 117 => ⟨S4x4096x8x1, .f32⟩
  | 118 => ⟨S4x4096x8x1, .f32⟩
  | 119 => ⟨S4x4096x8x1, .f32⟩
  | 120 => ⟨S4x4096x8x64, .f32⟩
  | 121 => ⟨S4x4096x8x64, .f32⟩
  | 122 => ⟨S_, .f32⟩
  | 123 => ⟨S4x4096x8x64, .f32⟩
  | 124 => ⟨S4x4096x8x64, .f32⟩
  | 125 => ⟨S4x4096x8x1, .f32⟩
  | 126 => ⟨S4x4096x8x1, .f32⟩
  | 127 => ⟨S4x4096x8x64, .f32⟩
  | _ => ⟨S4x4096x512, .f32⟩

abbrev hbmTy0_2 (i : Nat) : BufTy := match i % 128 with
  | 0 => ⟨S4x4096x8x64, .f32⟩
  | 1 => ⟨S4x4096x8x64, .f32⟩
  | 2 => ⟨S4x4096x8x1, .f32⟩
  | 3 => ⟨S4x4096x8x1, .f32⟩
  | 4 => ⟨S4x4096x8x64, .f32⟩
  | 5 => ⟨S4x4096x8x64, .f32⟩
  | 6 => ⟨S4x4096x8x64, .f32⟩
  | 7 => ⟨S4x4096x8x1, .f32⟩
  | 8 => ⟨S4x4096x8x1, .f32⟩
  | 9 => ⟨S4x4096x8x1, .f32⟩
  | 10 => ⟨S_, .f32⟩
  | 11 => ⟨S4x4096x8x1, .f32⟩
  | 12 => ⟨S4x4096x8x1, .f32⟩
  | 13 => ⟨S4x4096x8x1, .f32⟩
  | 14 => ⟨S4x4096x8x1, .f32⟩
  | 15 => ⟨S4x4096x8x1, .f32⟩
  | 16 => ⟨S4x4096x8x1, .f32⟩
  | 17 => ⟨S4x4096x8x1, .f32⟩
  | 18 => ⟨S4x4096x8x1, .f32⟩
  | 19 => ⟨S4x4096x8x1, .f32⟩
  | 20 => ⟨S4x4096x8x1, .f32⟩
  | 21 => ⟨S4x4096x8x64, .f32⟩
  | 22 => ⟨S4x4096x8x64, .f32⟩
  | 23 => ⟨S4x4096x512, .f32⟩
  | 24 => ⟨S4x256x16x512, .f32⟩
  | 25 => ⟨S4x16x256x512, .f32⟩
  | 26 => ⟨S16384x512, .f32⟩
  | 27 => ⟨S16384x512, .bf16⟩
  | _ => ⟨S4x4096x512, .f32⟩

abbrev hbmTy (i : Nat) : BufTy := match i / 128 with
  | 0 => hbmTy0_0 i
  | 1 => hbmTy0_1 i
  | 2 => hbmTy0_2 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_call1_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_9 : Ref sig .tc := ⟨.hbm, 95, rfl⟩
abbrev main_call3_v0 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_10 : Ref sig .tc := ⟨.hbm, 100, rfl⟩
abbrev main_call4_v0 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_c_11 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_12 : Ref sig .tc := ⟨.hbm, 115, rfl⟩
abbrev main_v91 : Ref sig .tc := ⟨.hbm, 116, rfl⟩
abbrev main_v92 : Ref sig .tc := ⟨.hbm, 117, rfl⟩
abbrev main_c_13 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_c_14 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_c_15 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_16 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v111 : Ref sig .tc := ⟨.hbm, 143, rfl⟩
abbrev main_cst_17 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_18 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_c_19 : Ref sig .tc := ⟨.hbm, 172, rfl⟩
abbrev main_call6_v0 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_c_20 : Ref sig .tc := ⟨.hbm, 177, rfl⟩
abbrev main_call7_v0 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_c_21 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_c_22 : Ref sig .tc := ⟨.hbm, 192, rfl⟩
abbrev main_v153 : Ref sig .tc := ⟨.hbm, 193, rfl⟩
abbrev main_v154 : Ref sig .tc := ⟨.hbm, 194, rfl⟩
abbrev main_c_23 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_c_24 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_c_25 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_cst_26 : Ref sig .tc := ⟨.hbm, 216, rfl⟩
abbrev main_call8_v0 : Ref sig .tc := ⟨.hbm, 217, rfl⟩
abbrev main_call8_v1 : Ref sig .tc := ⟨.hbm, 218, rfl⟩
abbrev main_call8_v2 : Ref sig .tc := ⟨.hbm, 219, rfl⟩
abbrev main_v173 : Ref sig .tc := ⟨.hbm, 220, rfl⟩
abbrev main_cst_27 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_28 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_cst_29 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_cst_30 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_cst_31 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩

abbrev nD : Nat := 1
abbrev τ : Topo := Topo.v7x

variable {F : FTy → Type} [FloatOps F]
-- ==== Kernel2.lean ====
abbrev S128 : Shape := ⟨1, ![128]⟩
abbrev S22528x1024 : Shape := ⟨2, ![22528, 1024]⟩
abbrev S22528x2 : Shape := ⟨2, ![22528, 2]⟩
abbrev S4x16x1024x256 : Shape := ⟨4, ![4, 16, 1024, 256]⟩
abbrev S4x16x256x1024 : Shape := ⟨4, ![4, 16, 256, 1024]⟩
abbrev S_ : Shape := ⟨0, ![]⟩
abbrev S22528x128 : Shape := ⟨2, ![22528, 128]⟩
abbrev S22528x8x128 : Shape := ⟨3, ![22528, 8, 128]⟩
abbrev S22528x1x128 : Shape := ⟨3, ![22528, 1, 128]⟩
abbrev S22528x9x128 : Shape := ⟨3, ![22528, 9, 128]⟩
abbrev S202752x128 : Shape := ⟨2, ![202752, 128]⟩
abbrev S88 : Shape := ⟨1, ![88]⟩
abbrev S1 : Shape := ⟨1, ![1]⟩
abbrev S88x1 : Shape := ⟨2, ![88, 1]⟩
abbrev S4x4x4x1024x256 : Shape := ⟨5, ![4, 4, 4, 1024, 256]⟩
abbrev S4x4x4x256x1024 : Shape := ⟨5, ![4, 4, 4, 256, 1024]⟩
abbrev S2304x128 : Shape := ⟨2, ![2304, 128]⟩
abbrev S1x1x4x1024x256 : Shape := ⟨5, ![1, 1, 4, 1024, 256]⟩
abbrev S1x1x4x256x1024 : Shape := ⟨5, ![1, 1, 4, 256, 1024]⟩
abbrev S4x1024x256 : Shape := ⟨3, ![4, 1024, 256]⟩
abbrev S4x256x1024 : Shape := ⟨3, ![4, 256, 1024]⟩
abbrev S256x128 : Shape := ⟨2, ![256, 128]⟩
abbrev S256x1024 : Shape := ⟨2, ![256, 1024]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256x1024 : Shape := ⟨3, ![1, 256, 1024]⟩

abbrev nBuf : Space → Nat
  | .hbm => 49
  | .vmem => 13
  | .smem => 2
  | _ => 0

abbrev bufTy : (tb : Table) → Fin (tcTables nBuf tb) → BufTy
  | .hbm, ⟨0, _⟩ => ⟨S22528x1024, .f32⟩
  | .hbm, ⟨1, _⟩ => ⟨S22528x2, .f32⟩
  | .hbm, ⟨2, _⟩ => ⟨S4x16x1024x256, .f32⟩
  | .hbm, ⟨3, _⟩ => ⟨S4x16x1024x256, .f32⟩
  | .hbm, ⟨4, _⟩ => ⟨S4x16x256x1024, .f32⟩
  | .hbm, ⟨5, _⟩ => ⟨S_, .i32⟩
  | .hbm, ⟨6, _⟩ => ⟨S_, .f32⟩
  | .hbm, ⟨7, _⟩ => ⟨S22528x128, .f32⟩
  | .hbm, ⟨8, _⟩ => ⟨S22528x8x128, .f32⟩
  | .hbm, ⟨9, _⟩ => ⟨S22528x1x128, .f32⟩
  | .hbm, ⟨10, _⟩ => ⟨S22528x9x128, .f32⟩
  | .hbm, ⟨11, _⟩ => ⟨S202752x128, .f32⟩
  | .hbm, ⟨12, _⟩ => ⟨S88, .i32⟩
  | .hbm, ⟨13, _⟩ => ⟨S1, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S88, .i32⟩
  | .hbm, ⟨18, _⟩ => ⟨S88, .i32⟩
  | .hbm, ⟨19, _⟩ => ⟨S_, .i32⟩
  | .hbm, ⟨20, _⟩ => ⟨S88, .i32⟩
  | .hbm, ⟨21, _⟩ => ⟨S88, .i1⟩
  | .hbm, ⟨22, _⟩ => ⟨S_, .i32⟩
  | .hbm, ⟨23, _⟩ => ⟨S88, .i32⟩
  | .hbm, ⟨24, _⟩ => ⟨S88, .i32⟩
  | .hbm, ⟨25, _⟩ => ⟨S88, .i32⟩
  | .hbm, ⟨26, _⟩ => ⟨S88x1, .i32⟩
  | .hbm, ⟨27, _⟩ => ⟨S88, .i32⟩
  | .hbm, ⟨28, _⟩ => ⟨S_, .i32⟩
  | .hbm, ⟨29, _⟩ => ⟨S_, .i32⟩
  | .hbm, ⟨30, _⟩ => ⟨S88, .i32⟩
  | .hbm, ⟨31, _⟩ => ⟨S88, .i32⟩
  | .hbm, ⟨32, _⟩ => ⟨S88, .i32⟩
  | .hbm, ⟨33, _⟩ => ⟨S_, .i32⟩
  | .hbm, ⟨34, _⟩ => ⟨S88, .i32⟩
  | .hbm, ⟨35, _⟩ => ⟨S88, .i1⟩
  | .hbm, ⟨36, _⟩ => ⟨S88, .i32⟩
  | .hbm, ⟨37, _⟩ => ⟨S88, .i32⟩
  | .hbm, ⟨38, _⟩ => ⟨S_, .i32⟩
  | .hbm, ⟨39, _⟩ => ⟨S88, .i32⟩
  | .hbm, ⟨40, _⟩ => ⟨S88, .i1⟩
  | .hbm, ⟨41, _⟩ => ⟨S88, .i1⟩
  | .hbm, ⟨42, _⟩ => ⟨S_, .i32⟩
  | .hbm, ⟨43, _⟩ => ⟨S88, .i32⟩
  | .hbm, ⟨44, _⟩ => ⟨S88, .i32⟩
  | .hbm, ⟨45, _⟩ => ⟨S4x4x4x1024x256, .f32⟩
  | .hbm, ⟨46, _⟩ => ⟨S4x4x4x1024x256, .f32⟩
  | .hbm, ⟨47, _⟩ => ⟨S4x4x4x256x1024, .f32⟩
  | .hbm, ⟨48, _⟩ => ⟨S202752x128, .f32⟩
  | .local _ .vmem, ⟨0, _⟩ => ⟨S2304x128, .f32⟩
  | .local _ .vmem, ⟨1, _⟩ => ⟨S2304x128, .f32⟩
  | .local _ .vmem, ⟨2, _⟩ => ⟨S1x1x4x1024x256, .f32⟩
  | .local _ .vmem, ⟨3, _⟩ => ⟨S1x1x4x1024x256, .f32⟩
  | .local _ .vmem, ⟨4, _⟩ => ⟨S1x1x4x1024x256, .f32⟩
  | .local _ .vmem, ⟨5, _⟩ => ⟨S1x1x4x1024x256, .f32⟩
  | .local _ .vmem, ⟨6, _⟩ => ⟨S1x1x4x256x1024, .f32⟩
  | .local _ .vmem, ⟨7, _⟩ => ⟨S1x1x4x256x1024, .f32⟩
  | .local _ .vmem, ⟨8, _⟩ => ⟨S2304x128, .f32⟩
  | .local _ .vmem, ⟨9, _⟩ => ⟨S2304x128, .f32⟩
  | .local _ .vmem, ⟨10, _⟩ => ⟨S4x1024x256, .bf16⟩
  | .local _ .vmem, ⟨11, _⟩ => ⟨S4x1024x256, .bf16⟩
  | .local _ .vmem, ⟨12, _⟩ => ⟨S4x256x1024, .bf16⟩
  | .local _ .smem, ⟨0, _⟩ => ⟨S128, .i32⟩
  | .local _ .smem, ⟨1, _⟩ => ⟨S88, .i32⟩
  | _, _ => ⟨S22528x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_arg0 : Ref sig .tc := ⟨.smem, 0, rfl⟩
abbrev main_v18 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![88], ![false]⟩

abbrev pre0 : Pipeline.Prefetch sig := ⟨2, ![main_arg0.idx, main_v18.idx], fun | 0 => main_arg0.names | 1 => main_v18.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (v3 : BitVec 32) : Fin 1 → Nat :=
  let arg0 : BitVec 32 := BitVec.ofNat 32 (i 0).val
  let c1_i32 : BitVec 32 := 1#32
  let v4 : BitVec 32 := Scalar.subi v3 c1_i32
  let v5 : BitVec 32 := Scalar.minsi arg0 v4
  let v6 : Index := Scalar.indexCast v5
  ![v6.toNat]

def k0_chk1 (i : grid0.Coords) (v3 : BitVec 32) : Prop :=
  (∀ a, (k0_off2 i v3) a + S1.size a ≤ S128.size a)
theorem k0_off2_inb : ∀ (i : grid0.Coords) (v3 : BitVec 32) (k0_hw1 : k0_chk1 i v3), ∀ a, (k0_off2 i v3) a + S1.size a ≤ S128.size a := fun i v3 k0_hw1 => k0_hw1

def k0_off3 (i : grid0.Coords) (v27 : BitVec 32) : Fin 1 → Nat :=
  let arg0 : BitVec 32 := BitVec.ofNat 32 (i 0).val
  let c1_i32_7 : BitVec 32 := 1#32
  let v25 : BitVec 32 := Scalar.maxsi arg0 c1_i32_7
  let c1_i32_8 : BitVec 32 := 1#32
  let v26 : BitVec 32 := Scalar.subi v25 c1_i32_8
  let c1_i32_10 : BitVec 32 := 1#32
  let v28 : BitVec 32 := Scalar.subi v27 c1_i32_10
  let v29 : BitVec 32 := Scalar.minsi v26 v28
  let v30 : Index := Scalar.indexCast v29
  ![v30.toNat]

def k0_chk2 (i : grid0.Coords) (v27 : BitVec 32) : Prop :=
  (∀ a, (k0_off3 i v27) a + S1.size a ≤ S128.size a)
theorem k0_off3_inb : ∀ (i : grid0.Coords) (v27 : BitVec 32) (k0_hw2 : k0_chk2 i v27), ∀ a, (k0_off3 i v27) a + S1.size a ≤ S128.size a := fun i v27 k0_hw2 => k0_hw2

def k0_off4 (i : grid0.Coords) : Fin 1 → Nat :=
  let arg0 : BitVec 32 := BitVec.ofNat 32 (i 0).val
  let v60 : Index := Scalar.indexCast arg0
  ![v60.toNat]
def k0_off5 (v61 : BitVec 32) : Fin 3 → Nat :=
  let c6_i32_21 : BitVec 32 := 6#32
  let c0_i32_22 : BitVec 32 := 0#32
  let v62 : BitVec 1 := Scalar.cmpi .eq c6_i32_21 c0_i32_22
  let c1_i32_23 : BitVec 32 := 1#32
  let v63 : BitVec 32 := Scalar.select v62 c1_i32_23 c6_i32_21
  let v64 : BitVec 32 := Scalar.remsi v61 v63
  let c0_i32_25 : BitVec 32 := 0#32
  let v66 : BitVec 1 := Scalar.cmpi .slt v64 c0_i32_25
  let c0_i32_26 : BitVec 32 := 0#32
  let v67 : BitVec 1 := Scalar.cmpi .slt v63 c0_i32_26
  let v68 : BitVec 1 := Scalar.xori v66 v67
  let c0_i32_24 : BitVec 32 := 0#32
  let v65 : BitVec 1 := Scalar.cmpi .ne v64 c0_i32_24
  let v69 : BitVec 1 := Scalar.andi v68 v65
  let v70 : BitVec 32 := Scalar.addi v64 v63
  let v71 : BitVec 32 := Scalar.select v69 v70 v64
  let c3_i32 : BitVec 32 := 3#32
  let v72 : BitVec 1 := Scalar.cmpi .sge v71 c3_i32
  let v73 : BitVec 32 := Scalar.extui v72
  let c5_i32 : BitVec 32 := 5#32
  let v74 : BitVec 1 := Scalar.cmpi .sge v71 c5_i32
  let v75 : BitVec 32 := Scalar.extui v74
  let v76 : BitVec 32 := Scalar.addi v73 v75
  let v129 : Index := Scalar.indexCast v76
  let c0_45 : Index := 0#32
  let c0_46 : Index := 0#32
  ![v129.toNat, 0, 0]
def k0_cond2 (i : grid0.Coords) (v0 : BitVec 32) : BitVec 1 :=
  let arg0 : BitVec 32 := BitVec.ofNat 32 (i 0).val
  let v54 : BitVec 1 := Scalar.cmpi .slt arg0 v0
  let v55 : BitVec 32 := Scalar.extui v54
  let c0_i32_19 : BitVec 32 := 0#32
  let v56 : BitVec 1 := Scalar.cmpi .ne v55 c0_i32_19
  v56

def k0_off6 (v61 : BitVec 32) : Fin 3 → Nat :=
  let c6_i32_21 : BitVec 32 := 6#32
  let c0_i32_22 : BitVec 32 := 0#32
  let v62 : BitVec 1 := Scalar.cmpi .eq c6_i32_21 c0_i32_22
  let c1_i32_23 : BitVec 32 := 1#32
  let v63 : BitVec 32 := Scalar.select v62 c1_i32_23 c6_i32_21
  let v64 : BitVec 32 := Scalar.remsi v61 v63
  let c0_i32_25 : BitVec 32 := 0#32
  let v66 : BitVec 1 := Scalar.cmpi .slt v64 c0_i32_25
  let c0_i32_26 : BitVec 32 := 0#32
  let v67 : BitVec 1 := Scalar.cmpi .slt v63 c0_i32_26
  let v68 : BitVec 1 := Scalar.xori v66 v67
  let c0_i32_24 : BitVec 32 := 0#32
  let v65 : BitVec 1 := Scalar.cmpi .ne v64 c0_i32_24
  let v69 : BitVec 1 := Scalar.andi v68 v65
  let v70 : BitVec 32 := Scalar.addi v64 v63
  let v71 : BitVec 32 := Scalar.select v69 v70 v64
  let c3_i32 : BitVec 32 := 3#32
  let v72 : BitVec 1 := Scalar.cmpi .sge v71 c3_i32
  let v73 : BitVec 32 := Scalar.extui v72
  let c5_i32 : BitVec 32 := 5#32
  let v74 : BitVec 1 := Scalar.cmpi .sge v71 c5_i32
  let v75 : BitVec 32 := Scalar.extui v74
  let v76 : BitVec 32 := Scalar.addi v73 v75
  let v149 : Index := Scalar.indexCast v76
  let c0_53 : Index := 0#32
  let c0_54 : Index := 0#32
  ![v149.toNat, 0, 0]
def k0_off7 (v61 : BitVec 32) : Fin 3 → Nat :=
  let c6_i32_21 : BitVec 32 := 6#32
  let c0_i32_22 : BitVec 32 := 0#32
  let v62 : BitVec 1 := Scalar.cmpi .eq c6_i32_21 c0_i32_22
  let c1_i32_23 : BitVec 32 := 1#32
  let v63 : BitVec 32 := Scalar.select v62 c1_i32_23 c6_i32_21
  let v64 : BitVec 32 := Scalar.remsi v61 v63
  let c0_i32_25 : BitVec 32 := 0#32
  let v66 : BitVec 1 := Scalar.cmpi .slt v64 c0_i32_25
  let c0_i32_26 : BitVec 32 := 0#32
  let v67 : BitVec 1 := Scalar.cmpi .slt v63 c0_i32_26
  let v68 : BitVec 1 := Scalar.xori v66 v67
  let c0_i32_24 : BitVec 32 := 0#32
  let v65 : BitVec 1 := Scalar.cmpi .ne v64 c0_i32_24
  let v69 : BitVec 1 := Scalar.andi v68 v65
  let v70 : BitVec 32 := Scalar.addi v64 v63
  let v71 : BitVec 32 := Scalar.select v69 v70 v64
  let c3_i32 : BitVec 32 := 3#32
  let v72 : BitVec 1 := Scalar.cmpi .sge v71 c3_i32
  let v73 : BitVec 32 := Scalar.extui v72
  let c5_i32 : BitVec 32 := 5#32
  let v74 : BitVec 1 := Scalar.cmpi .sge v71 c5_i32
  let v75 : BitVec 32 := Scalar.extui v74
  let v76 : BitVec 32 := Scalar.addi v73 v75
  let c3_i32_27 : BitVec 32 := 3#32
  let v77 : BitVec 32 := Scalar.muli v76 c3_i32_27
  let c1_i32_28 : BitVec 32 := 1#32
  let v78 : BitVec 32 := Scalar.subi v76 c1_i32_28
  let v79 : BitVec 32 := Scalar.muli v76 v78
  let c0_i32_29 : BitVec 32 := 0#32
  let v81 : BitVec 1 := Scalar.cmpi .sgt v79 c0_i32_29
  let v82 : BitVec 32 := Scalar.extui v81
  let c0_i32_30 : BitVec 32 := 0#32
  let v83 : BitVec 1 := Scalar.cmpi .slt v79 c0_i32_30
  let v84 : BitVec 32 := Scalar.extui v83
  let v85 : BitVec 32 := Scalar.subi v82 v84
  let c2_i32 : BitVec 32 := 2#32
  let c0_i32_31 : BitVec 32 := 0#32
  let v86 : BitVec 1 := Scalar.cmpi .sgt c2_i32 c0_i32_31
  let v87 : BitVec 32 := Scalar.extui v86
  let c0_i32_32 : BitVec 32 := 0#32
  let v88 : BitVec 1 := Scalar.cmpi .slt c2_i32 c0_i32_32
  let v89 : BitVec 32 := Scalar.extui v88
  let v90 : BitVec 32 := Scalar.subi v87 v89
  let v91 : BitVec 1 := Scalar.cmpi .ne v85 v90
  let v92 : BitVec 32 := Scalar.remsi v79 c2_i32
  let c0_i32_33 : BitVec 32 := 0#32
  let v93 : BitVec 1 := Scalar.cmpi .ne v92 c0_i32_33
  let v94 : BitVec 1 := Scalar.andi v91 v93
  let v80 : BitVec 32 := Scalar.divsi v79 c2_i32
  let c1_i32_34 : BitVec 32 := 1#32
  let v95 : BitVec 32 := Scalar.subi v80 c1_i32_34
  let v96 : BitVec 32 := Scalar.select v94 v95 v80
  let v97 : BitVec 32 := Scalar.subi v77 v96
  let v98 : BitVec 32 := Scalar.subi v71 v97
  let v99 : BitVec 32 := Scalar.addi v98 v76
  let c1_i32_35 : BitVec 32 := 1#32
  let v100 : BitVec 32 := Scalar.addi v99 c1_i32_35
  let v154 : Index := Scalar.indexCast v100
  let c0_56 : Index := 0#32
  let c0_57 : Index := 0#32
  ![v154.toNat, 0, 0]
def k0_off8 (v61 : BitVec 32) : Fin 3 → Nat :=
  let c6_i32_21 : BitVec 32 := 6#32
  let c0_i32_22 : BitVec 32 := 0#32
  let v62 : BitVec 1 := Scalar.cmpi .eq c6_i32_21 c0_i32_22
  let c1_i32_23 : BitVec 32 := 1#32
  let v63 : BitVec 32 := Scalar.select v62 c1_i32_23 c6_i32_21
  let v64 : BitVec 32 := Scalar.remsi v61 v63
  let c0_i32_25 : BitVec 32 := 0#32
  let v66 : BitVec 1 := Scalar.cmpi .slt v64 c0_i32_25
  let c0_i32_26 : BitVec 32 := 0#32
  let v67 : BitVec 1 := Scalar.cmpi .slt v63 c0_i32_26
  let v68 : BitVec 1 := Scalar.xori v66 v67
  let c0_i32_24 : BitVec 32 := 0#32
  let v65 : BitVec 1 := Scalar.cmpi .ne v64 c0_i32_24
  let v69 : BitVec 1 := Scalar.andi v68 v65
  let v70 : BitVec 32 := Scalar.addi v64 v63
  let v71 : BitVec 32 := Scalar.select v69 v70 v64
  let c3_i32 : BitVec 32 := 3#32
  let v72 : BitVec 1 := Scalar.cmpi .sge v71 c3_i32
  let v73 : BitVec 32 := Scalar.extui v72
  let c5_i32 : BitVec 32 := 5#32
  let v74 : BitVec 1 := Scalar.cmpi .sge v71 c5_i32
  let v75 : BitVec 32 := Scalar.extui v74
  let v76 : BitVec 32 := Scalar.addi v73 v75
  let c3_i32_27 : BitVec 32 := 3#32
  let v77 : BitVec 32 := Scalar.muli v76 c3_i32_27
  let c1_i32_28 : BitVec 32 := 1#32
  let v78 : BitVec 32 := Scalar.subi v76 c1_i32_28
  let v79 : BitVec 32 := Scalar.muli v76 v78
  let c0_i32_29 : BitVec 32 := 0#32
  let v81 : BitVec 1 := Scalar.cmpi .sgt v79 c0_i32_29
  let v82 : BitVec 32 := Scalar.extui v81
  let c0_i32_30 : BitVec 32 := 0#32
  let v83 : BitVec 1 := Scalar.cmpi .slt v79 c0_i32_30
  let v84 : BitVec 32 := Scalar.extui v83
  let v85 : BitVec 32 := Scalar.subi v82 v84
  let c2_i32 : BitVec 32 := 2#32
  let c0_i32_31 : BitVec 32 := 0#32
  let v86 : BitVec 1 := Scalar.cmpi .sgt c2_i32 c0_i32_31
  let v87 : BitVec 32 := Scalar.extui v86
  let c0_i32_32 : BitVec 32 := 0#32
  let v88 : BitVec 1 := Scalar.cmpi .slt c2_i32 c0_i32_32
  let v89 : BitVec 32 := Scalar.extui v88
  let v90 : BitVec 32 := Scalar.subi v87 v89
  let v91 : BitVec 1 := Scalar.cmpi .ne v85 v90
  let v92 : BitVec 32 := Scalar.remsi v79 c2_i32
  let c0_i32_33 : BitVec 32 := 0#32
  let v93 : BitVec 1 := Scalar.cmpi .ne v92 c0_i32_33
  let v94 : BitVec 1 := Scalar.andi v91 v93
  let v80 : BitVec 32 := Scalar.divsi v79 c2_i32
  let c1_i32_34 : BitVec 32 := 1#32
  let v95 : BitVec 32 := Scalar.subi v80 c1_i32_34
  let v96 : BitVec 32 := Scalar.select v94 v95 v80
  let v97 : BitVec 32 := Scalar.subi v77 v96
  let v98 : BitVec 32 := Scalar.subi v71 v97
  let v99 : BitVec 32 := Scalar.addi v98 v76
  let c1_i32_35 : BitVec 32 := 1#32
  let v100 : BitVec 32 := Scalar.addi v99 c1_i32_35
  let v174 : Index := Scalar.indexCast v100
  let c0_65 : Index := 0#32
  let c0_66 : Index := 0#32
  ![v174.toNat, 0, 0]

def k0_chk3 (i : grid0.Coords) (v0 : BitVec 32) (v61 : BitVec 32) : Prop :=
  (∀ (k0_h2 : k0_cond2 i v0 = 1#1), ∀ a, (k0_off5 v61) a + S1x1024x256.size a ≤ S4x1024x256.size a) ∧
  (∀ (k0_h2 : k0_cond2 i v0 = 1#1), ∀ a, (k0_off6 v61) a + S1x256x1024.size a ≤ S4x256x1024.size a) ∧
  (∀ (k0_h2 : k0_cond2 i v0 = 1#1), ∀ a, (k0_off7 v61) a + S1x1024x256.size a ≤ S4x1024x256.size a) ∧
  (∀ (k0_h2 : k0_cond2 i v0 = 1#1), ∀ a, (k0_off8 v61) a + S1x256x1024.size a ≤ S4x256x1024.size a)
theorem k0_off5_inb : ∀ (i : grid0.Coords) (v0 : BitVec 32) (v61 : BitVec 32) (k0_hw3 : k0_chk3 i v0 v61), ∀ (k0_h2 : k0_cond2 i v0 = 1#1), ∀ a, (k0_off5 v61) a + S1x1024x256.size a ≤ S4x1024x256.size a := fun i v0 v61 k0_hw3 k0_h2 => k0_hw3.1 k0_h2
theorem k0_off6_inb : ∀ (i : grid0.Coords) (v0 : BitVec 32) (v61 : BitVec 32) (k0_hw3 : k0_chk3 i v0 v61), ∀ (k0_h2 : k0_cond2 i v0 = 1#1), ∀ a, (k0_off6 v61) a + S1x256x1024.size a ≤ S4x256x1024.size a := fun i v0 v61 k0_hw3 k0_h2 => k0_hw3.2.1 k0_h2
theorem k0_off7_inb : ∀ (i : grid0.Coords) (v0 : BitVec 32) (v61 : BitVec 32) (k0_hw3 : k0_chk3 i v0 v61), ∀ (k0_h2 : k0_cond2 i v0 = 1#1), ∀ a, (k0_off7 v61) a + S1x1024x256.size a ≤ S4x1024x256.size a := fun i v0 v61 k0_hw3 k0_h2 => k0_hw3.2.2.1 k0_h2
theorem k0_off8_inb : ∀ (i : grid0.Coords) (v0 : BitVec 32) (v61 : BitVec 32) (k0_hw3 : k0_chk3 i v0 v61), ∀ (k0_h2 : k0_cond2 i v0 = 1#1), ∀ a, (k0_off8 v61) a + S1x256x1024.size a ≤ S4x256x1024.size a := fun i v0 v61 k0_hw3 k0_h2 => k0_hw3.2.2.2 k0_h2

def k0_cond3 (i : grid0.Coords) (v0 : BitVec 32) : BitVec 1 :=
  let arg0 : BitVec 32 := BitVec.ofNat 32 (i 0).val
  let v57 : BitVec 1 := Scalar.cmpi .sge arg0 v0
  let v58 : BitVec 32 := Scalar.extui v57
  let c0_i32_20 : BitVec 32 := 0#32
  let v59 : BitVec 1 := Scalar.cmpi .ne v58 c0_i32_20
  v59

def cc0_transform_0 (inb_S128_S1_127 : ∀ a, (![127] : Fin 1 → Nat) a + S1.size a ≤ S128.size a) (numel1_S1 : S1.numel = 1) (pf : pre0.Contents (Elt F)) (i : grid0.Coords) : Fin 2 → Nat :=
  let arg0 : BitVec 32 := BitVec.ofNat 32 (i 0).val
  let c127 : Index := 127#32
  let v0 : BitVec 32 := pf.at 0 (Rect.unit (s := S128) ![127] S1.size inb_S128_S1_127) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc0_transform_2 (k0_off1_inb : ∀ i : grid0.Coords, ∀ a, (k0_off1 i) a + S1.size a ≤ S88.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc0_transform_3 (k0_off1_inb : ∀ i : grid0.Coords, ∀ a, (k0_off1 i) a + S1.size a ≤ S88.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S128 : Shape := ⟨1, ![128]⟩
abbrev S22528x1024 : Shape := ⟨2, ![22528, 1024]⟩
abbrev S22528x2 : Shape := ⟨2, ![22528, 2]⟩
abbrev S4x16x1024x256 : Shape := ⟨4, ![4, 16, 1024, 256]⟩
abbrev S4x16x256x1024 : Shape := ⟨4, ![4, 16, 256, 1024]⟩
abbrev S88 : Shape := ⟨1, ![88]⟩
abbrev S88x256 : Shape := ⟨2, ![88, 256]⟩
abbrev S22528 : Shape := ⟨1, ![22528]⟩
abbrev S_ : Shape := ⟨0, ![]⟩
abbrev S22528x1 : Shape := ⟨2, ![22528, 1]⟩
abbrev S1x16 : Shape := ⟨2, ![1, 16]⟩
abbrev S22528x16 : Shape := ⟨2, ![22528, 16]⟩
abbrev S1x16x1024x256 : Shape := ⟨4, ![1, 16, 1024, 256]⟩
abbrev S16x1024x256 : Shape := ⟨3, ![16, 1024, 256]⟩
abbrev S22528x16x256 : Shape := ⟨3, ![22528, 16, 256]⟩
abbrev S22528x16x1 : Shape := ⟨3, ![22528, 16, 1]⟩
abbrev S1x16x256x1024 : Shape := ⟨4, ![1, 16, 256, 1024]⟩
abbrev S16x256x1024 : Shape := ⟨3, ![16, 256, 1024]⟩
abbrev S1 : Shape := ⟨1, ![1]⟩
abbrev S22528x8x128 : Shape := ⟨3, ![22528, 8, 128]⟩
abbrev S22528x9x128 : Shape := ⟨3, ![22528, 9, 128]⟩
abbrev S202752x128 : Shape := ⟨2, ![202752, 128]⟩

abbrev nBuf : Space → Nat
  | .hbm => 199
  | .vmem => 0
  | .smem => 0
  | _ => 0

abbrev hbmTy0_0 (i : Nat) : BufTy := match i % 128 with
  | 0 => ⟨S128, .i32⟩
  | 1 => ⟨S22528x1024, .f32⟩
  | 2 => ⟨S22528x2, .f32⟩
  | 3 => ⟨S4x16x1024x256, .f32⟩
  | 4 => ⟨S4x16x1024x256, .f32⟩
  | 5 => ⟨S4x16x256x1024, .f32⟩
  | 6 => ⟨S88, .i32⟩
  | 7 => ⟨S88x256, .i32⟩
  | 8 => ⟨S22528, .i32⟩
  | 9 => ⟨S88, .i32⟩
  | 10 => ⟨S88x256, .i32⟩
  | 11 => ⟨S22528, .i32⟩
  | 12 => ⟨S_, .i32⟩
  | 13 => ⟨S22528, .i32⟩
  | 14 => ⟨S22528, .i32⟩
  | 15 => ⟨S_, .i32⟩
  | 16 => ⟨S22528, .i32⟩
  | 17 => ⟨S22528, .i32⟩
  | 18 => ⟨S_, .i32⟩
  | 19 => ⟨S22528, .i32⟩
  | 20 => ⟨S22528, .i1⟩
  | 21 => ⟨S_, .i32⟩
  | 22 => ⟨S_, .i32⟩
  | 23 => ⟨S22528, .i32⟩
  | 24 => ⟨S22528, .i32⟩
  | 25 => ⟨S22528, .i32⟩
  | 26 => ⟨S_, .i32⟩
  | 27 => ⟨S22528, .i32⟩
  | 28 => ⟨S22528, .i32⟩
  | 29 => ⟨S_, .i32⟩
  | 30 => ⟨S22528, .i32⟩
  | 31 => ⟨S22528, .i1⟩
  | 32 => ⟨S_, .i32⟩
  | 33 => ⟨S_, .i32⟩
  | 34 => ⟨S22528, .i32⟩
  | 35 => ⟨S22528, .i32⟩
  | 36 => ⟨S22528, .i32⟩
  | 37 => ⟨S22528, .i32⟩
  | 38 => ⟨S_, .i32⟩
  | 39 => ⟨S22528, .i32⟩
  | 40 => ⟨S22528, .i1⟩
  | 41 => ⟨S_, .i32⟩
  | 42 => ⟨S_, .i32⟩
  | 43 => ⟨S22528, .i32⟩
  | 44 => ⟨S22528, .i32⟩
  | 45 => ⟨S22528, .i32⟩
  | 46 => ⟨S22528, .i32⟩
  | 47 => ⟨S_, .i32⟩
  | 48 => ⟨S22528, .i32⟩
  | 49 => ⟨S22528, .i1⟩
  | 50 => ⟨S_, .i32⟩
  | 51 => ⟨S_, .i32⟩
  | 52 => ⟨S22528, .i32⟩
  | 53 => ⟨S22528, .i32⟩
  | 54 => ⟨S22528, .i32⟩
  | 55 => ⟨S22528, .i32⟩
  | 56 => ⟨S_, .i32⟩
  | 57 => ⟨S22528, .i32⟩
  | 58 => ⟨S22528, .i1⟩
  | 59 => ⟨S_, .i32⟩
  | 60 => ⟨S_, .i32⟩
  | 61 => ⟨S22528, .i32⟩
  | 62 => ⟨S22528, .i32⟩
  | 63 => ⟨S22528, .i32⟩
  | 64 => ⟨S22528, .i32⟩
  | 65 => ⟨S_, .i32⟩
  | 66 => ⟨S22528, .i32⟩
  | 67 => ⟨S22528, .i1⟩
  | 68 => ⟨S_, .i32⟩
  | 69 => ⟨S_, .i32⟩
  | 70 => ⟨S22528, .i32⟩
  | 71 => ⟨S22528, .i32⟩
  | 72 => ⟨S22528, .i32⟩
  | 73 => ⟨S22528, .i32⟩
  | 74 => ⟨S_, .i32⟩
  | 75 => ⟨S22528, .i32⟩
  | 76 => ⟨S22528, .i1⟩
  | 77 => ⟨S_, .i32⟩
  | 78 => ⟨S_, .i32⟩
  | 79 => ⟨S22528, .i32⟩
  | 80 => ⟨S22528, .i32⟩
  | 81 => ⟨S22528, .i32⟩
  | 82 => ⟨S_, .i32⟩
  | 83 => ⟨S22528, .i32⟩
  | 84 => ⟨S22528, .i32⟩
  | 85 => ⟨S_, .i32⟩
  | 86 => ⟨S22528, .i32⟩
  | 87 => ⟨S22528, .i1⟩
  | 88 => ⟨S_, .i32⟩
  | 89 => ⟨S_, .i32⟩
  | 90 => ⟨S22528, .i32⟩
  | 91 => ⟨S22528, .i32⟩
  | 92 => ⟨S22528, .i32⟩
  | 93 => ⟨S22528, .i32⟩
  | 94 => ⟨S_, .i32⟩
  | 95 => ⟨S22528, .i32⟩
  | 96 => ⟨S22528, .i1⟩
  | 97 => ⟨S_, .i32⟩
  | 98 => ⟨S_, .i32⟩
  | 99 => ⟨S22528, .i32⟩
  | 100 => ⟨S22528, .i32⟩
  | 101 => ⟨S22528, .i32⟩
  | 102 => ⟨S22528, .i32⟩
  | 103 => ⟨S_, .i32⟩
  | 104 => ⟨S22528, .i32⟩
  | 105 => ⟨S22528, .i1⟩
  | 106 => ⟨S_, .i32⟩
  | 107 => ⟨S_, .i32⟩
  | 108 => ⟨S22528, .i32⟩
  | 109 => ⟨S22528, .i32⟩
  | 110 => ⟨S22528, .i32⟩
  | 111 => ⟨S22528, .i32⟩
  | 112 => ⟨S_, .i32⟩
  | 113 => ⟨S22528, .i32⟩
  | 114 => ⟨S22528, .i1⟩
  | 115 => ⟨S_, .i32⟩
  | 116 => ⟨S_, .i32⟩
  | 117 => ⟨S22528, .i32⟩
  | 118 => ⟨S22528, .i32⟩
  | 119 => ⟨S22528, .i32⟩
  | 120 => ⟨S22528, .i32⟩
  | 121 => ⟨S_, .i32⟩
  | 122 => ⟨S22528, .i32⟩
  | 123 => ⟨S22528, .i1⟩
  | 124 => ⟨S_, .i32⟩
  | 125 => ⟨S_, .i32⟩
  | 126 => ⟨S22528, .i32⟩
  | 127 => ⟨S22528, .i32⟩
  | _ => ⟨S128, .i32⟩

abbrev hbmTy0_1 (i : Nat) : BufTy := match i % 128 with
  | 0 => ⟨S22528, .i32⟩
  | 1 => ⟨S22528, .i32⟩
  | 2 => ⟨S_, .i32⟩
  | 3 => ⟨S22528, .i32⟩
  | 4 => ⟨S22528, .i32⟩
  | 5 => ⟨S22528, .i32⟩
  | 6 => ⟨S22528, .i32⟩
  | 7 => ⟨S_, .i32⟩
  | 8 => ⟨S22528, .i32⟩
  | 9 => ⟨S22528, .i32⟩
  | 10 => ⟨S22528, .i32⟩
  | 11 => ⟨S22528, .i32⟩
  | 12 => ⟨S22528x1, .i32⟩
  | 13 => ⟨S1x16, .i32⟩
  | 14 => ⟨S22528x16, .i32⟩
  | 15 => ⟨S22528x16, .i32⟩
  | 16 => ⟨S22528x16, .i1⟩
  | 17 => ⟨S22528x16, .f32⟩
  | 18 => ⟨S22528x1, .f32⟩
  | 19 => ⟨S22528x16, .f32⟩
  | 20 => ⟨S22528x16, .f32⟩
  | 21 => ⟨S_, .f32⟩
  | 22 => ⟨S22528x16, .f32⟩
  | 23 => ⟨S22528x16, .f32⟩
  | 24 => ⟨S22528x1, .i32⟩
  | 25 => ⟨S1x16, .i32⟩
  | 26 => ⟨S22528x16, .i32⟩
  | 27 => ⟨S22528x16, .i32⟩
  | 28 => ⟨S22528x16, .i1⟩
  | 29 => ⟨S22528x16, .f32⟩
  | 30 => ⟨S22528x1, .f32⟩
  | 31 => ⟨S22528x16, .f32⟩
  | 32 => ⟨S22528x16, .f32⟩
  | 33 => ⟨S22528x16, .f32⟩
  | 34 => ⟨S1x16x1024x256, .f32⟩
  | 35 => ⟨S16x1024x256, .f32⟩
  | 36 => ⟨S22528x16x256, .f32⟩
  | 37 => ⟨S1x16x1024x256, .f32⟩
  | 38 => ⟨S16x1024x256, .f32⟩
  | 39 => ⟨S22528x16x256, .f32⟩
  | 40 => ⟨S22528x16x256, .f32⟩
  | 41 => ⟨S22528x16x256, .f32⟩
  | 42 => ⟨S_, .f32⟩
  | 43 => ⟨S22528x16x256, .f32⟩
  | 44 => ⟨S22528x16x256, .f32⟩
  | 45 => ⟨S_, .f32⟩
  | 46 => ⟨S22528x16x256, .f32⟩
  | 47 => ⟨S22528x16x256, .f32⟩
  | 48 => ⟨S22528x16x256, .f32⟩
  | 49 => ⟨S22528x16x256, .f32⟩
  | 50 => ⟨S22528x16x1, .f32⟩
  | 51 => ⟨S22528x16x256, .f32⟩
  | 52 => ⟨S22528x16x256, .f32⟩
  | 53 => ⟨S1x16x256x1024, .f32⟩
  | 54 => ⟨S16x256x1024, .f32⟩
  | 55 => ⟨S22528x1024, .f32⟩
  | 56 => ⟨S1, .i32⟩
  | 57 => ⟨S_, .i32⟩
  | 58 => ⟨S22528, .i32⟩
  | 59 => ⟨S22528, .i1⟩
  | 60 => ⟨S22528x1, .i1⟩
  | 61 => ⟨S_, .f32⟩
  | 62 => ⟨S_, .f32⟩
  | 63 => ⟨S22528x1024, .i1⟩
  | 64 => ⟨S22528x1024, .f32⟩
  | 65 => ⟨S22528x1024, .f32⟩
  | 66 => ⟨S22528x8x128, .f32⟩
  | 67 => ⟨S_, .i32⟩
  | 68 => ⟨S_, .f32⟩
  | 69 => ⟨S22528x9x128, .f32⟩
  | 70 => ⟨S202752x128, .f32⟩
  | _ => ⟨S128, .i32⟩

abbrev hbmTy (i : Nat) : BufTy := match i / 128 with
  | 0 => hbmTy0_0 i
  | 1 => hbmTy0_1 i
  | _ => ⟨S128, .i32⟩

abbrev bufTy : (tb : Table) → Fin (tcTables nBuf tb) → BufTy
  | .hbm, ⟨i, _⟩ => hbmTy i
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_c_6 : Ref sig .tc := ⟨.hbm, 32, rfl⟩
abbrev main_c_7 : Ref sig .tc := ⟨.hbm, 33, rfl⟩
abbrev main_call1_v0 : Ref sig .tc := ⟨.hbm, 34, rfl⟩
abbrev main_call1_v1 : Ref sig .tc := ⟨.hbm, 35, rfl⟩
abbrev main_v17 : Ref sig .tc := ⟨.hbm, 36, rfl⟩
abbrev main_v18 : Ref sig .tc := ⟨.hbm, 37, rfl⟩
abbrev main_c_8 : Ref sig .tc := ⟨.hbm, 38, rfl⟩
abbrev main_v19 : Ref sig .tc := ⟨.hbm, 39, rfl⟩
abbrev main_v20 : Ref sig .tc := ⟨.hbm, 40, rfl⟩
abbrev main_c_9 : Ref sig .tc := ⟨.hbm, 41, rfl⟩
abbrev main_c_10 : Ref sig .tc := ⟨.hbm, 42, rfl⟩
abbrev main_call2_v0 : Ref sig .tc := ⟨.hbm, 43, rfl⟩
abbrev main_call2_v1 : Ref sig .tc := ⟨.hbm, 44, rfl⟩
abbrev main_v21 : Ref sig .tc := ⟨.hbm, 45, rfl⟩
abbrev main_v22 : Ref sig .tc := ⟨.hbm, 46, rfl⟩
abbrev main_c_11 : Ref sig .tc := ⟨.hbm, 47, rfl⟩
abbrev main_v23 : Ref sig .tc := ⟨.hbm, 48, rfl⟩
abbrev main_v24 : Ref sig .tc := ⟨.hbm, 49, rfl⟩
abbrev main_c_12 : Ref sig .tc := ⟨.hbm, 50, rfl⟩
abbrev main_c_13 : Ref sig .tc := ⟨.hbm, 51, rfl⟩
abbrev main_call3_v0 : Ref sig .tc := ⟨.hbm, 52, rfl⟩
abbrev main_call3_v1 : Ref sig .tc := ⟨.hbm, 53, rfl⟩
abbrev main_v25 : Ref sig .tc := ⟨.hbm, 54, rfl⟩
abbrev main_v26 : Ref sig .tc := ⟨.hbm, 55, rfl⟩
abbrev main_c_14 : Ref sig .tc := ⟨.hbm, 56, rfl⟩
abbrev main_v27 : Ref sig .tc := ⟨.hbm, 57, rfl⟩
abbrev main_v28 : Ref sig .tc := ⟨.hbm, 58, rfl⟩
abbrev main_c_15 : Ref sig .tc := ⟨.hbm, 59, rfl⟩
abbrev main_c_16 : Ref sig .tc := ⟨.hbm, 60, rfl⟩
abbrev main_call4_v0 : Ref sig .tc := ⟨.hbm, 61, rfl⟩
abbrev main_call4_v1 : Ref sig .tc := ⟨.hbm, 62, rfl⟩
abbrev main_v29 : Ref sig .tc := ⟨.hbm, 63, rfl⟩
abbrev main_v30 : Ref sig .tc := ⟨.hbm, 64, rfl⟩
abbrev main_c_17 : Ref sig .tc := ⟨.hbm, 65, rfl⟩
abbrev main_v31 : Ref sig .tc := ⟨.hbm, 66, rfl⟩
abbrev main_v32 : Ref sig .tc := ⟨.hbm, 67, rfl⟩
abbrev main_c_18 : Ref sig .tc := ⟨.hbm, 68, rfl⟩
abbrev main_c_19 : Ref sig .tc := ⟨.hbm, 69, rfl⟩
abbrev main_call5_v0 : Ref sig .tc := ⟨.hbm, 70, rfl⟩
abbrev main_call5_v1 : Ref sig .tc := ⟨.hbm, 71, rfl⟩
abbrev main_v33 : Ref sig .tc := ⟨.hbm, 72, rfl⟩
abbrev main_v34 : Ref sig .tc := ⟨.hbm, 73, rfl⟩
abbrev main_c_20 : Ref sig .tc := ⟨.hbm, 74, rfl⟩
abbrev main_v35 : Ref sig .tc := ⟨.hbm, 75, rfl⟩
abbrev main_v36 : Ref sig .tc := ⟨.hbm, 76, rfl⟩
abbrev main_c_21 : Ref sig .tc := ⟨.hbm, 77, rfl⟩
abbrev main_c_22 : Ref sig .tc := ⟨.hbm, 78, rfl⟩
abbrev main_call6_v0 : Ref sig .tc := ⟨.hbm, 79, rfl⟩
abbrev main_call6_v1 : Ref sig .tc := ⟨.hbm, 80, rfl⟩
abbrev main_v37 : Ref sig .tc := ⟨.hbm, 81, rfl⟩
abbrev main_c_23 : Ref sig .tc := ⟨.hbm, 82, rfl⟩
abbrev main_v38 : Ref sig .tc := ⟨.hbm, 83, rfl⟩
abbrev main_v39 : Ref sig .tc := ⟨.hbm, 84, rfl⟩
abbrev main_c_24 : Ref sig .tc := ⟨.hbm, 85, rfl⟩
abbrev main_v40 : Ref sig .tc := ⟨.hbm, 86, rfl⟩
abbrev main_v41 : Ref sig .tc := ⟨.hbm, 87, rfl⟩
abbrev main_c_25 : Ref sig .tc := ⟨.hbm, 88, rfl⟩
abbrev main_c_26 : Ref sig .tc := ⟨.hbm, 89, rfl⟩
abbrev main_call7_v0 : Ref sig .tc := ⟨.hbm, 90, rfl⟩
abbrev main_call7_v1 : Ref sig .tc := ⟨.hbm, 91, rfl⟩
abbrev main_v42 : Ref sig .tc := ⟨.hbm, 92, rfl⟩
abbrev main_v43 : Ref sig .tc := ⟨.hbm, 93, rfl⟩
abbrev main_c_27 : Ref sig .tc := ⟨.hbm, 94, rfl⟩
abbrev main_v44 : Ref sig .tc := ⟨.hbm, 95, rfl⟩
abbrev main_v45 : Ref sig .tc := ⟨.hbm, 96, rfl⟩
abbrev main_c_28 : Ref sig .tc := ⟨.hbm, 97, rfl⟩
abbrev main_c_29 : Ref sig .tc := ⟨.hbm, 98, rfl⟩
abbrev main_call8_v0 : Ref sig .tc := ⟨.hbm, 99, rfl⟩
abbrev main_call8_v1 : Ref sig .tc := ⟨.hbm, 100, rfl⟩
abbrev main_v46 : Ref sig .tc := ⟨.hbm, 101, rfl⟩
abbrev main_v47 : Ref sig .tc := ⟨.hbm, 102, rfl⟩
abbrev main_c_30 : Ref sig .tc := ⟨.hbm, 103, rfl⟩
abbrev main_v48 : Ref sig .tc := ⟨.hbm, 104, rfl⟩
abbrev main_v49 : Ref sig .tc := ⟨.hbm, 105, rfl⟩
abbrev main_c_31 : Ref sig .tc := ⟨.hbm, 106, rfl⟩
abbrev main_c_32 : Ref sig .tc := ⟨.hbm, 107, rfl⟩
abbrev main_call9_v0 : Ref sig .tc := ⟨.hbm, 108, rfl⟩
abbrev main_call9_v1 : Ref sig .tc := ⟨.hbm, 109, rfl⟩
abbrev main_v50 : Ref sig .tc := ⟨.hbm, 110, rfl⟩
abbrev main_v51 : Ref sig .tc := ⟨.hbm, 111, rfl⟩
abbrev main_c_33 : Ref sig .tc := ⟨.hbm, 112, rfl⟩
abbrev main_v52 : Ref sig .tc := ⟨.hbm, 113, rfl⟩
abbrev main_v53 : Ref sig .tc := ⟨.hbm, 114, rfl⟩
abbrev main_c_34 : Ref sig .tc := ⟨.hbm, 115, rfl⟩
abbrev main_c_35 : Ref sig .tc := ⟨.hbm, 116, rfl⟩
abbrev main_call10_v0 : Ref sig .tc := ⟨.hbm, 117, rfl⟩
abbrev main_call10_v1 : Ref sig .tc := ⟨.hbm, 118, rfl⟩
abbrev main_v54 : Ref sig .tc := ⟨.hbm, 119, rfl⟩
abbrev main_v55 : Ref sig .tc := ⟨.hbm, 120, rfl⟩
abbrev main_c_36 : Ref sig .tc := ⟨.hbm, 121, rfl⟩
abbrev main_v56 : Ref sig .tc := ⟨.hbm, 122, rfl⟩
abbrev main_v57 : Ref sig .tc := ⟨.hbm, 123, rfl⟩
abbrev main_c_37 : Ref sig .tc := ⟨.hbm, 124, rfl⟩
abbrev main_c_38 : Ref sig .tc := ⟨.hbm, 125, rfl⟩
abbrev main_call11_v0 : Ref sig .tc := ⟨.hbm, 126, rfl⟩
abbrev main_call11_v1 : Ref sig .tc := ⟨.hbm, 127, rfl⟩
abbrev main_v58 : Ref sig .tc := ⟨.hbm, 128, rfl⟩
abbrev main_v59 : Ref sig .tc := ⟨.hbm, 129, rfl⟩
abbrev main_c_39 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_c_40 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_call12_v0 : Ref sig .tc := ⟨.hbm, 140, rfl⟩
abbrev main_call12_v1 : Ref sig .tc := ⟨.hbm, 141, rfl⟩
abbrev main_call12_v2 : Ref sig .tc := ⟨.hbm, 142, rfl⟩
abbrev main_call12_v3 : Ref sig .tc := ⟨.hbm, 143, rfl⟩
abbrev main_call12_v4 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_cst : Ref sig .tc := ⟨.hbm, 149, rfl⟩
abbrev main_v72 : Ref sig .tc := ⟨.hbm, 150, rfl⟩
abbrev main_v73 : Ref sig .tc := ⟨.hbm, 151, rfl⟩
abbrev main_call13_v0 : Ref sig .tc := ⟨.hbm, 152, rfl⟩
abbrev main_call13_v1 : Ref sig .tc := ⟨.hbm, 153, rfl⟩
abbrev main_call13_v2 : Ref sig .tc := ⟨.hbm, 154, rfl⟩
abbrev main_call13_v3 : Ref sig .tc := ⟨.hbm, 155, rfl⟩
abbrev main_call13_v4 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_call14_v0 : Ref sig .tc := ⟨.hbm, 168, rfl⟩
abbrev main_call14_v1 : Ref sig .tc := ⟨.hbm, 169, rfl⟩
abbrev main_call14_cst : Ref sig .tc := ⟨.hbm, 170, rfl⟩
abbrev main_call14_v2 : Ref sig .tc := ⟨.hbm, 171, rfl⟩
abbrev main_call14_v3 : Ref sig .tc := ⟨.hbm, 172, rfl⟩
abbrev main_call14_cst_0 : Ref sig .tc := ⟨.hbm, 173, rfl⟩
abbrev main_call14_v4 : Ref sig .tc := ⟨.hbm, 174, rfl⟩
abbrev main_call14_v5 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_cst_41 : Ref sig .tc := ⟨.hbm, 189, rfl⟩
abbrev main_call15_v0 : Ref sig .tc := ⟨.hbm, 190, rfl⟩
abbrev main_call15_v1 : Ref sig .tc := ⟨.hbm, 191, rfl⟩
abbrev main_call15_v2 : Ref sig .tc := ⟨.hbm, 192, rfl⟩
abbrev main_v98 : Ref sig .tc := ⟨.hbm, 193, rfl⟩
abbrev main_v99 : Ref sig .tc := ⟨.hbm, 194, rfl⟩
abbrev main_c_42 : Ref sig .tc := ⟨.hbm, 195, rfl⟩
abbrev main_call16_v0 : Ref sig .tc := ⟨.hbm, 196, rfl⟩
abbrev main_v100 : Ref sig .tc := ⟨.hbm, 197, rfl⟩
abbrev main_v101 : Ref sig .tc := ⟨.hbm, 198, rfl⟩

abbrev nD : Nat := 1
abbrev τ : Topo := Topo.v7x

variable {F : FTy → Type} [FloatOps F]
-- ==== Proof.Body.lean ====
/- The attention kernel's body as loops: one definition for each kind of block, repeated over explicit
   lists of block numbers. -/
module

public import Idealize.ShloMosaic.Lib.Pipeline
public import Idealize.ShloMosaic.Lib.Scf
public import Idealize.ShloMosaic.Lib.Sig
public import Idealize.ShloMosaic.Lib.StableHlo
public import Idealize.ShloMosaic.PureOps
public import Idealize.ShloMosaic.PureOps.Ideal

@[expose] public section

noncomputable section

namespace Cert.Attn

open Idealize.ShloMosaic Idealize.SL.Sem

abbrev S4096x128 : Shape := ⟨2, ![4096, 128]⟩
abbrev S256x128 : Shape := ⟨2, ![256, 128]⟩
abbrev S128x128 : Shape := ⟨2, ![128, 128]⟩
abbrev S256x256 : Shape := ⟨2, ![256, 256]⟩
abbrev S32x128 : Shape := ⟨2, ![32, 128]⟩
abbrev S64x128 : Shape := ⟨2, ![64, 128]⟩
abbrev S256 : Shape := ⟨1, ![256]⟩
abbrev S256x1 : Shape := ⟨2, ![256, 1]⟩
abbrev S128x1 : Shape := ⟨2, ![128, 1]⟩
abbrev S1x256x128 : Shape := ⟨3, ![1, 256, 128]⟩
abbrev S1x128x128 : Shape := ⟨3, ![1, 128, 128]⟩
abbrev S1x32x128 : Shape := ⟨3, ![1, 32, 128]⟩
abbrev S1x64x128 : Shape := ⟨3, ![1, 64, 128]⟩
abbrev S16x8x128 : Shape := ⟨3, ![16, 8, 128]⟩
abbrev S16x16x128 : Shape := ⟨3, ![16, 16, 128]⟩
abbrev S1x1x256x256 : Shape := ⟨4, ![1, 1, 256, 256]⟩
abbrev S1x1x128x128 : Shape := ⟨4, ![1, 1, 128, 128]⟩
abbrev S1x1x32x128 : Shape := ⟨4, ![1, 1, 32, 128]⟩
abbrev S1x16x8x128 : Shape := ⟨4, ![1, 16, 8, 128]⟩
abbrev S1x1x256x128 : Shape := ⟨4, ![1, 1, 256, 128]⟩
abbrev S16x256x128 : Shape := ⟨3, ![16, 256, 128]⟩
abbrev S16x384x128 : Shape := ⟨3, ![16, 384, 128]⟩
abbrev S3x16x256x128 : Shape := ⟨4, ![3, 16, 256, 128]⟩
abbrev S3x2x256x256 : Shape := ⟨4, ![3, 2, 256, 256]⟩

/-- The eleven buffers the body works on: queries, keys, values, result, and the seven scratch buffers
    (rows of queries, padded keys, padded values; running maxima, sums and weighted values of every
    branch; the masks). -/
structure Refs (sig : RefSig) where
  q : Memref sig .tc .vmem S4096x128 .bf16
  k : Memref sig .tc .vmem S4096x128 .bf16
  v : Memref sig .tc .vmem S4096x128 .bf16
  o : Memref sig .tc .vmem S4096x128 .bf16
  q32 : Memref sig .tc .vmem S16x256x128 .f32
  k32 : Memref sig .tc .vmem S16x384x128 .f32
  v32 : Memref sig .tc .vmem S16x384x128 .f32
  m : Memref sig .tc .vmem S3x16x256x128 .f32
  l : Memref sig .tc .vmem S3x16x256x128 .f32
  a : Memref sig .tc .vmem S3x16x256x128 .f32
  b : Memref sig .tc .vmem S3x2x256x256 .f32

section Values

variable {F : FTy → Type} [FloatOps F]

/-! ## The values -/

/-- The 128×128 array of zeros. -/
def zero128 : FVec F S128x128 .f32 := broadcast S128x128 (Scalar.ofBits .f32 0x00000000#32)

/-- The first-head lanes: those below 64. -/
def headA : IVec S128x128 1 :=
  cmpi .slt (iota .tc S128x128 32 [1] (by decide)) (broadcast S128x128 64#32)

/-- The query number of a row of a block modulo 128. -/
def rowQ : IVec S256x256 32 := andi (iota .tc S256x256 32 [0] (by decide)) (broadcast S256x256 127#32)

/-- The key number of a column of a block. -/
def colK : IVec S256x256 32 := iota .tc S256x256 32 [1] (by decide)

/-- The position, along its dilated sequence, of the query in each row, for the three branches. -/
def ordQ : Fin 3 → IVec S256x256 32
  | 0 => addi (muli (broadcast S256x256 16#32) (andi rowQ (broadcast S256x256 7#32))) (shrsi rowQ (broadcast S256x256 3#32))
  | 1 => addi (muli (broadcast S256x256 4#32) (andi rowQ (broadcast S256x256 31#32))) (shrsi rowQ (broadcast S256x256 5#32))
  | 2 => rowQ

/-- The position, along its dilated sequence, of the key in each column, for the three branches. -/
def ordK : Fin 3 → IVec S256x256 32
  | 0 => addi (muli (broadcast S256x256 16#32) (andi colK (broadcast S256x256 15#32))) (shrsi colK (broadcast S256x256 4#32))
  | 1 => addi (muli (broadcast S256x256 4#32) (andi colK (broadcast S256x256 63#32))) (shrsi colK (broadcast S256x256 6#32))
  | 2 => colK

/-- The positions allowed in a block that has a block before it. -/
def okIn (br : Fin 3) : IVec S256x256 1 :=
  andi (cmpi .sge (ordK br) (ordQ br)) (cmpi .sle (ordK br) (addi (ordQ br) (broadcast S256x256 128#32)))

/-- The positions allowed: those of a first block leave out the block before it. -/
def ok (br : Fin 3) : Fin 2 → IVec S256x256 1
  | 0 => andi (okIn br) (cmpi .sge (ordK br) (broadcast S256x256 128#32))
  | 1 => okIn br

/-- What is added to the scores: zero where the position is allowed, the mask's constant elsewhere. -/
def bias (mk : F .f32) (br : Fin 3) (j : Fin 2) : FVec F S256x256 .f32 :=
  select (ok br j) (broadcast S256x256 (Scalar.ofBits .f32 0x00000000#32)) (broadcast S256x256 mk)

/-- The queries of the first head above those of the second, each with the other's lanes at zero. -/
def qq (q : FVec F S128x128 .f32) : FVec F S256x128 .bf16 :=
  truncf .bf16 (concatenate S256x128 0
    [⟨S128x128, select headA q (broadcast S128x128 (Scalar.ofBits .f32 0x00000000#32))⟩,
      ⟨S128x128, subf q (select headA q (broadcast S128x128 (Scalar.ofBits .f32 0x00000000#32)))⟩] (show Shape.Concatenates [S128x128, S128x128] S256x128 0 by decide)) (by decide)

/-- The masked scores of a block. -/
def scores (q : FVec F S128x128 .f32) (k : FVec F S256x128 .f32) (b : FVec F S256x256 .f32) : FVec F S256x256 .f32 :=
  addf (matmul (DotDims.transposedRhs 256 128 256) none
    (qq q) (truncf .bf16 k (by decide)) (constant S256x256 .f32 0x00000000#32)) b

/-- The greatest score of each row. -/
def rowM (q : FVec F S128x128 .f32) (k : FVec F S256x128 .f32) (b : FVec F S256x256 .f32) : FVec F S256x1 .f32 :=
  shapeCast S256x1 (multiReduction .maximumf [1] S256 (scores q k b) 0xFF800000#32 (by decide) (.inl rfl) rfl) (by decide)

/-- The unnormalised weights. -/
def expo (q : FVec F S128x128 .f32) (k : FVec F S256x128 .f32) (b : FVec F S256x256 .f32) : FVec F S256x256 .f32 :=
  exp2 (subf (scores q k b) (broadcastTo S256x256 (rowM q k b) (by decide)))

/-- The sum of each row's weights. -/
def rowL (q : FVec F S128x128 .f32) (k : FVec F S256x128 .f32) (b : FVec F S256x256 .f32) : FVec F S256x1 .f32 :=
  shapeCast S256x1 (multiReduction .add [1] S256 (expo q k b) 0x00000000#32 (by decide) (.inl rfl) rfl) (by decide)

/-- The weighted values. -/
def rowA (q : FVec F S128x128 .f32) (k v : FVec F S256x128 .f32) (b : FVec F S256x256 .f32) : FVec F S256x128 .f32 :=
  matmul (DotDims.plain 256 256 128) none
    (truncf .bf16 (expo q k b) (by decide)) (truncf .bf16 v (by decide)) (constant S256x128 .f32 0x00000000#32)

/-- A value of each row, taken to the lanes of its head. -/
def heads (x : FVec F S256x1 .f32) : FVec F S128x128 .f32 :=
  select headA
    (broadcastTo S128x128 (shapeCast S128x1 (extractStridedSlice S128x1 ![0, 0] x (by decide)) (by decide)) (by decide))
    (broadcastTo S128x128 (shapeCast S128x1 (extractStridedSlice S128x1 ![128, 0] x (by decide)) (by decide)) (by decide))

/-- A block's maxima, lane by lane. -/
def blkM (q : FVec F S128x128 .f32) (k : FVec F S256x128 .f32) (b : FVec F S256x256 .f32) : FVec F S128x128 .f32 :=
  heads (rowM q k b)

/-- A block's sums, lane by lane. -/
def blkL (q : FVec F S128x128 .f32) (k : FVec F S256x128 .f32) (b : FVec F S256x256 .f32) : FVec F S128x128 .f32 :=
  heads (rowL q k b)

/-- A block's weighted values, lane by lane. -/
def blkA (q : FVec F S128x128 .f32) (k v : FVec F S256x128 .f32) (b : FVec F S256x256 .f32) : FVec F S128x128 .f32 :=
  select headA (extractStridedSlice S128x128 ![0, 0] (rowA q k v b) (by decide))
    (extractStridedSlice S128x128 ![128, 0] (rowA q k v b) (by decide))

/-- The merged result of the three branches. -/
def merged (m0 m1 m2 a0 a1 a2 l0 l1 l2 : FVec F S256x128 .f32) : FVec F S256x128 .bf16 :=
  truncf .bf16 (divf
    (addf (addf (addf (broadcast S256x128 (Scalar.ofBits .f32 0x00000000#32))
      (mulf (exp2 (subf m0 (maximumf (maximumf m0 m1) m2))) a0))
      (mulf (exp2 (subf m1 (maximumf (maximumf m0 m1) m2))) a1))
      (mulf (exp2 (subf m2 (maximumf (maximumf m0 m1) m2))) a2))
    (addf (addf (addf (broadcast S256x128 (Scalar.ofBits .f32 0x00000000#32))
      (mulf (exp2 (subf m0 (maximumf (maximumf m0 m1) m2))) l0))
      (mulf (exp2 (subf m1 (maximumf (maximumf m0 m1) m2))) l1))
      (mulf (exp2 (subf m2 (maximumf (maximumf m0 m1) m2))) l2))) (by decide)

end Values

/-! ## The program -/

section Program

variable {nD : Nat} {τ : Topo} {sig : RefSig} {Λ : Labels} {F : FTy → Type} [FloatOps F]

/-- Programs over these buffers. -/
abbrev Code (nD : Nat) (τ : Topo) (sig : RefSig) (Λ : Labels) (F : FTy → Type) [FloatOps F] : Type _ :=
  Prog (TpuEff nD τ sig (Elt F) Λ .tc) PUnit

/-- A rectangle of rank three is inside when it is inside on each axis. -/
theorem inb₃ {d off size : Fin 3 → ℕ} (h0 : off 0 + size 0 ≤ d 0) (h1 : off 1 + size 1 ≤ d 1) (h2 : off 2 + size 2 ≤ d 2) :
    ∀ a, off a + size a ≤ (⟨3, d⟩ : Shape).size a :=
  Fin.forall_fin_succ.mpr ⟨h0, Fin.forall_fin_two.mpr ⟨h1, h2⟩⟩

/-- A rectangle of rank four is inside when it is inside on each axis. -/
theorem inb₄ {d off size : Fin 4 → ℕ} (h0 : off 0 + size 0 ≤ d 0) (h1 : off 1 + size 1 ≤ d 1) (h2 : off 2 + size 2 ≤ d 2)
    (h3 : off 3 + size 3 ≤ d 3) : ∀ a, off a + size a ≤ (⟨4, d⟩ : Shape).size a :=
  Fin.forall_fin_succ.mpr ⟨h0, inb₃ (d := fun i => d i.succ) (off := fun i => off i.succ) (size := fun i => size i.succ) h1 h2 h3⟩

/-! The rectangles the body reads and writes. -/

/-- Rows of residue `r` in a block of queries, keys, values or results. -/
abbrev rIn (r : Fin 16) : Rect S4096x128 :=
  Rect.unit (s := S4096x128) ![256 * r.val, 0] S256x128.size
    (Rect.inb₂ (show 256 * r.val + 256 ≤ 4096 by omega) (show 0 + 128 ≤ 128 by omega))

/-- Rows `o ‥ o + 256` of residue `r` in the padded keys or values. -/
abbrev rKeys (r : Fin 16) (o : ℕ) (h : o ≤ 128) : Rect S16x384x128 :=
  Rect.unit (s := S16x384x128) ![r.val, o, 0] S1x256x128.size
    (inb₃ (show r.val + 1 ≤ 16 by omega) (show o + 256 ≤ 384 by omega) (show 0 + 128 ≤ 128 by omega))

/-- The padding of residue `r` in the padded keys or values. -/
abbrev rPad (r : Fin 16) : Rect S16x384x128 :=
  Rect.unit (s := S16x384x128) ![r.val, 0, 0] S1x128x128.size
    (inb₃ (show r.val + 1 ≤ 16 by omega) (show 0 + 128 ≤ 384 by omega) (show 0 + 128 ≤ 128 by omega))

/-- The queries of residue `r`. -/
abbrev rQ (r : Fin 16) : Rect S16x256x128 :=
  Rect.unit (s := S16x256x128) ![r.val, 0, 0] S1x256x128.size
    (inb₃ (show r.val + 1 ≤ 16 by omega) (show 0 + 256 ≤ 256 by omega) (show 0 + 128 ≤ 128 by omega))

/-- The mask of a branch, for a first block or a later one. -/
abbrev rBias (br : Fin 3) (j : Fin 2) : Rect S3x2x256x256 :=
  Rect.unit (s := S3x2x256x256) ![br.val, j.val, 0, 0] S1x1x256x256.size
    (inb₄ (show br.val + 1 ≤ 3 by omega) (show j.val + 1 ≤ 2 by omega) (show 0 + 256 ≤ 256 by omega) (show 0 + 256 ≤ 256 by omega))

/-- The queries of block `c` of residue `r`. -/
abbrev rQ16 (r : Fin 16) (c : Fin 2) : Rect S16x256x128 :=
  Rect.unit (s := S16x256x128) ![r.val, 128 * c.val, 0] S1x128x128.size
    (inb₃ (show r.val + 1 ≤ 16 by omega) (show 128 * c.val + 128 ≤ 256 by omega) (show 0 + 128 ≤ 128 by omega))

/-- The results of block `c` of residue `r` in the branch of stride sixteen. -/
abbrev rO16 (r : Fin 16) (c : Fin 2) : Rect S3x16x256x128 :=
  Rect.unit (s := S3x16x256x128) ![2, r.val, 128 * c.val, 0] S1x1x128x128.size
    (inb₄ (show 2 + 1 ≤ 3 by omega) (show r.val + 1 ≤ 16 by omega) (show 128 * c.val + 128 ≤ 256 by omega) (show 0 + 128 ≤ 128 by omega))

/-- One residue of the queries of block `c` in the branch of stride four. -/
abbrev rQ4 (r : Fin 4) (j : Fin 4) (c : Fin 8) : Rect S16x256x128 :=
  Rect.unit (s := S16x256x128) ![r.val + 4 * j.val, 32 * c.val, 0] S1x32x128.size
    (inb₃ (show r.val + 4 * j.val + 1 ≤ 16 by omega) (show 32 * c.val + 32 ≤ 256 by omega) (show 0 + 128 ≤ 128 by omega))

/-- One residue of the keys of block `c` in the branch of stride four. -/
abbrev rK4 (r : Fin 4) (j : Fin 4) (c : Fin 8) : Rect S16x384x128 :=
  Rect.unit (s := S16x384x128) ![r.val + 4 * j.val, 32 * c.val + 96, 0] S1x64x128.size
    (inb₃ (show r.val + 4 * j.val + 1 ≤ 16 by omega) (show 32 * c.val + 96 + 64 ≤ 384 by omega) (show 0 + 128 ≤ 128 by omega))

/-- One residue of the results of block `c` in the branch of stride four. -/
abbrev rO4 (r : Fin 4) (j : Fin 4) (c : Fin 8) : Rect S3x16x256x128 :=
  Rect.unit (s := S3x16x256x128) ![1, r.val + 4 * j.val, 32 * c.val, 0] S1x1x32x128.size
    (inb₄ (show 1 + 1 ≤ 3 by omega) (show r.val + 4 * j.val + 1 ≤ 16 by omega) (show 32 * c.val + 32 ≤ 256 by omega) (show 0 + 128 ≤ 128 by omega))

/-- The queries of block `g` in the branch of stride one. -/
abbrev rQ1 (g : Fin 32) : Rect S16x256x128 :=
  Rect.unit (s := S16x256x128) ![0, 8 * g.val, 0] S16x8x128.size
    (inb₃ (show 0 + 16 ≤ 16 by omega) (show 8 * g.val + 8 ≤ 256 by omega) (show 0 + 128 ≤ 128 by omega))

/-- The keys of block `g` in the branch of stride one. -/
abbrev rK1 (g : Fin 32) : Rect S16x384x128 :=
  Rect.unit (s := S16x384x128) ![0, 8 * g.val + 120, 0] S16x16x128.size
    (inb₃ (show 0 + 16 ≤ 16 by omega) (show 8 * g.val + 120 + 16 ≤ 384 by omega) (show 0 + 128 ≤ 128 by omega))

/-- The results of block `g` in the branch of stride one. -/
abbrev rO1 (g : Fin 32) : Rect S3x16x256x128 :=
  Rect.unit (s := S3x16x256x128) ![0, 0, 8 * g.val, 0] S1x16x8x128.size
    (inb₄ (show 0 + 1 ≤ 3 by omega) (show 0 + 16 ≤ 16 by omega) (show 8 * g.val + 8 ≤ 256 by omega) (show 0 + 128 ≤ 128 by omega))

/-- The results of residue `r` in branch `br`. -/
abbrev rRow (br : Fin 3) (r : Fin 16) : Rect S3x16x256x128 :=
  Rect.unit (s := S3x16x256x128) ![br.val, r.val, 0, 0] S1x1x256x128.size
    (inb₄ (show br.val + 1 ≤ 3 by omega) (show r.val + 1 ≤ 16 by omega) (show 0 + 256 ≤ 256 by omega) (show 0 + 128 ≤ 128 by omega))

/-! No rectangle is empty. -/

theorem pos_S16x16x128 : 0 < S16x16x128.numel := by decide
theorem pos_S16x8x128 : 0 < S16x8x128.numel := by decide
theorem pos_S1x128x128 : 0 < S1x128x128.numel := by decide
theorem pos_S1x16x8x128 : 0 < S1x16x8x128.numel := by decide
theorem pos_S1x1x128x128 : 0 < S1x1x128x128.numel := by decide
theorem pos_S1x1x256x128 : 0 < S1x1x256x128.numel := by decide
theorem pos_S1x1x256x256 : 0 < S1x1x256x256.numel := by decide
theorem pos_S1x1x32x128 : 0 < S1x1x32x128.numel := by decide
theorem pos_S1x256x128 : 0 < S1x256x128.numel := by decide
theorem pos_S1x32x128 : 0 < S1x32x128.numel := by decide
theorem pos_S1x64x128 : 0 < S1x64x128.numel := by decide
theorem pos_S256x128 : 0 < S256x128.numel := by decide

/-- Load a rectangle and go on with what was read. -/
def ld {s : Shape} {e : EltTy} (m : Memref sig .tc .vmem s e) (r : Rect s) (h : 0 < r.shape.numel)
    (k : (r.shape.Idx → Elt F e) → Code nD τ sig Λ F) : Code nD τ sig Λ F :=
  .op (.load m r.toLoadRect (View.loadsAt_vmem h)) k

/-- Load a rectangle, then store it: what was read is not used. -/
def st {s : Shape} (m : Memref sig .tc .vmem s .f32) (r : Rect s) (h : 0 < r.shape.numel)
    (w : r.shape.Idx → Elt F .f32) (k : Code nD τ sig Λ F) : Code nD τ sig Λ F :=
  ld m r h fun _ => .op (.store m r w Finset.univ (View.stores_vmem_bits_univ h rfl) (.inl rfl)) fun _ => k

/-- Repeat a step for the elements of a list. -/
def each {ι : Type} (l : List ι) (f : ι → Code nD τ sig Λ F → Code nD τ sig Λ F) (k : Code nD τ sig Λ F) : Code nD τ sig Λ F :=
  l.foldr f k

/-- A new scaled residue of queries, from the block of queries. -/
def newQ (sc : F .f32) (x : Vec F S256x128 .bf16) : FVec F S1x256x128 .f32 :=
  shapeCast S1x256x128 (mulf (extf .f32 (shapeCast S256x128 x (by decide) : FVec F S256x128 .bf16) (by decide)) (broadcast S256x128 sc)) (by decide)

/-- A new residue of keys or values, from the block of keys or values. -/
def newK (x : Vec F S256x128 .bf16) : FVec F S1x256x128 .f32 :=
  shapeCast S1x256x128 (extf .f32 (shapeCast S256x128 x (by decide) : FVec F S256x128 .bf16) (by decide)) (by decide)

/-- Queries of a block of the branch of stride sixteen, as rows. -/
def ofQ16 (x : Vec F S1x128x128 .f32) : FVec F S128x128 .f32 := shapeCast S128x128 x (by decide)

/-- Keys or values of a block of the branch of stride sixteen, as rows. -/
def ofK16 (x : Vec F S1x256x128 .f32) : FVec F S256x128 .f32 := shapeCast S256x128 x (by decide)

/-- Queries of a block of the branch of stride one, as rows. -/
def ofQ1 (x : Vec F S16x8x128 .f32) : FVec F S128x128 .f32 := shapeCast S128x128 x (by decide)

/-- Keys or values of a block of the branch of stride one, as rows. -/
def ofK1 (x : Vec F S16x16x128 .f32) : FVec F S256x128 .f32 := shapeCast S256x128 x (by decide)

/-- A mask, as a matrix. -/
def ofB (x : Vec F S1x1x256x256 .f32) : FVec F S256x256 .f32 := shapeCast S256x256 x (by decide)

/-- Lay out residue `r`: scale its queries, pad its keys and values with 128 rows of zeros. -/
def layOut (R : Refs sig) (sc : F .f32) (r : Fin 16) (rest : Code nD τ sig Λ F) : Code nD τ sig Λ F :=
  ld R.q (rIn r) pos_S256x128 fun x =>
  st R.q32 (rQ r) pos_S1x256x128 (newQ sc x) <|
  st R.k32 (rPad r) pos_S1x128x128 (shapeCast S1x128x128 (zero128 (F := F)) (by decide)) <|
  st R.v32 (rPad r) pos_S1x128x128 (shapeCast S1x128x128 (zero128 (F := F)) (by decide)) <|
  ld R.k (rIn r) pos_S256x128 fun x =>
  st R.k32 (rKeys r 128 (by decide)) pos_S1x256x128 (newK x) <|
  ld R.v (rIn r) pos_S256x128 fun x =>
  st R.v32 (rKeys r 128 (by decide)) pos_S1x256x128 (newK x) rest

/-- Write one mask. -/
def writeBias (R : Refs sig) (mk : F .f32) (bj : Fin 3 × Fin 2) (rest : Code nD τ sig Λ F) : Code nD τ sig Λ F :=
  st R.b (rBias bj.1 bj.2) pos_S1x1x256x256 (shapeCast S1x1x256x256 (bias mk bj.1 bj.2) (by decide)) rest

/-- Whether a block has one before it. -/
def later {n : ℕ} (c : Fin n) : Fin 2 := ⟨min c.val 1, by omega⟩

/-- A block of the branch of stride sixteen. -/
def block16 (R : Refs sig) (rc : Fin 16 × Fin 2) (rest : Code nD τ sig Λ F) : Code nD τ sig Λ F :=
  ld R.q32 (rQ16 rc.1 rc.2) pos_S1x128x128 fun q =>
  ld R.k32 (rKeys rc.1 (128 * rc.2.val) (by omega)) pos_S1x256x128 fun k =>
  ld R.v32 (rKeys rc.1 (128 * rc.2.val) (by omega)) pos_S1x256x128 fun v =>
  ld R.b (rBias 2 (later rc.2)) pos_S1x1x256x256 fun b =>
  st R.m (rO16 rc.1 rc.2) pos_S1x1x128x128 (shapeCast S1x1x128x128 (blkM (ofQ16 q)
    (ofK16 k) (ofB b)) (by decide)) <|
  st R.l (rO16 rc.1 rc.2) pos_S1x1x128x128 (shapeCast S1x1x128x128 (blkL (ofQ16 q)
    (ofK16 k) (ofB b)) (by decide)) <|
  st R.a (rO16 rc.1 rc.2) pos_S1x1x128x128 (shapeCast S1x1x128x128 (blkA (ofQ16 q)
    (ofK16 k) (ofK16 v)
    (ofB b)) (by decide)) rest

/-- Four residues' queries, one above another. -/
def cat32 (a b c d : Vec F S1x32x128 .f32) : FVec F S128x128 .f32 :=
  concatenate S128x128 0 [⟨S32x128, (shapeCast S32x128 a (by decide) : FVec F S32x128 .f32)⟩, ⟨S32x128, (shapeCast S32x128 b (by decide) : FVec F S32x128 .f32)⟩,
    ⟨S32x128, (shapeCast S32x128 c (by decide) : FVec F S32x128 .f32)⟩, ⟨S32x128, (shapeCast S32x128 d (by decide) : FVec F S32x128 .f32)⟩]
    (show Shape.Concatenates [S32x128, S32x128, S32x128, S32x128] S128x128 0 by decide)

/-- Four residues' keys, one above another. -/
def cat64 (a b c d : Vec F S1x64x128 .f32) : FVec F S256x128 .f32 :=
  concatenate S256x128 0 [⟨S64x128, (shapeCast S64x128 a (by decide) : FVec F S64x128 .f32)⟩, ⟨S64x128, (shapeCast S64x128 b (by decide) : FVec F S64x128 .f32)⟩,
    ⟨S64x128, (shapeCast S64x128 c (by decide) : FVec F S64x128 .f32)⟩, ⟨S64x128, (shapeCast S64x128 d (by decide) : FVec F S64x128 .f32)⟩]
    (show Shape.Concatenates [S64x128, S64x128, S64x128, S64x128] S256x128 0 by decide)

/-- The rows of one residue in a block of the branch of stride four. -/
def part32 (j : Fin 4) (x : FVec F S128x128 .f32) : FVec F S1x1x32x128 .f32 :=
  shapeCast S1x1x32x128 (extractStridedSlice S32x128 ![32 * j.val, 0] x (by revert j; decide)) (by decide)

/-- A block of the branch of stride four. -/
def block4 (R : Refs sig) (rc : Fin 4 × Fin 8) (rest : Code nD τ sig Λ F) : Code nD τ sig Λ F :=
  ld R.b (rBias 1 (later rc.2)) pos_S1x1x256x256 fun b =>
  ld R.q32 (rQ4 rc.1 0 rc.2) pos_S1x32x128 fun q0 =>
  ld R.q32 (rQ4 rc.1 1 rc.2) pos_S1x32x128 fun q1 =>
  ld R.q32 (rQ4 rc.1 2 rc.2) pos_S1x32x128 fun q2 =>
  ld R.q32 (rQ4 rc.1 3 rc.2) pos_S1x32x128 fun q3 =>
  ld R.k32 (rK4 rc.1 0 rc.2) pos_S1x64x128 fun k0 =>
  ld R.k32 (rK4 rc.1 1 rc.2) pos_S1x64x128 fun k1 =>
  ld R.k32 (rK4 rc.1 2 rc.2) pos_S1x64x128 fun k2 =>
  ld R.k32 (rK4 rc.1 3 rc.2) pos_S1x64x128 fun k3 =>
  ld R.v32 (rK4 rc.1 0 rc.2) pos_S1x64x128 fun v0 =>
  ld R.v32 (rK4 rc.1 1 rc.2) pos_S1x64x128 fun v1 =>
  ld R.v32 (rK4 rc.1 2 rc.2) pos_S1x64x128 fun v2 =>
  ld R.v32 (rK4 rc.1 3 rc.2) pos_S1x64x128 fun v3 =>
  each [0, 1, 2, 3] (fun j rest =>
    st R.m (rO4 rc.1 j rc.2) pos_S1x1x32x128 (part32 j (blkM (cat32 q0 q1 q2 q3) (cat64 k0 k1 k2 k3) (ofB b))) <|
    st R.l (rO4 rc.1 j rc.2) pos_S1x1x32x128 (part32 j (blkL (cat32 q0 q1 q2 q3) (cat64 k0 k1 k2 k3) (ofB b))) <|
    st R.a (rO4 rc.1 j rc.2) pos_S1x1x32x128 (part32 j (blkA (cat32 q0 q1 q2 q3) (cat64 k0 k1 k2 k3) (cat64 v0 v1 v2 v3)
      (ofB b))) rest) rest

/-- The rows of a block of the branch of stride one. -/
def part16 (x : FVec F S128x128 .f32) : FVec F S1x16x8x128 .f32 :=
  shapeCast S1x16x8x128 (shapeCast S16x8x128 x (by decide) : FVec F S16x8x128 .f32) (by decide)

/-- A block of the branch of stride one. -/
def block1 (R : Refs sig) (g : Fin 32) (rest : Code nD τ sig Λ F) : Code nD τ sig Λ F :=
  ld R.b (rBias 0 (later g)) pos_S1x1x256x256 fun b =>
  ld R.q32 (rQ1 g) pos_S16x8x128 fun q =>
  ld R.k32 (rK1 g) pos_S16x16x128 fun k =>
  ld R.v32 (rK1 g) pos_S16x16x128 fun v =>
  st R.m (rO1 g) pos_S1x16x8x128 (part16 (blkM (ofQ1 q)
    (ofK1 k) (ofB b))) <|
  st R.l (rO1 g) pos_S1x16x8x128 (part16 (blkL (ofQ1 q)
    (ofK1 k) (ofB b))) <|
  st R.a (rO1 g) pos_S1x16x8x128 (part16 (blkA (ofQ1 q)
    (ofK1 k) (ofK1 v)
    (ofB b))) rest

/-- A row of residue's results without its leading axes. -/
def flat (x : Vec F S1x1x256x128 .f32) : FVec F S256x128 .f32 := shapeCast S256x128 x (by decide)

/-- The merged result of residue `r`. -/
def mergeOut (R : Refs sig) (ho : ∀ r : Fin 16, (R.o.access (rIn r)).Stores Finset.univ) (r : Fin 16)
    (rest : Code nD τ sig Λ F) : Code nD τ sig Λ F :=
  ld R.m (rRow 0 r) pos_S1x1x256x128 fun m0 =>
  ld R.m (rRow 1 r) pos_S1x1x256x128 fun m1 =>
  ld R.m (rRow 2 r) pos_S1x1x256x128 fun m2 =>
  ld R.a (rRow 0 r) pos_S1x1x256x128 fun a0 =>
  ld R.a (rRow 1 r) pos_S1x1x256x128 fun a1 =>
  ld R.a (rRow 2 r) pos_S1x1x256x128 fun a2 =>
  ld R.l (rRow 0 r) pos_S1x1x256x128 fun l0 =>
  ld R.l (rRow 1 r) pos_S1x1x256x128 fun l1 =>
  ld R.l (rRow 2 r) pos_S1x1x256x128 fun l2 =>
  ld R.o (rIn r) pos_S256x128 fun _ =>
  .op (.store R.o (rIn r) (merged (flat m0) (flat m1) (flat m2) (flat a0) (flat a1) (flat a2) (flat l0) (flat l1) (flat l2)) Finset.univ
    (ho r) (.inl rfl)) fun _ => rest

/-- The sixteen residues. -/
def all16 : List (Fin 16) := [0, 1, 2, 3, 4, 5, 6, 7, 8, 9, 10, 11, 12, 13, 14, 15]
/-- The six masks. -/
def allBias : List (Fin 3 × Fin 2) := [(0, 0), (0, 1), (1, 0), (1, 1), (2, 0), (2, 1)]
/-- The blocks of the branch of stride sixteen. -/
def blocks16 : List (Fin 16 × Fin 2) := [0, 1, 2, 3, 4, 5, 6, 7, 8, 9, 10, 11, 12, 13, 14, 15].flatMap fun r => [(r, 0), (r, 1)]
/-- The blocks of the branch of stride four. -/
def blocks4 : List (Fin 4 × Fin 8) :=
  [0, 1, 2, 3].flatMap fun r => [(r, 0), (r, 1), (r, 2), (r, 3), (r, 4), (r, 5), (r, 6), (r, 7)]
/-- The blocks of the branch of stride one. -/
def blocks1 : List (Fin 32) :=
  [0, 1, 2, 3, 4, 5, 6, 7, 8, 9, 10, 11, 12, 13, 14, 15, 16, 17, 18, 19, 20, 21, 22, 23, 24, 25, 26, 27, 28, 29, 30, 31]

/-- The whole body. -/
def body (R : Refs sig) (sc mk : F .f32) (ho : ∀ r : Fin 16, (R.o.access (rIn r)).Stores Finset.univ) : Code nD τ sig Λ F :=
  each all16 (layOut R sc) <| each allBias (writeBias R mk) <| each blocks16 (block16 R) <| each blocks4 (block4 R) <|
  each blocks1 (block1 R) <| each all16 (mergeOut R ho) <| .ret ⟨⟩

end Program

end Cert.Attn
-- ==== Proof.Mask.lean ====
/- The masks of the kernel's blocks, as conditions on numbers. -/
module

public import proofs.«01_k».proof.Proof.Body
public import Idealize.ShloMosaic.Lib.ValueIdx
public import Idealize.ShloMosaic.Lib.WordCmp
public import Idealize.ShloMosaic.Lib.Pipeline.Value

@[expose] public section

noncomputable section

namespace Cert.Attn

open Idealize.ShloMosaic Idealize.ShloMosaic.ValueIdx

/-- The position along its dilated sequence of the query in a row, within its block. -/
def posQ : Fin 3 → ℕ → ℕ
  | 0, r => 16 * (r % 8) + r % 128 / 8
  | 1, r => 4 * (r % 32) + r % 128 / 32
  | 2, r => r % 128

/-- The position along its dilated sequence of the key in a column, from the block before. -/
def posK : Fin 3 → ℕ → ℕ
  | 0, k => 16 * (k % 16) + k / 16
  | 1, k => 4 * (k % 64) + k / 64
  | 2, k => k

theorem posQ_lt (br : Fin 3) (r : ℕ) : posQ br r < 128 := by
  fin_cases br <;> simp only [posQ] <;> omega

theorem posK_lt (br : Fin 3) (k : ℕ) (h : k < 256) : posK br k < 256 := by
  fin_cases br <;> simp only [posK] <;> omega

/-- Each row's number, for one row at a time. -/
theorem row_word : ∀ r : Fin 256,
    (16#32 * ((BitVec.ofNat 32 r.val &&& 127#32) &&& 7#32) + IntOp.shrsi .vector (BitVec.ofNat 32 r.val &&& 127#32) 3#32 = BitVec.ofNat 32 (posQ 0 r.val))
    ∧ (4#32 * ((BitVec.ofNat 32 r.val &&& 127#32) &&& 31#32) + IntOp.shrsi .vector (BitVec.ofNat 32 r.val &&& 127#32) 5#32 = BitVec.ofNat 32 (posQ 1 r.val))
    ∧ (BitVec.ofNat 32 r.val &&& 127#32 = BitVec.ofNat 32 (posQ 2 r.val))
    ∧ (16#32 * (BitVec.ofNat 32 r.val &&& 15#32) + IntOp.shrsi .vector (BitVec.ofNat 32 r.val) 4#32 = BitVec.ofNat 32 (posK 0 r.val))
    ∧ (4#32 * (BitVec.ofNat 32 r.val &&& 63#32) + IntOp.shrsi .vector (BitVec.ofNat 32 r.val) 6#32 = BitVec.ofNat 32 (posK 1 r.val)) := by
  decide +kernel

theorem iotaRow (r k : Fin 256) : iota .tc S256x256 32 [0] (by decide) (ix2 r k) = BitVec.ofNat 32 r.val := iota_single_apply ..
theorem iotaCol (r k : Fin 256) : iota .tc S256x256 32 [1] (by decide) (ix2 r k) = BitVec.ofNat 32 k.val := iota_single_apply ..

/-- The query's position, as a word. -/
theorem ordQ_at (br : Fin 3) (r k : Fin 256) : ordQ br (ix2 r k) = BitVec.ofNat 32 (posQ br r.val) := by
  fin_cases br
  · show 16#32 * ((iota .tc S256x256 32 [0] (by decide) (ix2 r k) &&& 127#32) &&& 7#32) + IntOp.shrsi .vector (iota .tc S256x256 32 [0] (by decide) (ix2 r k) &&& 127#32) 3#32 = _
    rw [iotaRow]; exact (row_word r).1
  · show 4#32 * ((iota .tc S256x256 32 [0] (by decide) (ix2 r k) &&& 127#32) &&& 31#32) + IntOp.shrsi .vector (iota .tc S256x256 32 [0] (by decide) (ix2 r k) &&& 127#32) 5#32 = _
    rw [iotaRow]; exact (row_word r).2.1
  · show iota .tc S256x256 32 [0] (by decide) (ix2 r k) &&& 127#32 = _
    rw [iotaRow]; exact (row_word r).2.2.1

/-- The key's position, as a word. -/
theorem ordK_at (br : Fin 3) (r k : Fin 256) : ordK br (ix2 r k) = BitVec.ofNat 32 (posK br k.val) := by
  fin_cases br
  · show 16#32 * (iota .tc S256x256 32 [1] (by decide) (ix2 r k) &&& 15#32) + IntOp.shrsi .vector (iota .tc S256x256 32 [1] (by decide) (ix2 r k)) 4#32 = _
    rw [iotaCol]; exact (row_word k).2.2.2.1
  · show 4#32 * (iota .tc S256x256 32 [1] (by decide) (ix2 r k) &&& 63#32) + IntOp.shrsi .vector (iota .tc S256x256 32 [1] (by decide) (ix2 r k)) 6#32 = _
    rw [iotaCol]; exact (row_word k).2.2.2.2
  · exact iotaCol r k

/-- A query may see a key: not more than 128 positions back, not ahead, and in a first block not before the sequence. -/
def may (i k : ℕ) (later : Prop) : Prop := i ≤ k ∧ k ≤ i + 128 ∧ (later ∨ 128 ≤ k)

instance (i k : ℕ) (later : Prop) [Decidable later] : Decidable (may i k later) := by unfold may; infer_instance

/-- The mask's condition at a row and a column. -/
theorem ok_at (br : Fin 3) (j : Fin 2) (r k : Fin 256) :
    ok br j (ix2 r k) = BitVec.ofBool (decide (may (posQ br r.val) (posK br k.val) (j = 1))) := by
  have hq := posQ_lt br r.val
  have hk := posK_lt br k.val k.isLt
  have e1 : IntOp.cmpi .sge (ordK br (ix2 r k)) (ordQ br (ix2 r k)) = BitVec.ofBool (decide (posQ br r.val ≤ posK br k.val)) := by
    rw [ordK_at, ordQ_at, WordCmp.cmpi_sge_ofNat (by omega) (by omega)]
  have e2 : IntOp.cmpi .sle (ordK br (ix2 r k)) (ordQ br (ix2 r k) + 128#32) = BitVec.ofBool (decide (posK br k.val ≤ posQ br r.val + 128)) := by
    rw [ordK_at, ordQ_at, show (128#32 : BitVec 32) = BitVec.ofNat 32 128 from rfl, ← BitVec.ofNat_add, WordCmp.cmpi_sle_ofNat (by omega) (by omega)]
  have e3 : IntOp.cmpi .sge (ordK br (ix2 r k)) 128#32 = BitVec.ofBool (decide (128 ≤ posK br k.val)) := by
    rw [ordK_at, show (128#32 : BitVec 32) = BitVec.ofNat 32 128 from rfl, WordCmp.cmpi_sge_ofNat (by omega) (by omega)]
  have hb : ∀ a b : Bool, BitVec.ofBool a &&& BitVec.ofBool b = BitVec.ofBool (a && b) := by decide
  fin_cases j
  · show (IntOp.cmpi .sge (ordK br (ix2 r k)) (ordQ br (ix2 r k)) &&& IntOp.cmpi .sle (ordK br (ix2 r k)) (ordQ br (ix2 r k) + 128#32))
      &&& IntOp.cmpi .sge (ordK br (ix2 r k)) 128#32 = _
    rw [e1, e2, e3, hb, hb]
    congr 1
    unfold may
    simp [and_assoc, Bool.and_assoc]
  · show IntOp.cmpi .sge (ordK br (ix2 r k)) (ordQ br (ix2 r k)) &&& IntOp.cmpi .sle (ordK br (ix2 r k)) (ordQ br (ix2 r k) + 128#32) = _
    rw [e1, e2, hb]
    congr 1
    unfold may
    simp

/-- What is added to a score: nothing where the key may be seen, the mask's constant elsewhere. -/
theorem bias_at (mk : Ideal .f32) (br : Fin 3) (j : Fin 2) (r k : Fin 256) :
    bias (F := Ideal) mk br j (ix2 r k) = if may (posQ br r.val) (posK br k.val) (j = 1) then (0 : EReal) else mk := by
  show Scalar.select (ok br j (ix2 r k)) (Scalar.ofBits .f32 0x00000000#32 : Ideal .f32) mk = _
  rw [ok_at]
  by_cases h : may (posQ br r.val) (posK br k.val) (j = 1)
  · rw [if_pos h, decide_eq_true h]
    show (Ideal.ofBits .f32 0x00000000#32 : EReal) = 0
    simp [Ideal.ofBits, Ideal.ieee]
  · rw [if_neg h, decide_eq_false h]; rfl

/-- The first head's lanes are those below 64. -/
theorem headA_at (i d : Fin 128) : headA (ix2 i d) = BitVec.ofBool (decide (d.val < 64)) := by
  show IntOp.cmpi .slt (iota .tc S128x128 32 [1] (by decide) (ix2 i d)) 64#32 = _
  rw [show iota .tc S128x128 32 [1] (by decide) (ix2 i d) = BitVec.ofNat 32 d.val from iota_single_apply ..,
    show (64#32 : BitVec 32) = BitVec.ofNat 32 64 from rfl, WordCmp.cmpi_slt_ofNat (by have := d.isLt; omega) (by omega)]

end Cert.Attn

end
-- ==== Proof.Soft.lean ====
/- Softmax weights over the extended reals: their maximum, their sum and their weighted sum, and what a change
   of base and a reordering of the keys do to them. -/
module

public import Idealize.ShloMosaic.PureOps.Ideal

@[expose] public section

noncomputable section

namespace Cert.Attn

open Idealize.ShloMosaic

/-- The factor between the logarithm to base two and the natural one. -/
def c2 : EReal := (((Real.log 2)⁻¹ : ℝ) : EReal)

theorem c2_pos : (0 : ℝ) < (Real.log 2)⁻¹ := inv_pos.mpr (Real.log_pos (by norm_num))

/-- The factor distributes over sums. -/
theorem c2_add (x y : EReal) : c2 * (x + y) = c2 * x + c2 * y :=
  EReal.left_distrib_of_nonneg_of_ne_top (EReal.coe_nonneg.mpr c2_pos.le) (EReal.coe_ne_top _) x y

theorem c2_sub (x y : EReal) : c2 * (x - y) = c2 * x - c2 * y := by
  rw [sub_eq_add_neg, sub_eq_add_neg, c2_add, mul_neg]

theorem c2_bot : c2 * ⊥ = ⊥ := EReal.coe_mul_bot_of_pos c2_pos

theorem c2_top : c2 * ⊤ = ⊤ := EReal.coe_mul_top_of_pos c2_pos

theorem c2_max (x y : EReal) : max (c2 * x) (c2 * y) = c2 * max x y :=
  (Monotone.map_max (f := fun z : EReal => c2 * z) fun _ _ h => mul_le_mul_of_nonneg_left h (EReal.coe_nonneg.mpr c2_pos.le)).symm

/-- A power of two of the scaled exponent is the natural exponential. -/
theorem exp2_c2 (x : EReal) : Ideal.exp2 (c2 * x) = Ideal.exp x := by
  induction x with
  | bot => rw [c2_bot]; rfl
  | top => rw [c2_top]; rfl
  | coe r =>
    have : c2 * (r : EReal) = (((Real.log 2)⁻¹ * r : ℝ) : EReal) := (EReal.coe_mul _ _).symm
    rw [this]
    show ((Real.rpow 2 ((Real.log 2)⁻¹ * r) : ℝ) : EReal) = ((Real.exp r : ℝ) : EReal)
    congr 1
    show (2 : ℝ) ^ ((Real.log 2)⁻¹ * r) = Real.exp r
    rw [Real.rpow_def_of_pos (by norm_num), ← mul_assoc, mul_inv_cancel₀ (Real.log_pos (by norm_num)).ne', one_mul]

theorem c2_sum {ι : Type} (s : Finset ι) (f : ι → EReal) : c2 * ∑ i ∈ s, f i = ∑ i ∈ s, c2 * f i := by
  classical
  induction s using Finset.induction_on with
  | empty => simp
  | insert a s ha ih => rw [Finset.sum_insert ha, Finset.sum_insert ha, c2_add, ih]

variable {n : ℕ}

/-- The greatest of the scores. -/
def wM (S : Fin n → EReal) : EReal := Finset.univ.fold max ⊥ S
/-- The sum of the weights. -/
def wL (S : Fin n → EReal) : EReal := ∑ k, Ideal.exp (S k - wM S)
/-- The weighted sum of values. -/
def wA (S w : Fin n → EReal) : EReal := ∑ k, Ideal.exp (S k - wM S) * w k
/-- The sum of the weights to base two. -/
def bL (T : Fin n → EReal) : EReal := ∑ k, Ideal.exp2 (T k - wM T)
/-- The weighted sum of values to base two. -/
def bA (T w : Fin n → EReal) : EReal := ∑ k, Ideal.exp2 (T k - wM T) * w k

/-- Scaling the scores scales their greatest. -/
theorem wM_c2 (S : Fin n → EReal) : wM (fun k => c2 * S k) = c2 * wM S := by
  unfold wM
  have := Finset.fold_hom (op := max) (op' := max) (f := S) (b := (⊥ : EReal)) (s := (Finset.univ : Finset (Fin n))) (m := fun z => c2 * z) (fun x y => (c2_max x y).symm)
  rw [← this, c2_bot]

/-- Reordering the scores keeps their greatest. -/
theorem wM_perm (e : Fin n ≃ Fin n) (S : Fin n → EReal) : wM (fun k => S (e k)) = wM S := by
  unfold wM
  conv_rhs => rw [← Finset.map_univ_equiv e]
  rw [Finset.fold_map]
  rfl

variable (e : Fin n ≃ Fin n) (S T w u : Fin n → EReal) (hT : ∀ k, T k = c2 * S (e k))
include hT

theorem wM_eq : wM T = c2 * wM S := by
  rw [funext hT, wM_c2 (fun k => S (e k)), wM_perm]

theorem weight_eq (k : Fin n) : Ideal.exp2 (T k - wM T) = Ideal.exp (S (e k) - wM S) := by
  rw [wM_eq e S T hT, hT, ← c2_sub, exp2_c2]

theorem bL_eq : bL T = wL S := by
  unfold bL wL
  rw [← Equiv.sum_comp e (fun k => Ideal.exp (S k - wM S))]
  exact Finset.sum_congr rfl fun k _ => weight_eq e S T hT k

theorem bA_eq (hw : ∀ k, w k = u (e k)) : bA T w = wA S u := by
  unfold bA wA
  rw [← Equiv.sum_comp e (fun k => Ideal.exp (S k - wM S) * u k)]
  exact Finset.sum_congr rfl fun k _ => by rw [weight_eq e S T hT k, hw]

end Cert.Attn

end
-- ==== Proof.Rows.lean ====
/- A block of the kernel over the extended reals: its maxima, sums and weighted values are those of the softmax
   weights of one query's scores over the block's 256 keys. -/
module

public import proofs.«01_k».proof.Proof.Mask
public import proofs.«01_k».proof.Proof.Soft
public import Idealize.ShloMosaic.Lib.MatmulPlain
public import Idealize.ShloMosaic.Lib.Pointwise.Reduce

@[expose] public section

noncomputable section

namespace Cert.Attn

open Idealize.ShloMosaic hiding ix0 ix1 ix2 ix3 ix4 ix5 ix6
open Idealize.ShloMosaic.ValueIdx

/-- Lane `e` of head `h` of a pair. -/
def lane (h : Fin 2) (e : Fin 64) : Fin 128 := ⟨64 * h.val + e.val, by omega⟩

/-- The head of a lane. -/
def headOf (d : Fin 128) : Fin 2 := ⟨d.val / 64, by omega⟩

/-- Row `i` of head `h` in the stacked rows of a block. -/
def stack (h : Fin 2) (i : Fin 128) : Fin 256 := ⟨128 * h.val + i.val, by omega⟩

/-- A sum over the lanes of a pair of heads. -/
theorem sum_lanes (f : Fin 128 → EReal) : ∑ c, f c = ∑ e, f (lane 0 e) + ∑ e, f (lane 1 e) := by
  refine (Fin.sum_univ_add (a := 64) (b := 64) f).trans ?_
  have e0 : ∀ e : Fin 64, Fin.castAdd 64 e = lane 0 e := fun e => Fin.ext (by show e.val = 64 * 0 + e.val; omega)
  have e1 : ∀ e : Fin 64, Fin.natAdd 64 e = lane 1 e := fun e => Fin.ext (by show 64 + e.val = 64 * 1 + e.val; omega)
  exact congrArg₂ (· + ·) (Finset.sum_congr rfl fun e _ => congrArg f (e0 e)) (Finset.sum_congr rfl fun e _ => congrArg f (e1 e))

variable (q : FVec Ideal S128x128 .f32) (k v : FVec Ideal S256x128 .f32) (b : FVec Ideal S256x256 .f32)

/-- The zero word is zero. -/
theorem word_zero : (Scalar.ofBits .f32 0x00000000#32 : Ideal .f32) = (0 : EReal) := by
  show (Ideal.ofBits .f32 0x00000000#32 : EReal) = 0
  simp [Ideal.ofBits, Ideal.ieee]

/-- The stacked queries: each row has its own head's lanes and zero in the other's. -/
theorem qq_at (hq : ∀ y, q y - q y = 0) (h : Fin 2) (i c : Fin 128) :
    qq q (ix2 (stack h i) c) = if headOf c = h then q (ix2 i c) else 0 := by
  unfold qq
  have hc : (c.val < 64) ∨ ¬ (c.val < 64) := em _
  have sel : ∀ a : Ideal .f32, Scalar.select (headA (ix2 i c)) a (Scalar.ofBits .f32 0x00000000#32 : Ideal .f32) = if c.val < 64 then a else (0 : EReal) := fun a => by
    rw [headA_at, word_zero]
    by_cases h : c.val < 64
    · rw [if_pos h, decide_eq_true h]; rfl
    · rw [if_neg h, decide_eq_false h]; rfl
  rcases (show h = 0 ∨ h = 1 by omega) with rfl | rfl
  · refine (concatenate_pair_apply_left (t := S256x128) (s₁ := S128x128) (s₂ := S128x128) (0 : Fin 2) _ _ (by decide) _ rfl (ix2 i c) fun a => ?_).trans ?_
    · match a with
      | ⟨0, _⟩ => show i.val = 128 * 0 + i.val; omega
      | ⟨1, _⟩ => rfl
    · refine (sel _).trans ?_
      by_cases h : c.val < 64
      · rw [if_pos h, if_pos (Fin.ext (by show c.val / 64 = 0; omega))]
      · rw [if_neg h, if_neg fun e => h (by have := congrArg Fin.val e; change c.val / 64 = 0 at this; omega)]
  · refine (concatenate_pair_apply_right (t := S256x128) (s₁ := S128x128) (s₂ := S128x128) (0 : Fin 2) _ _ (by decide) _ rfl rfl (ix2 i c) (fun a ha => ?_) ?_).trans ?_
    · match a, ha with
      | ⟨0, _⟩, ha => exact absurd rfl ha
      | ⟨1, _⟩, _ => rfl
    · show i.val + 128 = 128 * 1 + i.val; omega
    · show q (ix2 i c) - Scalar.select (headA (ix2 i c)) (q (ix2 i c)) (Scalar.ofBits .f32 0x00000000#32 : Ideal .f32) = _
      rw [sel]
      by_cases h : c.val < 64
      · rw [if_pos h, hq, if_neg fun e => by have := congrArg Fin.val e; change c.val / 64 = 1 at this; omega]
      · rw [if_neg h, sub_zero, if_pos (Fin.ext (by show c.val / 64 = 1; have := c.isLt; omega))]

/-- One query's masked scores over a block's keys. -/
def score (h : Fin 2) (i : Fin 128) (κ : Fin 256) : EReal :=
  ∑ e, q (ix2 i (lane h e)) * k (ix2 κ (lane h e)) + b (ix2 (stack h i) κ)

/-- The block's scores. -/
theorem scores_at (hq : ∀ y, q y - q y = 0) (h : Fin 2) (i : Fin 128) (κ : Fin 256) :
    scores q k b (ix2 (stack h i) κ) = score q k b h i κ := by
  unfold scores score
  refine congrArg (· + b (ix2 (stack h i) κ)) ?_
  refine (Ideal.matmul_transposedRhs_apply none (qq q) (truncf .bf16 k (by decide)) _ (stack h i) κ).trans ?_
  show (Scalar.ofBits .f32 0x00000000#32 : Ideal .f32) + ∑ c : Fin 128, qq q (ix2 (stack h i) c) * k (ix2 κ c) = _
  rw [word_zero, sum_lanes]
  have key : ∀ h' : Fin 2, ∑ e, qq q (ix2 (stack h i) (lane h' e)) * k (ix2 κ (lane h' e))
      = if h' = h then ∑ e, q (ix2 i (lane h e)) * k (ix2 κ (lane h e)) else (0 : EReal) := fun h' => by
    have hl : ∀ e, headOf (lane h' e) = h' := fun e => Fin.ext (by show (64 * h'.val + e.val) / 64 = h'.val; omega)
    by_cases e : h' = h
    · subst e
      rw [if_pos rfl]
      exact Finset.sum_congr rfl fun e _ => by rw [qq_at q hq, hl, if_pos rfl]
    · rw [if_neg e]
      refine (Finset.sum_congr rfl fun e' _ => ?_).trans Finset.sum_const_zero
      rw [qq_at q hq, hl, if_neg e, zero_mul]
  rw [key 0, key 1, zero_add]
  rcases (show h = 0 ∨ h = 1 by omega) with rfl | rfl
  · rw [if_pos rfl, if_neg (by decide), add_zero]
  · rw [if_neg (by decide), if_pos rfl, zero_add]

/-- The negative infinity's word is negative infinity. -/
theorem word_bot : (FloatOps.ofBits .f32 0xFF800000#32 : Ideal .f32) = (⊥ : EReal) := by
  show (Ideal.ofBits .f32 0xFF800000#32 : EReal) = ⊥
  simp [Ideal.ofBits, Ideal.ieee]

/-- A value of each row of a column, read at a row. -/
theorem rowM_at (hq : ∀ y, q y - q y = 0) (h : Fin 2) (i : Fin 128) (z : Fin 1) :
    rowM q k b (ix2 (stack h i) z) = wM (score q k b h i) := by
  unfold rowM
  refine (shapeCast_apply (s := S256) (t := S256x1) _ _ _ (ix1 (stack h i)) ?_).trans ?_
  · rw [Shape.rowMajor_val_one, Shape.rowMajor_val_two]
    show (stack h i).val = (stack h i).val * 1 + z.val
    omega
  refine (multiReduction_maximumf_eq_fold _ _ _ _ _ _).trans ?_
  refine (Shape.Reduces.fold_fiber_r2_a1 (by decide) (ix1 (stack h i)) _ _ _).trans ?_
  rw [word_bot]
  unfold wM
  exact congrArg (fun f => Finset.univ.fold max (⊥ : EReal) f) (funext fun κ => scores_at q k b hq h i κ)

theorem expo_at (hq : ∀ y, q y - q y = 0) (h : Fin 2) (i : Fin 128) (κ : Fin 256) :
    expo q k b (ix2 (stack h i) κ) = Ideal.exp2 (score q k b h i κ - wM (score q k b h i)) := by
  show Ideal.exp2 (scores q k b (ix2 (stack h i) κ) - broadcastTo S256x256 (rowM q k b) (by decide) (ix2 (stack h i) κ)) = _
  rw [scores_at q k b hq]
  refine congrArg (fun z => Ideal.exp2 (score q k b h i κ - z)) ?_
  refine (broadcastTo_apply _ _ _ (ix2 (stack h i) (0 : Fin 1)) fun a => ?_).trans (rowM_at q k b hq h i 0)
  match a with
  | ⟨0, _⟩ => rfl
  | ⟨1, _⟩ => rfl

theorem rowL_at (hq : ∀ y, q y - q y = 0) (h : Fin 2) (i : Fin 128) (z : Fin 1) :
    rowL q k b (ix2 (stack h i) z) = bL (score q k b h i) := by
  unfold rowL
  refine (shapeCast_apply (s := S256) (t := S256x1) _ _ _ (ix1 (stack h i)) ?_).trans ?_
  · rw [Shape.rowMajor_val_one, Shape.rowMajor_val_two]
    show (stack h i).val = (stack h i).val * 1 + z.val
    omega
  refine (multiReduction_add_apply _ _ _ _ _ _).trans ?_
  refine (Ideal.reduceAdd_r2_a1 (by decide) _ (ix1 (stack h i))).trans ?_
  exact Finset.sum_congr rfl fun κ _ => expo_at q k b hq h i κ

theorem rowA_at (hq : ∀ y, q y - q y = 0) (h : Fin 2) (i c : Fin 128) :
    rowA q k v b (ix2 (stack h i) c) = bA (score q k b h i) (fun κ => v (ix2 κ c)) := by
  unfold rowA
  refine (Ideal.matmul_plain_apply none (truncf .bf16 (expo q k b) (by decide)) (truncf .bf16 v (by decide)) _ (stack h i) c).trans ?_
  show (Scalar.ofBits .f32 0x00000000#32 : Ideal .f32) + ∑ κ : Fin 256, expo q k b (ix2 (stack h i) κ) * v (ix2 κ c) = _
  rw [word_zero, zero_add]
  exact Finset.sum_congr rfl fun κ _ => by rw [expo_at q k b hq]

/-- A lane takes the value of its head's row. -/
theorem pick {α : Type} (i d : Fin 128) (f : Fin 2 → α) : Scalar.select (headA (ix2 i d)) (f 0) (f 1) = f (headOf d) := by
  rw [headA_at]
  by_cases h : d.val < 64
  · rw [decide_eq_true h, show headOf d = 0 from Fin.ext (by show d.val / 64 = 0; omega)]; rfl
  · rw [decide_eq_false h, show headOf d = 1 from Fin.ext (by show d.val / 64 = 1; have := d.isLt; omega)]; rfl

theorem heads_at (x : FVec Ideal S256x1 .f32) (i d : Fin 128) : heads x (ix2 i d) = x (ix2 (stack (headOf d) i) 0) := by
  refine Eq.trans ?_ (pick i d fun h => x (ix2 (stack h i) 0))
  show Scalar.select (headA (ix2 i d)) _ _ = _
  congr 1
  · refine (broadcastTo_apply _ _ _ (ix2 i (0 : Fin 1)) fun a => ?_).trans ?_
    · match a with
      | ⟨0, _⟩ => rfl
      | ⟨1, _⟩ => rfl
    refine (shapeCast_apply (s := S128x1) (t := S128x1) _ _ _ (ix2 i (0 : Fin 1)) rfl).trans ?_
    refine extractStridedSlice_apply _ _ _ _ _ fun a => ?_
    match a with
    | ⟨0, _⟩ => show 128 * 0 + i.val = 0 + i.val; omega
    | ⟨1, _⟩ => rfl
  · refine (broadcastTo_apply _ _ _ (ix2 i (0 : Fin 1)) fun a => ?_).trans ?_
    · match a with
      | ⟨0, _⟩ => rfl
      | ⟨1, _⟩ => rfl
    refine (shapeCast_apply (s := S128x1) (t := S128x1) _ _ _ (ix2 i (0 : Fin 1)) rfl).trans ?_
    refine extractStridedSlice_apply _ _ _ _ _ fun a => ?_
    match a with
    | ⟨0, _⟩ => show 128 * 1 + i.val = 128 + i.val; omega
    | ⟨1, _⟩ => rfl

/-- A block's maxima. -/
theorem blkM_at (hq : ∀ y, q y - q y = 0) (i d : Fin 128) : blkM q k b (ix2 i d) = wM (score q k b (headOf d) i) :=
  (heads_at _ i d).trans (rowM_at q k b hq _ i 0)

/-- A block's sums. -/
theorem blkL_at (hq : ∀ y, q y - q y = 0) (i d : Fin 128) : blkL q k b (ix2 i d) = bL (score q k b (headOf d) i) :=
  (heads_at _ i d).trans (rowL_at q k b hq _ i 0)

/-- A block's weighted values. -/
theorem blkA_at (hq : ∀ y, q y - q y = 0) (i d : Fin 128) :
    blkA q k v b (ix2 i d) = bA (score q k b (headOf d) i) (fun κ => v (ix2 κ d)) := by
  refine Eq.trans ?_ (rowA_at q k v b hq (headOf d) i d)
  have e0 : extractStridedSlice S128x128 ![0, 0] (rowA q k v b) (by decide) (ix2 i d) = rowA q k v b (ix2 (stack 0 i) d) :=
    extractStridedSlice_apply _ _ _ _ _ fun a => by
      match a with
      | ⟨0, _⟩ => show 128 * 0 + i.val = 0 + i.val; omega
      | ⟨1, _⟩ => show d.val = 0 + d.val; omega
  have e1 : extractStridedSlice S128x128 ![128, 0] (rowA q k v b) (by decide) (ix2 i d) = rowA q k v b (ix2 (stack 1 i) d) :=
    extractStridedSlice_apply _ _ _ _ _ fun a => by
      match a with
      | ⟨0, _⟩ => show 128 * 1 + i.val = 128 + i.val; omega
      | ⟨1, _⟩ => show d.val = 0 + d.val; omega
  unfold blkA
  rw [select_apply, e0, e1]
  exact pick i d fun h => rowA q k v b (ix2 (stack h i) d)

end Cert.Attn

end
-- ==== Proof.Spec.lean ====
/- The dilated attention of one head, over the extended reals: for every query position, the softmax weights of
   the 256 keys of its block and the block before it, along the dilated sequence, for each of the three strides;
   then the three together. -/
module

public import proofs.«01_k».proof.Proof.Rows

@[expose] public section

noncomputable section

namespace Cert.Attn

open Idealize.ShloMosaic hiding ix0 ix1 ix2 ix3 ix4 ix5 ix6
open Idealize.ShloMosaic.ValueIdx

/-- A sequence of keys or values under 2048 zeros. -/
def padK (X : ℕ → EReal) (pp : ℕ) : EReal := if pp < 2048 then 0 else X (pp - 2048)

/-- The padded position of key `kk` of the query at position `p`, at stride `D`: key 128 and later lie in the
    query's own block of 128, the others in the block before it. -/
def key (D p kk : ℕ) : ℕ := (p / D / 128 * 128 + kk) * D + p % D + (2048 - 128 * D)

/-- The score of a key: the scaled product where the key is in the window, negative infinity elsewhere. -/
def specS (Q K : ℕ → Fin 64 → EReal) (D p : ℕ) (kk : Fin 256) : EReal :=
  if may (p / D % 128) kk.val (0 < p / D / 128) then ∑ e, Q p e * ((1 / 8 : ℝ) : EReal) * padK (fun x => K x e) (key D p kk.val) else ⊥

/-- The greatest score. -/
def specM (Q K : ℕ → Fin 64 → EReal) (D p : ℕ) : EReal := wM (specS Q K D p)
/-- The sum of the weights. -/
def specL (Q K : ℕ → Fin 64 → EReal) (D p : ℕ) : EReal := wL (specS Q K D p)
/-- The weighted sum of the values. -/
def specA (Q K V : ℕ → Fin 64 → EReal) (D p : ℕ) (e : Fin 64) : EReal :=
  wA (specS Q K D p) fun kk => padK (fun x => V x e) (key D p kk.val)

/-- The greatest score of the three strides. -/
def top (Q K : ℕ → Fin 64 → EReal) (p : ℕ) : EReal := max (max (specM Q K 1 p) (specM Q K 4 p)) (specM Q K 16 p)

/-- The factor of a stride. -/
def part (Q K : ℕ → Fin 64 → EReal) (D p : ℕ) : EReal := Ideal.exp (specM Q K D p - top Q K p)

/-- The attention of one head: the weighted values of the three strides over the sums of their weights. -/
def attn (Q K V : ℕ → Fin 64 → EReal) (p : ℕ) (e : Fin 64) : EReal :=
  Ideal.div
    (0 + part Q K 1 p * specA Q K V 1 p e + part Q K 4 p * specA Q K V 4 p e + part Q K 16 p * specA Q K V 16 p e)
    (0 + part Q K 1 p * specL Q K 1 p + part Q K 4 p * specL Q K 4 p + part Q K 16 p * specL Q K 16 p)

/-! ## A block of the kernel is one query's softmax weights -/

/-- The keys of a block are in some order of the window's. -/
def ord (br : Fin 3) : Fin 256 ≃ Fin 256 :=
  Equiv.ofBijective (fun κ => ⟨posK br κ.val, posK_lt br κ.val κ.isLt⟩) (Finite.injective_iff_bijective.mp fun a b h => by
    have h : posK br a.val = posK br b.val := congrArg Fin.val h
    refine Fin.ext ?_
    have ha := a.isLt
    have hb := b.isLt
    fin_cases br <;> simp only [posK] at h <;> omega)

theorem ord_val (br : Fin 3) (κ : Fin 256) : (ord br κ).val = posK br κ.val := rfl

/-- The rows of both heads stand at the same positions. -/
theorem posQ_stack (br : Fin 3) (h : Fin 2) (i : Fin 128) : posQ br (stack h i).val = posQ br i.val := by
  have h2 := h.isLt
  have hi := i.isLt
  fin_cases br <;> simp only [posQ, stack] <;> omega

/-- The values of head `h` among the lanes of a pair. -/
def headPart (X : ℕ → Fin 128 → EReal) (h : Fin 2) : ℕ → Fin 64 → EReal := fun p e => X p (lane h e)

section Block
variable (XQ XK XV : ℕ → Fin 128 → EReal) (br : Fin 3) (D p : ℕ) (j : Fin 2) (i : Fin 128)
  {q : FVec Ideal S128x128 .f32} {k v : FVec Ideal S256x128 .f32}

/-- A block's scores are those of the query, in the block's order and scaled to base two. -/
theorem score_eq (hq : ∀ d, q (ix2 i d) = XQ p d * (((1 / 8 : ℝ) : EReal) * c2))
    (hk : ∀ κ d, k (ix2 κ d) = padK (fun x => XK x d) (key D p (posK br κ.val)))
    (hp : posQ br i.val = p / D % 128) (hj : j = 1 ↔ 0 < p / D / 128) (h : Fin 2) (κ : Fin 256) :
    score q k (bias (F := Ideal) (⊥ : EReal) br j) h i κ = c2 * specS (headPart XQ h) (headPart XK h) D p (ord br κ) := by
  unfold score specS
  rw [bias_at, posQ_stack, hp, ord_val]
  have hm : may (p / D % 128) (posK br κ.val) (j = 1) ↔ may (p / D % 128) (posK br κ.val) (0 < p / D / 128) := by
    unfold may; rw [hj]
  by_cases hw : may (p / D % 128) (posK br κ.val) (0 < p / D / 128)
  · rw [if_pos (hm.mpr hw), if_pos hw, add_zero, c2_sum]
    refine Finset.sum_congr rfl fun e _ => ?_
    rw [hq, hk]
    show XQ p (lane h e) * (((1 / 8 : ℝ) : EReal) * c2) * _ = c2 * (XQ p (lane h e) * ((1 / 8 : ℝ) : EReal) * _)
    rw [← mul_assoc (XQ p (lane h e)), mul_comm c2, mul_right_comm]
    rfl
  · rw [if_neg fun h => hw (hm.mp h), if_neg hw, c2_bot]
    exact EReal.add_bot _

theorem blkM_spec (h0 : ∀ y, q y - q y = 0) (hq : ∀ d, q (ix2 i d) = XQ p d * (((1 / 8 : ℝ) : EReal) * c2))
    (hk : ∀ κ d, k (ix2 κ d) = padK (fun x => XK x d) (key D p (posK br κ.val)))
    (hp : posQ br i.val = p / D % 128) (hj : j = 1 ↔ 0 < p / D / 128) (d : Fin 128) :
    blkM q k (bias (F := Ideal) (⊥ : EReal) br j) (ix2 i d) = c2 * specM (headPart XQ (headOf d)) (headPart XK (headOf d)) D p :=
  (blkM_at q k _ h0 i d).trans (wM_eq (ord br) _ _ fun κ => score_eq XQ XK br D p j i hq hk hp hj (headOf d) κ)

theorem blkL_spec (h0 : ∀ y, q y - q y = 0) (hq : ∀ d, q (ix2 i d) = XQ p d * (((1 / 8 : ℝ) : EReal) * c2))
    (hk : ∀ κ d, k (ix2 κ d) = padK (fun x => XK x d) (key D p (posK br κ.val)))
    (hp : posQ br i.val = p / D % 128) (hj : j = 1 ↔ 0 < p / D / 128) (d : Fin 128) :
    blkL q k (bias (F := Ideal) (⊥ : EReal) br j) (ix2 i d) = specL (headPart XQ (headOf d)) (headPart XK (headOf d)) D p :=
  (blkL_at q k _ h0 i d).trans (bL_eq (ord br) _ _ fun κ => score_eq XQ XK br D p j i hq hk hp hj (headOf d) κ)

/-- A lane's number within its head. -/
def laneOf (d : Fin 128) : Fin 64 := ⟨d.val % 64, by omega⟩

theorem lane_headOf (d : Fin 128) : lane (headOf d) (laneOf d) = d := Fin.ext (by show 64 * (d.val / 64) + d.val % 64 = d.val; omega)

theorem blkA_spec (h0 : ∀ y, q y - q y = 0) (hq : ∀ d, q (ix2 i d) = XQ p d * (((1 / 8 : ℝ) : EReal) * c2))
    (hk : ∀ κ d, k (ix2 κ d) = padK (fun x => XK x d) (key D p (posK br κ.val)))
    (hv : ∀ κ d, v (ix2 κ d) = padK (fun x => XV x d) (key D p (posK br κ.val)))
    (hp : posQ br i.val = p / D % 128) (hj : j = 1 ↔ 0 < p / D / 128) (d : Fin 128) :
    blkA q k v (bias (F := Ideal) (⊥ : EReal) br j) (ix2 i d)
      = specA (headPart XQ (headOf d)) (headPart XK (headOf d)) (headPart XV (headOf d)) D p (laneOf d) :=
  (blkA_at q k v _ h0 i d).trans (bA_eq (ord br) _ _ _ _ (fun κ => score_eq XQ XK br D p j i hq hk hp hj (headOf d) κ) fun κ => by
    rw [hv]; unfold headPart; rw [lane_headOf]; rfl)

end Block

end Cert.Attn

end
-- ==== Proof.RefLayout.lean ====
/- The reference's arrangement of its arrays: a branch's blocks along the dilated sequence, and back. -/
module

public import Idealize.ShloMosaic.Lib.Pipeline.Value
public import Idealize.ShloMosaic.Lib.ValueIdxRank6
public import Idealize.ShloMosaic.Lib.KernelVsHost
public import proofs.«01_k».proof.Proof.Spec

@[expose] public section

noncomputable section

namespace Cert.Attn

open Idealize.ShloMosaic hiding ix0 ix1 ix2 ix3 ix4 ix5 ix6
open Idealize.ShloMosaic.ValueIdx

/-- A branch's stride, its number of blocks, and the length of a dilated sequence. -/
def Br (D nb L : ℕ) : Prop := D = 1 ∧ nb = 32 ∧ L = 4096 ∨ D = 4 ∧ nb = 8 ∧ L = 1024 ∨ D = 16 ∧ nb = 2 ∧ L = 256

/-- A branch's blocks of `w` rows. -/
abbrev p6 (D nb w X : ℕ) : Shape := ⟨6, ![4, D, 8, nb, w, X]⟩
/-- A branch's dilated sequences. -/
abbrev p5 (D L X : ℕ) : Shape := ⟨5, ![4, D, 8, L, X]⟩
/-- The positions, by place in the dilated sequence and residue. -/
abbrev p5' (D L X : ℕ) : Shape := ⟨5, ![4, L, D, 8, X]⟩
/-- The positions. -/
abbrev p4 (X : ℕ) : Shape := ⟨4, ![4, 4096, 8, X]⟩

variable {D nb L X : ℕ} {α : Type}

/-- The position of a block's row. -/
def pos (D : ℕ) (n q r : ℕ) : ℕ := (n * 128 + q) * D + r

theorem pos_lt (hB : Br D nb L) (r : Fin D) (n : Fin nb) (q : Fin 128) : pos D n.val q.val r.val < 4096 := by
  have hr := r.isLt
  have hn := n.isLt
  have hq := q.isLt
  unfold pos
  rcases hB with ⟨rfl, rfl, rfl⟩ | ⟨rfl, rfl, rfl⟩ | ⟨rfl, rfl, rfl⟩ <;> omega

/-- The blocks of an array of positions. -/
theorem split_at (hB : Br D nb L) (a : (p4 X).Idx → α) (h1 : (p4 X).ShapeCasts (p5' D L X)) (h2 : (p5' D L X).Transposes [0, 2, 3, 1, 4] (p5 D L X))
    (h3 : (p5 D L X).ShapeCasts (p6 D nb 128 X)) (b : Fin 4) (r : Fin D) (h : Fin 8) (n : Fin nb) (q : Fin 128) (e : Fin X) :
    shapeCast (p6 D nb 128 X) (transpose (p5 D L X) [0, 2, 3, 1, 4] (shapeCast (p5' D L X) a h1) h2) h3 (ix6 b r h n q e)
      = a (ix4 b ⟨pos D n.val q.val r.val, pos_lt hB r n q⟩ h e) := by
  have hr := r.isLt
  have hn := n.isLt
  have hq := q.isLt
  have hl : n.val * 128 + q.val < L := by rcases hB with ⟨rfl, rfl, rfl⟩ | ⟨rfl, rfl, rfl⟩ | ⟨rfl, rfl, rfl⟩ <;> omega
  refine (shapeCast_apply (s := p5 D L X) (t := p6 D nb 128 X) _ _ _ (ix5 b r h ⟨_, hl⟩ e) ?_).trans ?_
  · rw [Shape.rowMajor_val_five, Shape.rowMajor_val_six]
    show (((b.val * D + r.val) * 8 + h.val) * L + (n.val * 128 + q.val)) * X + e.val = ((((b.val * D + r.val) * 8 + h.val) * nb + n.val) * 128 + q.val) * X + e.val
    refine congrArg (fun z => z * X + e.val) ?_
    rcases hB with ⟨rfl, rfl, rfl⟩ | ⟨rfl, rfl, rfl⟩ | ⟨rfl, rfl, rfl⟩ <;> omega
  refine (transpose_apply (s := p5' D L X) (t := p5 D L X) [0, 2, 3, 1, 4] _ _ _ (ix5 b ⟨_, hl⟩ r h e) ?_).trans ?_
  · intro k; fin_cases k <;> rfl
  refine shapeCast_apply (s := p4 X) (t := p5' D L X) _ _ _ (ix4 b ⟨_, pos_lt hB r n q⟩ h e) ?_
  rw [Shape.rowMajor_val_four, Shape.rowMajor_val_five]
  show ((b.val * 4096 + pos D n.val q.val r.val) * 8 + h.val) * X + e.val = (((b.val * L + (n.val * 128 + q.val)) * D + r.val) * 8 + h.val) * X + e.val
  refine congrArg (fun z => (z * 8 + h.val) * X + e.val) ?_
  unfold pos
  rcases hB with ⟨rfl, rfl, rfl⟩ | ⟨rfl, rfl, rfl⟩ | ⟨rfl, rfl, rfl⟩ <;> omega

theorem Br.pos (hB : Br D nb L) : 0 < D := by rcases hB with ⟨rfl, rfl, rfl⟩ | ⟨rfl, rfl, rfl⟩ | ⟨rfl, rfl, rfl⟩ <;> decide
theorem Br.block (hB : Br D nb L) (p : Fin 4096) : p.val / D / 128 < nb := by
  have := p.isLt
  rcases hB with ⟨rfl, rfl, rfl⟩ | ⟨rfl, rfl, rfl⟩ | ⟨rfl, rfl, rfl⟩ <;> omega

/-- The residue, block and row of a position. -/
abbrev rOf (hB : Br D nb L) (p : Fin 4096) : Fin D := ⟨p.val % D, Nat.mod_lt _ hB.pos⟩
abbrev nOf (hB : Br D nb L) (p : Fin 4096) : Fin nb := ⟨p.val / D / 128, hB.block p⟩
abbrev qOf (D : ℕ) (p : Fin 4096) : Fin 128 := ⟨p.val / D % 128, Nat.mod_lt _ (by norm_num)⟩

/-- An array of blocks put back by position. -/
theorem merge_at (hB : Br D nb L) (t : (p6 D nb 128 X).Idx → α) (h1 : (p6 D nb 128 X).ShapeCasts (p5 D L X)) (h2 : (p5 D L X).Transposes [0, 3, 1, 2, 4] (p5' D L X))
    (h3 : (p5' D L X).ShapeCasts (p4 X)) (b : Fin 4) (p : Fin 4096) (h : Fin 8) (e : Fin X) :
    shapeCast (p4 X) (transpose (p5' D L X) [0, 3, 1, 2, 4] (shapeCast (p5 D L X) t h1) h2) h3 (ix4 b p h e)
      = t (ix6 b (rOf hB p) h (nOf hB p) (qOf D p) e) := by
  have hp := p.isLt
  have hl : p.val / D < L := by rcases hB with ⟨rfl, rfl, rfl⟩ | ⟨rfl, rfl, rfl⟩ | ⟨rfl, rfl, rfl⟩ <;> omega
  refine (shapeCast_apply (s := p5' D L X) (t := p4 X) _ _ _ (ix5 b ⟨_, hl⟩ (rOf hB p) h e) ?_).trans ?_
  · rw [Shape.rowMajor_val_four, Shape.rowMajor_val_five]
    show (((b.val * L + p.val / D) * D + p.val % D) * 8 + h.val) * X + e.val = ((b.val * 4096 + p.val) * 8 + h.val) * X + e.val
    refine congrArg (fun z => (z * 8 + h.val) * X + e.val) ?_
    rcases hB with ⟨rfl, rfl, rfl⟩ | ⟨rfl, rfl, rfl⟩ | ⟨rfl, rfl, rfl⟩ <;> omega
  refine (transpose_apply (s := p5 D L X) (t := p5' D L X) [0, 3, 1, 2, 4] _ _ _ (ix5 b (rOf hB p) h ⟨_, hl⟩ e) ?_).trans ?_
  · intro k; fin_cases k <;> rfl
  refine shapeCast_apply (s := p6 D nb 128 X) (t := p5 D L X) _ _ _ (ix6 b (rOf hB p) h (nOf hB p) (qOf D p) e) ?_
  rw [Shape.rowMajor_val_five, Shape.rowMajor_val_six]
  show ((((b.val * D + p.val % D) * 8 + h.val) * nb + p.val / D / 128) * 128 + p.val / D % 128) * X + e.val = (((b.val * D + p.val % D) * 8 + h.val) * L + p.val / D) * X + e.val
  refine congrArg (fun z => z * X + e.val) ?_
  rcases hB with ⟨rfl, rfl, rfl⟩ | ⟨rfl, rfl, rfl⟩ | ⟨rfl, rfl, rfl⟩ <;> omega

/-- The position of a position's block and row is itself. -/
theorem pos_of (hB : Br D nb L) (p : Fin 4096) : pos D (p.val / D / 128) (p.val / D % 128) (p.val % D) = p.val := by
  unfold pos
  rcases hB with ⟨rfl, rfl, rfl⟩ | ⟨rfl, rfl, rfl⟩ | ⟨rfl, rfl, rfl⟩ <;> omega

/-- The keys or values of a block and of the block before it: the sequence under zeros, at the key's place. -/
theorem window_at (hB : Br D nb L) (a : (p6 D nb 128 X).Idx → EReal) (A : ℕ → EReal) {u : Shape} (z : u.Idx → EReal) (hu : 0 < u.numel)
    (hz : z (Shape.Idx.first hu) = 0) (hpad : (p6 D nb 128 X).Pads (![0, 0, 0, 1, 0, 0] : Fin 6 → Nat) ![0, 0, 0, 0, 0, 0] ![0, 0, 0, 0, 0, 0] (p6 D (nb + 1) 128 X))
    (hsl : (p6 D (nb + 1) 128 X).Slices ![0, 0, 0, 0, 0, 0] (p6 D nb 128 X))
    (hc : Shape.Concatenates [p6 D nb 128 X, p6 D nb 128 X] (p6 D nb 256 X) 4) (b : Fin 4) (h : Fin 8) (e : Fin X) (p : Fin 4096) (k : Fin 256)
    (ha : ∀ (n : Fin nb) (q : Fin 128), a (ix6 b (rOf hB p) h n q e) = A (pos D n.val q.val (p.val % D))) :
    concatenate (p6 D nb 256 X) 4 [⟨p6 D nb 128 X, extractStridedSlice (p6 D nb 128 X) ![0, 0, 0, 0, 0, 0]
        (pad (p6 D (nb + 1) 128 X) ![0, 0, 0, 1, 0, 0] ![0, 0, 0, 0, 0, 0] ![0, 0, 0, 0, 0, 0] a z hpad hu) hsl⟩, ⟨p6 D nb 128 X, a⟩] hc
        (ix6 b (rOf hB p) h (nOf hB p) k e)
      = padK A (key D p.val k.val) := by
  have hp := p.isLt
  have hk := k.isLt
  have hn := hB.block p
  by_cases hlt : k.val < 128
  · refine (concatenate_pair_apply_left (s₁ := p6 D nb 128 X) (s₂ := p6 D nb 128 X) (t := p6 D nb 256 X) 4 _ _ hc _ rfl
      (ix6 b (rOf hB p) h (nOf hB p) ⟨k.val, hlt⟩ e) (fun c => by fin_cases c <;> rfl)).trans ?_
    refine (extractStridedSlice_apply (s := p6 D (nb + 1) 128 X) (t := p6 D nb 128 X) _ _ _ _
      (ix6 b (rOf hB p) h ⟨p.val / D / 128, Nat.lt_succ_of_lt hn⟩ ⟨k.val, hlt⟩ e) (fun c => by fin_cases c <;> exact (Nat.zero_add _).symm)).trans ?_
    by_cases h0 : p.val / D / 128 = 0
    · refine (pad_apply_of_not_inside _ _ _ _ _ _ _ _ (3 : Fin 6) ?_).trans (hz.trans ?_)
      · rintro ⟨hh, _, _⟩
        have hh : 1 ≤ p.val / D / 128 := hh
        omega
      · refine (if_pos ?_).symm
        unfold key
        rw [h0]
        rcases hB with ⟨rfl, rfl, rfl⟩ | ⟨rfl, rfl, rfl⟩ | ⟨rfl, rfl, rfl⟩ <;> omega
    · refine (pad_apply_of_inside _ _ _ _ _ _ _ _ (ix6 b (rOf hB p) h ⟨p.val / D / 128 - 1, (Nat.sub_le _ _).trans_lt hn⟩ ⟨k.val, hlt⟩ e) ?_).trans ((ha _ _).trans ?_)
      · intro c
        fin_cases c
        · show b.val = 0 + b.val * 1; omega
        · show p.val % D = 0 + p.val % D * 1; omega
        · show h.val = 0 + h.val * 1; omega
        · show p.val / D / 128 = 1 + (p.val / D / 128 - 1) * 1; have := Nat.zero_le (p.val / D / 128); revert h0; generalize p.val / D / 128 = N; omega
        · show k.val = 0 + k.val * 1; omega
        · show e.val = 0 + e.val * 1; omega
      · unfold padK key pos
        show A ((((p.val / D / 128) - 1) * 128 + k.val) * D + p.val % D) = _
        have e1 : (p.val / D / 128 * 128 + k.val) * D + p.val % D + (2048 - 128 * D) = 2048 + (((p.val / D / 128 - 1) * 128 + k.val) * D + p.val % D) := by
          rcases hB with ⟨rfl, rfl, rfl⟩ | ⟨rfl, rfl, rfl⟩ | ⟨rfl, rfl, rfl⟩ <;> omega
        rw [e1, if_neg (by omega), Nat.add_sub_cancel_left]
  · refine (concatenate_pair_apply_right (s₁ := p6 D nb 128 X) (s₂ := p6 D nb 128 X) (t := p6 D nb 256 X) 4 _ _ hc _ rfl rfl
      (ix6 b (rOf hB p) h (nOf hB p) ⟨k.val - 128, by omega⟩ e) (fun c hc => by fin_cases c <;> first | rfl | exact absurd rfl hc) (by
        show k.val - 128 + 128 = k.val; omega)).trans ((ha _ _).trans ?_)
    unfold padK key pos
    show A ((p.val / D / 128 * 128 + (k.val - 128)) * D + p.val % D) = _
    have e1 : (p.val / D / 128 * 128 + k.val) * D + p.val % D + (2048 - 128 * D) = 2048 + ((p.val / D / 128 * 128 + (k.val - 128)) * D + p.val % D) := by
      rcases hB with ⟨rfl, rfl, rfl⟩ | ⟨rfl, rfl, rfl⟩ | ⟨rfl, rfl, rfl⟩ <;> omega
    rw [e1, if_neg (by omega), Nat.add_sub_cancel_left]

end Cert.Attn

end
-- ==== Proof.RefScore.lean ====
/- The reference's scores of a branch: the scaled products of its queries and keys where a key is in the window,
   negative infinity elsewhere; their greatest, the weights, and the weights' sums. -/
module

public import proofs.«01_k».proof.Proof.RefLayout
public import Idealize.ShloMosaic.Lib.Pointwise.Contract
public import Idealize.ShloMosaic.Lib.IdealHost

@[expose] public section

noncomputable section

namespace Cert.Attn

open Idealize.ShloMosaic hiding ix0 ix1 ix2 ix3 ix4 ix5 ix6
open Idealize.ShloMosaic.ValueIdx

/-! ## The window's condition -/

/-- The distance back from a query to a key lies in the window. -/
def bandBit (q k : ℕ) : BitVec 1 :=
  IntOp.cmpi .sge (128#32 + BitVec.ofNat 32 q - BitVec.ofNat 32 k) 0#32 &&& IntOp.cmpi .sle (128#32 + BitVec.ofNat 32 q - BitVec.ofNat 32 k) 128#32

/-- The key is of the query's own block, or there is a block before it. -/
def laterBit (n k : ℕ) : BitVec 1 := IntOp.cmpi .sgt (BitVec.ofNat 32 n) 0#32 ||| IntOp.cmpi .sge (BitVec.ofNat 32 k) 128#32

theorem bandBit_eq : ∀ (q : Fin 128) (k : Fin 256), bandBit q.val k.val = BitVec.ofBool (decide (q.val ≤ k.val ∧ k.val ≤ q.val + 128)) := by
  decide +kernel

theorem laterBit_eq : ∀ (n : Fin 32) (k : Fin 256), laterBit n.val k.val = BitVec.ofBool (decide (0 < n.val ∨ 128 ≤ k.val)) := by
  decide +kernel

theorem window_bit {n : ℕ} (hn : n < 32) (q : Fin 128) (k : Fin 256) : bandBit q.val k.val &&& laterBit n k.val = 1 ↔ may q.val k.val (0 < n) := by
  rw [bandBit_eq, show laterBit n k.val = _ from laterBit_eq ⟨n, hn⟩ k]
  unfold may
  by_cases h1 : q.val ≤ k.val ∧ k.val ≤ q.val + 128
  · by_cases h2 : 0 < n ∨ 128 ≤ k.val
    · rw [decide_eq_true h1, decide_eq_true h2]
      exact ⟨fun _ => ⟨h1.1, h1.2, h2⟩, fun _ => rfl⟩
    · rw [decide_eq_true h1, decide_eq_false h2]
      exact ⟨fun h => absurd h (by decide), fun h => absurd h.2.2 h2⟩
  · rw [decide_eq_false h1]
    exact ⟨fun h => absurd h (by cases decide (0 < n ∨ 128 ≤ k.val) <;> decide), fun h => absurd ⟨h.1, h.2.1⟩ h1⟩

/-! ## Products and reductions over a branch's blocks -/

variable {D nb L : ℕ}

/-- Queries times keys, block by block. -/
def dotQK (D nb : ℕ) (wf : DotDims.WF (p6 D nb 128 64) (p6 D nb 256 64) (p6 D nb 128 256) [5] [5] [4] [4] [0, 1, 2, 3] [0, 1, 2, 3]) :
    DotDims (p6 D nb 128 64) (p6 D nb 256 64) (p6 D nb 128 256) where
  lhsContracting := [5]
  rhsContracting := [5]
  lhsNonContracting := [4]
  rhsNonContracting := [4]
  lhsBatch := [0, 1, 2, 3]
  rhsBatch := [0, 1, 2, 3]
  wf := wf

/-- Weights times values, block by block. -/
def dotPV (D nb : ℕ) (wf : DotDims.WF (p6 D nb 128 256) (p6 D nb 256 64) (p6 D nb 128 64) [5] [4] [4] [5] [0, 1, 2, 3] [0, 1, 2, 3]) :
    DotDims (p6 D nb 128 256) (p6 D nb 256 64) (p6 D nb 128 64) where
  lhsContracting := [5]
  rhsContracting := [4]
  lhsNonContracting := [4]
  rhsNonContracting := [5]
  lhsBatch := [0, 1, 2, 3]
  rhsBatch := [0, 1, 2, 3]
  wf := wf

theorem dotQK_at (wf) (x : FVec Ideal (p6 D nb 128 64) .f32) (y : FVec Ideal (p6 D nb 256 64) .f32) (b : Fin 4) (r : Fin D) (h : Fin 8) (n : Fin nb) (q : Fin 128) (k : Fin 256) :
    Host.dotGeneral (dotQK D nb wf) none x y (ix6 b r h n q k) = (∑ e : Fin 64, x (ix6 b r h n q e) * y (ix6 b r h n k e) : EReal) := by
  refine (Ideal.dotGeneral_apply (dotQK D nb wf) none _ x y _).trans (((dotQK D nb wf).sum_contr₁ (a := 5) rfl (K := 64) rfl _).trans ?_)
  refine Finset.sum_congr rfl fun e _ => ?_
  congr 1
  · refine congrArg x (funext fun c => Fin.ext ?_)
    fin_cases c <;> rfl
  · refine congrArg y (funext fun c => Fin.ext ?_)
    fin_cases c <;> rfl

theorem dotPV_at (wf) (x : FVec Ideal (p6 D nb 128 256) .f32) (y : FVec Ideal (p6 D nb 256 64) .f32) (b : Fin 4) (r : Fin D) (h : Fin 8) (n : Fin nb) (q : Fin 128) (e : Fin 64) :
    Host.dotGeneral (dotPV D nb wf) none x y (ix6 b r h n q e) = (∑ k : Fin 256, x (ix6 b r h n q k) * y (ix6 b r h n k e) : EReal) := by
  refine (Ideal.dotGeneral_apply (dotPV D nb wf) none _ x y _).trans (((dotPV D nb wf).sum_contr₁ (a := 5) rfl (K := 256) rfl _).trans ?_)
  refine Finset.sum_congr rfl fun k _ => ?_
  congr 1
  · refine congrArg x (funext fun c => Fin.ext ?_)
    fin_cases c <;> rfl
  · refine congrArg y (funext fun c => Fin.ext ?_)
    fin_cases c <;> rfl

/-- A branch's rows, without the keys. -/
abbrev p5r (D nb : ℕ) : Shape := ⟨5, ![4, D, 8, nb, 128]⟩

theorem rows_reduce (D nb : ℕ) : (p6 D nb 128 256).Reduces [5] (p5r D nb) :=
  ⟨rfl, by show 0 < 5; decide, fun c => by fin_cases c <;> rfl⟩

theorem lift_at (b : Fin 4) (r : Fin D) (h : Fin 8) (n : Fin nb) (q : Fin 128) (k : Fin 256) :
    (rows_reduce D nb).lift (ix5 b r h n q) k = ix6 b r h n q k := by
  funext c
  refine Fin.ext ?_
  fin_cases c <;> rfl

theorem max_at {u : Shape} (hr : (p6 D nb 128 256).ReducesTo [5] (p5r D nb)) (x : FVec Ideal (p6 D nb 128 256) .f32) (z : FVec Ideal u .f32) (hu : 0 < u.numel)
    (hz : z (Shape.Idx.first hu) = (⊥ : EReal)) (b : Fin 4) (r : Fin D) (h : Fin 8) (n : Fin nb) (q : Fin 128) :
    Host.reduce FloatOps.maximumf x z hr hu (ix5 b r h n q) = wM fun k : Fin 256 => x (ix6 b r h n q k) := by
  refine (Host.reduce_eq_fold_single FloatOps.maximumf x z hr (rows_reduce D nb) hu _).trans ?_
  rw [hz]
  unfold wM
  refine Finset.fold_congr fun k _ => ?_
  exact congrArg x (lift_at b r h n q k)

theorem sum_at {u : Shape} (hr : (p6 D nb 128 256).ReducesTo [5] (p5r D nb)) (x : FVec Ideal (p6 D nb 128 256) .f32) (z : FVec Ideal u .f32) (hu : 0 < u.numel)
    (hz : z (Shape.Idx.first hu) = (0 : EReal)) (b : Fin 4) (r : Fin D) (h : Fin 8) (n : Fin nb) (q : Fin 128) :
    Host.reduceAdd x z hr hu (ix5 b r h n q) = (∑ k : Fin 256, x (ix6 b r h n q k) : EReal) := by
  refine (Ideal.hostReduceAdd_single hr (rows_reduce D nb) x _ _).trans ?_
  rw [hz, zero_add]
  exact Finset.sum_congr rfl fun k _ => congrArg x (lift_at b r h n q k)

end Cert.Attn

end
-- ==== Proof.RefBranch.lean ====
/- One branch of the reference: its scores, weights, sums and weighted values, by position, are those of the attention. -/
module

public import proofs.«01_k».proof.Proof.RefScore

@[expose] public section

noncomputable section

namespace Cert.Attn

open Idealize.ShloMosaic hiding ix0 ix1 ix2 ix3 ix4 ix5 ix6
open Idealize.ShloMosaic.ValueIdx

/-- The scalar shape. -/
abbrev p0 : Shape := ⟨0, ![]⟩

/-- What a branch's arrays ask of its shapes. -/
structure Sides (D nb L : ℕ) : Prop where
  br : Br D nb L
  split1 : ∀ X, X = 1 ∨ X = 64 → (p4 X).ShapeCasts (p5' D L X)
  split2 : ∀ X, X = 1 ∨ X = 64 → (p5' D L X).Transposes [0, 2, 3, 1, 4] (p5 D L X)
  split3 : ∀ X, X = 1 ∨ X = 64 → (p5 D L X).ShapeCasts (p6 D nb 128 X)
  merge1 : ∀ X, X = 1 ∨ X = 64 → (p6 D nb 128 X).ShapeCasts (p5 D L X)
  merge2 : ∀ X, X = 1 ∨ X = 64 → (p5 D L X).Transposes [0, 3, 1, 2, 4] (p5' D L X)
  merge3 : ∀ X, X = 1 ∨ X = 64 → (p5' D L X).ShapeCasts (p4 X)
  scalar : 0 < p0.numel
  pads : (p6 D nb 128 64).Pads (![0, 0, 0, 1, 0, 0] : Fin 6 → Nat) ![0, 0, 0, 0, 0, 0] ![0, 0, 0, 0, 0, 0] (p6 D (nb + 1) 128 64)
  slices : (p6 D (nb + 1) 128 64).Slices ![0, 0, 0, 0, 0, 0] (p6 D nb 128 64)
  concat : Shape.Concatenates [p6 D nb 128 64, p6 D nb 128 64] (p6 D nb 256 64) 4
  qk : DotDims.WF (p6 D nb 128 64) (p6 D nb 256 64) (p6 D nb 128 256) [5] [5] [4] [4] [0, 1, 2, 3] [0, 1, 2, 3]
  pv : DotDims.WF (p6 D nb 128 256) (p6 D nb 256 64) (p6 D nb 128 64) [5] [4] [4] [5] [0, 1, 2, 3] [0, 1, 2, 3]
  rows : (p6 D nb 128 256).ReducesTo [5] (p5r D nb)
  low : p0.BroadcastsInDim (p6 D nb 128 256) ![]
  col : (p5r D nb).BroadcastsInDim (p6 D nb 128 1) ![0, 1, 2, 3, 4]
  wide : (p6 D nb 128 1).BroadcastsInDim (p6 D nb 128 256) ![0, 1, 2, 3, 4, 5]
  k1 : (⟨1, ![256]⟩ : Shape).BroadcastsInDim ⟨2, ![1, 256]⟩ ![1]
  k2 : (⟨2, ![1, 256]⟩ : Shape).BroadcastsInDim ⟨2, ![128, 256]⟩ ![0, 1]
  k3 : (⟨2, ![1, 256]⟩ : Shape).BroadcastsInDim ⟨3, ![1, 1, 256]⟩ ![1, 2]
  k4 : (⟨3, ![1, 1, 256]⟩ : Shape).BroadcastsInDim ⟨3, ![nb, 1, 256]⟩ ![0, 1, 2]
  q0 : p0.BroadcastsInDim ⟨2, ![128, 1]⟩ ![]
  q1 : (⟨1, ![128]⟩ : Shape).BroadcastsInDim ⟨2, ![128, 1]⟩ ![0]
  q2 : (⟨2, ![128, 1]⟩ : Shape).BroadcastsInDim ⟨2, ![128, 256]⟩ ![0, 1]
  c1 : p0.BroadcastsInDim ⟨2, ![128, 256]⟩ ![]
  c2 : p0.BroadcastsInDim ⟨1, ![nb]⟩ ![]
  c3 : p0.BroadcastsInDim ⟨2, ![1, 256]⟩ ![]
  n1 : (⟨1, ![nb]⟩ : Shape).BroadcastsInDim ⟨3, ![nb, 1, 1]⟩ ![0]
  n2 : (⟨3, ![nb, 1, 1]⟩ : Shape).BroadcastsInDim ⟨3, ![nb, 1, 256]⟩ ![0, 1, 2]
  d1 : (⟨2, ![128, 256]⟩ : Shape).BroadcastsInDim ⟨3, ![1, 128, 256]⟩ ![1, 2]
  d2 : (⟨3, ![1, 128, 256]⟩ : Shape).BroadcastsInDim ⟨3, ![nb, 128, 256]⟩ ![0, 1, 2]
  d3 : (⟨3, ![nb, 1, 256]⟩ : Shape).BroadcastsInDim ⟨3, ![nb, 128, 256]⟩ ![0, 1, 2]
  d4 : (⟨3, ![nb, 128, 256]⟩ : Shape).BroadcastsInDim (p6 D nb 128 256) ![3, 4, 5]

variable {D nb L : ℕ}

/-! ## The window -/

/-- The keys' numbers. -/
def keyNo (S : Sides D nb L) : IVec ⟨2, ![1, 256]⟩ 32 := broadcastInDim ⟨2, ![1, 256]⟩ ![1] S.k1 (iotaInDim ⟨1, ![256]⟩ 32 0)

/-- The distance back from a query to a key. -/
def distArr (S : Sides D nb L) : IVec ⟨2, ![128, 256]⟩ 32 :=
  subi (broadcastInDim ⟨2, ![128, 256]⟩ ![0, 1] S.q2 (addi (broadcastInDim ⟨2, ![128, 1]⟩ ![] S.q0 (constantI p0 32 128#32)) (broadcastInDim ⟨2, ![128, 1]⟩ ![0] S.q1 (iotaInDim ⟨1, ![128]⟩ 32 0))))
    (broadcastInDim ⟨2, ![128, 256]⟩ ![0, 1] S.k2 (keyNo S))

/-- The keys within reach of a query. -/
def bandArr (S : Sides D nb L) : IVec ⟨2, ![128, 256]⟩ 1 :=
  andi (cmpi .sge (distArr S) (broadcastInDim ⟨2, ![128, 256]⟩ ![] S.c1 (constantI p0 32 0#32)))
    (cmpi .sle (distArr S) (broadcastInDim ⟨2, ![128, 256]⟩ ![] S.c1 (constantI p0 32 128#32)))

/-- The keys that exist: those of the query's own block, and of the block before it where there is one. -/
def laterArr (S : Sides D nb L) : IVec ⟨3, ![nb, 1, 256]⟩ 1 :=
  ori (broadcastInDim ⟨3, ![nb, 1, 256]⟩ ![0, 1, 2] S.n2 (broadcastInDim ⟨3, ![nb, 1, 1]⟩ ![0] S.n1 (cmpi .sgt (iotaInDim ⟨1, ![nb]⟩ 32 0) (broadcastInDim ⟨1, ![nb]⟩ ![] S.c2 (constantI p0 32 0#32)))))
    (broadcastInDim ⟨3, ![nb, 1, 256]⟩ ![0, 1, 2] S.k4 (broadcastInDim ⟨3, ![1, 1, 256]⟩ ![1, 2] S.k3
      (cmpi .sge (keyNo S) (broadcastInDim ⟨2, ![1, 256]⟩ ![] S.c3 (constantI p0 32 128#32)))))

/-- The window. -/
def windowArr (S : Sides D nb L) : IVec (p6 D nb 128 256) 1 :=
  broadcastInDim (p6 D nb 128 256) ![3, 4, 5] S.d4
    (andi (broadcastInDim ⟨3, ![nb, 128, 256]⟩ ![0, 1, 2] S.d2 (broadcastInDim ⟨3, ![1, 128, 256]⟩ ![1, 2] S.d1 (bandArr S)))
      (broadcastInDim ⟨3, ![nb, 128, 256]⟩ ![0, 1, 2] S.d3 (laterArr S)))

theorem distArr_at (S : Sides D nb L) (q : Fin 128) (k : Fin 256) : distArr S (ix2 q k) = 128#32 + BitVec.ofNat 32 q.val - BitVec.ofNat 32 k.val := rfl

theorem bandArr_at (S : Sides D nb L) (q : Fin 128) (k : Fin 256) : bandArr S (ix2 q k) = bandBit q.val k.val := rfl

theorem n1_at {α : Type} (S : Sides D nb L) (x : (⟨1, ![nb]⟩ : Shape).Idx → α) (n : Fin nb) (k : Fin 256) :
    broadcastInDim ⟨3, ![nb, 1, 256]⟩ ![0, 1, 2] S.n2 (broadcastInDim ⟨3, ![nb, 1, 1]⟩ ![0] S.n1 x) (ix3 n 0 k) = x (ix1 n) := by
  have hv : n.val = if nb = 1 then 0 else n.val := by
    have := n.isLt
    split <;> omega
  refine (broadcastInDim_apply (t := ⟨3, ![nb, 1, 256]⟩) ![0, 1, 2] S.n2 _ (ix3 n 0 k) (ix3 n 0 0) ?_).trans
    (broadcastInDim_apply (t := ⟨3, ![nb, 1, 1]⟩) ![0] S.n1 _ (ix3 n 0 0) (ix1 n) ?_)
  · intro a; fin_cases a
    · exact hv
    · rfl
    · rfl
  · intro a; fin_cases a
    exact hv

theorem laterArr_at (S : Sides D nb L) (n : Fin nb) (k : Fin 256) : laterArr S (ix3 n 0 k) = laterBit n.val k.val := by
  show (_ ||| _ : BitVec 1) = _ ||| _
  congr 1
  exact n1_at S _ n k

theorem later_wide (S : Sides D nb L) (n : Fin nb) (q : Fin 128) (k : Fin 256) :
    broadcastInDim ⟨3, ![nb, 128, 256]⟩ ![0, 1, 2] S.d3 (laterArr S) (ix3 n q k) = laterBit n.val k.val := by
  rw [← laterArr_at S n k]
  refine broadcastInDim_apply (s := ⟨3, ![nb, 1, 256]⟩) (t := ⟨3, ![nb, 128, 256]⟩) ![0, 1, 2] S.d3 (laterArr S) (ix3 n q k) (ix3 n 0 k) ?_
  intro a; fin_cases a
  · show n.val = if nb = 1 then 0 else n.val
    have := n.isLt
    split <;> omega
  · rfl
  · rfl

theorem windowArr_at (S : Sides D nb L) (b : Fin 4) (r : Fin D) (h : Fin 8) (n : Fin nb) (q : Fin 128) (k : Fin 256) :
    windowArr S (ix6 b r h n q k) = bandBit q.val k.val &&& laterBit n.val k.val := by
  have hv : n.val = if nb = 1 then 0 else n.val := by
    have := n.isLt
    split <;> omega
  refine (broadcastInDim_apply (t := p6 D nb 128 256) ![3, 4, 5] S.d4 _ (ix6 b r h n q k) (ix3 n q k) ?_).trans ?_
  · intro a; fin_cases a
    · exact hv
    · rfl
    · rfl
  show (_ &&& _ : BitVec 1) = _
  congr 1
  exact later_wide S n q k

/-! ## The scores and what is made of them -/

/-- An array of positions in a branch's blocks. -/
def splitArr (S : Sides D nb L) (a : FVec Ideal (p4 64) .f32) : FVec Ideal (p6 D nb 128 64) .f32 :=
  shapeCast (p6 D nb 128 64) (transpose (p5 D L 64) [0, 2, 3, 1, 4] (shapeCast (p5' D L 64) a (S.split1 64 (.inr rfl))) (S.split2 64 (.inr rfl))) (S.split3 64 (.inr rfl))

/-- An array of a branch's blocks by position. -/
def mergeArr (S : Sides D nb L) (X : ℕ) (hX : X = 1 ∨ X = 64) (t : FVec Ideal (p6 D nb 128 X) .f32) : FVec Ideal (p4 X) .f32 :=
  shapeCast (p4 X) (transpose (p5' D L X) [0, 3, 1, 2, 4] (shapeCast (p5 D L X) t (S.merge1 X hX)) (S.merge2 X hX)) (S.merge3 X hX)

/-- A block behind the block before it. -/
def withPrev (S : Sides D nb L) (a : FVec Ideal (p6 D nb 128 64) .f32) : FVec Ideal (p6 D nb 256 64) .f32 :=
  concatenate (p6 D nb 256 64) 4 [⟨p6 D nb 128 64, extractStridedSlice (p6 D nb 128 64) ![0, 0, 0, 0, 0, 0]
    (pad (p6 D (nb + 1) 128 64) ![0, 0, 0, 1, 0, 0] ![0, 0, 0, 0, 0, 0] ![0, 0, 0, 0, 0, 0] a (sitofp .f32 (constantI p0 32 0#32)) S.pads S.scalar) S.slices⟩, ⟨p6 D nb 128 64, a⟩] S.concat

/-- The scores. -/
def scoreArr (S : Sides D nb L) (q k : FVec Ideal (p4 64) .f32) : FVec Ideal (p6 D nb 128 256) .f32 :=
  select (windowArr S) (Host.dotGeneral (dotQK D nb S.qk) none (splitArr S q) (withPrev S (splitArr S k))) (broadcastInDim (p6 D nb 128 256) ![] S.low (id (constant p0 .f32 0xFF800000#32)))

/-- The greatest scores. -/
def maxArr (S : Sides D nb L) (s : FVec Ideal (p6 D nb 128 256) .f32) : FVec Ideal (p6 D nb 128 1) .f32 :=
  broadcastInDim (p6 D nb 128 1) ![0, 1, 2, 3, 4] S.col (Host.reduce FloatOps.maximumf s (constant p0 .f32 0xFF800000#32) S.rows S.scalar)

/-- The weights. -/
def weightArr (S : Sides D nb L) (s : FVec Ideal (p6 D nb 128 256) .f32) : FVec Ideal (p6 D nb 128 256) .f32 :=
  Host.exp (subf s (broadcastInDim (p6 D nb 128 256) ![0, 1, 2, 3, 4, 5] S.wide (maxArr S s)))

/-- The sums of the weights. -/
def sumArr (S : Sides D nb L) (w : FVec Ideal (p6 D nb 128 256) .f32) : FVec Ideal (p6 D nb 128 1) .f32 :=
  broadcastInDim (p6 D nb 128 1) ![0, 1, 2, 3, 4] S.col (Host.reduceAdd w (constant p0 .f32 0x00000000#32) S.rows S.scalar)

/-- The weighted sums of the values. -/
def valueArr (S : Sides D nb L) (w : FVec Ideal (p6 D nb 128 256) .f32) (v : FVec Ideal (p4 64) .f32) : FVec Ideal (p6 D nb 128 64) .f32 :=
  Host.dotGeneral (dotPV D nb S.pv) none w (withPrev S (splitArr S v))

/-- One head of one batch, by position (cyclically). -/
def headOfArr (a : (p4 64).Idx → EReal) (b : Fin 4) (h : Fin 8) : ℕ → Fin 64 → EReal := fun p e => a (ix4 b ⟨p % 4096, Nat.mod_lt _ (by norm_num)⟩ h e)

theorem splitArr_at (S : Sides D nb L) (a : FVec Ideal (p4 64) .f32) (b : Fin 4) (r : Fin D) (h : Fin 8) (n : Fin nb) (q : Fin 128) (e : Fin 64) :
    splitArr S a (ix6 b r h n q e) = headOfArr a b h (pos D n.val q.val r.val) e := by
  refine (split_at S.br a _ _ _ b r h n q e).trans ?_
  refine congrArg (fun z => a (ix4 b z h e)) (Fin.ext ?_)
  exact (Nat.mod_eq_of_lt (pos_lt S.br r n q)).symm

theorem withPrev_at (S : Sides D nb L) (a : FVec Ideal (p4 64) .f32) (b : Fin 4) (h : Fin 8) (p : Fin 4096) (k : Fin 256) (e : Fin 64) :
    withPrev S (splitArr S a) (ix6 b (rOf S.br p) h (nOf S.br p) k e) = padK (fun x => headOfArr a b h x e) (key D p.val k.val) :=
  window_at S.br (splitArr S a) (fun x => headOfArr a b h x e) _ S.scalar (by
    show (((0#32 : BitVec 32).toInt : ℝ) : EReal) = 0
    simp) S.pads S.slices S.concat b h e p k fun n q => splitArr_at S a b _ h n q e

theorem col_at (S : Sides D nb L) {α : Type} (x : (p5r D nb).Idx → α) (b : Fin 4) (r : Fin D) (h : Fin 8) (n : Fin nb) (q : Fin 128) :
    broadcastInDim (p6 D nb 128 1) ![0, 1, 2, 3, 4] S.col x (ix6 b r h n q 0) = x (ix5 b r h n q) := by
  refine broadcastInDim_apply (t := p6 D nb 128 1) ![0, 1, 2, 3, 4] S.col x _ _ ?_
  have hr := r.isLt
  have hn := n.isLt
  intro a; fin_cases a
  · rfl
  · show r.val = if D = 1 then 0 else r.val; split <;> omega
  · rfl
  · show n.val = if nb = 1 then 0 else n.val; split <;> omega
  · rfl

theorem wide_at (S : Sides D nb L) {α : Type} (x : (p6 D nb 128 1).Idx → α) (b : Fin 4) (r : Fin D) (h : Fin 8) (n : Fin nb) (q : Fin 128) (k : Fin 256) :
    broadcastInDim (p6 D nb 128 256) ![0, 1, 2, 3, 4, 5] S.wide x (ix6 b r h n q k) = x (ix6 b r h n q 0) := by
  refine broadcastInDim_apply (t := p6 D nb 128 256) ![0, 1, 2, 3, 4, 5] S.wide x _ _ ?_
  have hr := r.isLt
  have hn := n.isLt
  intro a; fin_cases a
  · rfl
  · show r.val = if D = 1 then 0 else r.val; split <;> omega
  · rfl
  · show n.val = if nb = 1 then 0 else n.val; split <;> omega
  · rfl
  · rfl

section At
variable (S : Sides D nb L) (Q q k v : FVec Ideal (p4 64) .f32) (b : Fin 4) (h : Fin 8) (p : Fin 4096)

theorem scoreArr_at (hq : ∀ y, q y = (Q y * ((1 / 8 : ℝ) : EReal) : EReal)) (κ : Fin 256) :
    scoreArr S q k (ix6 b (rOf S.br p) h (nOf S.br p) (qOf D p) κ) = specS (headOfArr Q b h) (headOfArr k b h) D p.val κ := by
  have hn : p.val / D / 128 < 32 := by
    have := S.br.block p
    rcases S.br with ⟨_, e, _⟩ | ⟨_, e, _⟩ | ⟨_, e, _⟩ <;> rw [e] at this <;> omega
  unfold specS
  show Scalar.select (windowArr S _) _ _ = _
  unfold Scalar.select
  rw [windowArr_at]
  have hw := window_bit hn (qOf D p) κ
  by_cases hm : may (p.val / D % 128) κ.val (0 < p.val / D / 128)
  · rw [if_pos (hw.mpr hm), if_pos hm]
    refine (dotQK_at S.qk _ _ b _ h _ _ κ).trans (Finset.sum_congr rfl fun e _ => ?_)
    rw [withPrev_at, splitArr_at]
    refine congrArg (fun z : EReal => z * _) ?_
    show headOfArr q b h (pos D (p.val / D / 128) (p.val / D % 128) (p.val % D)) e = _
    rw [pos_of S.br p]
    exact hq _
  · rw [if_neg fun hh => hm (hw.mp hh), if_neg hm]
    exact word_bot

theorem maxArr_at (s : FVec Ideal (p6 D nb 128 256) .f32) (r : Fin D) (n : Fin nb) (i : Fin 128) :
    maxArr S s (ix6 b r h n i 0) = wM fun κ => s (ix6 b r h n i κ) :=
  (col_at S _ b r h n i).trans (max_at S.rows s _ S.scalar word_bot b r h n i)

theorem weightArr_at (s : FVec Ideal (p6 D nb 128 256) .f32) (r : Fin D) (n : Fin nb) (i : Fin 128) (κ : Fin 256) :
    weightArr S s (ix6 b r h n i κ) = Ideal.exp (s (ix6 b r h n i κ) - wM fun κ => s (ix6 b r h n i κ)) := by
  show Ideal.exp (s (ix6 b r h n i κ) - broadcastInDim (p6 D nb 128 256) ![0, 1, 2, 3, 4, 5] S.wide (maxArr S s) (ix6 b r h n i κ)) = _
  rw [wide_at S, maxArr_at S]

theorem sumArr_at (s : FVec Ideal (p6 D nb 128 256) .f32) (r : Fin D) (n : Fin nb) (i : Fin 128) :
    sumArr S (weightArr S s) (ix6 b r h n i 0) = wL fun κ => s (ix6 b r h n i κ) :=
  (col_at S _ b r h n i).trans ((sum_at S.rows _ _ S.scalar (by
    show Ideal.ofBits .f32 0x00000000#32 = (0 : EReal)
    exact Ideal.ofBits_zero_f32) b r h n i).trans
    (Finset.sum_congr rfl fun κ _ => weightArr_at S b h s r n i κ))

theorem mergeMax (hq : ∀ y, q y = (Q y * ((1 / 8 : ℝ) : EReal) : EReal)) :
    mergeArr S 1 (.inl rfl) (maxArr S (scoreArr S q k)) (ix4 b p h 0) = specM (headOfArr Q b h) (headOfArr k b h) D p.val :=
  (merge_at S.br _ _ _ _ b p h 0).trans ((maxArr_at S b h _ _ _ _).trans (congrArg wM (funext fun κ => scoreArr_at S Q q k b h p hq κ)))

theorem mergeSum (hq : ∀ y, q y = (Q y * ((1 / 8 : ℝ) : EReal) : EReal)) :
    mergeArr S 1 (.inl rfl) (sumArr S (weightArr S (scoreArr S q k))) (ix4 b p h 0) = specL (headOfArr Q b h) (headOfArr k b h) D p.val :=
  (merge_at S.br _ _ _ _ b p h 0).trans ((sumArr_at S b h _ _ _ _).trans (congrArg wL (funext fun κ => scoreArr_at S Q q k b h p hq κ)))

theorem mergeValue (hq : ∀ y, q y = (Q y * ((1 / 8 : ℝ) : EReal) : EReal)) (e : Fin 64) :
    mergeArr S 64 (.inr rfl) (valueArr S (weightArr S (scoreArr S q k)) v) (ix4 b p h e)
      = specA (headOfArr Q b h) (headOfArr k b h) (headOfArr v b h) D p.val e := by
  have hs : (fun κ => scoreArr S q k (ix6 b (rOf S.br p) h (nOf S.br p) (qOf D p) κ)) = specS (headOfArr Q b h) (headOfArr k b h) D p.val :=
    funext fun κ => scoreArr_at S Q q k b h p hq κ
  refine (merge_at S.br _ _ _ _ b p h e).trans ((dotPV_at S.pv _ _ b _ h _ _ e).trans ?_)
  unfold specA wA
  refine Finset.sum_congr rfl fun κ _ => ?_
  rw [weightArr_at, withPrev_at, hs]
  exact congrArg (fun z : EReal => Ideal.exp (z - _) * _) (congrFun hs κ)

end At

end Cert.Attn

end
-- ==== Proof.Same.lean ====
/- The printed body is the body written as loops. -/
module

public import proofs.«01_k».proof.Proof.Body
public import proofs.«01_k».proof.Proof.Gen.KernelIdeal
public import Idealize.ShloMosaic.Lib.Tactic

@[expose] public section

set_option maxRecDepth 16384

noncomputable section

namespace Cert.KernelIdeal.Same

open Idealize.ShloMosaic Idealize.ShloMosaic.Tactic Idealize.SL.Sem Cert.KernelIdeal.Gen

variable {F : FTy → Type} [FloatOps F] [Named F]

/-- The rows of every residue of a result block are whole words. -/
theorem packed (r : Fin 16) : (Attn.rIn r).PackedRows (EltTy.packing .bf16) := by
  fin_cases r <;> decide

/-- A whole result buffer can be stored to at the rows of every residue. -/
theorem stores (arg5 : Memref sig .tc .vmem S4096x128 .bf16) (harg5 : arg5.IsWhole) (r : Fin 16) :
    (arg5.access (Attn.rIn r)).Stores Finset.univ :=
  View.stores_vmem Attn.pos_S256x128 (harg5.storeExact_slice rfl _ (packed r)) (fun _ => rfl)

/-- The printed body is the body written as loops. -/
theorem body_eq (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S16x256x128 .f32) (harg6 : arg6.IsWhole) (arg7 : Memref sig .tc .vmem S16x384x128 .f32) (harg7 : arg7.IsWhole) (arg8 : Memref sig .tc .vmem S16x384x128 .f32) (harg8 : arg8.IsWhole) (arg9 : Memref sig .tc .vmem S3x16x256x128 .f32) (harg9 : arg9.IsWhole) (arg10 : Memref sig .tc .vmem S3x16x256x128 .f32) (harg10 : arg10.IsWhole) (arg11 : Memref sig .tc .vmem S3x16x256x128 .f32) (harg11 : arg11.IsWhole) (arg12 : Memref sig .tc .vmem S3x2x256x256 .f32) (harg12 : arg12.IsWhole) :
    cc0_dilated_attn (F := F) i arg2 harg2 arg3 harg3 arg4 harg4 arg5 harg5 arg6 harg6 arg7 harg7 arg8 harg8 arg9 harg9 arg10 harg10 arg11 harg11 arg12 harg12 =
      Attn.body (Λ := Λ₀) ⟨arg2, arg3, arg4, arg5, arg6, arg7, arg8, arg9, arg10, arg11, arg12⟩ (Named.named κ "scale2" 0x3E38AA3B#32) (Named.named κ "mask" 0xF149F2CA#32) (stores arg5 harg5) := by
  sl_kernel_rfl

end Cert.KernelIdeal.Same
-- ==== Proof.Step.lean ====
/- One step of the body at a time: what each buffer holds is a record of arrays, a load reads a window of
   one of them, a store puts a window over one of them. -/
module

public import proofs.«01_k».proof.Proof.Body
public import Idealize.ShloMosaic.Lib.VecWindow
public import Idealize.ShloMosaic.Lib.Pipeline.FrameBody
public import Idealize.ShloMosaic.Lib.Tactic

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]

/-- Assertions about these machines. -/
abbrev SP (nD : Nat) (τ : Topo) (sig : RefSig) (F : FTy → Type) [FloatOps F] : Type _ := sProp (MT nD τ sig Unit (Elt F) ℕ (UR sig nD τ) ℕ)

/-- What the eleven buffers hold. -/
structure St (F : FTy → Type) where
  q : Vec F S4096x128 .bf16
  k : Vec F S4096x128 .bf16
  v : Vec F S4096x128 .bf16
  o : Vec F S4096x128 .bf16
  q32 : Vec F S16x256x128 .f32
  k32 : Vec F S16x384x128 .f32
  v32 : Vec F S16x384x128 .f32
  m : Vec F S3x16x256x128 .f32
  l : Vec F S3x16x256x128 .f32
  a : Vec F S3x16x256x128 .f32
  b : Vec F S3x2x256x256 .f32

/-- The eleven buffers hold the arrays of the record. -/
def Own (c : Dev nD) (R : Refs sig) (s : St F) : SP nD τ sig F :=
  iprop(owns (c : Thread nD τ) R.q fullShare s.q ∗ owns (c : Thread nD τ) R.k fullShare s.k ∗ owns (c : Thread nD τ) R.v fullShare s.v
    ∗ owns (c : Thread nD τ) R.o fullShare s.o ∗ owns (c : Thread nD τ) R.q32 fullShare s.q32 ∗ owns (c : Thread nD τ) R.k32 fullShare s.k32
    ∗ owns (c : Thread nD τ) R.v32 fullShare s.v32 ∗ owns (c : Thread nD τ) R.m fullShare s.m ∗ owns (c : Thread nD τ) R.l fullShare s.l
    ∗ owns (c : Thread nD τ) R.a fullShare s.a ∗ owns (c : Thread nD τ) R.b fullShare s.b)

variable (defs : Defs nD τ sig (Elt F) Λ) (𝒱 : Variants) (c : Dev nD) (bd : Option 𝒱.V) (E : Set ℕ)

/-- A load from a buffer held at known contents. -/
theorem wp_ld {s : Shape} {e : EltTy} {m : Memref sig .tc .vmem s e} {r : Rect s} {h : 0 < r.shape.numel}
    {k : (r.shape.Idx → Elt F e) → Code nD τ sig Λ F} {X : s.Idx → Elt F e} {G : SP nD τ sig F} {Q : PUnit → SP nD τ sig F}
    (hk : iprop(owns (c : Thread nD τ) m fullShare X ∗ G) ⊢ wp frame (wpE defs 𝒱 (c : Thread nD τ) bd) E (k fun y => X (r.emb y)) Q) :
    iprop(owns (c : Thread nD τ) m fullShare X ∗ G) ⊢ wp frame (wpE defs 𝒱 (c : Thread nD τ) bd) E (ld m r h k) Q := by
  unfold owns at hk ⊢
  iintro ⟨⟨%f, %hf, H⟩, HG⟩
  subst hf
  have hS : m.view.setOn r.set ⊆ m.view.set := View.setOn_subset_set _ _
  iapply (wp_load 𝒱 (c : Thread nD τ) bd E (m := m) (k := k) (f := f) hS) $$ H
  iintro H
  iapply hk
  isplitl [H]
  · iexists f
    isplitr
    · ipureintro; rfl
    · iexact H
  · iexact HG

/-- A store to a buffer held at known contents. -/
theorem wp_st {s : Shape} {e : EltTy} {m : Memref sig .tc .vmem s e} {off size : Fin s.rank → ℕ} {inb : ∀ a, off a + size a ≤ s.size a}
    {w : (Rect.unit off size inb).shape.Idx → Elt F e} {hx : (m.access (Rect.unit off size inb)).Stores Finset.univ}
    {hm : Finset.univ = Finset.univ ∨ ∀ a, (Rect.unit off size inb).stride a = 1}
    {k : Code nD τ sig Λ F} {X : s.Idx → Elt F e} {G : SP nD τ sig F} {Q : PUnit → SP nD τ sig F}
    (hk : iprop(owns (c : Thread nD τ) m fullShare (VecWindow.put X off size w) ∗ G) ⊢ wp frame (wpE defs 𝒱 (c : Thread nD τ) bd) E k Q) :
    iprop(owns (c : Thread nD τ) m fullShare X ∗ G) ⊢
      wp frame (wpE defs 𝒱 (c : Thread nD τ) bd) E
        (.op (.store m (Rect.unit off size inb) w Finset.univ hx hm) fun _ => k : Code nD τ sig Λ F) Q := by
  unfold owns at hk ⊢
  iintro ⟨⟨%f, %hf, H⟩, HG⟩
  subst hf
  have hS : (m.access (Rect.unit off size inb)).set ⊆ m.view.set := View.set_slice_subset _ _
  iapply (wp_store_writes₀ 𝒱 (c : Thread nD τ) bd E (m := m) (w := w) (hx := hx) (hm := hm) (k := fun _ => k) (f := f) hS) $$ H
  iintro H
  iapply hk
  isplitl [H]
  · iexists (m.view.writes (Elt F) f [⟨Rect.unit off size inb, w⟩])
    isplitr
    · ipureintro
      exact View.read_writes_cons_put m.view f inb w [] rfl
    · iexact H
  · iexact HG

/-- Separating conjunctions associate. -/
theorem assoc_eq (P G H : SP nD τ sig F) : iprop((P ∗ G) ∗ H) = iprop(P ∗ G ∗ H) := equiv_iff.mp ⟨BI.sep_assoc, BI.sep_assoc'⟩

/-- One part of a separating conjunction, beside the others. -/
theorem pull {A P X G : SP nD τ sig F} (h : P = iprop(X ∗ G)) : iprop(A ∗ P) = iprop(X ∗ A ∗ G) := by
  rw [h, ← assoc_eq, ← assoc_eq]
  exact congrArg (fun B => iprop(B ∗ G)) (Entails.antisymm BI.sep_comm BI.sep_comm)

/-- A buffer among the eleven: whatever array it is given, its ownership can be set beside that of the others. -/
structure Slot (c : Dev nD) (R : Refs sig) (C : SP nD τ sig F) (s : St F) {t : Shape} {e : EltTy} (m : Memref sig .tc .vmem t e)
    (X : t.Idx → Elt F e) (upd : (t.Idx → Elt F e) → St F) : Prop where
  same : upd X = s
  beside : ∃ G : SP nD τ sig F, ∀ Y, iprop((Own c R (upd Y) : SP nD τ sig F) ∗ C) = iprop(owns (c : Thread nD τ) m fullShare Y ∗ G)

section Slots
variable (R : Refs sig) (C : SP nD τ sig F) (s : St F)

/-- The eleven buffers, and what is beside them, as one conjunction. -/
theorem own_flat (q k v o q32 k32 v32 m l a b) : iprop((Own c R ⟨q, k, v, o, q32, k32, v32, m, l, a, b⟩ : SP nD τ sig F) ∗ C) = iprop(owns (c : Thread nD τ) R.q fullShare q ∗ owns (c : Thread nD τ) R.k fullShare k
    ∗ owns (c : Thread nD τ) R.v fullShare v ∗ owns (c : Thread nD τ) R.o fullShare o ∗ owns (c : Thread nD τ) R.q32 fullShare q32
    ∗ owns (c : Thread nD τ) R.k32 fullShare k32 ∗ owns (c : Thread nD τ) R.v32 fullShare v32 ∗ owns (c : Thread nD τ) R.m fullShare m
    ∗ owns (c : Thread nD τ) R.l fullShare l ∗ owns (c : Thread nD τ) R.a fullShare a ∗ owns (c : Thread nD τ) R.b fullShare b ∗ C) := by
  unfold Own; simp only [assoc_eq]

/-- The buffer of the queries. -/
theorem slot_q : Slot c R C s R.q s.q fun Y => { s with q := Y } :=
  ⟨rfl, _, fun Y => (own_flat ..).trans rfl⟩

/-- The buffer of the keys. -/
theorem slot_k : Slot c R C s R.k s.k fun Y => { s with k := Y } :=
  ⟨rfl, _, fun Y => (own_flat ..).trans (pull rfl)⟩

/-- The buffer of the values. -/
theorem slot_v : Slot c R C s R.v s.v fun Y => { s with v := Y } :=
  ⟨rfl, _, fun Y => (own_flat ..).trans (pull (pull rfl))⟩

/-- The buffer of the results. -/
theorem slot_o : Slot c R C s R.o s.o fun Y => { s with o := Y } :=
  ⟨rfl, _, fun Y => (own_flat ..).trans (pull (pull (pull rfl)))⟩

/-- The buffer of the laid out queries. -/
theorem slot_q32 : Slot c R C s R.q32 s.q32 fun Y => { s with q32 := Y } :=
  ⟨rfl, _, fun Y => (own_flat ..).trans (pull (pull (pull (pull rfl))))⟩

/-- The buffer of the laid out keys. -/
theorem slot_k32 : Slot c R C s R.k32 s.k32 fun Y => { s with k32 := Y } :=
  ⟨rfl, _, fun Y => (own_flat ..).trans (pull (pull (pull (pull (pull rfl)))))⟩

/-- The buffer of the laid out values. -/
theorem slot_v32 : Slot c R C s R.v32 s.v32 fun Y => { s with v32 := Y } :=
  ⟨rfl, _, fun Y => (own_flat ..).trans (pull (pull (pull (pull (pull (pull rfl))))))⟩

/-- The buffer of the maxima. -/
theorem slot_m : Slot c R C s R.m s.m fun Y => { s with m := Y } :=
  ⟨rfl, _, fun Y => (own_flat ..).trans (pull (pull (pull (pull (pull (pull (pull rfl)))))))⟩

/-- The buffer of the sums. -/
theorem slot_l : Slot c R C s R.l s.l fun Y => { s with l := Y } :=
  ⟨rfl, _, fun Y => (own_flat ..).trans (pull (pull (pull (pull (pull (pull (pull (pull rfl))))))))⟩

/-- The buffer of the weighted values. -/
theorem slot_a : Slot c R C s R.a s.a fun Y => { s with a := Y } :=
  ⟨rfl, _, fun Y => (own_flat ..).trans (pull (pull (pull (pull (pull (pull (pull (pull (pull rfl)))))))))⟩

/-- The buffer of the masks. -/
theorem slot_b : Slot c R C s R.b s.b fun Y => { s with b := Y } :=
  ⟨rfl, _, fun Y => (own_flat ..).trans (pull (pull (pull (pull (pull (pull (pull (pull (pull (pull rfl))))))))))⟩

end Slots

/-- From these contents, with `C` beside them, the program runs to `Q`. -/
def Ok (R : Refs sig) (C : SP nD τ sig F) (Q : PUnit → SP nD τ sig F) (s : St F) (P : Code nD τ sig Λ F) : Prop :=
  iprop((Own c R s : SP nD τ sig F) ∗ C) ⊢ wp frame (wpE defs 𝒱 (c : Thread nD τ) bd) E P Q

variable {defs 𝒱 c bd E}
variable {R : Refs sig} {C : SP nD τ sig F} {Q : PUnit → SP nD τ sig F} {s : St F}

/-- A load reads a window of what the buffer holds. -/
theorem ok_ld {t : Shape} {e : EltTy} {m : Memref sig .tc .vmem t e} {X : t.Idx → Elt F e} {upd : (t.Idx → Elt F e) → St F}
    (hs : Slot c R C s m X upd) {r : Rect t} {h : 0 < r.shape.numel} {k : (r.shape.Idx → Elt F e) → Code nD τ sig Λ F}
    (hk : Ok defs 𝒱 c bd E R C Q s (k fun y => X (r.emb y))) : Ok defs 𝒱 c bd E R C Q s (ld m r h k) := by
  obtain ⟨rfl, G, hG⟩ := hs
  unfold Ok at hk ⊢
  rw [hG] at hk ⊢
  exact wp_ld defs 𝒱 c bd E hk

/-- A store puts a window over what the buffer holds. -/
theorem ok_store {t : Shape} {e : EltTy} {m : Memref sig .tc .vmem t e} {X : t.Idx → Elt F e} {upd : (t.Idx → Elt F e) → St F}
    (hs : Slot c R C s m X upd) {off size : Fin t.rank → ℕ} {inb : ∀ a, off a + size a ≤ t.size a}
    {w : (Rect.unit off size inb).shape.Idx → Elt F e} {hx : (m.access (Rect.unit off size inb)).Stores Finset.univ}
    {hm : Finset.univ = Finset.univ ∨ ∀ a, (Rect.unit off size inb).stride a = 1} {k : Code nD τ sig Λ F}
    (hk : Ok defs 𝒱 c bd E R C Q (upd (VecWindow.put X off size w)) k) :
    Ok defs 𝒱 c bd E R C Q s (.op (.store m (Rect.unit off size inb) w Finset.univ hx hm) fun _ => k) := by
  obtain ⟨rfl, G, hG⟩ := hs
  unfold Ok at hk ⊢
  rw [hG] at hk ⊢
  exact wp_st defs 𝒱 c bd E hk

/-- The same for a store that follows a load of its own window. -/
theorem ok_st {t : Shape} {m : Memref sig .tc .vmem t .f32} {X : t.Idx → Elt F .f32} {upd : (t.Idx → Elt F .f32) → St F}
    (hs : Slot c R C s m X upd) {off size : Fin t.rank → ℕ} {inb : ∀ a, off a + size a ≤ t.size a} {h : 0 < (Rect.unit off size inb).shape.numel}
    {w : (Rect.unit off size inb).shape.Idx → Elt F .f32} {k : Code nD τ sig Λ F}
    (hk : Ok defs 𝒱 c bd E R C Q (upd (VecWindow.put X off size w)) k) :
    Ok defs 𝒱 c bd E R C Q s (st m (Rect.unit off size inb) h w k) :=
  ok_ld hs (ok_store hs hk)

/-- A step repeated over a list leads to the contents the list's steps make one after another. -/
theorem ok_each {ι : Type} {f : ι → Code nD τ sig Λ F → Code nD τ sig Λ F} {g : St F → ι → St F}
    (hf : ∀ s i k, Ok defs 𝒱 c bd E R C Q (g s i) k → Ok defs 𝒱 c bd E R C Q s (f i k)) (l : List ι) (s : St F) {k : Code nD τ sig Λ F}
    (hk : Ok defs 𝒱 c bd E R C Q (l.foldl g s) k) : Ok defs 𝒱 c bd E R C Q s (each l f k) := by
  induction l generalizing s with
  | nil => exact hk
  | cons i l ih => exact hf s i _ (ih (g s i) hk)

/-! ## What the steps make -/

/-- The contents after residue `r` is laid out. -/
def sLayOut (sc : F .f32) (s : St F) (r : Fin 16) : St F :=
  { s with
    q32 := VecWindow.put s.q32 ![r.val, 0, 0] S1x256x128.size (newQ sc fun y => s.q ((rIn r).emb y))
    k32 := VecWindow.put (VecWindow.put s.k32 ![r.val, 0, 0] S1x128x128.size (shapeCast S1x128x128 (zero128 (F := F)) (by decide)))
      ![r.val, 128, 0] S1x256x128.size (newK fun y => s.k ((rIn r).emb y))
    v32 := VecWindow.put (VecWindow.put s.v32 ![r.val, 0, 0] S1x128x128.size (shapeCast S1x128x128 (zero128 (F := F)) (by decide)))
      ![r.val, 128, 0] S1x256x128.size (newK fun y => s.v ((rIn r).emb y)) }

theorem ok_layOut (sc : F .f32) (s : St F) (r : Fin 16) (k : Code nD τ sig Λ F) (hk : Ok defs 𝒱 c bd E R C Q (sLayOut sc s r) k) :
    Ok defs 𝒱 c bd E R C Q s (layOut R sc r k) := by
  unfold layOut
  refine ok_ld (slot_q ..) ?_
  refine ok_st (slot_q32 ..) ?_
  refine ok_st (slot_k32 ..) ?_
  refine ok_st (slot_v32 ..) ?_
  refine ok_ld (slot_k ..) ?_
  refine ok_st (slot_k32 ..) ?_
  refine ok_ld (slot_v ..) ?_
  refine ok_st (slot_v32 ..) ?_
  exact hk

/-- The contents after a mask is written. -/
def sBias (mk : F .f32) (s : St F) (bj : Fin 3 × Fin 2) : St F :=
  { s with b := VecWindow.put s.b ![bj.1.val, bj.2.val, 0, 0] S1x1x256x256.size (shapeCast S1x1x256x256 (bias mk bj.1 bj.2) (by decide)) }

theorem ok_bias (mk : F .f32) (s : St F) (bj : Fin 3 × Fin 2) (k : Code nD τ sig Λ F) (hk : Ok defs 𝒱 c bd E R C Q (sBias mk s bj) k) :
    Ok defs 𝒱 c bd E R C Q s (writeBias R mk bj k) :=
  ok_st (slot_b ..) hk

/-- The mask a block reads. -/
def readB (s : St F) (br : Fin 3) (j : Fin 2) : FVec F S256x256 .f32 := ofB fun y => s.b ((rBias br j).emb y)

/-- The queries, keys and values a block of the branch of stride sixteen reads. -/
def q16 (s : St F) (rc : Fin 16 × Fin 2) : FVec F S128x128 .f32 := ofQ16 fun y => s.q32 ((rQ16 rc.1 rc.2).emb y)
/-- Its keys or values, of padded keys or values `x`. -/
def k16 (x : Vec F S16x384x128 .f32) (rc : Fin 16 × Fin 2) : FVec F S256x128 .f32 :=
  ofK16 fun y => x ((rKeys rc.1 (128 * rc.2.val) (by omega)).emb y)

/-- The contents after a block of the branch of stride sixteen. -/
def s16 (s : St F) (rc : Fin 16 × Fin 2) : St F :=
  { s with
    m := VecWindow.put s.m ![2, rc.1.val, 128 * rc.2.val, 0] S1x1x128x128.size
      (shapeCast S1x1x128x128 (blkM (q16 s rc) (k16 s.k32 rc) (readB s 2 (later rc.2))) (by decide))
    l := VecWindow.put s.l ![2, rc.1.val, 128 * rc.2.val, 0] S1x1x128x128.size
      (shapeCast S1x1x128x128 (blkL (q16 s rc) (k16 s.k32 rc) (readB s 2 (later rc.2))) (by decide))
    a := VecWindow.put s.a ![2, rc.1.val, 128 * rc.2.val, 0] S1x1x128x128.size
      (shapeCast S1x1x128x128 (blkA (q16 s rc) (k16 s.k32 rc) (k16 s.v32 rc) (readB s 2 (later rc.2))) (by decide)) }

theorem ok_16 (s : St F) (rc : Fin 16 × Fin 2) (k : Code nD τ sig Λ F) (hk : Ok defs 𝒱 c bd E R C Q (s16 s rc) k) :
    Ok defs 𝒱 c bd E R C Q s (block16 R rc k) := by
  unfold block16
  refine ok_ld (slot_q32 ..) <| ok_ld (slot_k32 ..) <| ok_ld (slot_v32 ..) <| ok_ld (slot_b ..) ?_
  refine ok_st (slot_m ..) ?_
  refine ok_st (slot_l ..) ?_
  refine ok_st (slot_a ..) ?_
  exact hk

/-- The queries a block of the branch of stride four reads. -/
def q4 (s : St F) (rc : Fin 4 × Fin 8) : FVec F S128x128 .f32 :=
  cat32 (fun y => s.q32 ((rQ4 rc.1 0 rc.2).emb y)) (fun y => s.q32 ((rQ4 rc.1 1 rc.2).emb y))
    (fun y => s.q32 ((rQ4 rc.1 2 rc.2).emb y)) (fun y => s.q32 ((rQ4 rc.1 3 rc.2).emb y))
/-- Its keys or values, of padded keys or values `x`. -/
def k4 (x : Vec F S16x384x128 .f32) (rc : Fin 4 × Fin 8) : FVec F S256x128 .f32 :=
  cat64 (fun y => x ((rK4 rc.1 0 rc.2).emb y)) (fun y => x ((rK4 rc.1 1 rc.2).emb y))
    (fun y => x ((rK4 rc.1 2 rc.2).emb y)) (fun y => x ((rK4 rc.1 3 rc.2).emb y))

/-- The contents after one residue of a block of the branch of stride four is written. -/
def s4part (m l a : FVec F S128x128 .f32) (rc : Fin 4 × Fin 8) (s : St F) (j : Fin 4) : St F :=
  { s with
    m := VecWindow.put s.m ![1, rc.1.val + 4 * j.val, 32 * rc.2.val, 0] S1x1x32x128.size (part32 j m)
    l := VecWindow.put s.l ![1, rc.1.val + 4 * j.val, 32 * rc.2.val, 0] S1x1x32x128.size (part32 j l)
    a := VecWindow.put s.a ![1, rc.1.val + 4 * j.val, 32 * rc.2.val, 0] S1x1x32x128.size (part32 j a) }

/-- The contents after a block of the branch of stride four. -/
def s4 (s : St F) (rc : Fin 4 × Fin 8) : St F :=
  [0, 1, 2, 3].foldl (s4part (blkM (q4 s rc) (k4 s.k32 rc) (readB s 1 (later rc.2))) (blkL (q4 s rc) (k4 s.k32 rc) (readB s 1 (later rc.2)))
    (blkA (q4 s rc) (k4 s.k32 rc) (k4 s.v32 rc) (readB s 1 (later rc.2))) rc) s

theorem ok_4 (s : St F) (rc : Fin 4 × Fin 8) (k : Code nD τ sig Λ F) (hk : Ok defs 𝒱 c bd E R C Q (s4 s rc) k) :
    Ok defs 𝒱 c bd E R C Q s (block4 R rc k) := by
  unfold block4
  refine ok_ld (slot_b ..) <| ok_ld (slot_q32 ..) <| ok_ld (slot_q32 ..) <| ok_ld (slot_q32 ..) <| ok_ld (slot_q32 ..) <| ?_
  refine ok_ld (slot_k32 ..) <| ok_ld (slot_k32 ..) <| ok_ld (slot_k32 ..) <| ok_ld (slot_k32 ..) <| ?_
  refine ok_ld (slot_v32 ..) <| ok_ld (slot_v32 ..) <| ok_ld (slot_v32 ..) <| ok_ld (slot_v32 ..) <| ?_
  refine ok_each (g := s4part _ _ _ rc) ?_ _ _ hk
  intro s j k hk
  exact ok_st (slot_m ..) (ok_st (slot_l ..) (ok_st (slot_a ..) hk))

/-- The queries a block of the branch of stride one reads. -/
def q1 (s : St F) (g : Fin 32) : FVec F S128x128 .f32 := ofQ1 fun y => s.q32 ((rQ1 g).emb y)
/-- Its keys or values, of padded keys or values `x`. -/
def k1 (x : Vec F S16x384x128 .f32) (g : Fin 32) : FVec F S256x128 .f32 := ofK1 fun y => x ((rK1 g).emb y)

/-- The contents after a block of the branch of stride one. -/
def s1 (s : St F) (g : Fin 32) : St F :=
  { s with
    m := VecWindow.put s.m ![0, 0, 8 * g.val, 0] S1x16x8x128.size (part16 (blkM (q1 s g) (k1 s.k32 g) (readB s 0 (later g))))
    l := VecWindow.put s.l ![0, 0, 8 * g.val, 0] S1x16x8x128.size (part16 (blkL (q1 s g) (k1 s.k32 g) (readB s 0 (later g))))
    a := VecWindow.put s.a ![0, 0, 8 * g.val, 0] S1x16x8x128.size (part16 (blkA (q1 s g) (k1 s.k32 g) (k1 s.v32 g) (readB s 0 (later g)))) }

theorem ok_1 (s : St F) (g : Fin 32) (k : Code nD τ sig Λ F) (hk : Ok defs 𝒱 c bd E R C Q (s1 s g) k) :
    Ok defs 𝒱 c bd E R C Q s (block1 R g k) := by
  unfold block1
  refine ok_ld (slot_b ..) <| ok_ld (slot_q32 ..) <| ok_ld (slot_k32 ..) <| ok_ld (slot_v32 ..) ?_
  refine ok_st (slot_m ..) ?_
  refine ok_st (slot_l ..) ?_
  refine ok_st (slot_a ..) ?_
  exact hk

/-- The rows of a residue in a branch's results. -/
def rowOf (x : Vec F S3x16x256x128 .f32) (br : Fin 3) (r : Fin 16) : FVec F S256x128 .f32 := flat fun y => x ((rRow br r).emb y)

/-- The contents after a residue's result is written. -/
def sOut (s : St F) (r : Fin 16) : St F :=
  { s with
    o := VecWindow.put s.o ![256 * r.val, 0] S256x128.size
      (merged (rowOf s.m 0 r) (rowOf s.m 1 r) (rowOf s.m 2 r) (rowOf s.a 0 r) (rowOf s.a 1 r) (rowOf s.a 2 r)
        (rowOf s.l 0 r) (rowOf s.l 1 r) (rowOf s.l 2 r)) }

theorem ok_out (ho : ∀ r : Fin 16, (R.o.access (rIn r)).Stores Finset.univ) (s : St F) (r : Fin 16) (k : Code nD τ sig Λ F)
    (hk : Ok defs 𝒱 c bd E R C Q (sOut s r) k) : Ok defs 𝒱 c bd E R C Q s (mergeOut R ho r k) := by
  unfold mergeOut
  refine ok_ld (slot_m ..) <| ok_ld (slot_m ..) <| ok_ld (slot_m ..) <| ok_ld (slot_a ..) <| ok_ld (slot_a ..) <| ok_ld (slot_a ..) ?_
  refine ok_ld (slot_l ..) <| ok_ld (slot_l ..) <| ok_ld (slot_l ..) <| ok_ld (slot_o ..) ?_
  exact ok_store (slot_o ..) hk

/-- The contents after the layout and the masks. -/
def sPre (sc mk : F .f32) (s : St F) : St F := allBias.foldl (sBias mk) (all16.foldl (sLayOut sc) s)

/-- The contents after the blocks of the three branches. -/
def sBlocks (s : St F) : St F := blocks1.foldl s1 (blocks4.foldl s4 (blocks16.foldl s16 s))

/-- The contents after the whole body. -/
def sBody (sc mk : F .f32) (s : St F) : St F := all16.foldl sOut (sBlocks (sPre sc mk s))

/-- The body leads from any contents to those `sBody` makes of them. -/
theorem ok_body (sc mk : F .f32) (ho : ∀ r : Fin 16, (R.o.access (rIn r)).Stores Finset.univ) (s : St F)
    (hQ : iprop((Own c R (sBody sc mk s) : SP nD τ sig F) ∗ C) ⊢ Q ⟨⟩) : Ok defs 𝒱 c bd E R C Q s (body R sc mk ho) := by
  refine ok_each (ok_layOut sc) _ _ <| ok_each (ok_bias mk) _ _ <| ok_each ok_16 _ _ <| ok_each ok_4 _ _ <| ok_each ok_1 _ _ <|
    ok_each (ok_out ho) _ _ ?_
  unfold Ok
  rw [wp_ret]
  exact hQ.trans fupd_intro

end Cert.Attn
-- ==== Proof.State.lean ====
/- What the body leaves in its buffers, as plain arrays: every write goes over its own window, so the
   running contents agree with a fixed array wherever something has been written. -/
module

public import proofs.«01_k».proof.Proof.Step
public import Idealize.ShloMosaic.Lib.Pipeline.Value
public import Idealize.ShloMosaic.Lib.ValueIdx

@[expose] public section

noncomputable section

namespace Cert.Attn

open Idealize.ShloMosaic Idealize.ShloMosaic.ValueIdx

variable {F : FTy → Type} [FloatOps F]

/-- Steps that each fill a window with the values of a fixed array `G`, and keep `I`, leave `G` on every
    window that some step has filled. -/
theorem foldl_fill {ι Y α S : Type} (f : S → ι → S) (I : S → Prop) (get : S → Y → α) (W : ι → Y → Prop) (G : Y → α)
    (hI : ∀ s i, I s → I (f s i)) (hin : ∀ s i y, I s → W i y → get (f s i) y = G y)
    (hout : ∀ s i y, I s → ¬ W i y → get (f s i) y = get s y) (l : List ι) :
    ∀ s, I s → I (l.foldl f s) ∧ ∀ y, ((∃ i ∈ l, W i y) ∨ get s y = G y) → get (l.foldl f s) y = G y := by
  induction l with
  | nil => intro s hs; exact ⟨hs, fun y h => h.elim (fun ⟨i, hi, _⟩ => absurd hi (by simp)) id⟩
  | cons i l ih =>
    intro s hs
    obtain ⟨h1, h2⟩ := ih (f s i) (hI s i hs)
    refine ⟨h1, fun y h => h2 y ?_⟩
    by_cases hw : W i y
    · exact .inr (hin s i y hs hw)
    · rcases h with ⟨j, hj, hwj⟩ | h
      · rcases List.mem_cons.mp hj with rfl | hj
        · exact absurd hwj hw
        · exact .inl ⟨j, hj, hwj⟩
      · exact .inr ((hout s i y hs hw).trans h)

/-- An index lies in a window. -/
abbrev InWin {s : Shape} (off size : Fin s.rank → ℕ) (y : s.Idx) : Prop := ∀ a, off a ≤ (y a).val ∧ (y a).val < off a + size a

theorem put_in {s : Shape} {α : Type} (x : s.Idx → α) (off size : Fin s.rank → ℕ) (w : ((a : Fin s.rank) → Fin (size a)) → α)
    (y : s.Idx) (h : InWin off size y) : VecWindow.put x off size w y = w (Rect.unitLocal (s := s) (off := off) (size := size) y h) := dif_pos h

theorem put_out {s : Shape} {α : Type} (x : s.Idx → α) (off size : Fin s.rank → ℕ) (w : ((a : Fin s.rank) → Fin (size a)) → α)
    (y : s.Idx) (h : ¬ InWin off size y) : VecWindow.put x off size w y = x y := dif_neg h

/-! ## The fixed arrays -/

/-- The scaled queries, by residue. -/
def TQ (sc : F .f32) (x : Vec F S4096x128 .bf16) : Vec F S16x256x128 .f32 := fun y =>
  newQ sc (fun z => x ((rIn (y 0)).emb z)) (ix3 0 (y 1) (y 2))

/-- The keys or values, by residue, under 128 rows of zeros. -/
def TK (x : Vec F S4096x128 .bf16) : Vec F S16x384x128 .f32 := fun y =>
  if h : (y 1).val < 128 then (Scalar.ofBits .f32 0x00000000#32 : F .f32)
  else newK (fun z => x ((rIn (y 0)).emb z)) (ix3 0 ⟨(y 1).val - 128, by have := (y 1).isLt; change _ < 384 at this; omega⟩ (y 2))

/-- The masks. -/
def TB (mk : F .f32) : Vec F S3x2x256x256 .f32 := fun y => bias mk (y 0) (y 1) (ix2 (y 2) (y 3))

/-- What the laid-out buffers hold. -/
structure Laid (sc mk : F .f32) (x0 x1 x2 : Vec F S4096x128 .bf16) (s : St F) : Prop where
  q : s.q = x0
  k : s.k = x1
  v : s.v = x2
  q32 : s.q32 = TQ sc x0
  k32 : s.k32 = TK x1
  v32 : s.v32 = TK x2
  b : s.b = TB mk

theorem lay_k {x : Vec F S4096x128 .bf16} (X : Vec F S16x384x128 .f32) (r : Fin 16) (y : S16x384x128.Idx) :
    (InWin (s := S16x384x128) ![r.val, 0, 0] (![1, 384, 128]) y →
    VecWindow.put (VecWindow.put X ![r.val, 0, 0] S1x128x128.size (shapeCast S1x128x128 (zero128 (F := F)) (by decide)))
      ![r.val, 128, 0] S1x256x128.size (newK fun y => x ((rIn r).emb y)) y = TK x y) ∧
    (¬ InWin (s := S16x384x128) ![r.val, 0, 0] (![1, 384, 128]) y →
    VecWindow.put (VecWindow.put X ![r.val, 0, 0] S1x128x128.size (shapeCast S1x128x128 (zero128 (F := F)) (by decide)))
      ![r.val, 128, 0] S1x256x128.size (newK fun y => x ((rIn r).emb y)) y = X y) := by
  have b1 : (y 1).val < 384 := (y 1).isLt
  have b2 : (y 2).val < 128 := (y 2).isLt
  constructor
  · intro h
    have h0 : r.val ≤ (y 0).val ∧ (y 0).val < r.val + 1 := h 0
    have hr : r = y 0 := Fin.ext (by omega)
    by_cases h1 : (y 1).val < 128
    · rw [put_out]
      · rw [put_in]
        · unfold TK; rw [dif_pos h1]; rfl
        · intro a
          match a with
          | ⟨0, _⟩ => exact h0
          | ⟨1, _⟩ => exact ⟨Nat.zero_le _, by show (y 1).val < 0 + 128; omega⟩
          | ⟨2, _⟩ => exact ⟨Nat.zero_le _, by show (y 2).val < 0 + 128; omega⟩
      · intro hw
        have h2 : 128 ≤ (y 1).val ∧ _ := hw 1
        omega
    · have hw : InWin (s := S16x384x128) ![r.val, 128, 0] S1x256x128.size y := by
        intro a
        match a with
        | ⟨0, _⟩ => exact h0
        | ⟨1, _⟩ => exact ⟨by show 128 ≤ (y 1).val; omega, by show (y 1).val < 128 + 256; omega⟩
        | ⟨2, _⟩ => exact ⟨Nat.zero_le _, by show (y 2).val < 0 + 128; omega⟩
      rw [put_in _ _ _ _ _ hw]
      unfold TK; rw [dif_neg h1, ← hr]
      congr 1
      funext a
      match a with
      | ⟨0, _⟩ => exact Fin.ext (by show (y 0).val - r.val = 0; omega)
      | ⟨1, _⟩ => rfl
      | ⟨2, _⟩ => exact Fin.ext (by show (y 2).val - 0 = (y 2).val; omega)
  · intro h
    have h0 : ¬ (r.val ≤ (y 0).val ∧ (y 0).val < r.val + 1) := fun h0 => h fun a =>
      match a with
      | ⟨0, _⟩ => h0
      | ⟨1, _⟩ => ⟨Nat.zero_le _, by show (y 1).val < 0 + 384; omega⟩
      | ⟨2, _⟩ => ⟨Nat.zero_le _, by show (y 2).val < 0 + 128; omega⟩
    rw [put_out _ _ _ _ _ fun hw => h0 (hw 0), put_out _ _ _ _ _ fun hw => h0 (hw 0)]

theorem lay_q {x : Vec F S4096x128 .bf16} (sc : F .f32) (X : Vec F S16x256x128 .f32) (r : Fin 16) (y : S16x256x128.Idx)
    (h : InWin (s := S16x256x128) ![r.val, 0, 0] S1x256x128.size y) :
    VecWindow.put X ![r.val, 0, 0] S1x256x128.size (newQ sc fun y => x ((rIn r).emb y)) y = TQ sc x y := by
  have h0 : r.val ≤ (y 0).val ∧ (y 0).val < r.val + 1 := h 0
  have hr : r = y 0 := Fin.ext (by omega)
  rw [put_in _ _ _ _ _ h]
  unfold TQ; rw [← hr]
  congr 1
  funext a
  match a with
  | ⟨0, _⟩ => exact Fin.ext (by show (y 0).val - r.val = 0; omega)
  | ⟨1, _⟩ => exact Fin.ext (by show (y 1).val - 0 = (y 1).val; omega)
  | ⟨2, _⟩ => exact Fin.ext (by show (y 2).val - 0 = (y 2).val; omega)

theorem mem_all16 (r : Fin 16) : r ∈ all16 := by revert r; decide
theorem mem_allBias (b : Fin 3 × Fin 2) : b ∈ allBias := by revert b; decide
theorem mem_blocks16 (b : Fin 16 × Fin 2) : b ∈ blocks16 := by revert b; decide
theorem mem_blocks4 (b : Fin 4 × Fin 8) : b ∈ blocks4 := by revert b; decide
theorem mem_blocks1 (b : Fin 32) : b ∈ blocks1 := by revert b; decide

/-- After the layout and the masks, the laid-out buffers hold the fixed arrays. -/
theorem laid_sPre (sc mk : F .f32) (s : St F) : Laid sc mk s.q s.k s.v (sPre sc mk s) := by
  let I : St F → Prop := fun t => t.q = s.q ∧ t.k = s.k ∧ t.v = s.v
  have hI : ∀ t r, I t → I (sLayOut sc t r) := fun t r h => h
  have a1 := foldl_fill (sLayOut sc) I (fun t => t.q32) (fun r y => InWin (s := S16x256x128) ![r.val, 0, 0] S1x256x128.size y) (TQ sc s.q) hI
    (fun t r y h hw => by show VecWindow.put _ _ _ _ y = _; rw [h.1]; exact lay_q sc _ r y hw)
    (fun t r y h hw => put_out _ _ _ _ _ hw) all16 s ⟨rfl, rfl, rfl⟩
  have a2 := foldl_fill (sLayOut sc) I (fun t => t.k32) (fun r y => InWin (s := S16x384x128) ![r.val, 0, 0] ![1, 384, 128] y) (TK s.k) hI
    (fun t r y h hw => by show VecWindow.put _ _ _ _ y = _; rw [h.2.1]; exact (lay_k _ r y).1 hw)
    (fun t r y h hw => (lay_k _ r y).2 hw) all16 s ⟨rfl, rfl, rfl⟩
  have a3 := foldl_fill (sLayOut sc) I (fun t => t.v32) (fun r y => InWin (s := S16x384x128) ![r.val, 0, 0] ![1, 384, 128] y) (TK s.v) hI
    (fun t r y h hw => by show VecWindow.put _ _ _ _ y = _; rw [h.2.2]; exact (lay_k _ r y).1 hw)
    (fun t r y h hw => (lay_k _ r y).2 hw) all16 s ⟨rfl, rfl, rfl⟩
  generalize hs1 : all16.foldl (sLayOut sc) s = s1 at a1 a2 a3
  let J : St F → Prop := fun t => t.q = s.q ∧ t.k = s.k ∧ t.v = s.v ∧ t.q32 = TQ sc s.q ∧ t.k32 = TK s.k ∧ t.v32 = TK s.v
  have hJ : J s1 := ⟨a1.1.1, a1.1.2.1, a1.1.2.2,
    funext fun y => a1.2 y (.inl ⟨y 0, mem_all16 _, fun a => by
      have := (y a).isLt
      match a with
      | ⟨0, _⟩ => exact ⟨le_refl _, Nat.lt_succ_self _⟩
      | ⟨1, _⟩ => exact ⟨Nat.zero_le _, by show _ < 0 + 256; change _ < 256 at this; omega⟩
      | ⟨2, _⟩ => exact ⟨Nat.zero_le _, by show _ < 0 + 128; change _ < 128 at this; omega⟩⟩),
    funext fun y => a2.2 y (.inl ⟨y 0, mem_all16 _, fun a => by
      have := (y a).isLt
      match a with
      | ⟨0, _⟩ => exact ⟨le_refl _, Nat.lt_succ_self _⟩
      | ⟨1, _⟩ => exact ⟨Nat.zero_le _, by show _ < 0 + 384; change _ < 384 at this; omega⟩
      | ⟨2, _⟩ => exact ⟨Nat.zero_le _, by show _ < 0 + 128; change _ < 128 at this; omega⟩⟩),
    funext fun y => a3.2 y (.inl ⟨y 0, mem_all16 _, fun a => by
      have := (y a).isLt
      match a with
      | ⟨0, _⟩ => exact ⟨le_refl _, Nat.lt_succ_self _⟩
      | ⟨1, _⟩ => exact ⟨Nat.zero_le _, by show _ < 0 + 384; change _ < 384 at this; omega⟩
      | ⟨2, _⟩ => exact ⟨Nat.zero_le _, by show _ < 0 + 128; change _ < 128 at this; omega⟩⟩)⟩
  have a4 := foldl_fill (sBias mk) J (fun t => t.b) (fun bj y => InWin (s := S3x2x256x256) ![bj.1.val, bj.2.val, 0, 0] S1x1x256x256.size y) (TB mk)
    (fun t r h => h)
    (fun t bj y h hw => by
      show VecWindow.put _ _ _ _ y = _
      rw [put_in _ _ _ _ _ hw]
      have h0 : bj.1.val ≤ (y 0).val ∧ (y 0).val < bj.1.val + 1 := hw 0
      have h1 : bj.2.val ≤ (y 1).val ∧ (y 1).val < bj.2.val + 1 := hw 1
      have e0 : bj.1 = y 0 := Fin.ext (by omega)
      have e1 : bj.2 = y 1 := Fin.ext (by omega)
      unfold TB
      rw [← e0, ← e1]
      refine shapeCast_apply _ _ _ _ ?_
      rw [Shape.rowMajor_val_two, Shape.rowMajor_val_four]
      show (y 2).val * 256 + (y 3).val = ((((y 0).val - bj.1.val) * 1 + ((y 1).val - bj.2.val)) * 256 + ((y 2).val - 0)) * 256 + ((y 3).val - 0)
      omega)
    (fun t bj y h hw => put_out _ _ _ _ _ hw) allBias s1 hJ
  unfold sPre
  rw [hs1]
  exact ⟨a4.1.1, a4.1.2.1, a4.1.2.2.1, a4.1.2.2.2.1, a4.1.2.2.2.2.1, a4.1.2.2.2.2.2, funext fun y => a4.2 y (.inl ⟨(y 0, y 1), mem_allBias _, fun a => by
      have := (y a).isLt
      match a with
      | ⟨0, _⟩ => exact ⟨le_refl _, Nat.lt_succ_self _⟩
      | ⟨1, _⟩ => exact ⟨le_refl _, Nat.lt_succ_self _⟩
      | ⟨2, _⟩ => exact ⟨Nat.zero_le _, by show _ < 0 + 256; change _ < 256 at this; omega⟩
      | ⟨3, _⟩ => exact ⟨Nat.zero_le _, by show _ < 0 + 256; change _ < 256 at this; omega⟩⟩)⟩

end Cert.Attn
-- ==== Proof.Blocks.lean ====
/- The three branches' blocks, collected: after all blocks the maxima, sums and weighted values are arrays
   whose every entry is named by its block and its place in the block; the result is their merge. -/
module

public import proofs.«01_k».proof.Proof.State

@[expose] public section

noncomputable section

namespace Cert.Attn

open Idealize.ShloMosaic Idealize.ShloMosaic.ValueIdx

variable {F : FTy → Type} [FloatOps F]

/-- An array over branch, residue, row and lane, from the blocks of the branches of stride sixteen, four and one. -/
def spread (f16 : Fin 16 × Fin 2 → FVec F S128x128 .f32) (f4 : Fin 4 × Fin 8 → FVec F S128x128 .f32) (f1 : Fin 32 → FVec F S128x128 .f32) :
    Vec F S3x16x256x128 .f32 := fun y =>
  have h1 : (y 1).val < 16 := (y 1).isLt
  have h2 : (y 2).val < 256 := (y 2).isLt
  if (y 0).val = 0 then f1 ⟨(y 2).val / 8, by omega⟩ (ix2 ⟨(y 1).val * 8 + (y 2).val % 8, by omega⟩ (y 3))
  else if (y 0).val = 1 then f4 (⟨(y 1).val % 4, by omega⟩, ⟨(y 2).val / 32, by omega⟩) (ix2 ⟨(y 1).val / 4 * 32 + (y 2).val % 32, by omega⟩ (y 3))
  else f16 (y 1, ⟨(y 2).val / 128, by omega⟩) (ix2 ⟨(y 2).val % 128, by omega⟩ (y 3))

section
variable (f16 : Fin 16 × Fin 2 → FVec F S128x128 .f32) (f4 : Fin 4 × Fin 8 → FVec F S128x128 .f32) (f1 : Fin 32 → FVec F S128x128 .f32)

theorem put16 (X : Vec F S3x16x256x128 .f32) (rc : Fin 16 × Fin 2) (y : S3x16x256x128.Idx)
    (h : InWin (s := S3x16x256x128) ![2, rc.1.val, 128 * rc.2.val, 0] S1x1x128x128.size y) :
    VecWindow.put X ![2, rc.1.val, 128 * rc.2.val, 0] S1x1x128x128.size (shapeCast S1x1x128x128 (f16 rc) (by decide)) y = spread f16 f4 f1 y := by
  have h0 : 2 ≤ (y 0).val ∧ (y 0).val < 2 + 1 := h 0
  have h1 : rc.1.val ≤ (y 1).val ∧ (y 1).val < rc.1.val + 1 := h 1
  have h2 : 128 * rc.2.val ≤ (y 2).val ∧ (y 2).val < 128 * rc.2.val + 128 := h 2
  have b2 : (y 2).val < 256 := (y 2).isLt
  have e : rc = (y 1, ⟨(y 2).val / 128, by omega⟩) := Prod.ext (Fin.ext (by show rc.1.val = (y 1).val; omega)) (Fin.ext (by show rc.2.val = (y 2).val / 128; omega))
  rw [put_in _ _ _ _ _ h]
  unfold spread
  rw [if_neg (by omega), if_neg (by omega)]
  refine (shapeCast_apply (s := S128x128) (t := S1x1x128x128) _ _ _ (ix2 ⟨(y 2).val % 128, by omega⟩ (y 3)) ?_).trans (congrFun (congrArg f16 e) _)
  rw [Shape.rowMajor_val_two, Shape.rowMajor_val_four]
  show (y 2).val % 128 * 128 + (y 3).val = ((((y 0).val - 2) * 1 + ((y 1).val - rc.1.val)) * 128 + ((y 2).val - 128 * rc.2.val)) * 128 + ((y 3).val - 0)
  omega

theorem put4 (X : Vec F S3x16x256x128 .f32) (rc : Fin 4 × Fin 8) (j : Fin 4) (y : S3x16x256x128.Idx)
    (h : InWin (s := S3x16x256x128) ![1, rc.1.val + 4 * j.val, 32 * rc.2.val, 0] S1x1x32x128.size y) :
    VecWindow.put X ![1, rc.1.val + 4 * j.val, 32 * rc.2.val, 0] S1x1x32x128.size (part32 j (f4 rc)) y = spread f16 f4 f1 y := by
  have h0 : 1 ≤ (y 0).val ∧ (y 0).val < 1 + 1 := h 0
  have h1 : rc.1.val + 4 * j.val ≤ (y 1).val ∧ (y 1).val < rc.1.val + 4 * j.val + 1 := h 1
  have h2 : 32 * rc.2.val ≤ (y 2).val ∧ (y 2).val < 32 * rc.2.val + 32 := h 2
  have b1 : (y 1).val < 16 := (y 1).isLt
  have b2 : (y 2).val < 256 := (y 2).isLt
  have b3 : (y 3).val < 128 := (y 3).isLt
  have e : rc = (⟨(y 1).val % 4, by omega⟩, ⟨(y 2).val / 32, by omega⟩) :=
    Prod.ext (Fin.ext (by show rc.1.val = (y 1).val % 4; omega)) (Fin.ext (by show rc.2.val = (y 2).val / 32; omega))
  rw [put_in _ _ _ _ _ h]
  unfold spread
  rw [if_neg (by omega), if_pos (by omega), ← e]
  unfold part32
  refine (shapeCast_apply (s := S32x128) (t := S1x1x32x128) _ _ _ (ix2 ⟨(y 2).val % 32, by omega⟩ (y 3)) ?_).trans ?_
  rotate_left
  · refine extractStridedSlice_apply _ _ _ _ _ fun a => ?_
    match a with
    | ⟨0, _⟩ => show (y 1).val / 4 * 32 + (y 2).val % 32 = 32 * j.val + (y 2).val % 32; omega
    | ⟨1, _⟩ => show (y 3).val = 0 + (y 3).val; omega
  · rw [Shape.rowMajor_val_two, Shape.rowMajor_val_four]
    show (y 2).val % 32 * 128 + (y 3).val = ((((y 0).val - 1) * 1 + ((y 1).val - (rc.1.val + 4 * j.val))) * 32 + ((y 2).val - 32 * rc.2.val)) * 128 + ((y 3).val - 0)
    omega

theorem put1 (X : Vec F S3x16x256x128 .f32) (g : Fin 32) (y : S3x16x256x128.Idx)
    (h : InWin (s := S3x16x256x128) ![0, 0, 8 * g.val, 0] S1x16x8x128.size y) :
    VecWindow.put X ![0, 0, 8 * g.val, 0] S1x16x8x128.size (part16 (f1 g)) y = spread f16 f4 f1 y := by
  have h0 : 0 ≤ (y 0).val ∧ (y 0).val < 0 + 1 := h 0
  have h2 : 8 * g.val ≤ (y 2).val ∧ (y 2).val < 8 * g.val + 8 := h 2
  have b1 : (y 1).val < 16 := (y 1).isLt
  have b2 : (y 2).val < 256 := (y 2).isLt
  have b3 : (y 3).val < 128 := (y 3).isLt
  have e : g = ⟨(y 2).val / 8, by omega⟩ := Fin.ext (by show g.val = (y 2).val / 8; omega)
  rw [put_in _ _ _ _ _ h]
  unfold spread
  rw [if_pos (by omega), ← e]
  unfold part16
  refine (shapeCast_apply (s := S16x8x128) (t := S1x16x8x128) _ _ _ (ix3 (y 1) ⟨(y 2).val % 8, by omega⟩ (y 3)) ?_).trans ?_
  rotate_left
  · refine shapeCast_apply _ _ _ _ ?_
    rw [Shape.rowMajor_val_two, Shape.rowMajor_val_three]
    show ((y 1).val * 8 + (y 2).val % 8) * 128 + (y 3).val = ((y 1).val * 8 + (y 2).val % 8) * 128 + (y 3).val
    rfl
  · rw [Shape.rowMajor_val_three, Shape.rowMajor_val_four]
    show ((y 1).val * 8 + (y 2).val % 8) * 128 + (y 3).val = ((((y 0).val - 0) * 16 + ((y 1).val - 0)) * 8 + ((y 2).val - 8 * g.val)) * 128 + ((y 3).val - 0)
    omega

end

/-! ## The arrays after all blocks -/

section Arrays
variable (sc mk : F .f32) (x0 x1 x2 : Vec F S4096x128 .bf16)

/-- The queries of a block of each branch, from the block of queries `x`. -/
def Q16 (x : Vec F S4096x128 .bf16) (rc : Fin 16 × Fin 2) : FVec F S128x128 .f32 := ofQ16 fun y => TQ sc x ((rQ16 rc.1 rc.2).emb y)
def Q4 (x : Vec F S4096x128 .bf16) (rc : Fin 4 × Fin 8) : FVec F S128x128 .f32 :=
  cat32 (fun y => TQ sc x ((rQ4 rc.1 0 rc.2).emb y)) (fun y => TQ sc x ((rQ4 rc.1 1 rc.2).emb y))
    (fun y => TQ sc x ((rQ4 rc.1 2 rc.2).emb y)) (fun y => TQ sc x ((rQ4 rc.1 3 rc.2).emb y))
def Q1 (x : Vec F S4096x128 .bf16) (g : Fin 32) : FVec F S128x128 .f32 := ofQ1 fun y => TQ sc x ((rQ1 g).emb y)

/-- Every branch's maxima. -/
def accM : Vec F S3x16x256x128 .f32 := spread (fun rc => blkM (Q16 sc x0 rc) (k16 (TK x1) rc) (bias mk 2 (later rc.2)))
  (fun rc => blkM (Q4 sc x0 rc) (k4 (TK x1) rc) (bias mk 1 (later rc.2))) (fun g => blkM (Q1 sc x0 g) (k1 (TK x1) g) (bias mk 0 (later g)))

/-- Every branch's sums. -/
def accL : Vec F S3x16x256x128 .f32 := spread (fun rc => blkL (Q16 sc x0 rc) (k16 (TK x1) rc) (bias mk 2 (later rc.2)))
  (fun rc => blkL (Q4 sc x0 rc) (k4 (TK x1) rc) (bias mk 1 (later rc.2))) (fun g => blkL (Q1 sc x0 g) (k1 (TK x1) g) (bias mk 0 (later g)))

/-- Every branch's weighted values. -/
def accA : Vec F S3x16x256x128 .f32 := spread (fun rc => blkA (Q16 sc x0 rc) (k16 (TK x1) rc) (k16 (TK x2) rc) (bias mk 2 (later rc.2)))
  (fun rc => blkA (Q4 sc x0 rc) (k4 (TK x1) rc) (k4 (TK x2) rc) (bias mk 1 (later rc.2)))
  (fun g => blkA (Q1 sc x0 g) (k1 (TK x1) g) (k1 (TK x2) g) (bias mk 0 (later g)))

/-- The result block. -/
def outOf : Vec F S4096x128 .bf16 := fun y =>
  have h0 : (y 0).val < 4096 := (y 0).isLt
  have r : Fin 16 := ⟨(y 0).val / 256, by omega⟩
  merged (rowOf (accM sc mk x0 x1) 0 ⟨(y 0).val / 256, by omega⟩) (rowOf (accM sc mk x0 x1) 1 ⟨(y 0).val / 256, by omega⟩)
    (rowOf (accM sc mk x0 x1) 2 ⟨(y 0).val / 256, by omega⟩)
    (rowOf (accA sc mk x0 x1 x2) 0 ⟨(y 0).val / 256, by omega⟩) (rowOf (accA sc mk x0 x1 x2) 1 ⟨(y 0).val / 256, by omega⟩)
    (rowOf (accA sc mk x0 x1 x2) 2 ⟨(y 0).val / 256, by omega⟩)
    (rowOf (accL sc mk x0 x1) 0 ⟨(y 0).val / 256, by omega⟩) (rowOf (accL sc mk x0 x1) 1 ⟨(y 0).val / 256, by omega⟩)
    (rowOf (accL sc mk x0 x1) 2 ⟨(y 0).val / 256, by omega⟩)
    (ix2 ⟨(y 0).val % 256, by omega⟩ (y 1))

variable {sc mk x0 x1 x2}

theorem readB_laid {s : St F} (h : Laid sc mk x0 x1 x2 s) (br : Fin 3) (j : Fin 2) : readB s br j = bias mk br j := by
  unfold readB ofB
  rw [h.b]
  funext y
  refine (shapeCast_apply (s := S1x1x256x256) (t := S256x256) _ _ y (ix4 (0 : Fin 1) (0 : Fin 1) (y 0) (y 1)) ?_).trans ?_
  rotate_left
  · show bias mk _ _ _ = _
    congr 1
    funext a
    match a with
    | ⟨0, _⟩ => exact Fin.ext (by show 0 + 1 * (y 0).val = (y 0).val; omega)
    | ⟨1, _⟩ => exact Fin.ext (by show 0 + 1 * (y 1).val = (y 1).val; omega)
  · rw [Shape.rowMajor_val_two, Shape.rowMajor_val_four]
    show ((0 * 1 + 0) * 256 + (y 0).val) * 256 + (y 1).val = (y 0).val * 256 + (y 1).val
    omega

/-- Three running arrays, read together. -/
def trio (s : St F) (y : S3x16x256x128.Idx) : F .f32 × F .f32 × F .f32 := (s.m y, s.l y, s.a y)

/-- Where the three arrays end. -/
def Gtrio (sc mk : F .f32) (x0 x1 x2 : Vec F S4096x128 .bf16) (y : S3x16x256x128.Idx) : F .f32 × F .f32 × F .f32 :=
  (accM sc mk x0 x1 y, accL sc mk x0 x1 y, accA sc mk x0 x1 x2 y)

theorem trio_ext {a b c a' b' c' : F .f32} (h1 : a = a') (h2 : b = b') (h3 : c = c') : (a, b, c) = (a', b', c') := by subst h1 h2 h3; rfl

theorem mem_four (j : Fin 4) : j ∈ ([0, 1, 2, 3] : List (Fin 4)) := by revert j; decide

theorem fill16 {s : St F} (h : Laid sc mk x0 x1 x2 s) :
    Laid sc mk x0 x1 x2 (blocks16.foldl s16 s) ∧ ∀ y, ((y 0).val = 2 ∨ trio s y = Gtrio sc mk x0 x1 x2 y) →
      trio (blocks16.foldl s16 s) y = Gtrio sc mk x0 x1 x2 y := by
  have := foldl_fill s16 (Laid sc mk x0 x1 x2) trio
    (fun rc y => InWin (s := S3x16x256x128) ![2, rc.1.val, 128 * rc.2.val, 0] S1x1x128x128.size y) (Gtrio sc mk x0 x1 x2)
    (fun t i h => ⟨h.q, h.k, h.v, h.q32, h.k32, h.v32, h.b⟩)
    (fun t rc y h hw => by
      unfold trio s16
      dsimp only
      have eq : q16 t rc = Q16 sc x0 rc := by unfold q16 Q16; rw [h.q32]
      rw [readB_laid h, eq, h.k32, h.v32]
      exact trio_ext (put16 (fun rc => blkM (Q16 sc x0 rc) (k16 (TK x1) rc) (bias mk 2 (later rc.2))) _ _ _ rc y hw)
        (put16 (fun rc => blkL (Q16 sc x0 rc) (k16 (TK x1) rc) (bias mk 2 (later rc.2))) _ _ _ rc y hw)
        (put16 (fun rc => blkA (Q16 sc x0 rc) (k16 (TK x1) rc) (k16 (TK x2) rc) (bias mk 2 (later rc.2))) _ _ _ rc y hw))
    (fun t rc y h hw => trio_ext (put_out _ _ _ _ _ hw) (put_out _ _ _ _ _ hw) (put_out _ _ _ _ _ hw)) blocks16 s h
  refine ⟨this.1, fun y hy => this.2 y (hy.imp_left fun h0 => ⟨(y 1, ⟨(y 2).val / 128, by have : (y 2).val < 256 := (y 2).isLt; omega⟩), mem_blocks16 _, fun a => ?_⟩)⟩
  have b2 : (y 2).val < 256 := (y 2).isLt
  have b3 : (y 3).val < 128 := (y 3).isLt
  match a with
  | ⟨0, _⟩ => exact ⟨by show 2 ≤ (y 0).val; omega, by show (y 0).val < 2 + 1; omega⟩
  | ⟨1, _⟩ => exact ⟨le_refl _, Nat.lt_succ_self _⟩
  | ⟨2, _⟩ => exact ⟨by show 128 * ((y 2).val / 128) ≤ (y 2).val; omega, by show (y 2).val < 128 * ((y 2).val / 128) + 128; omega⟩
  | ⟨3, _⟩ => exact ⟨Nat.zero_le _, by show (y 3).val < 0 + 128; omega⟩

theorem step4 {s : St F} (rc : Fin 4 × Fin 8) (h : Laid sc mk x0 x1 x2 s) :
    Laid sc mk x0 x1 x2 (s4 s rc) ∧ ∀ y, ((∃ j : Fin 4, InWin (s := S3x16x256x128) ![1, rc.1.val + 4 * j.val, 32 * rc.2.val, 0] S1x1x32x128.size y)
      ∨ trio s y = Gtrio sc mk x0 x1 x2 y) → trio (s4 s rc) y = Gtrio sc mk x0 x1 x2 y := by
  unfold s4
  have eq : q4 s rc = Q4 sc x0 rc := by unfold q4 Q4; rw [h.q32]
  rw [readB_laid h, eq, h.k32, h.v32]
  have := foldl_fill (s4part (blkM (Q4 sc x0 rc) (k4 (TK x1) rc) (bias mk 1 (later rc.2))) (blkL (Q4 sc x0 rc) (k4 (TK x1) rc) (bias mk 1 (later rc.2)))
      (blkA (Q4 sc x0 rc) (k4 (TK x1) rc) (k4 (TK x2) rc) (bias mk 1 (later rc.2))) rc) (Laid sc mk x0 x1 x2) trio
    (fun j y => InWin (s := S3x16x256x128) ![1, rc.1.val + 4 * j.val, 32 * rc.2.val, 0] S1x1x32x128.size y) (Gtrio sc mk x0 x1 x2)
    (fun t i h => ⟨h.q, h.k, h.v, h.q32, h.k32, h.v32, h.b⟩)
    (fun t j y h hw => trio_ext
        (put4 _ (fun rc => blkM (Q4 sc x0 rc) (k4 (TK x1) rc) (bias mk 1 (later rc.2))) _ _ rc j y hw)
        (put4 _ (fun rc => blkL (Q4 sc x0 rc) (k4 (TK x1) rc) (bias mk 1 (later rc.2))) _ _ rc j y hw)
        (put4 _ (fun rc => blkA (Q4 sc x0 rc) (k4 (TK x1) rc) (k4 (TK x2) rc) (bias mk 1 (later rc.2))) _ _ rc j y hw))
    (fun t j y h hw => trio_ext (put_out _ _ _ _ _ hw) (put_out _ _ _ _ _ hw) (put_out _ _ _ _ _ hw)) [0, 1, 2, 3] s h
  exact ⟨this.1, fun y hy => this.2 y (hy.imp_left fun ⟨j, hj⟩ => ⟨j, mem_four j, hj⟩)⟩

theorem fill4 (l : List (Fin 4 × Fin 8)) : ∀ {s : St F}, Laid sc mk x0 x1 x2 s →
    Laid sc mk x0 x1 x2 (l.foldl s4 s) ∧ ∀ y, ((∃ rc ∈ l, ∃ j : Fin 4, InWin (s := S3x16x256x128) ![1, rc.1.val + 4 * j.val, 32 * rc.2.val, 0] S1x1x32x128.size y)
      ∨ trio s y = Gtrio sc mk x0 x1 x2 y) → trio (l.foldl s4 s) y = Gtrio sc mk x0 x1 x2 y := by
  induction l with
  | nil => intro s hs; exact ⟨hs, fun y h => h.elim (fun ⟨i, hi, _⟩ => absurd hi (by simp)) id⟩
  | cons i l ih =>
    intro s hs
    obtain ⟨h1, h2⟩ := step4 i hs
    obtain ⟨h3, h4⟩ := ih h1
    refine ⟨h3, fun y h => h4 y ?_⟩
    rcases h with ⟨j, hj, hw⟩ | h
    · rcases List.mem_cons.mp hj with rfl | hj
      · exact .inr (h2 y (.inl hw))
      · exact .inl ⟨j, hj, hw⟩
    · exact .inr (h2 y (.inr h))

theorem fill1 {s : St F} (h : Laid sc mk x0 x1 x2 s) :
    Laid sc mk x0 x1 x2 (blocks1.foldl s1 s) ∧ ∀ y, ((y 0).val = 0 ∨ trio s y = Gtrio sc mk x0 x1 x2 y) →
      trio (blocks1.foldl s1 s) y = Gtrio sc mk x0 x1 x2 y := by
  have := foldl_fill s1 (Laid sc mk x0 x1 x2) trio
    (fun g y => InWin (s := S3x16x256x128) ![0, 0, 8 * g.val, 0] S1x16x8x128.size y) (Gtrio sc mk x0 x1 x2)
    (fun t i h => ⟨h.q, h.k, h.v, h.q32, h.k32, h.v32, h.b⟩)
    (fun t g y h hw => by
      unfold trio s1
      dsimp only
      have eq : q1 t g = Q1 sc x0 g := by unfold q1 Q1; rw [h.q32]
      rw [readB_laid h, eq, h.k32, h.v32]
      exact trio_ext (put1 _ _ (fun g => blkM (Q1 sc x0 g) (k1 (TK x1) g) (bias mk 0 (later g))) _ g y hw)
        (put1 _ _ (fun g => blkL (Q1 sc x0 g) (k1 (TK x1) g) (bias mk 0 (later g))) _ g y hw)
        (put1 _ _ (fun g => blkA (Q1 sc x0 g) (k1 (TK x1) g) (k1 (TK x2) g) (bias mk 0 (later g))) _ g y hw))
    (fun t rc y h hw => trio_ext (put_out _ _ _ _ _ hw) (put_out _ _ _ _ _ hw) (put_out _ _ _ _ _ hw)) blocks1 s h
  refine ⟨this.1, fun y hy => this.2 y (hy.imp_left fun h0 => ⟨⟨(y 2).val / 8, by have : (y 2).val < 256 := (y 2).isLt; omega⟩, mem_blocks1 _, fun a => ?_⟩)⟩
  have b1 : (y 1).val < 16 := (y 1).isLt
  have b2 : (y 2).val < 256 := (y 2).isLt
  have b3 : (y 3).val < 128 := (y 3).isLt
  match a with
  | ⟨0, _⟩ => exact ⟨Nat.zero_le _, by show (y 0).val < 0 + 1; omega⟩
  | ⟨1, _⟩ => exact ⟨Nat.zero_le _, by show (y 1).val < 0 + 16; omega⟩
  | ⟨2, _⟩ => exact ⟨by show 8 * ((y 2).val / 8) ≤ (y 2).val; omega, by show (y 2).val < 8 * ((y 2).val / 8) + 8; omega⟩
  | ⟨3, _⟩ => exact ⟨Nat.zero_le _, by show (y 3).val < 0 + 128; omega⟩

/-- After all blocks the three arrays are those named by the blocks. -/
theorem fill_all {s : St F} (h : Laid sc mk x0 x1 x2 s) :
    Laid sc mk x0 x1 x2 (sBlocks s) ∧ (sBlocks s).m = accM sc mk x0 x1 ∧ (sBlocks s).l = accL sc mk x0 x1 ∧ (sBlocks s).a = accA sc mk x0 x1 x2 := by
  obtain ⟨h1, e1⟩ := fill16 h
  obtain ⟨h2, e2⟩ := fill4 blocks4 h1
  obtain ⟨h3, e3⟩ := fill1 h2
  have key : ∀ y, trio (sBlocks s) y = Gtrio sc mk x0 x1 x2 y := fun y => by
    have b0 : (y 0).val < 3 := (y 0).isLt
    refine e3 y ?_
    by_cases c0 : (y 0).val = 0
    · exact .inl c0
    · refine .inr (e2 y ?_)
      by_cases c1 : (y 0).val = 1
      · have b1 : (y 1).val < 16 := (y 1).isLt
        have b2 : (y 2).val < 256 := (y 2).isLt
        have b3 : (y 3).val < 128 := (y 3).isLt
        refine .inl ⟨(⟨(y 1).val % 4, by omega⟩, ⟨(y 2).val / 32, by omega⟩), mem_blocks4 _, ⟨(y 1).val / 4, by omega⟩, fun a => ?_⟩
        match a with
        | ⟨0, _⟩ => exact ⟨by show 1 ≤ (y 0).val; omega, by show (y 0).val < 1 + 1; omega⟩
        | ⟨1, _⟩ => exact ⟨by show (y 1).val % 4 + 4 * ((y 1).val / 4) ≤ (y 1).val; omega, by show (y 1).val < (y 1).val % 4 + 4 * ((y 1).val / 4) + 1; omega⟩
        | ⟨2, _⟩ => exact ⟨by show 32 * ((y 2).val / 32) ≤ (y 2).val; omega, by show (y 2).val < 32 * ((y 2).val / 32) + 32; omega⟩
        | ⟨3, _⟩ => exact ⟨Nat.zero_le _, by show (y 3).val < 0 + 128; omega⟩
      · exact .inr (e1 y (.inl (by omega)))
  exact ⟨h3, funext fun y => congrArg (·.1) (key y), funext fun y => congrArg (·.2.1) (key y), funext fun y => congrArg (·.2.2) (key y)⟩

/-- The whole body: the three input blocks are kept and the result block is their function. -/
theorem sBody_io (sc mk : F .f32) (s : St F) :
    (sBody sc mk s).q = s.q ∧ (sBody sc mk s).k = s.k ∧ (sBody sc mk s).v = s.v ∧ (sBody sc mk s).o = outOf sc mk s.q s.k s.v := by
  obtain ⟨h, em, el, ea⟩ := fill_all (laid_sPre sc mk s)
  let I : St F → Prop := fun t => t.q = s.q ∧ t.k = s.k ∧ t.v = s.v ∧ t.m = accM sc mk s.q s.k ∧ t.l = accL sc mk s.q s.k ∧ t.a = accA sc mk s.q s.k s.v
  have := foldl_fill sOut I (fun t => t.o) (fun r y => InWin (s := S4096x128) ![256 * r.val, 0] S256x128.size y) (outOf sc mk s.q s.k s.v)
    (fun t r h => h)
    (fun t r y h hw => by
      show VecWindow.put _ _ _ _ y = _
      have h0 : 256 * r.val ≤ (y 0).val ∧ (y 0).val < 256 * r.val + 256 := hw 0
      have b0 : (y 0).val < 4096 := (y 0).isLt
      have e : r = ⟨(y 0).val / 256, by omega⟩ := Fin.ext (by show r.val = (y 0).val / 256; omega)
      rw [put_in _ _ _ _ _ hw, h.2.2.2.1, h.2.2.2.2.1, h.2.2.2.2.2]
      unfold outOf
      dsimp only
      rw [← e]
      congr 1
      funext a
      match a with
      | ⟨0, _⟩ => exact Fin.ext (by show (y 0).val - 256 * r.val = (y 0).val % 256; omega)
      | ⟨1, _⟩ => exact Fin.ext (by show (y 1).val - 0 = (y 1).val; omega))
    (fun t r y h hw => put_out _ _ _ _ _ hw) all16 (sBlocks (sPre sc mk s)) ⟨h.q, h.k, h.v, em, el, ea⟩
  refine ⟨this.1.1, this.1.2.1, this.1.2.2.1, funext fun y => this.2 y (.inl ⟨⟨(y 0).val / 256, by have b0 : (y 0).val < 4096 := (y 0).isLt; omega⟩, mem_all16 _, fun a => ?_⟩)⟩
  have b1 : (y 1).val < 128 := (y 1).isLt
  match a with
  | ⟨0, _⟩ => exact ⟨by show 256 * ((y 0).val / 256) ≤ (y 0).val; omega, by show (y 0).val < 256 * ((y 0).val / 256) + 256; omega⟩
  | ⟨1, _⟩ => exact ⟨Nat.zero_le _, by show (y 1).val < 0 + 128; omega⟩

end Arrays

end Cert.Attn
-- ==== Proof.Run.lean ====
/- The kernel's run: what its result holds when it ends, block by block, as a function of the blocks it reads. -/
module

public import proofs.«01_k».proof.Proof.Same
public import proofs.«01_k».proof.Proof.Blocks
public import proofs.«01_k».proof.Proof.Gen.KernelIdeal.Frame.Runs
public import Idealize.ShloMosaic.Lib.Claim
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Assertions about this machine. -/
abbrev SPK (F : FTy → Type) [FloatOps F] : Type _ := Attn.SP nD τ sig F

variable (m : (ℓ : Loc nD τ sig) → Buf (Elt F) ℓ) (ρ : Dev nD → PrngReg)

/-- The factor of the queries: the scale of the scores and the change of base. -/
abbrev sc (F : FTy → Type) [FloatOps F] [Named F] : F .f32 := Named.named κ "scale2" 0x3E38AA3B#32
/-- What a masked score is set to. -/
abbrev mk (F : FTy → Type) [FloatOps F] [Named F] : F .f32 := Named.named κ "mask" 0xF149F2CA#32

/-- The block of the result at a grid point: the attention of the three blocks read there. -/
def outBlk (c : Dev nD) (t : Fin cfg0.N) : Vec F S4096x128 .bf16 := Attn.outOf (sc F) (mk F) (iblk m c 0 t) (iblk m c 1 t) (iblk m c 2 t)

/-- What each window's buffer holds after the body, and what the body keeps of the rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is given at a grid point, -/
def pre (c : Dev nD) (t : Fin cfg0.N) : SPK F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it gives back. -/
def post (c : Dev nD) (t : Fin cfg0.N) : SPK F :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The buffers of the body at a grid point. -/
abbrev refs (t : Fin cfg0.N) : Attn.Refs sig :=
  ⟨ms0_0 t, ms0_1 t, ms0_2 t, ms0_3 t, scM0_0, scM0_1, scM0_2, scM0_3, scM0_4, scM0_5, scM0_6⟩

/-- The body at a grid point is the body written as loops. -/
theorem bodyAt_eq (t : Fin cfg0.N) :
    bodyAt0 (F := F) t = Attn.body (Λ := Λ₀) (refs t) (sc F) (mk F) (Same.stores (ms0_3 t) (hs0_3 t)) :=
  Same.body_eq (F := F) (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    scM0_4 (Memref.isWhole_whole _) scM0_5 (Memref.isWhole_whole _) scM0_6 (Memref.isWhole_whole _)

/-- The body leads from any contents to those computed. -/
theorem leads (c : Dev nD) (t : Fin cfg0.N) (C : SPK F) (s : Attn.St F) (Q : PUnit → SPK F)
    (hQ : iprop((Attn.Own c (refs t) (Attn.sBody (sc F) (mk F) s) : SPK F) ∗ C) ⊢ Q ⟨⟩) :
    iprop((Attn.Own c (refs t) s : SPK F) ∗ C) ⊢ wp frame (wpE (defs₀ (F := F)) Variants.none c none) Set.univ
      (Attn.body (Λ := Λ₀) (refs t) (sc F) (mk F) (Same.stores (ms0_3 t) (hs0_3 t))) Q :=
  Attn.ok_body (defs := defs₀ (F := F)) (𝒱 := Variants.none) (c := c) (bd := none) (E := Set.univ) (R := refs t) (C := C)
    (sc F) (mk F) (Same.stores (ms0_3 t) (hs0_3 t)) s hQ

/-- At every grid point the body leaves the attention of the blocks it read. -/
theorem sound (c : Dev nD) (t : Fin cfg0.N) :
    pre m c t ⊢ wp frame (wpE (defs₀ (F := F)) Variants.none c none) Set.univ (bodyAt0 t) (fun _ => post m c t) := by
  rw [bodyAt_eq]
  unfold pre post
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, PhiA0_eq]
  iintro ⟨⟨⟨⟨%e0, HS0⟩, ⟨%e1, HS1⟩, ⟨%e2, HS2⟩, ⟨%e3, HS3⟩, ⟨%e4, HS4⟩, ⟨%e5, HS5⟩, ⟨%e6, HS6⟩⟩, Hg⟩, Ho, ⟨%d0, H0⟩, ⟨%d1, H1⟩, ⟨%d2, H2⟩, ⟨%d3, H3⟩⟩
  iapply (leads c t iprop((∃ r, prngReg c r) ∗ (dats m 0 c).owesAt () t.castSucc)
    ⟨iblk m c 0 t, iblk m c 1 t, iblk m c 2 t, (dats m 0 c).before 3 t d3, e0, e1, e2, e3, e4, e5, e6⟩ _ ?_)
  · obtain ⟨hq, hk, hv, ho⟩ := Attn.sBody_io (sc F) (mk F) (⟨iblk m c 0 t, iblk m c 1 t, iblk m c 2 t, (dats m 0 c).before 3 t d3, e0, e1, e2, e3, e4, e5, e6⟩ : Attn.St F)
    unfold Attn.Own
    rw [hq, hk, hv, ho]
    iintro ⟨⟨H0, H1, H2, H3, HS0, HS1, HS2, HS3, HS4, HS5, HS6⟩, Hg, Ho⟩
    isplitl [HS0 HS1 HS2 HS3 HS4 HS5 HS6 Hg]
    · isplitl [HS0 HS1 HS2 HS3 HS4 HS5 HS6]
      · isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        iexists _; iexact HS6
      iexact Hg
    isplitl [Ho]; · iexact Ho
    isplitl [H0]; · iexact H0
    isplitl [H1]; · iexact H1
    isplitl [H2]; · iexact H2
    iexact H3
  · unfold Attn.Own
    isplitl [H0 H1 H2 H3 HS0 HS1 HS2 HS3 HS4 HS5 HS6]
    · isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Hg]; · iexact Hg
    iexact Ho

/-- The table's row for the body. -/
theorem row (t : Fin cfg0.N) : defs₀ (F := F) .tc cfg0.body (cfg0.bodyArgs t (cfg0.slots t)) = bodyAt0 t := by
  unfold defs₀; rw [Defs.onTc_tc]

/-- The body meets its obligation at every grid point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The program ends, with every array as the data say and every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-- Distinct grid points write distinct blocks. -/
theorem idx_inj : ∀ t t' : Fin cfg0.N, win0_3.index t = win0_3.index t' → t = t' :=
  (by decide +kernel : ∀ t t' : Fin grid0.N, win0_3.index t = win0_3.index t' → t = t')

theorem disjoint : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj t t' h)

/-- Every grid point writes its block back. -/
theorem flushes : ∀ t : Fin cfg0.N, (cfg0.win 3).flush t = true :=
  (by decide +kernel : ∀ t : Fin grid0.N, win0_3.flush t = true)

/-- A block of the final result is what its grid point wrote. -/
theorem blocks (c : Dev nD) (t : Fin cfg0.N) :
    ((cfg0.win 3).blk t).view.read (Elt F) ((dats m 0 c).arrAt 3 cfg0.N) = (cfg0.win 3).cut (grid0.coords t) (outBlk m c t) :=
  ((dats m 0 c).read_blk_arrAt_eq_flushed 3 disjoint cfg0.N t t.isLt (flushes t)).trans <| by
    show (cfg0.win 3).cut (grid0.coords t) ((dats m 0 c).after 3 t) = _
    rw [after_3]

/-- The program ends, every block of the result being what its grid point computed. -/
theorem run_blocks : θ_run defs (onTc (τ := τ) (main (F := F))) ⟨m, fun _ => 0, ρ⟩ fun r => ∀ c : Dev nD,
      (∀ t : Fin cfg0.N, ((cfg0.win 3).blk t).view.read (Elt F) (r.2.mem ((c : Thread nD τ).loc main_v12)) = (cfg0.win 3).cut (grid0.coords t) (outBlk m c t))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨fun t => (congrArg (((cfg0.win 3).blk t).view.read (Elt F)) ((h.1 c).1 3)).trans (blocks m c t),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_all m ρ)

end Cert.KernelIdeal.Own

end
-- ==== Proof.Gather.lean ====
/- The rows of a block of the kernel: which position of the sequence each row of queries and keys holds. -/
module

public import proofs.«01_k».proof.Proof.Spec
public import proofs.«01_k».proof.Proof.Blocks

@[expose] public section

noncomputable section

namespace Cert.Attn

open Idealize.ShloMosaic hiding ix0 ix1 ix2 ix3 ix4 ix5 ix6
open Idealize.ShloMosaic.ValueIdx

/-- The row of a block of the arguments that holds position `p`: the rows lie residue by residue modulo 16. -/
def rowAt (p : ℕ) : Fin 4096 := ⟨256 * (p % 16) + p / 16 % 256, by omega⟩

/-- A block of the arguments, by position and lane. -/
def byPos (x : Vec Ideal S4096x128 .bf16) (p : ℕ) (d : Fin 128) : EReal := x (ix2 (rowAt p) d)

variable (sc : Ideal .f32) (x : Vec Ideal S4096x128 .bf16)

theorem TQ_at (r : Fin 16) (n : Fin 256) (d : Fin 128) : TQ sc x (ix3 r n d) = byPos x (16 * n.val + r.val) d * sc := by
  unfold TQ newQ byPos
  refine (shapeCast_apply (s := S256x128) (t := S1x256x128) _ _ _ (ix2 n d) ?_).trans ?_
  · rw [Shape.rowMajor_val_two, Shape.rowMajor_val_three]
    show n.val * 128 + d.val = (0 * 256 + n.val) * 128 + d.val
    omega
  · refine congrArg (· * sc) ?_
    show (shapeCast S256x128 (fun z : S256x128.Idx => x ((rIn r).emb z)) (by decide) : FVec Ideal S256x128 .bf16) (ix2 n d) = x (ix2 (rowAt (16 * n.val + r.val)) d)
    refine (shapeCast_apply (s := S256x128) (t := S256x128) _ _ _ (ix2 n d) rfl).trans ?_
    refine congrArg x (funext fun a => ?_)
    have hn := n.isLt
    have hr := r.isLt
    match a with
    | ⟨0, _⟩ => exact Fin.ext (by show 256 * r.val + 1 * n.val = 256 * ((16 * n.val + r.val) % 16) + (16 * n.val + r.val) / 16 % 256; omega)
    | ⟨1, _⟩ => exact Fin.ext (by show 0 + 1 * d.val = d.val; omega)

theorem TK_at (r : Fin 16) (ρ : Fin 384) (d : Fin 128) :
    TK (F := Ideal) x (ix3 r ρ d) = padK (fun p => byPos x p d) (16 * ρ.val + r.val) := by
  have hr := r.isLt
  have hρ := ρ.isLt
  unfold TK padK
  by_cases h : ρ.val < 128
  · rw [if_pos (by omega)]
    exact (dif_pos h).trans word_zero
  · rw [if_neg (by omega)]
    refine (dif_neg h).trans ?_
    unfold newK byPos
    refine (shapeCast_apply (s := S256x128) (t := S1x256x128) _ _ _ (ix2 ⟨ρ.val - 128, by omega⟩ d) ?_).trans ?_
    · rw [Shape.rowMajor_val_two, Shape.rowMajor_val_three]
      show (ρ.val - 128) * 128 + d.val = (0 * 256 + (ρ.val - 128)) * 128 + d.val
      omega
    · show (shapeCast S256x128 (fun z : S256x128.Idx => x ((rIn r).emb z)) (by decide) : FVec Ideal S256x128 .bf16) (ix2 ⟨ρ.val - 128, by omega⟩ d)
        = x (ix2 (rowAt (16 * ρ.val + r.val - 2048)) d)
      refine (shapeCast_apply (s := S256x128) (t := S256x128) _ _ _ (ix2 ⟨ρ.val - 128, by omega⟩ d) rfl).trans ?_
      refine congrArg x (funext fun a => ?_)
      match a with
      | ⟨0, _⟩ => exact Fin.ext (by show 256 * r.val + 1 * (ρ.val - 128) = 256 * ((16 * ρ.val + r.val - 2048) % 16) + (16 * ρ.val + r.val - 2048) / 16 % 256; omega)
      | ⟨1, _⟩ => exact Fin.ext (by show 0 + 1 * d.val = d.val; omega)

/-! ## Stride sixteen -/

theorem Q16_at (r : Fin 16) (c : Fin 2) (i d : Fin 128) :
    Q16 sc x (r, c) (ix2 i d) = byPos x (16 * (128 * c.val + i.val) + r.val) d * sc := by
  unfold Q16 ofQ16
  refine (shapeCast_apply (s := S1x128x128) (t := S128x128) _ _ _ (ix3 0 i d) ?_).trans ?_
  · rw [Shape.rowMajor_val_two, Shape.rowMajor_val_three]
    show (0 * 128 + i.val) * 128 + d.val = i.val * 128 + d.val
    omega
  · refine Eq.trans (congrArg (TQ sc x) (funext fun a => ?_)) (TQ_at sc x r ⟨128 * c.val + i.val, by omega⟩ d)
    match a with
    | ⟨0, _⟩ => exact Fin.ext (by show r.val + 1 * 0 = r.val; omega)
    | ⟨1, _⟩ => exact Fin.ext (by show 128 * c.val + 1 * i.val = 128 * c.val + i.val; omega)
    | ⟨2, _⟩ => exact Fin.ext (by show 0 + 1 * d.val = d.val; omega)

theorem k16_at (r : Fin 16) (c : Fin 2) (κ : Fin 256) (d : Fin 128) :
    k16 (TK (F := Ideal) x) (r, c) (ix2 κ d) = padK (fun p => byPos x p d) (16 * (128 * c.val + κ.val) + r.val) := by
  unfold k16 ofK16
  refine (shapeCast_apply (s := S1x256x128) (t := S256x128) _ _ _ (ix3 0 κ d) ?_).trans ?_
  · rw [Shape.rowMajor_val_two, Shape.rowMajor_val_three]
    show (0 * 256 + κ.val) * 128 + d.val = κ.val * 128 + d.val
    omega
  · refine Eq.trans (congrArg (TK (F := Ideal) x) (funext fun a => ?_)) (TK_at x r ⟨128 * c.val + κ.val, by omega⟩ d)
    match a with
    | ⟨0, _⟩ => exact Fin.ext (by show r.val + 1 * 0 = r.val; omega)
    | ⟨1, _⟩ => exact Fin.ext (by show 128 * c.val + 1 * κ.val = 128 * c.val + κ.val; omega)
    | ⟨2, _⟩ => exact Fin.ext (by show 0 + 1 * d.val = d.val; omega)

/-! ## Stride one -/

theorem Q1_at (g : Fin 32) (i d : Fin 128) :
    Q1 sc x g (ix2 i d) = byPos x (16 * (8 * g.val + i.val % 8) + i.val / 8) d * sc := by
  unfold Q1 ofQ1
  refine (shapeCast_apply (s := S16x8x128) (t := S128x128) _ _ _ (ix3 ⟨i.val / 8, by omega⟩ ⟨i.val % 8, by omega⟩ d) ?_).trans ?_
  · rw [Shape.rowMajor_val_two, Shape.rowMajor_val_three]
    show (i.val / 8 * 8 + i.val % 8) * 128 + d.val = i.val * 128 + d.val
    omega
  · refine Eq.trans (congrArg (TQ sc x) (funext fun a => ?_)) (TQ_at sc x ⟨i.val / 8, by omega⟩ ⟨8 * g.val + i.val % 8, by omega⟩ d)
    match a with
    | ⟨0, _⟩ => exact Fin.ext (by show 0 + 1 * (i.val / 8) = i.val / 8; omega)
    | ⟨1, _⟩ => exact Fin.ext (by show 8 * g.val + 1 * (i.val % 8) = 8 * g.val + i.val % 8; omega)
    | ⟨2, _⟩ => exact Fin.ext (by show 0 + 1 * d.val = d.val; omega)

theorem k1_at (g : Fin 32) (κ : Fin 256) (d : Fin 128) :
    k1 (TK (F := Ideal) x) g (ix2 κ d) = padK (fun p => byPos x p d) (16 * (8 * g.val + 120 + κ.val % 16) + κ.val / 16) := by
  unfold k1 ofK1
  refine (shapeCast_apply (s := S16x16x128) (t := S256x128) _ _ _ (ix3 ⟨κ.val / 16, by omega⟩ ⟨κ.val % 16, by omega⟩ d) ?_).trans ?_
  · rw [Shape.rowMajor_val_two, Shape.rowMajor_val_three]
    show (κ.val / 16 * 16 + κ.val % 16) * 128 + d.val = κ.val * 128 + d.val
    omega
  · refine Eq.trans (congrArg (TK (F := Ideal) x) (funext fun a => ?_)) (TK_at x ⟨κ.val / 16, by omega⟩ ⟨8 * g.val + 120 + κ.val % 16, by omega⟩ d)
    match a with
    | ⟨0, _⟩ => exact Fin.ext (by show 0 + 1 * (κ.val / 16) = κ.val / 16; omega)
    | ⟨1, _⟩ => exact Fin.ext (by show 8 * g.val + 120 + 1 * (κ.val % 16) = 8 * g.val + 120 + κ.val % 16; omega)
    | ⟨2, _⟩ => exact Fin.ext (by show 0 + 1 * d.val = d.val; omega)

/-! ## Stride four -/

/-- Four residues' rows, one above another, read at a row. -/
theorem cat32_at (f : Fin 4 → Vec Ideal S1x32x128 .f32) (i d : Fin 128) :
    cat32 (f 0) (f 1) (f 2) (f 3) (ix2 i d) = f ⟨i.val / 32, by omega⟩ (ix3 0 ⟨i.val % 32, by omega⟩ d) := by
  have leaf : ∀ m : Fin 4, (shapeCast S32x128 (f m) (by decide) : FVec Ideal S32x128 .f32) (ix2 ⟨i.val % 32, by omega⟩ d) = f m (ix3 0 ⟨i.val % 32, by omega⟩ d) := fun m => by
    refine shapeCast_apply (s := S1x32x128) (t := S32x128) _ _ _ _ ?_
    rw [Shape.rowMajor_val_two, Shape.rowMajor_val_three]
    show (0 * 32 + i.val % 32) * 128 + d.val = i.val % 32 * 128 + d.val
    omega
  have hi := i.isLt
  unfold cat32
  obtain ⟨m, hm⟩ : ∃ m : Fin 4, m.val = i.val / 32 := ⟨⟨i.val / 32, by omega⟩, rfl⟩
  rw [show (⟨i.val / 32, by omega⟩ : Fin 4) = m from Fin.ext hm.symm, ← leaf m]
  have side : ∀ b : Fin 2, b ≠ 0 → ((ix2 (⟨i.val % 32, by omega⟩ : Fin 32) d : S32x128.Idx) b).val = ((ix2 i d : S128x128.Idx) b).val := fun b hb => by
    match b, hb with
    | ⟨0, _⟩, hb => exact absurd rfl hb
    | ⟨1, _⟩, _ => rfl
  rcases (show m = 0 ∨ m = 1 ∨ m = 2 ∨ m = 3 by omega) with rfl | rfl | rfl | rfl
  · exact concatenate_apply_piece (t := S128x128) 0 _ _ _ 0 (by show 0 < 4; decide) S32x128 _ rfl rfl 0 rfl _ side
      (by change 0 = i.val / 32 at hm; show 0 + i.val % 32 = i.val; omega)
  · exact concatenate_apply_piece (t := S128x128) 0 _ _ _ 1 (by show 1 < 4; decide) S32x128 _ rfl rfl 32 rfl _ side
      (by change 1 = i.val / 32 at hm; show 32 + i.val % 32 = i.val; omega)
  · exact concatenate_apply_piece (t := S128x128) 0 _ _ _ 2 (by show 2 < 4; decide) S32x128 _ rfl rfl 64 rfl _ side
      (by change 2 = i.val / 32 at hm; show 64 + i.val % 32 = i.val; omega)
  · exact concatenate_apply_piece (t := S128x128) 0 _ _ _ 3 (by show 3 < 4; decide) S32x128 _ rfl rfl 96 rfl _ side
      (by change 3 = i.val / 32 at hm; show 96 + i.val % 32 = i.val; omega)

theorem cat64_at (f : Fin 4 → Vec Ideal S1x64x128 .f32) (κ : Fin 256) (d : Fin 128) :
    cat64 (f 0) (f 1) (f 2) (f 3) (ix2 κ d) = f ⟨κ.val / 64, by omega⟩ (ix3 0 ⟨κ.val % 64, by omega⟩ d) := by
  have leaf : ∀ m : Fin 4, (shapeCast S64x128 (f m) (by decide) : FVec Ideal S64x128 .f32) (ix2 ⟨κ.val % 64, by omega⟩ d) = f m (ix3 0 ⟨κ.val % 64, by omega⟩ d) := fun m => by
    refine shapeCast_apply (s := S1x64x128) (t := S64x128) _ _ _ _ ?_
    rw [Shape.rowMajor_val_two, Shape.rowMajor_val_three]
    show (0 * 64 + κ.val % 64) * 128 + d.val = κ.val % 64 * 128 + d.val
    omega
  have hκ := κ.isLt
  unfold cat64
  obtain ⟨m, hm⟩ : ∃ m : Fin 4, m.val = κ.val / 64 := ⟨⟨κ.val / 64, by omega⟩, rfl⟩
  rw [show (⟨κ.val / 64, by omega⟩ : Fin 4) = m from Fin.ext hm.symm, ← leaf m]
  have side : ∀ b : Fin 2, b ≠ 0 → ((ix2 (⟨κ.val % 64, by omega⟩ : Fin 64) d : S64x128.Idx) b).val = ((ix2 κ d : S256x128.Idx) b).val := fun b hb => by
    match b, hb with
    | ⟨0, _⟩, hb => exact absurd rfl hb
    | ⟨1, _⟩, _ => rfl
  rcases (show m = 0 ∨ m = 1 ∨ m = 2 ∨ m = 3 by omega) with rfl | rfl | rfl | rfl
  · exact concatenate_apply_piece (t := S256x128) 0 _ _ _ 0 (by show 0 < 4; decide) S64x128 _ rfl rfl 0 rfl _ side
      (by change 0 = κ.val / 64 at hm; show 0 + κ.val % 64 = κ.val; omega)
  · exact concatenate_apply_piece (t := S256x128) 0 _ _ _ 1 (by show 1 < 4; decide) S64x128 _ rfl rfl 64 rfl _ side
      (by change 1 = κ.val / 64 at hm; show 64 + κ.val % 64 = κ.val; omega)
  · exact concatenate_apply_piece (t := S256x128) 0 _ _ _ 2 (by show 2 < 4; decide) S64x128 _ rfl rfl 128 rfl _ side
      (by change 2 = κ.val / 64 at hm; show 128 + κ.val % 64 = κ.val; omega)
  · exact concatenate_apply_piece (t := S256x128) 0 _ _ _ 3 (by show 3 < 4; decide) S64x128 _ rfl rfl 192 rfl _ side
      (by change 3 = κ.val / 64 at hm; show 192 + κ.val % 64 = κ.val; omega)

theorem Q4_at (r : Fin 4) (c : Fin 8) (i d : Fin 128) :
    Q4 sc x (r, c) (ix2 i d) = byPos x (16 * (32 * c.val + i.val % 32) + (r.val + 4 * (i.val / 32))) d * sc := by
  unfold Q4
  refine (cat32_at (fun m y => TQ sc x ((rQ4 r m c).emb y)) i d).trans ?_
  refine Eq.trans (congrArg (TQ sc x) (funext fun a => ?_))
    (TQ_at sc x ⟨r.val + 4 * (i.val / 32), by omega⟩ ⟨32 * c.val + i.val % 32, by omega⟩ d)
  match a with
  | ⟨0, _⟩ => exact Fin.ext (by show r.val + 4 * (i.val / 32) + 1 * 0 = r.val + 4 * (i.val / 32); omega)
  | ⟨1, _⟩ => exact Fin.ext (by show 32 * c.val + 1 * (i.val % 32) = 32 * c.val + i.val % 32; omega)
  | ⟨2, _⟩ => exact Fin.ext (by show 0 + 1 * d.val = d.val; omega)

theorem k4_at (r : Fin 4) (c : Fin 8) (κ : Fin 256) (d : Fin 128) :
    k4 (TK (F := Ideal) x) (r, c) (ix2 κ d)
      = padK (fun p => byPos x p d) (16 * (32 * c.val + 96 + κ.val % 64) + (r.val + 4 * (κ.val / 64))) := by
  unfold k4
  refine (cat64_at (fun m y => TK (F := Ideal) x ((rK4 r m c).emb y)) κ d).trans ?_
  refine Eq.trans (congrArg (TK (F := Ideal) x) (funext fun a => ?_))
    (TK_at x ⟨r.val + 4 * (κ.val / 64), by omega⟩ ⟨32 * c.val + 96 + κ.val % 64, by omega⟩ d)
  match a with
  | ⟨0, _⟩ => exact Fin.ext (by show r.val + 4 * (κ.val / 64) + 1 * 0 = r.val + 4 * (κ.val / 64); omega)
  | ⟨1, _⟩ => exact Fin.ext (by show 32 * c.val + 96 + 1 * (κ.val % 64) = 32 * c.val + 96 + κ.val % 64; omega)
  | ⟨2, _⟩ => exact Fin.ext (by show 0 + 1 * d.val = d.val; omega)

end Cert.Attn

end
-- ==== Proof.Values.lean ====
/- The kernel's result block over the extended reals: the dilated attention of its two heads. -/
module

public import proofs.«01_k».proof.Proof.Gather

@[expose] public section

noncomputable section

namespace Cert.Attn

open Idealize.ShloMosaic hiding ix0 ix1 ix2 ix3 ix4 ix5 ix6
open Idealize.ShloMosaic.ValueIdx

/-- The named scale: an eighth to base two. -/
def sc2 : EReal := ((1 / 8 : ℝ) : EReal) * c2

variable (x0 x1 x2 : Vec Ideal S4096x128 .bf16)

/-- A finite value minus itself is zero, also after a scaling by a real number. -/
theorem scaled_sub (z : EReal) (hz : z ≠ ⊥ ∧ z ≠ ⊤) : z * sc2 - z * sc2 = 0 := by
  have h : sc2 = (((1 / 8 : ℝ) * (Real.log 2)⁻¹ : ℝ) : EReal) := (EReal.coe_mul _ _).symm
  lift z to ℝ using ⟨hz.2, hz.1⟩
  rw [h, ← EReal.coe_mul, ← EReal.coe_sub, sub_self]
  rfl

/-- Finite queries. -/
abbrev Fin0 : Prop := ∀ y, (x0 y : EReal) ≠ ⊥ ∧ (x0 y : EReal) ≠ ⊤

/-- The arrays of the two heads, by position. -/
abbrev hd (x : Vec Ideal S4096x128 .bf16) (d : Fin 128) : ℕ → Fin 64 → EReal := headPart (byPos x) (headOf d)

section Blocks

variable {x0}

theorem every {q : FVec Ideal S128x128 .f32} (hx : Fin0 x0) (pos : Fin 128 → ℕ)
    (h : ∀ i d, q (ix2 i d) = byPos x0 (pos i) d * sc2) : ∀ y, q y - q y = 0 := fun y => by
  have e : y = ix2 (n0 := 128) (n1 := 128) (y 0) (y 1) := funext fun a => match a with | ⟨0, _⟩ => rfl | ⟨1, _⟩ => rfl
  have key : ∀ a b : Fin 128, q (ix2 a b) - q (ix2 a b) = 0 := fun a b => by
    rw [h]
    exact scaled_sub _ (hx _)
  exact (congrArg (fun z => q z - q z) e).trans (key (y 0) (y 1))

/-- Later blocks have a block before them. -/
theorem later_iff {n : ℕ} (c : Fin n) : later c = 1 ↔ 0 < c.val := by
  constructor
  · intro h
    have h : min c.val 1 = 1 := congrArg Fin.val h
    omega
  · intro h
    exact Fin.ext (by show min c.val 1 = 1; omega)

/-- Row `i` of a block of queries `q` and the block's keys or values `kk x` belong to the query at position `p` of
    branch `br` at stride `D`. -/
structure Good (x0 : Vec Ideal S4096x128 .bf16) (br : Fin 3) (D p : ℕ) (j : Fin 2) (i : Fin 128) (q : FVec Ideal S128x128 .f32)
    (kk : Vec Ideal S4096x128 .bf16 → FVec Ideal S256x128 .f32) : Prop where
  h0 : ∀ y, q y - q y = 0
  hq : ∀ d, q (ix2 i d) = byPos x0 p d * sc2
  hk : ∀ x κ d, kk x (ix2 κ d) = padK (fun z => byPos x z d) (key D p (posK br κ.val))
  hp : posQ br i.val = p / D % 128
  hj : j = 1 ↔ 0 < p / D / 128

variable (hx : Fin0 x0) (r : Fin 16) (n : Fin 256) (d : Fin 128)

include hx in
theorem good1 : Good x0 0 1 (16 * n.val + r.val) (later (⟨n.val / 8, by omega⟩ : Fin 32)) ⟨r.val * 8 + n.val % 8, by omega⟩
    (Q1 sc2 x0 ⟨n.val / 8, by omega⟩) (fun x => k1 (TK (F := Ideal) x) ⟨n.val / 8, by omega⟩) := by
  have hr := r.isLt
  have hn := n.isLt
  refine ⟨every hx _ fun i d => Q1_at sc2 x0 _ i d, fun d => ?_, fun x κ d => ?_, ?_, ?_⟩
  · rw [Q1_at]
    congr 2
    show 16 * (8 * (n.val / 8) + (r.val * 8 + n.val % 8) % 8) + (r.val * 8 + n.val % 8) / 8 = 16 * n.val + r.val
    omega
  · rw [k1_at]
    congr 1
    have hκ := κ.isLt
    show 16 * (8 * (n.val / 8) + 120 + κ.val % 16) + κ.val / 16
      = ((16 * n.val + r.val) / 1 / 128 * 128 + (16 * (κ.val % 16) + κ.val / 16)) * 1 + (16 * n.val + r.val) % 1 + (2048 - 128 * 1)
    omega
  · show 16 * ((r.val * 8 + n.val % 8) % 8) + (r.val * 8 + n.val % 8) % 128 / 8 = (16 * n.val + r.val) / 1 % 128
    have e1 : (r.val * 8 + n.val % 8) % 8 = n.val % 8 := by omega
    have e2 : (r.val * 8 + n.val % 8) / 8 = r.val := by omega
    rw [Nat.mod_eq_of_lt (show r.val * 8 + n.val % 8 < 128 by omega), e1, e2, Nat.div_one]
    omega
  · rw [later_iff]
    show 0 < n.val / 8 ↔ 0 < (16 * n.val + r.val) / 1 / 128
    omega

include hx in
theorem good4 : Good x0 1 4 (16 * n.val + r.val) (later (⟨n.val / 32, by omega⟩ : Fin 8)) ⟨r.val / 4 * 32 + n.val % 32, by omega⟩
    (Q4 sc2 x0 (⟨r.val % 4, by omega⟩, ⟨n.val / 32, by omega⟩))
    (fun x => k4 (TK (F := Ideal) x) (⟨r.val % 4, by omega⟩, ⟨n.val / 32, by omega⟩)) := by
  have hr := r.isLt
  have hn := n.isLt
  refine ⟨every hx _ fun i d => Q4_at sc2 x0 _ _ i d, fun d => ?_, fun x κ d => ?_, ?_, ?_⟩
  · rw [Q4_at]
    congr 2
    show 16 * (32 * (n.val / 32) + (r.val / 4 * 32 + n.val % 32) % 32) + (r.val % 4 + 4 * ((r.val / 4 * 32 + n.val % 32) / 32)) = 16 * n.val + r.val
    omega
  · rw [k4_at]
    congr 1
    have hκ := κ.isLt
    show 16 * (32 * (n.val / 32) + 96 + κ.val % 64) + (r.val % 4 + 4 * (κ.val / 64))
      = ((16 * n.val + r.val) / 4 / 128 * 128 + (4 * (κ.val % 64) + κ.val / 64)) * 4 + (16 * n.val + r.val) % 4 + (2048 - 128 * 4)
    omega
  · show 4 * ((r.val / 4 * 32 + n.val % 32) % 32) + (r.val / 4 * 32 + n.val % 32) % 128 / 32 = (16 * n.val + r.val) / 4 % 128
    have e1 : (r.val / 4 * 32 + n.val % 32) % 32 = n.val % 32 := by omega
    have e2 : (r.val / 4 * 32 + n.val % 32) / 32 = r.val / 4 := by omega
    have e3 : (16 * n.val + r.val) / 4 = 4 * n.val + r.val / 4 := by omega
    rw [Nat.mod_eq_of_lt (show r.val / 4 * 32 + n.val % 32 < 128 by omega), e1, e2, e3]
    omega
  · rw [later_iff]
    show 0 < n.val / 32 ↔ 0 < (16 * n.val + r.val) / 4 / 128
    omega

include hx in
theorem good16 : Good x0 2 16 (16 * n.val + r.val) (later (⟨n.val / 128, by omega⟩ : Fin 2)) ⟨n.val % 128, by omega⟩
    (Q16 sc2 x0 (r, ⟨n.val / 128, by omega⟩)) (fun x => k16 (TK (F := Ideal) x) (r, ⟨n.val / 128, by omega⟩)) := by
  have hr := r.isLt
  have hn := n.isLt
  refine ⟨every hx _ fun i d => Q16_at sc2 x0 _ _ i d, fun d => ?_, fun x κ d => ?_, ?_, ?_⟩
  · rw [Q16_at]
    congr 2
    show 16 * (128 * (n.val / 128) + n.val % 128) + r.val = 16 * n.val + r.val
    omega
  · rw [k16_at]
    congr 1
    show 16 * (128 * (n.val / 128) + κ.val) + r.val
      = ((16 * n.val + r.val) / 16 / 128 * 128 + κ.val) * 16 + (16 * n.val + r.val) % 16 + (2048 - 128 * 16)
    omega
  · show n.val % 128 % 128 = (16 * n.val + r.val) / 16 % 128
    omega
  · rw [later_iff]
    show 0 < n.val / 128 ↔ 0 < (16 * n.val + r.val) / 16 / 128
    omega

/-- The stride of a branch. -/
def stride : Fin 3 → ℕ
  | 0 => 1
  | 1 => 4
  | 2 => 16

variable {x1 x2}

section Any
variable {br : Fin 3} {D p : ℕ} {j : Fin 2} {i : Fin 128} {q : FVec Ideal S128x128 .f32}
  {kk : Vec Ideal S4096x128 .bf16 → FVec Ideal S256x128 .f32} (g : Good x0 br D p j i q kk)
include g

theorem Good.m : blkM q (kk x1) (bias (F := Ideal) (⊥ : EReal) br j) (ix2 i d) = c2 * specM (hd x0 d) (hd x1 d) D p :=
  blkM_spec (byPos x0) (byPos x1) br D p j i g.h0 g.hq (g.hk x1) g.hp g.hj d
theorem Good.l : blkL q (kk x1) (bias (F := Ideal) (⊥ : EReal) br j) (ix2 i d) = specL (hd x0 d) (hd x1 d) D p :=
  blkL_spec (byPos x0) (byPos x1) br D p j i g.h0 g.hq (g.hk x1) g.hp g.hj d
theorem Good.a : blkA q (kk x1) (kk x2) (bias (F := Ideal) (⊥ : EReal) br j) (ix2 i d)
    = specA (hd x0 d) (hd x1 d) (hd x2 d) D p (laneOf d) :=
  blkA_spec (byPos x0) (byPos x1) (byPos x2) br D p j i g.h0 g.hq (g.hk x1) (g.hk x2) g.hp g.hj d
end Any

/-- What the three branches store, where each stores the query's own value. -/
theorem spread_at {f16 : Fin 16 × Fin 2 → FVec Ideal S128x128 .f32} {f4 : Fin 4 × Fin 8 → FVec Ideal S128x128 .f32}
    {f1 : Fin 32 → FVec Ideal S128x128 .f32} {G : ℕ → EReal}
    (h1 : f1 ⟨n.val / 8, by omega⟩ (ix2 ⟨r.val * 8 + n.val % 8, by omega⟩ d) = G 1)
    (h4 : f4 (⟨r.val % 4, by omega⟩, ⟨n.val / 32, by omega⟩) (ix2 ⟨r.val / 4 * 32 + n.val % 32, by omega⟩ d) = G 4)
    (h16 : f16 (r, ⟨n.val / 128, by omega⟩) (ix2 ⟨n.val % 128, by omega⟩ d) = G 16) (br : Fin 3) :
    spread f16 f4 f1 (ix4 br r n d) = G (stride br) := by
  unfold spread
  rcases (show br = 0 ∨ br = 1 ∨ br = 2 by omega) with rfl | rfl | rfl
  · exact (if_pos rfl).trans h1
  · exact (if_neg (show ¬ (1 : ℕ) = 0 by decide)).trans ((if_pos rfl).trans h4)
  · exact (if_neg (show ¬ (2 : ℕ) = 0 by decide)).trans ((if_neg (show ¬ (2 : ℕ) = 1 by decide)).trans h16)

include hx

/-- Every branch's maxima, at position `16 n + r`. -/
theorem accM_at (br : Fin 3) : accM (F := Ideal) sc2 (⊥ : EReal) x0 x1 (ix4 br r n d)
    = c2 * specM (hd x0 d) (hd x1 d) (stride br) (16 * n.val + r.val) := by
  unfold accM
  refine spread_at r n d (G := fun D => c2 * specM (hd x0 d) (hd x1 d) D (16 * n.val + r.val))
    ?_ ?_ ?_ br
  · exact (good1 hx r n).m d
  · exact (good4 hx r n).m d
  · exact (good16 hx r n).m d

/-- Every branch's sums. -/
theorem accL_at (br : Fin 3) : accL (F := Ideal) sc2 (⊥ : EReal) x0 x1 (ix4 br r n d)
    = specL (hd x0 d) (hd x1 d) (stride br) (16 * n.val + r.val) := by
  unfold accL
  refine spread_at r n d (G := fun D => specL (hd x0 d) (hd x1 d) D (16 * n.val + r.val))
    ?_ ?_ ?_ br
  · exact (good1 hx r n).l d
  · exact (good4 hx r n).l d
  · exact (good16 hx r n).l d

/-- Every branch's weighted values. -/
theorem accA_at (br : Fin 3) : accA (F := Ideal) sc2 (⊥ : EReal) x0 x1 x2 (ix4 br r n d)
    = specA (hd x0 d) (hd x1 d) (hd x2 d) (stride br) (16 * n.val + r.val) (laneOf d) := by
  unfold accA
  refine spread_at r n d (G := fun D => specA (hd x0 d) (hd x1 d) (hd x2 d) D (16 * n.val + r.val) (laneOf d))
    ?_ ?_ ?_ br
  · exact (good1 hx r n).a d
  · exact (good4 hx r n).a d
  · exact (good16 hx r n).a d

omit hx in
/-- A residue's rows of a branch. -/
theorem rowOf_at (X : Vec Ideal S3x16x256x128 .f32) (br : Fin 3) : rowOf X br r (ix2 n d) = X (ix4 br r n d) := by
  unfold rowOf flat
  refine (shapeCast_apply (s := S1x1x256x128) (t := S256x128) _ _ _ (ix4 0 0 n d) ?_).trans ?_
  · rw [Shape.rowMajor_val_two, Shape.rowMajor_val_four]
    show ((0 * 1 + 0) * 256 + n.val) * 128 + d.val = n.val * 128 + d.val
    omega
  · refine congrArg X (funext fun a => ?_)
    match a with
    | ⟨0, _⟩ => exact Fin.ext (by show br.val + 1 * 0 = br.val; omega)
    | ⟨1, _⟩ => exact Fin.ext (by show r.val + 1 * 0 = r.val; omega)
    | ⟨2, _⟩ => exact Fin.ext (by show 0 + 1 * n.val = n.val; omega)
    | ⟨3, _⟩ => exact Fin.ext (by show 0 + 1 * d.val = d.val; omega)

omit hx in
/-- The merged result at an index. -/
theorem merged_at (m0 m1 m2 a0 a1 a2 l0 l1 l2 : FVec Ideal S256x128 .f32) (y : S256x128.Idx) :
    merged m0 m1 m2 a0 a1 a2 l0 l1 l2 y = Ideal.div
      ((0 : EReal) + Ideal.exp2 (m0 y - max (max (m0 y) (m1 y)) (m2 y)) * a0 y + Ideal.exp2 (m1 y - max (max (m0 y) (m1 y)) (m2 y)) * a1 y
        + Ideal.exp2 (m2 y - max (max (m0 y) (m1 y)) (m2 y)) * a2 y)
      ((0 : EReal) + Ideal.exp2 (m0 y - max (max (m0 y) (m1 y)) (m2 y)) * l0 y + Ideal.exp2 (m1 y - max (max (m0 y) (m1 y)) (m2 y)) * l1 y
        + Ideal.exp2 (m2 y - max (max (m0 y) (m1 y)) (m2 y)) * l2 y) := by
  rw [← word_zero]
  rfl

omit hx in
/-- The result block, row by row. -/
theorem outOf_row (sc mk : Ideal .f32) : outOf (F := Ideal) sc mk x0 x1 x2 (ix2 ⟨256 * r.val + n.val, by omega⟩ d)
    = merged (rowOf (accM sc mk x0 x1) 0 r) (rowOf (accM sc mk x0 x1) 1 r) (rowOf (accM sc mk x0 x1) 2 r)
      (rowOf (accA sc mk x0 x1 x2) 0 r) (rowOf (accA sc mk x0 x1 x2) 1 r) (rowOf (accA sc mk x0 x1 x2) 2 r)
      (rowOf (accL sc mk x0 x1) 0 r) (rowOf (accL sc mk x0 x1) 1 r) (rowOf (accL sc mk x0 x1) 2 r) (ix2 n d) := by
  have hr := r.isLt
  have hn := n.isLt
  have key : ∀ (r' : Fin 16) (n' : Fin 256), r' = r → n' = n →
      merged (rowOf (accM sc mk x0 x1) 0 r') (rowOf (accM sc mk x0 x1) 1 r') (rowOf (accM sc mk x0 x1) 2 r')
        (rowOf (accA sc mk x0 x1 x2) 0 r') (rowOf (accA sc mk x0 x1 x2) 1 r') (rowOf (accA sc mk x0 x1 x2) 2 r')
        (rowOf (accL sc mk x0 x1) 0 r') (rowOf (accL sc mk x0 x1) 1 r') (rowOf (accL sc mk x0 x1) 2 r') (ix2 n' d)
      = merged (rowOf (accM sc mk x0 x1) 0 r) (rowOf (accM sc mk x0 x1) 1 r) (rowOf (accM sc mk x0 x1) 2 r)
        (rowOf (accA sc mk x0 x1 x2) 0 r) (rowOf (accA sc mk x0 x1 x2) 1 r) (rowOf (accA sc mk x0 x1 x2) 2 r)
        (rowOf (accL sc mk x0 x1) 0 r) (rowOf (accL sc mk x0 x1) 1 r) (rowOf (accL sc mk x0 x1) 2 r) (ix2 n d) := by
    rintro _ _ rfl rfl; rfl
  exact key ⟨(256 * r.val + n.val) / 256, by omega⟩ ⟨(256 * r.val + n.val) % 256, by omega⟩
    (Fin.ext (by show (256 * r.val + n.val) / 256 = r.val; omega)) (Fin.ext (by show (256 * r.val + n.val) % 256 = n.val; omega))

/-- The result block at position `16 n + r`: the attention of the lane's head. -/
theorem outOf_at : outOf (F := Ideal) sc2 (⊥ : EReal) x0 x1 x2 (ix2 ⟨256 * r.val + n.val, by omega⟩ d)
    = attn (hd x0 d) (hd x1 d) (hd x2 d) (16 * n.val + r.val) (laneOf d) := by
  rw [outOf_row, merged_at]
  simp only [rowOf_at]
  rw [accM_at hx, accM_at hx, accM_at hx, accL_at hx, accL_at hx, accL_at hx, accA_at hx, accA_at hx, accA_at hx]
  simp only [c2_max, ← c2_sub, exp2_c2]
  rfl

end Blocks

end Cert.Attn

end
-- ==== Proof.Arrays.lean ====
/- The kernel's whole result from its arguments: at every row and lane the attention of one head of one batch. -/
module

public import proofs.«01_k».proof.Proof.Run
public import proofs.«01_k».proof.Proof.Values
public import Idealize.ShloMosaic.Lib.Pipeline.ValueKit

@[expose] public section

set_option maxRecDepth 16384

noncomputable section

namespace Cert.KernelIdeal.Own

open Cert.KernelIdeal Cert.KernelIdeal.Gen
open Idealize.ShloMosaic hiding ix0 ix1 ix2 ix3 ix4 ix5 ix6
open Idealize.ShloMosaic.ValueIdx
open Idealize.ShloMosaic.TcCoe Idealize.ShloMosaic.Tactic
open Idealize.SL.Sem

/-- The argument's row that the kernel's row `R` is: the rows lie residue by residue. -/
def posOf (R : ℕ) : ℕ := 16 * (R % 256) + R % 4096 / 256

theorem posOf_lt (R : ℕ) : posOf R < 4096 := by unfold posOf; omega

theorem posOf_at (T u w : ℕ) (hu : u < 16) (hw : w < 256) : posOf (4096 * T + (256 * u + w)) = 16 * w + u := by unfold posOf; omega

/-- One head of one batch of an argument, by position (cyclically). -/
def headArr (a : S4x4096x512.Idx → EReal) (b : Fin 4) (h : Fin 8) : ℕ → Fin 64 → EReal :=
  fun p e => a (ix3 b ⟨p % 4096, Nat.mod_lt _ (by norm_num)⟩ ⟨64 * h.val + e.val, by omega⟩)

/-- The result's value at a row and a lane. -/
def outAt (a0 a1 a2 : S4x4096x512.Idx → EReal) (R : Fin 16384) (C : Fin 512) : EReal :=
  Attn.attn (headArr a0 ⟨R.val / 4096, by omega⟩ ⟨C.val / 64, by omega⟩) (headArr a1 ⟨R.val / 4096, by omega⟩ ⟨C.val / 64, by omega⟩)
    (headArr a2 ⟨R.val / 4096, by omega⟩ ⟨C.val / 64, by omega⟩) (posOf R.val) ⟨C.val % 64, Nat.mod_lt _ (by norm_num)⟩

/-- An argument laid out residue by residue. -/
def laid (a : S4x4096x512.Idx → EReal) : S16384x512.Idx → EReal :=
  shapeCast (s := S4x16x256x512) S16384x512 (transpose S4x16x256x512 [0, 2, 1, 3] (shapeCast (s := S4x4096x512) S4x256x16x512 a shapeCasts_S4x4096x512_S4x256x16x512)
    transposes_S4x256x16x512_S4x16x256x512_0_2_1_3) shapeCasts_S4x16x256x512_S16384x512

theorem laid_at (a : S4x4096x512.Idx → EReal) (R : Fin 16384) (C : Fin 512) :
    laid a (ix2 R C) = a (ix3 ⟨R.val / 4096, by omega⟩ ⟨posOf R.val, posOf_lt _⟩ C) := by
  have hR := R.isLt
  have hC := C.isLt
  have h0 : R.val / 4096 < 4 := by omega
  have h1 : R.val % 4096 / 256 < 16 := by omega
  have h2 : R.val % 256 < 256 := by omega
  refine (shapeCast_apply (s := S4x16x256x512) (t := S16384x512) _ _ _ (ix4 ⟨_, h0⟩ ⟨_, h1⟩ ⟨_, h2⟩ C) ?_).trans ?_
  · rw [Shape.rowMajor_val_two, Shape.rowMajor_val_four]
    show ((R.val / 4096 * 16 + R.val % 4096 / 256) * 256 + R.val % 256) * 512 + C.val = R.val * 512 + C.val
    omega
  refine (transpose_apply (s := S4x256x16x512) (t := S4x16x256x512) [0, 2, 1, 3] _ _ _ (ix4 ⟨_, h0⟩ ⟨_, h2⟩ ⟨_, h1⟩ C) ?_).trans ?_
  · intro b; fin_cases b <;> rfl
  refine (shapeCast_apply (s := S4x4096x512) (t := S4x256x16x512) _ _ _ (ix3 ⟨_, h0⟩ ⟨posOf R.val, posOf_lt _⟩ C) ?_)
  rw [Shape.rowMajor_val_three, Shape.rowMajor_val_four]
  show (R.val / 4096 * 4096 + (16 * (R.val % 256) + R.val % 4096 / 256)) * 512 + C.val = ((R.val / 4096 * 256 + R.val % 256) * 16 + R.val % 4096 / 256) * 512 + C.val
  omega

theorem index_t (t : Fin cfg0.N) : (win0_0.index t 0 = t.val / 4 ∧ win0_0.index t 1 = t.val % 4) ∧ (win0_1.index t 0 = t.val / 4 ∧ win0_1.index t 1 = t.val % 4)
    ∧ (win0_2.index t 0 = t.val / 4 ∧ win0_2.index t 1 = t.val % 4) ∧ (win0_3.index t 0 = t.val / 4 ∧ win0_3.index t 1 = t.val % 4) := by
  revert t; decide +kernel

variable (m : (ℓ : Loc nD τ sig) → Buf (Elt Ideal) ℓ) (ρ : Dev nD → PrngReg)

theorem V_v3 (c : Dev nD) : V m c main_v3 = laid (m ((c : Thread nD τ).loc main_arg0)) := by
  show StableHlo.after hostOps0 _ main_v3 = _
  simp only [hostOps0]
  after_results_simp
  rfl

theorem V_v7 (c : Dev nD) : V m c main_v7 = laid (m ((c : Thread nD τ).loc main_arg1)) := by
  show StableHlo.after hostOps0 _ main_v7 = _
  simp only [hostOps0]
  after_results_simp
  rfl

theorem V_v11 (c : Dev nD) : V m c main_v11 = laid (m ((c : Thread nD τ).loc main_arg2)) := by
  show StableHlo.after hostOps0 _ main_v11 = _
  simp only [hostOps0]
  after_results_simp
  rfl

/-- The array's place of a block's row and lane. -/
def place (t : Fin 16) (r : Fin 4096) (d : Fin 128) : S16384x512.Idx := ix2 ⟨4096 * (t.val / 4) + r.val, by omega⟩ ⟨128 * (t.val % 4) + d.val, by omega⟩

/-- A window whose block index is the batch and the pair of heads places its blocks so. -/
theorem place_of (X : S16384x512.Idx → EReal) (t : Fin 16) (r : Fin 4096) (d : Fin 128) (y : S16384x512.Idx)
    (h0 : (y 0).val = t.val / 4 * 4096 + r.val) (h1 : (y 1).val = t.val % 4 * 128 + d.val) : X y = X (place t r d) := by
  refine congrArg X (funext fun a => Fin.ext ?_)
  fin_cases a
  · exact h0.trans (congrArg (· + r.val) (Nat.mul_comm _ _))
  · exact h1.trans (congrArg (· + d.val) (Nat.mul_comm _ _))

theorem iblk_0 (c : Dev nD) (t : Fin 16) (r : Fin 4096) (d : Fin 128) : iblk m c 0 t (ix2 r d) = laid (m ((c : Thread nD τ).loc main_arg0)) (place t r d) :=
  (place_of (V m c main_v3) t r d _ ((Pipeline.Window.rect_emb_val win0_0 t (ix2 r d) 0).trans (by rw [(index_t t).1.1]; rfl))
    ((Pipeline.Window.rect_emb_val win0_0 t (ix2 r d) 1).trans (by rw [(index_t t).1.2]; rfl))).trans (congrFun (V_v3 m c) _)

theorem iblk_1 (c : Dev nD) (t : Fin 16) (r : Fin 4096) (d : Fin 128) : iblk m c 1 t (ix2 r d) = laid (m ((c : Thread nD τ).loc main_arg1)) (place t r d) :=
  (place_of (V m c main_v7) t r d _ ((Pipeline.Window.rect_emb_val win0_1 t (ix2 r d) 0).trans (by rw [(index_t t).2.1.1]; rfl))
    ((Pipeline.Window.rect_emb_val win0_1 t (ix2 r d) 1).trans (by rw [(index_t t).2.1.2]; rfl))).trans (congrFun (V_v7 m c) _)

theorem iblk_2 (c : Dev nD) (t : Fin 16) (r : Fin 4096) (d : Fin 128) : iblk m c 2 t (ix2 r d) = laid (m ((c : Thread nD τ).loc main_arg2)) (place t r d) :=
  (place_of (V m c main_v11) t r d _ ((Pipeline.Window.rect_emb_val win0_2 t (ix2 r d) 0).trans (by rw [(index_t t).2.2.1.1]; rfl))
    ((Pipeline.Window.rect_emb_val win0_2 t (ix2 r d) 1).trans (by rw [(index_t t).2.2.1.2]; rfl))).trans (congrFun (V_v11 m c) _)

/-- A head's part of a block, by position, is that head of the argument. -/
theorem hd_of (a : S4x4096x512.Idx → EReal) (x : S4096x128.Idx → EReal) (t : Fin 16) (hx : ∀ r d, x (ix2 r d) = laid a (place t r d)) (d : Fin 128)
    (b : Fin 4) (h : Fin 8) (hb : b.val = t.val / 4) (hh : h.val = 2 * (t.val % 4) + d.val / 64) : Attn.hd x d = headArr a b h := by
  funext p e
  have ht := t.isLt
  have hd := d.isLt
  have he := e.isLt
  show x (ix2 (Attn.rowAt p) (Attn.lane (Attn.headOf d) e)) = _
  refine (hx _ _).trans ((laid_at a _ _).trans (congrArg a (funext fun k => Fin.ext ?_)))
  fin_cases k
  · show (4096 * (t.val / 4) + (256 * (p % 16) + p / 16 % 256)) / 4096 = b.val
    omega
  · show posOf (4096 * (t.val / 4) + (256 * (p % 16) + p / 16 % 256)) = p % 4096
    rw [posOf_at (t.val / 4) (p % 16) (p / 16 % 256) (by omega) (by omega)]
    omega
  · show 128 * (t.val % 4) + (64 * (d.val / 64) + e.val) = 64 * h.val + e.val
    omega

theorem sc_eq : sc Ideal = Attn.sc2 := IdealRules.named_const.ideal_named_scalar κ "scale2" _ _ rfl
theorem mk_eq : mk Ideal = (⊥ : EReal) := IdealRules.named_const.ideal_named_scalar κ "mask" _ _ rfl

/-- The result's value at a block's row and lane. -/
theorem outBlk_at (c : Dev nD) (hx : ∀ y, m ((c : Thread nD τ).loc main_arg0) y ≠ (⊥ : EReal) ∧ m ((c : Thread nD τ).loc main_arg0) y ≠ (⊤ : EReal)) (t : Fin 16) (r : Fin 4096) (d : Fin 128) :
    outBlk m c t (ix2 r d) = outAt (m ((c : Thread nD τ).loc main_arg0)) (m ((c : Thread nD τ).loc main_arg1)) (m ((c : Thread nD τ).loc main_arg2))
      ⟨4096 * (t.val / 4) + r.val, by omega⟩ ⟨128 * (t.val % 4) + d.val, by omega⟩ := by
  have ht := t.isLt
  have hd := d.isLt
  have hr := r.isLt
  unfold outBlk outAt
  rw [sc_eq, mk_eq]
  have e : (ix2 r d : S4096x128.Idx) = ix2 ⟨256 * (⟨r.val / 256, by omega⟩ : Fin 16).val + (⟨r.val % 256, by omega⟩ : Fin 256).val, by show 256 * (r.val / 256) + r.val % 256 < 4096; omega⟩ d :=
    congrArg (fun z : Fin 4096 => (ix2 z d : S4096x128.Idx)) (Fin.ext (by show r.val = 256 * (r.val / 256) + r.val % 256; omega))
  have hfin : Attn.Fin0 (iblk m c 0 t) := fun y => by
    rw [(congrArg (iblk m c 0 t) (ValueIdx.eq_ix2 y)).trans (iblk_0 m c t (y 0) (y 1))]
    exact hx _
  rw [e]
  refine (Attn.outOf_at hfin _ _ d).trans ?_
  rw [hd_of _ _ t (iblk_0 m c t) d ⟨(4096 * (t.val / 4) + r.val) / 4096, by omega⟩ ⟨(128 * (t.val % 4) + d.val) / 64, by omega⟩ (by show _ / 4096 = _; omega) (by show _ / 64 = _; omega),
    hd_of _ _ t (iblk_1 m c t) d ⟨(4096 * (t.val / 4) + r.val) / 4096, by omega⟩ ⟨(128 * (t.val % 4) + d.val) / 64, by omega⟩ (by show _ / 4096 = _; omega) (by show _ / 64 = _; omega),
    hd_of _ _ t (iblk_2 m c t) d ⟨(4096 * (t.val / 4) + r.val) / 4096, by omega⟩ ⟨(128 * (t.val % 4) + d.val) / 64, by omega⟩ (by show _ / 4096 = _; omega) (by show _ / 64 = _; omega)]
  congr 1
  · show 16 * (r.val % 256) + r.val / 256 = posOf (4096 * (t.val / 4) + r.val)
    unfold posOf
    omega
  · exact Fin.ext (by show d.val % 64 = (128 * (t.val % 4) + d.val) % 64; omega)

/-- The whole result. -/
def outArr (a0 a1 a2 : S4x4096x512.Idx → EReal) : S16384x512.Idx → EReal := fun y => outAt a0 a1 a2 (y 0) (y 1)

/-- The program ends with the result at the attention of its arguments, whose queries are finite, and the arguments unchanged. -/
theorem run_value (hx : ∀ (c : Dev nD) y, m ((c : Thread nD τ).loc main_arg0) y ≠ (⊥ : EReal) ∧ m ((c : Thread nD τ).loc main_arg0) y ≠ (⊤ : EReal)) :
    θ_run defs (onTc (τ := τ) (main (F := Ideal))) ⟨m, fun _ => 0, ρ⟩ fun r => ∀ c : Dev nD,
      r.2.mem ((c : Thread nD τ).loc main_v12) = outArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨funext fun y => by
      have hy0 : (y 0).val < 16384 := (y 0).isLt
      have hy1 : (y 1).val < 512 := (y 1).isLt
      let t : Fin 16 := ⟨4 * ((y 0).val / 4096) + (y 1).val / 128, by omega⟩
      let r' : Fin 4096 := ⟨(y 0).val % 4096, by omega⟩
      let d : Fin 128 := ⟨(y 1).val % 128, by omega⟩
      have e0 : 4096 * (t.val / 4) + r'.val = (y 0).val := by
        show 4096 * ((4 * ((y 0).val / 4096) + (y 1).val / 128) / 4) + (y 0).val % 4096 = (y 0).val; omega
      have e1 : 128 * (t.val % 4) + d.val = (y 1).val := by
        show 128 * ((4 * ((y 0).val / 4096) + (y 1).val / 128) % 4) + (y 1).val % 128 = (y 1).val; omega
      have k := congrFun ((h c).1 t) (ix2 r' d)
      have k1 := place_of (r.2.mem ((c : Thread nD τ).loc main_v12)) t r' d _
        ((Pipeline.Window.rect_emb_val win0_3 t (ix2 r' d) 0).trans (by rw [(index_t t).2.2.2.1]; rfl))
        ((Pipeline.Window.rect_emb_val win0_3 t (ix2 r' d) 1).trans (by rw [(index_t t).2.2.2.2]; rfl))
      have ey : place t r' d = y := by
        funext a; fin_cases a
        · exact Fin.ext e0
        · exact Fin.ext e1
      rw [ey] at k1
      refine k1.symm.trans (k.trans ((outBlk_at m c (hx c) t r' d).trans ?_))
      unfold outArr
      congr 1
      · exact Fin.ext e0
      · exact Fin.ext e1, (h c).2⟩)
    (run_blocks m ρ)

end Cert.KernelIdeal.Own

end
-- ==== Proof.RefTotal.lean ====
/- The reference's three branches together, and its result's arrangement. -/
module

public import proofs.«01_k».proof.Proof.RefBranch
public import proofs.«01_k».proof.Proof.Arrays
public import proofs.«01_k».proof.Proof.Gen.ReferenceIdeal

@[expose] public section

set_option maxRecDepth 16384

noncomputable section

namespace Cert.ReferenceIdeal.Own

open Cert.ReferenceIdeal Cert.ReferenceIdeal.Gen
open Idealize.ShloMosaic hiding ix0 ix1 ix2 ix3 ix4 ix5 ix6
open Idealize.ShloMosaic.ValueIdx

/-- Each branch's shapes fit together. -/
theorem sides {D nb L : ℕ} (hB : Attn.Br D nb L) : Attn.Sides D nb L := by
  rcases hB with ⟨rfl, rfl, rfl⟩ | ⟨rfl, rfl, rfl⟩ | ⟨rfl, rfl, rfl⟩ <;> constructor <;>
    first
    | (unfold Attn.Br; decide)
    | decide
    | (intro X hX; rcases hX with rfl | rfl <;> decide)

theorem br1 : Attn.Br 1 32 4096 := .inl ⟨rfl, rfl, rfl⟩
theorem br4 : Attn.Br 4 8 1024 := .inr (.inl ⟨rfl, rfl, rfl⟩)
theorem br16 : Attn.Br 16 2 256 := .inr (.inr ⟨rfl, rfl, rfl⟩)

section Three
variable (M1 M4 M16 L1 L4 L16 : FVec Ideal S4x4096x8x1 .f32) (A1 A4 A16 : FVec Ideal S4x4096x8x64 .f32)

/-- The greatest scores of the three branches. -/
def topArr : FVec Ideal S4x4096x8x1 .f32 :=
  Host.reduce FloatOps.maximumf (concatenate S3x4x4096x8x1 0 [⟨S1x4x4096x8x1, broadcastInDim S1x4x4096x8x1 ![1, 2, 3, 4] bcast_S4x4096x8x1_S1x4x4096x8x1_1_2_3_4 M1⟩,
      ⟨S1x4x4096x8x1, broadcastInDim S1x4x4096x8x1 ![1, 2, 3, 4] bcast_S4x4096x8x1_S1x4x4096x8x1_1_2_3_4 M4⟩,
      ⟨S1x4x4096x8x1, broadcastInDim S1x4x4096x8x1 ![1, 2, 3, 4] bcast_S4x4096x8x1_S1x4x4096x8x1_1_2_3_4 M16⟩]
    concatenates_S1x4x4096x8x1_S1x4x4096x8x1_S1x4x4096x8x1_S3x4x4096x8x1_d0) (constant S_ .f32 0xFF800000#32) reducesTo_S3x4x4096x8x1_S4x4096x8x1_d0 h_S_

/-- The factor of a branch. -/
def partArr (M : FVec Ideal S4x4096x8x1 .f32) : FVec Ideal S4x4096x8x1 .f32 := Host.exp (subf M (topArr M1 M4 M16))

/-- The weighted values of the three branches over the sums of their weights. -/
def totalArr : FVec Ideal S4x4096x8x64 .f32 :=
  Host.divf
    (addf (addf (addf (broadcastInDim S4x4096x8x64 ![] bcast_S_S4x4096x8x64 (constant S_ .f32 0x00000000#32))
      (mulf (broadcastInDim S4x4096x8x64 ![0, 1, 2, 3] bcast_S4x4096x8x1_S4x4096x8x64_0_1_2_3 (partArr M1 M4 M16 M1)) A1))
      (mulf (broadcastInDim S4x4096x8x64 ![0, 1, 2, 3] bcast_S4x4096x8x1_S4x4096x8x64_0_1_2_3 (partArr M1 M4 M16 M4)) A4))
      (mulf (broadcastInDim S4x4096x8x64 ![0, 1, 2, 3] bcast_S4x4096x8x1_S4x4096x8x64_0_1_2_3 (partArr M1 M4 M16 M16)) A16))
    (broadcastInDim S4x4096x8x64 ![0, 1, 2, 3] bcast_S4x4096x8x1_S4x4096x8x64_0_1_2_3
      (addf (addf (addf (broadcastInDim S4x4096x8x1 ![] bcast_S_S4x4096x8x1 (constant S_ .f32 0x00000000#32)) (mulf (partArr M1 M4 M16 M1) L1))
        (mulf (partArr M1 M4 M16 M4) L4)) (mulf (partArr M1 M4 M16 M16) L16)))

theorem fold3 (f : Fin 3 → EReal) : Finset.univ.fold max ⊥ f = max (max (f 0) (f 1)) (f 2) := by
  rw [show (Finset.univ : Finset (Fin 3)) = {0, 1, 2} from rfl]
  rw [Finset.fold_insert (by decide), Finset.fold_insert (by decide), Finset.fold_singleton, max_bot_right, max_assoc]

theorem three_reduce : S3x4x4096x8x1.Reduces [0] S4x4096x8x1 := ⟨rfl, by show 0 < 4; decide, fun c => by fin_cases c <;> rfl⟩

variable (b : Fin 4) (p : Fin 4096) (h : Fin 8) (e : Fin 64)

theorem piece (M : FVec Ideal S4x4096x8x1 .f32) :
    broadcastInDim S1x4x4096x8x1 ![1, 2, 3, 4] bcast_S4x4096x8x1_S1x4x4096x8x1_1_2_3_4 M (ix5 0 b p h 0) = M (ix4 b p h 0) := by
  refine broadcastInDim_apply (s := S4x4096x8x1) (t := S1x4x4096x8x1) ![1, 2, 3, 4] _ M _ _ ?_
  intro a; fin_cases a <;> rfl

theorem topArr_at : topArr M1 M4 M16 (ix4 b p h 0) = (max (max (M1 (ix4 b p h 0)) (M4 (ix4 b p h 0))) (M16 (ix4 b p h 0)) : EReal) := by
  refine (Host.reduce_eq_fold_single FloatOps.maximumf _ _ _ three_reduce h_S_ _).trans ?_
  rw [show (constant S_ .f32 0xFF800000#32 : FVec Ideal S_ .f32) (Shape.Idx.first h_S_) = (⊥ : EReal) from Attn.word_bot]
  refine (fold3 _).trans ?_
  congr 1
  · congr 1
    · exact (concatenate_apply_piece (t := S3x4x4096x8x1) 0 _ _ _ 0 (by exact (show 0 < 3 by decide)) S1x4x4096x8x1 _ rfl rfl 0 rfl (ix5 0 b p h 0)
        (fun c hc => by fin_cases c <;> first | rfl | exact absurd rfl hc) rfl).trans (piece b p h M1)
    · exact (concatenate_apply_piece (t := S3x4x4096x8x1) 0 _ _ _ 1 (by exact (show 1 < 3 by decide)) S1x4x4096x8x1 _ rfl rfl 1 rfl (ix5 0 b p h 0)
        (fun c hc => by fin_cases c <;> first | rfl | exact absurd rfl hc) rfl).trans (piece b p h M4)
  · exact (concatenate_apply_piece (t := S3x4x4096x8x1) 0 _ _ _ 2 (by exact (show 2 < 3 by decide)) S1x4x4096x8x1 _ rfl rfl 2 rfl (ix5 0 b p h 0)
        (fun c hc => by fin_cases c <;> first | rfl | exact absurd rfl hc) rfl).trans (piece b p h M16)

theorem lanes (x : FVec Ideal S4x4096x8x1 .f32) :
    broadcastInDim S4x4096x8x64 ![0, 1, 2, 3] bcast_S4x4096x8x1_S4x4096x8x64_0_1_2_3 x (ix4 b p h e) = x (ix4 b p h 0) := by
  refine broadcastInDim_apply (s := S4x4096x8x1) (t := S4x4096x8x64) ![0, 1, 2, 3] _ x _ _ ?_
  intro a; fin_cases a <;> rfl

/-- The factor of a greatest score `m` under the greatest of the three. -/
def fac (m1 m4 m16 m : EReal) : EReal := Ideal.exp (m - max (max m1 m4) m16)

theorem partArr_at (M : FVec Ideal S4x4096x8x1 .f32) :
    partArr M1 M4 M16 M (ix4 b p h 0) = fac (M1 (ix4 b p h 0)) (M4 (ix4 b p h 0)) (M16 (ix4 b p h 0)) (M (ix4 b p h 0)) :=
  congrArg (fun z : EReal => Ideal.exp (M (ix4 b p h 0) - z)) (topArr_at M1 M4 M16 b p h)

/-- The three branches' sums, by their greatest scores. -/
def sum3 (m1 m4 m16 x1 x4 x16 : EReal) : EReal := 0 + fac m1 m4 m16 m1 * x1 + fac m1 m4 m16 m4 * x4 + fac m1 m4 m16 m16 * x16

theorem totalArr_at : totalArr M1 M4 M16 L1 L4 L16 A1 A4 A16 (ix4 b p h e)
    = Ideal.div (sum3 (M1 (ix4 b p h 0)) (M4 (ix4 b p h 0)) (M16 (ix4 b p h 0)) (A1 (ix4 b p h e)) (A4 (ix4 b p h e)) (A16 (ix4 b p h e)))
      (sum3 (M1 (ix4 b p h 0)) (M4 (ix4 b p h 0)) (M16 (ix4 b p h 0)) (L1 (ix4 b p h 0)) (L4 (ix4 b p h 0)) (L16 (ix4 b p h 0))) := by
  unfold totalArr sum3
  show Ideal.div (((Ideal.ofBits .f32 0x00000000#32 + _ * _) + _ * _) + _ * _) _ = _
  rw [lanes, lanes, lanes, lanes, partArr_at, partArr_at, partArr_at, Ideal.ofBits_zero_f32]
  refine congrArg (Ideal.div _) ?_
  show (((Ideal.ofBits .f32 0x00000000#32 + partArr M1 M4 M16 M1 (ix4 b p h 0) * _) + partArr M1 M4 M16 M4 (ix4 b p h 0) * _) + partArr M1 M4 M16 M16 (ix4 b p h 0) * _ : EReal) = _
  rw [partArr_at, partArr_at, partArr_at, Ideal.ofBits_zero_f32]

end Three

/-! ## The arguments and the result -/

/-- An argument, head by head. -/
def heads (a : FVec Ideal S4x4096x512 .f32) : FVec Ideal S4x4096x8x64 .f32 := shapeCast S4x4096x8x64 a shapeCasts_S4x4096x512_S4x4096x8x64

theorem heads_at (a : FVec Ideal S4x4096x512 .f32) (b : Fin 4) (h : Fin 8) : Attn.headOfArr (heads a) b h = KernelIdeal.Own.headArr a b h := by
  funext p e
  have hp : p % 4096 < 4096 := Nat.mod_lt _ (by norm_num)
  have he := e.isLt
  have hh := h.isLt
  refine shapeCast_apply (s := S4x4096x512) (t := S4x4096x8x64) _ _ _ (ix3 b ⟨p % 4096, hp⟩ ⟨64 * h.val + e.val, by omega⟩) ?_
  rw [Shape.rowMajor_val_three, Shape.rowMajor_val_four]
  show (b.val * 4096 + p % 4096) * 512 + (64 * h.val + e.val) = ((b.val * 4096 + p % 4096) * 8 + h.val) * 64 + e.val
  omega

/-- The scaled queries. -/
def scaled (a : FVec Ideal S4x4096x512 .f32) : FVec Ideal S4x4096x8x64 .f32 :=
  mulf (heads a) (broadcastInDim S4x4096x8x64 ![] bcast_S_S4x4096x8x64 (constant S_ .f32 0x3E000000#32))

theorem word_eighth : (Ideal.ofBits .f32 0x3E000000#32 : EReal) = ((1 / 8 : ℝ) : EReal) := by
  simp [Ideal.ofBits, Ideal.ieee, -EReal.coe_mul]
  norm_num

theorem scaled_at (a : FVec Ideal S4x4096x512 .f32) (y : S4x4096x8x64.Idx) : scaled a y = (heads a y * ((1 / 8 : ℝ) : EReal) : EReal) :=
  congrArg (fun z : EReal => heads a y * z) word_eighth

/-- The scores of a branch of the arguments. -/
def sc {D nb L : ℕ} (hB : Attn.Br D nb L) (a0 a1 : FVec Ideal S4x4096x512 .f32) : FVec Ideal (Attn.p6 D nb 128 256) .f32 :=
  Attn.scoreArr (sides hB) (scaled a0) (heads a1)

/-- The greatest scores of a branch, by position. -/
def greatest {D nb L : ℕ} (hB : Attn.Br D nb L) (a0 a1 : FVec Ideal S4x4096x512 .f32) : FVec Ideal S4x4096x8x1 .f32 :=
  Attn.mergeArr (sides hB) 1 (.inl rfl) (Attn.maxArr (sides hB) (sc hB a0 a1))

/-- The sums of the weights of a branch, by position. -/
def weightSum {D nb L : ℕ} (hB : Attn.Br D nb L) (a0 a1 : FVec Ideal S4x4096x512 .f32) : FVec Ideal S4x4096x8x1 .f32 :=
  Attn.mergeArr (sides hB) 1 (.inl rfl) (Attn.sumArr (sides hB) (Attn.weightArr (sides hB) (sc hB a0 a1)))

/-- The weighted values of a branch, by position. -/
def weighted {D nb L : ℕ} (hB : Attn.Br D nb L) (a0 a1 a2 : FVec Ideal S4x4096x512 .f32) : FVec Ideal S4x4096x8x64 .f32 :=
  Attn.mergeArr (sides hB) 64 (.inr rfl) (Attn.valueArr (sides hB) (Attn.weightArr (sides hB) (sc hB a0 a1)) (heads a2))

/-- The attention of the arguments. -/
def attnArr (a0 a1 a2 : FVec Ideal S4x4096x512 .f32) : FVec Ideal S4x4096x8x64 .f32 :=
  totalArr (greatest br1 a0 a1) (greatest br4 a0 a1) (greatest br16 a0 a1) (weightSum br1 a0 a1) (weightSum br4 a0 a1) (weightSum br16 a0 a1)
    (weighted br1 a0 a1 a2) (weighted br4 a0 a1 a2) (weighted br16 a0 a1 a2)

section Values
variable (a0 a1 a2 : FVec Ideal S4x4096x512 .f32) (b : Fin 4) (p : Fin 4096) (h : Fin 8) (e : Fin 64)

theorem greatest_at {D nb L : ℕ} (hB : Attn.Br D nb L) :
    greatest hB a0 a1 (ix4 b p h 0) = Attn.specM (KernelIdeal.Own.headArr a0 b h) (KernelIdeal.Own.headArr a1 b h) D p.val := by
  rw [← heads_at, ← heads_at]
  exact Attn.mergeMax (sides hB) (heads a0) (scaled a0) (heads a1) b h p (scaled_at a0)

theorem weightSum_at {D nb L : ℕ} (hB : Attn.Br D nb L) :
    weightSum hB a0 a1 (ix4 b p h 0) = Attn.specL (KernelIdeal.Own.headArr a0 b h) (KernelIdeal.Own.headArr a1 b h) D p.val := by
  rw [← heads_at, ← heads_at]
  exact Attn.mergeSum (sides hB) (heads a0) (scaled a0) (heads a1) b h p (scaled_at a0)

theorem weighted_at {D nb L : ℕ} (hB : Attn.Br D nb L) :
    weighted hB a0 a1 a2 (ix4 b p h e)
      = Attn.specA (KernelIdeal.Own.headArr a0 b h) (KernelIdeal.Own.headArr a1 b h) (KernelIdeal.Own.headArr a2 b h) D p.val e := by
  rw [← heads_at, ← heads_at, ← heads_at]
  exact Attn.mergeValue (sides hB) (heads a0) (scaled a0) (heads a1) (heads a2) b h p (scaled_at a0) e

theorem attnArr_at : attnArr a0 a1 a2 (ix4 b p h e)
    = Attn.attn (KernelIdeal.Own.headArr a0 b h) (KernelIdeal.Own.headArr a1 b h) (KernelIdeal.Own.headArr a2 b h) p.val e := by
  refine (totalArr_at _ _ _ _ _ _ _ _ _ b p h e).trans ?_
  rw [greatest_at, greatest_at, greatest_at, weightSum_at, weightSum_at, weightSum_at, weighted_at, weighted_at, weighted_at]
  rfl

end Values

/-- The result's arrangement. -/
def arranged (x : FVec Ideal S4x4096x8x64 .f32) : S16384x512.Idx → EReal := KernelIdeal.Own.laid (shapeCast S4x4096x512 x shapeCasts_S4x4096x8x64_S4x4096x512)

theorem arranged_attn (a0 a1 a2 : FVec Ideal S4x4096x512 .f32) : arranged (attnArr a0 a1 a2) = KernelIdeal.Own.outArr a0 a1 a2 := by
  funext y
  have hR : (y 0).val < 16384 := (y 0).isLt
  have hC : (y 1).val < 512 := (y 1).isLt
  have h0 : (y 0).val / 4096 < 4 := by omega
  have h1 : (y 1).val / 64 < 8 := by omega
  have h2 : (y 1).val % 64 < 64 := Nat.mod_lt _ (by norm_num)
  refine (congrArg (arranged _) (ValueIdx.eq_ix2 y)).trans ((KernelIdeal.Own.laid_at _ (y 0) (y 1)).trans ?_)
  refine (shapeCast_apply (s := S4x4096x8x64) (t := S4x4096x512) _ _ _ (ix4 ⟨_, h0⟩ ⟨_, KernelIdeal.Own.posOf_lt (y 0).val⟩ ⟨_, h1⟩ ⟨_, h2⟩) ?_).trans ?_
  · rw [Shape.rowMajor_val_three, Shape.rowMajor_val_four]
    show (((y 0).val / 4096 * 4096 + KernelIdeal.Own.posOf (y 0).val) * 8 + (y 1).val / 64) * 64 + (y 1).val % 64
      = ((y 0).val / 4096 * 4096 + KernelIdeal.Own.posOf (y 0).val) * 512 + (y 1).val
    omega
  exact attnArr_at a0 a1 a2 _ _ _ _

end Cert.ReferenceIdeal.Own

end
-- ==== Proof.RefValue.lean ====
/- The reference's run: its result is the attention of its arguments. -/
module

public import proofs.«01_k».proof.Proof.RefTotal
public import proofs.«01_k».proof.Proof.Gen.ReferenceIdeal.Run

@[expose] public section

set_option maxRecDepth 16384

noncomputable section

namespace Cert.ReferenceIdeal.Own

open Cert.ReferenceIdeal Cert.ReferenceIdeal.Gen Cert.ReferenceIdeal.Value
open Idealize.ShloMosaic hiding ix0 ix1 ix2 ix3 ix4 ix5 ix6
open Idealize.ShloMosaic.TcCoe Idealize.SL.Sem

section Terms
variable (V0 : Valuation τ sig (Elt Ideal))

/-- The queries, keys and values. -/
abbrev argQ : FVec Ideal S4x4096x512 .f32 := V0 (Proc.devRef .tc main_arg0)
abbrev argK : FVec Ideal S4x4096x512 .f32 := V0 (Proc.devRef .tc main_arg1)
abbrev argV : FVec Ideal S4x4096x512 .f32 := V0 (Proc.devRef .tc main_arg2)

theorem scores1 : res_main_v49 V0 = sc br1 (argQ V0) (argK V0) := rfl
theorem scores4 : res_main_v111 V0 = sc br4 (argQ V0) (argK V0) := rfl
theorem scores16 : res_main_v173 V0 = sc br16 (argQ V0) (argK V0) := rfl

theorem greatest1 : res_main_v63 V0 = greatest br1 (argQ V0) (argK V0) := by
  unfold res_main_v63 res_main_v51; rw [scores1]; rfl
theorem greatest4 : res_main_v125 V0 = greatest br4 (argQ V0) (argK V0) := by
  unfold res_main_v125 res_main_v113; rw [scores4]; rfl
theorem greatest16 : res_main_v187 V0 = greatest br16 (argQ V0) (argK V0) := by
  unfold res_main_v187 res_main_v175; rw [scores16]; rfl

theorem weights1 : res_main_v54 V0 = Attn.weightArr (sides br1) (sc br1 (argQ V0) (argK V0)) := by
  unfold res_main_v54 res_main_v51; rw [scores1]; rfl
theorem weights4 : res_main_v116 V0 = Attn.weightArr (sides br4) (sc br4 (argQ V0) (argK V0)) := by
  unfold res_main_v116 res_main_v113; rw [scores4]; rfl
theorem weights16 : res_main_v178 V0 = Attn.weightArr (sides br16) (sc br16 (argQ V0) (argK V0)) := by
  unfold res_main_v178 res_main_v175; rw [scores16]; rfl

theorem total : res_main_v226 V0 = attnArr (argQ V0) (argK V0) (argV V0) := by
  unfold res_main_v226 res_main_v195
  rw [greatest1, greatest4, greatest16, weights1, weights4, weights16]
  rfl

theorem result (x : FVec Ideal S4x4096x8x64 .f32) :
    truncf .bf16 (shapeCast S16384x512 (transpose S4x16x256x512 [0, 2, 1, 3] (shapeCast S4x256x16x512 (shapeCast S4x4096x512 x shapeCasts_S4x4096x8x64_S4x4096x512)
      shapeCasts_S4x4096x512_S4x256x16x512) transposes_S4x256x16x512_S4x16x256x512_0_2_1_3) shapeCasts_S4x16x256x512_S16384x512) bitsLt_bf16_f32 = arranged x := rfl

end Terms

/-- The reference ends with its result at the attention of its arguments, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v231)
        = KernelIdeal.Own.outArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, (h c).2⟩) (Value.run m ρ)
  refine (h c).1.trans ((result _).trans ?_)
  rw [total]
  exact arranged_attn _ _ _

end Cert.ReferenceIdeal.Own

end
-- ==== Proof.MoeSame.lean ====
/- The two experts' kernel before and after its floats are made real numbers is, read in bits, one program. -/
module

public import proofs.«01_k».proof.Defs
public import proofs.«01_k».proof.Proof.Gen.Kernel2.Launch
public import proofs.«01_k».proof.Proof.Gen.Kernel2Ideal.Launch

@[expose] public section

noncomputable section

namespace Cert.Proof.MoeSame

open Idealize.ShloMosaic Idealize.SL.Sem

/-- The host's operations are the same. -/
theorem o0 : Cert.Kernel2.Gen.hostOps0 (F := Bits) = Cert.Kernel2Ideal.Gen.hostOps0 (F := Bits) := rfl
theorem o1 : Cert.Kernel2.Gen.hostOps0_1 (F := Bits) = Cert.Kernel2Ideal.Gen.hostOps0_1 (F := Bits) := rfl
theorem o2 : Cert.Kernel2.Gen.hostOps0_2 (F := Bits) = Cert.Kernel2Ideal.Gen.hostOps0_2 (F := Bits) := rfl
theorem o3 : Cert.Kernel2.Gen.hostOps0_3 (F := Bits) = Cert.Kernel2Ideal.Gen.hostOps0_3 (F := Bits) := rfl
theorem o4 : Cert.Kernel2.Gen.hostOps0_4 (F := Bits) = Cert.Kernel2Ideal.Gen.hostOps0_4 (F := Bits) := rfl

theorem pe : @Cert.Kernel2.pcfgs Bits _ Cert.Kernel2.Gen.facts = @Cert.Kernel2Ideal.pcfgs Bits _ Cert.Kernel2Ideal.Gen.facts := rfl

/-- The launch's items in order. -/
abbrev chn (P : Fin 1 → Pipeline.PCfg Cert.Kernel2Ideal.sig Cert.Kernel2Ideal.Λ₀ (Elt Bits)) (l : Fin 5 → List (HloOp Cert.Kernel2Ideal.τ Cert.Kernel2Ideal.sig (Elt Bits))) :
    Prog (TpuEff Cert.Kernel2Ideal.nD Cert.Kernel2Ideal.τ Cert.Kernel2Ideal.sig (Elt Bits) (Pipeline.Sig Cert.Kernel2Ideal.Λ₀ (Fin 1) fun p => (P p).Adm) .tc) PUnit :=
  Pipeline.chain [StableHlo.seq (l 0), StableHlo.seq (l 1), StableHlo.seq (l 2), StableHlo.seq (l 3), StableHlo.seq (l 4), Prog.lift (.customCall (Pipeline.entry 0) ())]

abbrev lst (a b c d e : List (HloOp Cert.Kernel2Ideal.τ Cert.Kernel2Ideal.sig (Elt Bits))) : Fin 5 → List (HloOp Cert.Kernel2Ideal.τ Cert.Kernel2Ideal.sig (Elt Bits))
  | 0 => a | 1 => b | 2 => c | 3 => d | 4 => e

set_option maxHeartbeats 1000000 in
theorem m1 (c : Dev Cert.Kernel2.nD) : @Cert.Kernel2.main Bits _ Cert.Kernel2.Gen.facts c = chn (@Cert.Kernel2.pcfgs Bits _ Cert.Kernel2.Gen.facts) (lst Cert.Kernel2.Gen.hostOps0 Cert.Kernel2.Gen.hostOps0_1 Cert.Kernel2.Gen.hostOps0_2 Cert.Kernel2.Gen.hostOps0_3 Cert.Kernel2.Gen.hostOps0_4) :=
  Cert.Kernel2.Gen.main_chain c

set_option maxHeartbeats 1000000 in
theorem m2 (c : Dev Cert.Kernel2Ideal.nD) : @Cert.Kernel2Ideal.main Bits _ Cert.Kernel2Ideal.Gen.facts c = chn (@Cert.Kernel2Ideal.pcfgs Bits _ Cert.Kernel2Ideal.Gen.facts) (lst Cert.Kernel2Ideal.Gen.hostOps0 Cert.Kernel2Ideal.Gen.hostOps0_1 Cert.Kernel2Ideal.Gen.hostOps0_2 Cert.Kernel2Ideal.Gen.hostOps0_3 Cert.Kernel2Ideal.Gen.hostOps0_4) :=
  Cert.Kernel2Ideal.Gen.main_chain c

set_option maxHeartbeats 1000000 in
/-- The call's cases agree. -/
theorem df : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => funext fun x => ?_)
  match l, x with
  | 0, (t, s) => rfl

theorem lists : lst (Cert.Kernel2.Gen.hostOps0 (F := Bits)) Cert.Kernel2.Gen.hostOps0_1 Cert.Kernel2.Gen.hostOps0_2 Cert.Kernel2.Gen.hostOps0_3 Cert.Kernel2.Gen.hostOps0_4
    = lst (Cert.Kernel2Ideal.Gen.hostOps0 (F := Bits)) Cert.Kernel2Ideal.Gen.hostOps0_1 Cert.Kernel2Ideal.Gen.hostOps0_2 Cert.Kernel2Ideal.Gen.hostOps0_3 Cert.Kernel2Ideal.Gen.hostOps0_4 := funext fun k =>
  match k with
  | 0 => o0 | 1 => o1 | 2 => o2 | 3 => o3 | 4 => o4

/-- The runs of the chain of a launch's items. -/
def Runs (P : Fin 1 → Pipeline.PCfg Cert.Kernel2Ideal.sig Cert.Kernel2Ideal.Λ₀ (Elt Bits)) (D : Defs Cert.Kernel2Ideal.nD Cert.Kernel2Ideal.τ Cert.Kernel2Ideal.sig (Elt Bits) Cert.Kernel2Ideal.Λ₀) (l : Fin 5 → List (HloOp Cert.Kernel2Ideal.τ Cert.Kernel2Ideal.sig (Elt Bits)))
    (s : MemSt Cert.Kernel2Ideal.nD Cert.Kernel2Ideal.τ Cert.Kernel2Ideal.sig (Elt Bits)) (Q : PUnit × MemSt Cert.Kernel2Ideal.nD Cert.Kernel2Ideal.τ Cert.Kernel2Ideal.sig (Elt Bits) → Prop) : Prop :=
  θ_run (Pipeline.defs P D) (onTc (τ := Cert.Kernel2Ideal.τ) fun _ => chn P l) s Q

theorem runs_congr {P P' : Fin 1 → Pipeline.PCfg Cert.Kernel2Ideal.sig Cert.Kernel2Ideal.Λ₀ (Elt Bits)} (hP : P = P') {D D' : Defs Cert.Kernel2Ideal.nD Cert.Kernel2Ideal.τ Cert.Kernel2Ideal.sig (Elt Bits) Cert.Kernel2Ideal.Λ₀} (hD : D = D') {l l' : Fin 5 → List (HloOp Cert.Kernel2Ideal.τ Cert.Kernel2Ideal.sig (Elt Bits))} (hl : l = l') (s) (Q) (h : Runs P' D' l' s Q) : Runs P D l s Q := by
  subst hP; subst hD; subst hl; exact h

abbrev St := MemSt Cert.Kernel2Ideal.nD Cert.Kernel2Ideal.τ Cert.Kernel2Ideal.sig (Elt Bits)

set_option maxHeartbeats 1000000 in
theorem from_chain (s : St) (Q : PUnit × St → Prop)
    (h : Runs (@Cert.Kernel2.pcfgs Bits _ Cert.Kernel2.Gen.facts) (@Cert.Kernel2.defs₀ Bits _ Cert.Kernel2.Gen.facts) (lst Cert.Kernel2.Gen.hostOps0 Cert.Kernel2.Gen.hostOps0_1 Cert.Kernel2.Gen.hostOps0_2 Cert.Kernel2.Gen.hostOps0_3 Cert.Kernel2.Gen.hostOps0_4) s Q) :
    θ_run (@Cert.Kernel2.defs Bits _ Cert.Kernel2.Gen.facts) (onTc (τ := Cert.Kernel2.τ) (@Cert.Kernel2.main Bits _ Cert.Kernel2.Gen.facts)) s Q :=
  (congrArg (fun M => θ_run (@Cert.Kernel2.defs Bits _ Cert.Kernel2.Gen.facts) (onTc (τ := Cert.Kernel2.τ) M) s Q) (funext m1)).mpr h

set_option maxHeartbeats 1000000 in
theorem to_chain (s : St) (Q : PUnit × St → Prop)
    (h : θ_run (@Cert.Kernel2Ideal.defs Bits _ Cert.Kernel2Ideal.Gen.facts) (onTc (τ := Cert.Kernel2Ideal.τ) (@Cert.Kernel2Ideal.main Bits _ Cert.Kernel2Ideal.Gen.facts)) s Q) :
    Runs (@Cert.Kernel2Ideal.pcfgs Bits _ Cert.Kernel2Ideal.Gen.facts) (@Cert.Kernel2Ideal.defs₀ Bits _ Cert.Kernel2Ideal.Gen.facts) (lst Cert.Kernel2Ideal.Gen.hostOps0 Cert.Kernel2Ideal.Gen.hostOps0_1 Cert.Kernel2Ideal.Gen.hostOps0_2 Cert.Kernel2Ideal.Gen.hostOps0_3 Cert.Kernel2Ideal.Gen.hostOps0_4) s Q :=
  (congrArg (fun M => θ_run (@Cert.Kernel2Ideal.defs Bits _ Cert.Kernel2Ideal.Gen.facts) (onTc (τ := Cert.Kernel2Ideal.τ) M) s Q) (funext m2)).mp h

set_option maxHeartbeats 1000000 in
/-- What every run of the one program ends with, every run of the other ends with. -/
theorem pass (s : St) (Q : PUnit × St → Prop)
    (h : θ_run (@Cert.Kernel2Ideal.defs Bits _ Cert.Kernel2Ideal.Gen.facts) (onTc (τ := Cert.Kernel2Ideal.τ) (@Cert.Kernel2Ideal.main Bits _ Cert.Kernel2Ideal.Gen.facts)) s Q) :
    θ_run (@Cert.Kernel2.defs Bits _ Cert.Kernel2.Gen.facts) (onTc (τ := Cert.Kernel2.τ) (@Cert.Kernel2.main Bits _ Cert.Kernel2.Gen.facts)) s Q :=
  from_chain s Q (runs_congr pe df lists s Q (to_chain s Q h))

end Cert.Proof.MoeSame

end
-- ==== Proof.MoeBody.lean ====
/- The body of the expert kernel, one operation after another, over the values the printed text names. -/
module

public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Tactic

@[expose] public section

set_option maxRecDepth 65536

noncomputable section

namespace Cert.Kernel2Ideal.Own

open Cert.Kernel2Ideal Cert.Kernel2Ideal.Gen
open Idealize.ShloMosaic Idealize.ShloMosaic.TcCoe Idealize.ShloMosaic.Tactic
open Idealize.SL.Sem

variable {F : FTy → Type} [FloatOps F]

/-- Programs of a core. -/
abbrev Code (F : FTy → Type) [FloatOps F] : Type _ := Prog (TpuEff nD τ sig (Elt F) Λ₀ .tc) PUnit

/-- The one index of a rectangle of one word. -/
abbrev one : (Shape.Idx S1) := Shape.Idx.first (numel1_S1.symm ▸ Nat.one_pos)

/-- The word of a table at an offset. -/
abbrev word (T : S128.Idx → BitVec 32) (off : Fin 1 → ℕ) (h : ∀ a, off a + S1.size a ≤ S128.size a) : BitVec 32 :=
  T ((Rect.unit (s := S128) off S1.size h).emb one)

/-- Read a word of a table. -/
abbrev rd (m : Memref sig .tc .smem S128 .i32) (off : Fin 1 → ℕ) (h : ∀ a, off a + S1.size a ≤ S128.size a) (k : BitVec 32 → Code F) : Code F :=
  smemLoadElt m (Rect.unit (s := S128) off S1.size h) (View.loads_smem_one rfl numel1_S1) one k

/-- Read a rectangle of a buffer. -/
abbrev ld {s : Shape} {e : EltTy} (m : Memref sig .tc .vmem s e) (r : LoadRect s) (h : 0 < r.shape.numel) (k : (r.shape.Idx → Elt F e) → Code F) : Code F :=
  .op (.load m r (View.loadsAt_vmem h)) k

/-- Every ninth row of a tile. -/
theorem row_inb (r : Fin 9) : ∀ a : Fin 2, S256x128.size a = 0 ∨ (![r.val, 0] : Fin 2 → ℕ) a + (![9, 1] : Fin 2 → ℕ) a * (S256x128.size a - 1) < S2304x128.size a := by
  revert r; decide

/-- Every ninth row of a tile, from row `r`. -/
abbrev rowL (r : Fin 9) : LoadRect S2304x128 := ⟨![r.val, 0], S256x128.size, ![9, 1], row_inb r⟩
/-- The same, to write. -/
abbrev rowR (r : Fin 9) : Rect S2304x128 := ⟨rowL r, spos_9_1⟩

/-- Read and overwrite every ninth row of the result. -/
abbrev putRow (m : Memref sig .tc .vmem S2304x128 .f32) (r : Fin 9) (w : FVec F S256x128 .f32) (k : Code F) : Code F :=
  ld m (rowL r) h_S256x128 fun _ =>
  .op (.store m (rowR r) w Finset.univ (View.stores_vmem_bits_univ h_S256x128 rfl) (.inl rfl)) fun _ => k

/-- The three weights of the point are cast into the scratch. -/
def copyW (arg4 : Memref sig .tc .vmem S1x1x4x1024x256 .f32) (arg5 : Memref sig .tc .vmem S1x1x4x1024x256 .f32) (arg6 : Memref sig .tc .vmem S1x1x4x256x1024 .f32)
    (arg8 : Memref sig .tc .vmem S4x1024x256 .bf16) (harg8 : arg8.IsWhole) (arg9 : Memref sig .tc .vmem S4x1024x256 .bf16) (harg9 : arg9.IsWhole) (arg10 : Memref sig .tc .vmem S4x256x1024 .bf16) (harg10 : arg10.IsWhole) (k : Code F) : Code F :=
  ld arg4 (Rect.unit (s := S1x1x4x1024x256) ![0, 0, 0, 0, 0] S1x1x4x1024x256.size inb_S1x1x4x1024x256_S1x1x4x1024x256_0_0_0_0_0).toLoadRect h_S1x1x4x1024x256 fun v60 =>
  ld arg8 (Rect.unit (s := S4x1024x256) ![0, 0, 0] S4x1024x256.size inb_S4x1024x256_S4x1024x256_0_0_0).toLoadRect h_S4x1024x256 fun _ =>
  .op (.store arg8 (Rect.unit (s := S4x1024x256) ![0, 0, 0] S4x1024x256.size inb_S4x1024x256_S4x1024x256_0_0_0) (k0_pay1 v60) Finset.univ (View.stores_vmem h_S4x1024x256 (harg8.storeExact_slice rfl _ packedbf16_S4x1024x256_S4x1024x256_0_0_0) (fun _ => rfl)) (.inl rfl)) fun _ =>
  ld arg5 (Rect.unit (s := S1x1x4x1024x256) ![0, 0, 0, 0, 0] S1x1x4x1024x256.size inb_S1x1x4x1024x256_S1x1x4x1024x256_0_0_0_0_0).toLoadRect h_S1x1x4x1024x256 fun v66 =>
  ld arg9 (Rect.unit (s := S4x1024x256) ![0, 0, 0] S4x1024x256.size inb_S4x1024x256_S4x1024x256_0_0_0).toLoadRect h_S4x1024x256 fun _ =>
  .op (.store arg9 (Rect.unit (s := S4x1024x256) ![0, 0, 0] S4x1024x256.size inb_S4x1024x256_S4x1024x256_0_0_0) (k0_pay2 v66) Finset.univ (View.stores_vmem h_S4x1024x256 (harg9.storeExact_slice rfl _ packedbf16_S4x1024x256_S4x1024x256_0_0_0) (fun _ => rfl)) (.inl rfl)) fun _ =>
  ld arg6 (Rect.unit (s := S1x1x4x256x1024) ![0, 0, 0, 0, 0] S1x1x4x256x1024.size inb_S1x1x4x256x1024_S1x1x4x256x1024_0_0_0_0_0).toLoadRect h_S1x1x4x256x1024 fun v72 =>
  ld arg10 (Rect.unit (s := S4x256x1024) ![0, 0, 0] S4x256x1024.size inb_S4x256x1024_S4x256x1024_0_0_0).toLoadRect h_S4x256x1024 fun _ =>
  .op (.store arg10 (Rect.unit (s := S4x256x1024) ![0, 0, 0] S4x256x1024.size inb_S4x256x1024_S4x256x1024_0_0_0) (k0_pay3 v72) Finset.univ (View.stores_vmem h_S4x256x1024 (harg10.storeExact_slice rfl _ packedbf16_S4x256x1024_S4x256x1024_0_0_0) (fun _ => rfl)) (.inl rfl)) fun _ => k

/-- The rows written from a tile's result. -/
def putRows (arg7 : Memref sig .tc .vmem S2304x128 .f32) (v178 : FVec F S256x1024 .f32) (k : Code F) : Code F :=
  putRow arg7 0 (k0_pay4 v178) <| putRow arg7 1 (k0_pay5 v178) <| putRow arg7 2 (k0_pay6 v178) <| putRow arg7 3 (k0_pay7 v178) <| putRow arg7 4 (k0_pay8 v178) <|
  putRow arg7 5 (k0_pay9 v178) <| putRow arg7 6 (k0_pay10 v178) <| putRow arg7 7 (k0_pay11 v178) <| putRow arg7 8 (k0_pay12 (F := F)) k

/-- Two experts on the rows of a tile. -/
def tileW (i : grid0.Coords) (v0 : BitVec 32) (hc : k0_cond2 i v0 = 1#1) (arg1 : Memref sig .tc .smem S128 .i32) (arg3 : Memref sig .tc .vmem S2304x128 .f32) (arg7 : Memref sig .tc .vmem S2304x128 .f32)
    (arg8 : Memref sig .tc .vmem S4x1024x256 .bf16) (arg9 : Memref sig .tc .vmem S4x1024x256 .bf16) (arg10 : Memref sig .tc .vmem S4x256x1024 .bf16) (k : Code F) : Code F :=
  rd arg1 (k0_off4 i) (k0_off4_inb i) fun v61 =>
  .op (.assume (k0_chk3 i v0 v61) (k0_chk3.dec i v0 v61)) fun hw =>
  ld arg3 (rowL 0) h_S256x128 fun v101 => ld arg3 (rowL 1) h_S256x128 fun v104 => ld arg3 (rowL 2) h_S256x128 fun v107 =>
  ld arg3 (rowL 3) h_S256x128 fun v110 => ld arg3 (rowL 4) h_S256x128 fun v113 => ld arg3 (rowL 5) h_S256x128 fun v116 =>
  ld arg3 (rowL 6) h_S256x128 fun v119 => ld arg3 (rowL 7) h_S256x128 fun v122 => ld arg3 (rowL 8) h_S256x128 fun v126 =>
  ld arg8 (Rect.unit (s := S4x1024x256) (k0_off5 v61) S1x1024x256.size (k0_off5_inb i v0 v61 hw.down hc)).toLoadRect h_S1x1024x256 fun v130 =>
  ld arg9 (Rect.unit (s := S4x1024x256) (k0_off5 v61) S1x1024x256.size (k0_off5_inb i v0 v61 hw.down hc)).toLoadRect h_S1x1024x256 fun v134 =>
  ld arg10 (Rect.unit (s := S4x256x1024) (k0_off6 v61) S1x256x1024.size (k0_off6_inb i v0 v61 hw.down hc)).toLoadRect h_S1x256x1024 fun v150 =>
  ld arg8 (Rect.unit (s := S4x1024x256) (k0_off7 v61) S1x1024x256.size (k0_off7_inb i v0 v61 hw.down hc)).toLoadRect h_S1x1024x256 fun v155 =>
  ld arg9 (Rect.unit (s := S4x1024x256) (k0_off7 v61) S1x1024x256.size (k0_off7_inb i v0 v61 hw.down hc)).toLoadRect h_S1x1024x256 fun v159 =>
  ld arg10 (Rect.unit (s := S4x256x1024) (k0_off8 v61) S1x256x1024.size (k0_off8_inb i v0 v61 hw.down hc)).toLoadRect h_S1x256x1024 fun v175 =>
  putRows arg7 (k0_pay19 (k0_pay14 v101 v104 v107 v110 v113 v116 v119 v122) (k0_pay15 v126) (k0_pay16 v126) (k0_pay17 v101 v104 v107 v110 v113 v116 v119 v122 v130) (k0_pay18 v101 v104 v107 v110 v113 v116 v119 v122 v134) v150 v155 v159 v175) k

/-- The tile of an unused point is zero. -/
def zeroW (arg7 : Memref sig .tc .vmem S2304x128 .f32) (k : Code F) : Code F :=
  ld arg7 (Rect.unit (s := S2304x128) ![0, 0] S2304x128.size inb_S2304x128_S2304x128_0_0).toLoadRect h_S2304x128 fun _ =>
  .op (.store arg7 (Rect.unit (s := S2304x128) ![0, 0] S2304x128.size inb_S2304x128_S2304x128_0_0) (k0_pay13 (F := F)) Finset.univ (View.stores_vmem_bits_univ h_S2304x128 rfl) (.inl rfl)) fun _ => k

/-- Whether the weights of a point differ from those of the point before it: by the words of the two. -/
def fresh (i : grid0.Coords) (v0 v7 v31 : BitVec 32) : BitVec 1 :=
  let arg0 : BitVec 32 := BitVec.ofNat 32 (i 0).val
  let v1 : BitVec 1 := Scalar.cmpi .eq arg0 0#32
  let v2 : BitVec 1 := Scalar.cmpi .slt arg0 v0
  let v8 : BitVec 32 := Scalar.divsi v7 6#32
  let v9 : BitVec 1 := Scalar.cmpi .sgt v7 0#32
  let v10 : BitVec 32 := Scalar.extui v9
  let v11 : BitVec 1 := Scalar.cmpi .slt v7 0#32
  let v12 : BitVec 32 := Scalar.extui v11
  let v13 : BitVec 32 := Scalar.subi v10 v12
  let v14 : BitVec 1 := Scalar.cmpi .sgt 6#32 0#32
  let v15 : BitVec 32 := Scalar.extui v14
  let v16 : BitVec 1 := Scalar.cmpi .slt 6#32 0#32
  let v17 : BitVec 32 := Scalar.extui v16
  let v18 : BitVec 32 := Scalar.subi v15 v17
  let v19 : BitVec 1 := Scalar.cmpi .ne v13 v18
  let v20 : BitVec 32 := Scalar.remsi v7 6#32
  let v21 : BitVec 1 := Scalar.cmpi .ne v20 0#32
  let v22 : BitVec 1 := Scalar.andi v19 v21
  let v23 : BitVec 32 := Scalar.subi v8 1#32
  let v24 : BitVec 32 := Scalar.select v22 v23 v8
  let v32 : BitVec 32 := Scalar.divsi v31 6#32
  let v33 : BitVec 1 := Scalar.cmpi .sgt v31 0#32
  let v34 : BitVec 32 := Scalar.extui v33
  let v35 : BitVec 1 := Scalar.cmpi .slt v31 0#32
  let v36 : BitVec 32 := Scalar.extui v35
  let v37 : BitVec 32 := Scalar.subi v34 v36
  let v38 : BitVec 1 := Scalar.cmpi .sgt 6#32 0#32
  let v39 : BitVec 32 := Scalar.extui v38
  let v40 : BitVec 1 := Scalar.cmpi .slt 6#32 0#32
  let v41 : BitVec 32 := Scalar.extui v40
  let v42 : BitVec 32 := Scalar.subi v39 v41
  let v43 : BitVec 1 := Scalar.cmpi .ne v37 v42
  let v44 : BitVec 32 := Scalar.remsi v31 6#32
  let v45 : BitVec 1 := Scalar.cmpi .ne v44 0#32
  let v46 : BitVec 1 := Scalar.andi v43 v45
  let v47 : BitVec 32 := Scalar.subi v32 1#32
  let v48 : BitVec 32 := Scalar.select v46 v47 v32
  let v49 : BitVec 1 := Scalar.cmpi .ne v24 v48
  let v50 : BitVec 1 := Scalar.andi v2 v49
  let v51 : BitVec 1 := Scalar.ori v1 v50
  let v52 : BitVec 32 := Scalar.extui v51
  let v53 : BitVec 1 := Scalar.cmpi .ne v52 0#32
  v53

/-- The last part of the body. -/
def body3 (i : grid0.Coords) (v0 : BitVec 32) (arg7 : Memref sig .tc .vmem S2304x128 .f32) : Code F :=
  if hc : k0_cond3 i v0 = 1#1 then zeroW arg7 (.ret ⟨⟩) else .ret ⟨⟩

/-- The part after the weights. -/
def body2 (i : grid0.Coords) (v0 : BitVec 32) (arg1 : Memref sig .tc .smem S128 .i32) (arg3 : Memref sig .tc .vmem S2304x128 .f32) (arg7 : Memref sig .tc .vmem S2304x128 .f32)
    (arg8 : Memref sig .tc .vmem S4x1024x256 .bf16) (arg9 : Memref sig .tc .vmem S4x1024x256 .bf16) (arg10 : Memref sig .tc .vmem S4x256x1024 .bf16) : Code F :=
  if hc : k0_cond2 i v0 = 1#1 then tileW i v0 hc arg1 arg3 arg7 arg8 arg9 arg10 (body3 i v0 arg7) else body3 i v0 arg7

/-- The body. -/
def body1 (i : grid0.Coords) (arg1 : Memref sig .tc .smem S128 .i32) (arg3 : Memref sig .tc .vmem S2304x128 .f32) (arg4 : Memref sig .tc .vmem S1x1x4x1024x256 .f32) (arg5 : Memref sig .tc .vmem S1x1x4x1024x256 .f32) (arg6 : Memref sig .tc .vmem S1x1x4x256x1024 .f32) (arg7 : Memref sig .tc .vmem S2304x128 .f32)
    (arg8 : Memref sig .tc .vmem S4x1024x256 .bf16) (harg8 : arg8.IsWhole) (arg9 : Memref sig .tc .vmem S4x1024x256 .bf16) (harg9 : arg9.IsWhole) (arg10 : Memref sig .tc .vmem S4x256x1024 .bf16) (harg10 : arg10.IsWhole) : Code F :=
  rd arg1 ![127] inb_S128_S1_127 fun v0 =>
  rd arg1 ![127] inb_S128_S1_127 fun v3 =>
  .op (.assume (k0_chk1 i v3) (k0_chk1.dec i v3)) fun hw1 =>
  rd arg1 (k0_off2 i v3) (k0_off2_inb i v3 hw1.down) fun v7 =>
  rd arg1 ![127] inb_S128_S1_127 fun v27 =>
  .op (.assume (k0_chk2 i v27) (k0_chk2.dec i v27)) fun hw2 =>
  rd arg1 (k0_off3 i v27) (k0_off3_inb i v27 hw2.down) fun v31 =>
  if fresh i v0 v7 v31 = 1#1 then copyW arg4 arg5 arg6 arg8 harg8 arg9 harg9 arg10 harg10 (body2 i v0 arg1 arg3 arg7 arg8 arg9 arg10)
  else body2 i v0 arg1 arg3 arg7 arg8 arg9 arg10

set_option maxHeartbeats 4000000 in
/-- The printed body is that body. -/
theorem body_eq (i : grid0.Coords) (arg1 : Memref sig .tc .smem S128 .i32) (harg1 : arg1.IsWhole) (arg2 : Memref sig .tc .smem S88 .i32) (harg2 : arg2.IsWhole) (arg3 : Memref sig .tc .vmem S2304x128 .f32) (harg3 : arg3.IsWhole) (arg4 : Memref sig .tc .vmem S1x1x4x1024x256 .f32) (harg4 : arg4.IsWhole) (arg5 : Memref sig .tc .vmem S1x1x4x1024x256 .f32) (harg5 : arg5.IsWhole) (arg6 : Memref sig .tc .vmem S1x1x4x256x1024 .f32) (harg6 : arg6.IsWhole) (arg7 : Memref sig .tc .vmem S2304x128 .f32) (harg7 : arg7.IsWhole) (arg8 : Memref sig .tc .vmem S4x1024x256 .bf16) (harg8 : arg8.IsWhole) (arg9 : Memref sig .tc .vmem S4x1024x256 .bf16) (harg9 : arg9.IsWhole) (arg10 : Memref sig .tc .vmem S4x256x1024 .bf16) (harg10 : arg10.IsWhole) :
    cc0_grouped_experts (F := F) i arg1 harg1 arg2 harg2 arg3 harg3 arg4 harg4 arg5 harg5 arg6 harg6 arg7 harg7 arg8 harg8 arg9 harg9 arg10 harg10 =
      body1 i arg1 arg3 arg4 arg5 arg6 arg7 arg8 harg8 arg9 harg9 arg10 harg10 := by
  rw [cc0_grouped_experts_eq_skeleton]
  sl_kernel_rfl

end Cert.Kernel2Ideal.Own
-- ==== Proof.MoeStep.lean ====
/- The body of the expert kernel, one step at a time: what each buffer holds is a record of arrays. -/
module

public import proofs.«01_k».proof.Proof.MoeBody

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Assertions about this machine. -/
abbrev SP (F : FTy → Type) [FloatOps F] : Type _ := sProp (MT nD τ sig Unit (Elt F) ℕ (UR sig nD τ) ℕ)

open Classical in
/-- An array with a rectangle of it overwritten. -/
def putR {s : Shape} {α : Type} (X : s.Idx → α) (r : Rect s) (w : r.shape.Idx → α) : s.Idx → α :=
  fun y => if h : ∃ x, r.emb x = y then w h.choose else X y

theorem putR_emb {s : Shape} {α : Type} (X : s.Idx → α) (r : Rect s) (w : r.shape.Idx → α) (x : r.shape.Idx) : putR X r w (r.emb x) = w x := by
  unfold putR
  have h : ∃ x', r.emb x' = r.emb x := ⟨x, rfl⟩
  rw [dif_pos h]
  exact congrArg w (r.emb.injective h.choose_spec)

theorem putR_miss {s : Shape} {α : Type} (X : s.Idx → α) (r : Rect s) (w : r.shape.Idx → α) (y : s.Idx) (h : ¬ ∃ x, r.emb x = y) : putR X r w y = X y := by
  unfold putR; rw [dif_neg h]

theorem read_put {s : Shape} {e : EltTy} {sig' : RefSig} {κ : Kind} {sp : Space} (v : View sig' κ sp s e) (f : v.ty.Contents (Elt F)) (r : Rect s) (w : r.shape.Idx → Elt F e) :
    v.read (Elt F) (v.writes (Elt F) f [⟨r, w⟩]) = putR (v.read (Elt F) f) r w := by
  funext y
  by_cases h : ∃ x, r.emb x = y
  · obtain ⟨x, rfl⟩ := h
    rw [putR_emb, View.read_writes_cons_emb]
  · rw [putR_miss _ _ _ _ h, View.read_writes_cons_miss]
    · rfl
    · intro hy
      apply h
      rw [← Rect.map_emb_univ] at hy
      obtain ⟨x, -, hx⟩ := Finset.mem_map.mp hy
      exact ⟨x, hx⟩

variable (defs : Defs nD τ sig (Elt F) Λ₀) (𝒱 : Variants) (c : Dev nD) (bd : Option 𝒱.V) (E : Set ℕ)

/-- A load from a buffer held at known contents. -/
theorem wp_ld {s : Shape} {e : EltTy} {m : Memref sig .tc .vmem s e} {r : LoadRect s} {h : 0 < r.shape.numel}
    {k : (r.shape.Idx → Elt F e) → Code F} {X : s.Idx → Elt F e} {G : SP F} {Q : PUnit → SP F}
    (hk : iprop(owns (c : Thread nD τ) m fullShare X ∗ G) ⊢ wp frame (wpE defs 𝒱 (c : Thread nD τ) bd) E (k fun y => X (r.idx y)) Q) :
    iprop(owns (c : Thread nD τ) m fullShare X ∗ G) ⊢ wp frame (wpE defs 𝒱 (c : Thread nD τ) bd) E (ld m r h k) Q := by
  unfold owns at hk ⊢
  iintro ⟨⟨%f, %hf, H⟩, HG⟩
  subst hf
  have hS : m.view.setOn r.set ⊆ m.view.set := View.setOn_subset_set _ _
  iapply (wp_load 𝒱 (c : Thread nD τ) bd E (m := m) (k := k) (f := f) hS) $$ H
  iintro H
  iapply hk
  isplitl [H]
  · iexists f
    isplitr
    · ipureintro; rfl
    · iexact H
  · iexact HG

/-- A store to a buffer held at known contents. -/
theorem wp_st {s : Shape} {e : EltTy} {m : Memref sig .tc .vmem s e} {r : Rect s}
    {w : r.shape.Idx → Elt F e} {hx : (m.access r).Stores Finset.univ}
    {hm : Finset.univ = Finset.univ ∨ ∀ a, r.stride a = 1}
    {k : Code F} {X : s.Idx → Elt F e} {G : SP F} {Q : PUnit → SP F}
    (hk : iprop(owns (c : Thread nD τ) m fullShare (putR X r w) ∗ G) ⊢ wp frame (wpE defs 𝒱 (c : Thread nD τ) bd) E k Q) :
    iprop(owns (c : Thread nD τ) m fullShare X ∗ G) ⊢
      wp frame (wpE defs 𝒱 (c : Thread nD τ) bd) E (.op (.store m r w Finset.univ hx hm) fun _ => k : Code F) Q := by
  unfold owns at hk ⊢
  iintro ⟨⟨%f, %hf, H⟩, HG⟩
  subst hf
  have hS : (m.access r).set ⊆ m.view.set := View.set_slice_subset _ _
  iapply (wp_store_writes₀ 𝒱 (c : Thread nD τ) bd E (m := m) (w := w) (hx := hx) (hm := hm) (k := fun _ => k) (f := f) hS) $$ H
  iintro H
  iapply hk
  isplitl [H]
  · iexists (m.view.writes (Elt F) f [⟨r, w⟩])
    isplitr
    · ipureintro
      exact read_put m.view f r w
    · iexact H
  · iexact HG

/-- A word read from a table held at known contents. -/
theorem wp_rd {m : Memref sig .tc .smem S128 .i32} {off : Fin 1 → ℕ} {h : ∀ a, off a + S1.size a ≤ S128.size a}
    {k : BitVec 32 → Code F} {T : S128.Idx → BitVec 32} {q : PosShare TreeShare} {G : SP F} {Q : PUnit → SP F}
    (hk : iprop(owns (c : Thread nD τ) m q T ∗ G) ⊢ wp frame (wpE defs 𝒱 (c : Thread nD τ) bd) E (k (word T off h)) Q) :
    iprop(owns (c : Thread nD τ) m q T ∗ G) ⊢ wp frame (wpE defs 𝒱 (c : Thread nD τ) bd) E (rd m off h k) Q := by
  unfold owns at hk ⊢
  iintro ⟨⟨%f, %hf, H⟩, HG⟩
  subst hf
  have hS : (m.access (Rect.unit (s := S128) off S1.size h)).set ⊆ m.view.set := View.set_slice_subset _ _
  iapply (wp_smemLoadElt 𝒱 (c : Thread nD τ) bd E (m := m) (k := k) (f := f) hS) $$ H
  iintro H
  iapply hk
  isplitl [H]
  · iexists f
    isplitr
    · ipureintro; rfl
    · iexact H
  · iexact HG

/-- What the nine buffers hold. -/
structure St (F : FTy → Type) where
  t : S128.Idx → BitVec 32
  x : Vec F S2304x128 .f32
  g : Vec F S1x1x4x1024x256 .f32
  u : Vec F S1x1x4x1024x256 .f32
  d : Vec F S1x1x4x256x1024 .f32
  o : Vec F S2304x128 .f32
  gs : Vec F S4x1024x256 .bf16
  us : Vec F S4x1024x256 .bf16
  ds : Vec F S4x256x1024 .bf16

/-- The nine buffers. -/
structure Refs where
  t : Memref sig .tc .smem S128 .i32
  x : Memref sig .tc .vmem S2304x128 .f32
  g : Memref sig .tc .vmem S1x1x4x1024x256 .f32
  u : Memref sig .tc .vmem S1x1x4x1024x256 .f32
  d : Memref sig .tc .vmem S1x1x4x256x1024 .f32
  o : Memref sig .tc .vmem S2304x128 .f32
  gs : Memref sig .tc .vmem S4x1024x256 .bf16
  us : Memref sig .tc .vmem S4x1024x256 .bf16
  ds : Memref sig .tc .vmem S4x256x1024 .bf16

variable (q : PosShare TreeShare)

/-- The nine buffers hold the arrays of the record. -/
def Own (R : Refs) (s : St F) : SP F :=
  iprop(owns (c : Thread nD τ) R.t q s.t ∗ owns (c : Thread nD τ) R.x fullShare s.x ∗ owns (c : Thread nD τ) R.g fullShare s.g
    ∗ owns (c : Thread nD τ) R.u fullShare s.u ∗ owns (c : Thread nD τ) R.d fullShare s.d ∗ owns (c : Thread nD τ) R.o fullShare s.o
    ∗ owns (c : Thread nD τ) R.gs fullShare s.gs ∗ owns (c : Thread nD τ) R.us fullShare s.us ∗ owns (c : Thread nD τ) R.ds fullShare s.ds)

theorem assoc_eq (P G H : SP F) : iprop((P ∗ G) ∗ H) = iprop(P ∗ G ∗ H) := equiv_iff.mp ⟨BI.sep_assoc, BI.sep_assoc'⟩

/-- One part of a separating conjunction, beside the others. -/
theorem pull {A P X G : SP F} (h : P = iprop(X ∗ G)) : iprop(A ∗ P) = iprop(X ∗ A ∗ G) := by
  rw [h, ← assoc_eq, ← assoc_eq]
  exact congrArg (fun B => iprop(B ∗ G)) (Entails.antisymm BI.sep_comm BI.sep_comm)

/-- A buffer among the nine: whatever array it is given, its ownership can be set beside that of the others. -/
structure Slot (R : Refs) (C : SP F) (s : St F) {t : Shape} {e : EltTy} (m : Memref sig .tc .vmem t e)
    (X : t.Idx → Elt F e) (upd : (t.Idx → Elt F e) → St F) : Prop where
  same : upd X = s
  beside : ∃ G : SP F, ∀ Y, iprop((Own c q R (upd Y) : SP F) ∗ C) = iprop(owns (c : Thread nD τ) m fullShare Y ∗ G)

section Slots
variable (R : Refs) (C : SP F) (s : St F)

theorem own_flat (t x g u d o gs us ds) : iprop((Own c q R ⟨t, x, g, u, d, o, gs, us, ds⟩ : SP F) ∗ C) = iprop(owns (c : Thread nD τ) R.t q t ∗ owns (c : Thread nD τ) R.x fullShare x
    ∗ owns (c : Thread nD τ) R.g fullShare g ∗ owns (c : Thread nD τ) R.u fullShare u ∗ owns (c : Thread nD τ) R.d fullShare d
    ∗ owns (c : Thread nD τ) R.o fullShare o ∗ owns (c : Thread nD τ) R.gs fullShare gs ∗ owns (c : Thread nD τ) R.us fullShare us
    ∗ owns (c : Thread nD τ) R.ds fullShare ds ∗ C) := by
  unfold Own; simp only [assoc_eq]

theorem slot_x : Slot c q R C s R.x s.x fun Y => { s with x := Y } := ⟨rfl, _, fun Y => (own_flat ..).trans (pull rfl)⟩
theorem slot_g : Slot c q R C s R.g s.g fun Y => { s with g := Y } := ⟨rfl, _, fun Y => (own_flat ..).trans (pull (pull rfl))⟩
theorem slot_u : Slot c q R C s R.u s.u fun Y => { s with u := Y } := ⟨rfl, _, fun Y => (own_flat ..).trans (pull (pull (pull rfl)))⟩
theorem slot_d : Slot c q R C s R.d s.d fun Y => { s with d := Y } := ⟨rfl, _, fun Y => (own_flat ..).trans (pull (pull (pull (pull rfl))))⟩
theorem slot_o : Slot c q R C s R.o s.o fun Y => { s with o := Y } := ⟨rfl, _, fun Y => (own_flat ..).trans (pull (pull (pull (pull (pull rfl)))))⟩
theorem slot_gs : Slot c q R C s R.gs s.gs fun Y => { s with gs := Y } := ⟨rfl, _, fun Y => (own_flat ..).trans (pull (pull (pull (pull (pull (pull rfl))))))⟩
theorem slot_us : Slot c q R C s R.us s.us fun Y => { s with us := Y } := ⟨rfl, _, fun Y => (own_flat ..).trans (pull (pull (pull (pull (pull (pull (pull rfl)))))))⟩
theorem slot_ds : Slot c q R C s R.ds s.ds fun Y => { s with ds := Y } := ⟨rfl, _, fun Y => (own_flat ..).trans (pull (pull (pull (pull (pull (pull (pull (pull rfl))))))))⟩

end Slots

/-- From these contents, with `C` beside them, the program runs to `Q`. -/
def Ok (R : Refs) (C : SP F) (Q : PUnit → SP F) (s : St F) (P : Code F) : Prop :=
  iprop((Own c q R s : SP F) ∗ C) ⊢ wp frame (wpE defs 𝒱 (c : Thread nD τ) bd) E P Q

variable {defs 𝒱 c bd E q}
variable {R : Refs} {C : SP F} {Q : PUnit → SP F} {s : St F}

theorem ok_ld {t : Shape} {e : EltTy} {m : Memref sig .tc .vmem t e} {X : t.Idx → Elt F e} {upd : (t.Idx → Elt F e) → St F}
    (hs : Slot c q R C s m X upd) {r : LoadRect t} {h : 0 < r.shape.numel} {k : (r.shape.Idx → Elt F e) → Code F}
    (hk : Ok defs 𝒱 c bd E q R C Q s (k fun y => X (r.idx y))) : Ok defs 𝒱 c bd E q R C Q s (ld m r h k) := by
  obtain ⟨rfl, G, hG⟩ := hs
  unfold Ok at hk ⊢
  rw [hG] at hk ⊢
  exact wp_ld defs 𝒱 c bd E hk

theorem ok_st {t : Shape} {e : EltTy} {m : Memref sig .tc .vmem t e} {X : t.Idx → Elt F e} {upd : (t.Idx → Elt F e) → St F}
    (hs : Slot c q R C s m X upd) {r : Rect t} {w : r.shape.Idx → Elt F e} {hx : (m.access r).Stores Finset.univ}
    {hm : Finset.univ = Finset.univ ∨ ∀ a, r.stride a = 1} {k : Code F}
    (hk : Ok defs 𝒱 c bd E q R C Q (upd (putR X r w)) k) :
    Ok defs 𝒱 c bd E q R C Q s (.op (.store m r w Finset.univ hx hm) fun _ => k) := by
  obtain ⟨rfl, G, hG⟩ := hs
  unfold Ok at hk ⊢
  rw [hG] at hk ⊢
  exact wp_st defs 𝒱 c bd E hk

theorem ok_rd {off : Fin 1 → ℕ} {h : ∀ a, off a + S1.size a ≤ S128.size a} {k : BitVec 32 → Code F}
    (hk : Ok defs 𝒱 c bd E q R C Q s (k (word s.t off h))) : Ok defs 𝒱 c bd E q R C Q s (rd R.t off h k) := by
  obtain ⟨t, x, g, u, d, o, gs, us, ds⟩ := s
  unfold Ok at hk ⊢
  rw [own_flat] at hk ⊢
  exact wp_rd defs 𝒱 c bd E hk

theorem ok_assume {P : Prop} {dP : Decidable P} {k : PLift P → Code F} (h : P)
    (hk : Ok defs 𝒱 c bd E q R C Q s (k ⟨h⟩)) : Ok defs 𝒱 c bd E q R C Q s (.op (.assume P dP) k) :=
  BIBase.Entails.trans hk (wp_assume 𝒱 (c : Thread nD τ) bd E h)

/-! ## The parts -/

theorem ok_putRow {r : Fin 9} {w : FVec F S256x128 .f32} {k : Code F}
    (hk : Ok defs 𝒱 c bd E q R C Q { s with o := putR s.o (rowR r) w } k) : Ok defs 𝒱 c bd E q R C Q s (putRow R.o r w k) :=
  ok_ld (slot_o c q R C s) (ok_st (slot_o c q R C s) hk)

/-- A tile's result after its rows are written. -/
def rows (X : Vec F S2304x128 .f32) (v : FVec F S256x1024 .f32) : Vec F S2304x128 .f32 :=
  putR (putR (putR (putR (putR (putR (putR (putR (putR X (rowR 0) (k0_pay4 v)) (rowR 1) (k0_pay5 v)) (rowR 2) (k0_pay6 v)) (rowR 3) (k0_pay7 v)) (rowR 4) (k0_pay8 v))
    (rowR 5) (k0_pay9 v)) (rowR 6) (k0_pay10 v)) (rowR 7) (k0_pay11 v)) (rowR 8) (k0_pay12 (F := F))

theorem ok_putRows {v : FVec F S256x1024 .f32} {k : Code F}
    (hk : Ok defs 𝒱 c bd E q R C Q { s with o := rows s.o v } k) : Ok defs 𝒱 c bd E q R C Q s (putRows R.o v k) := by
  unfold putRows
  exact ok_putRow (ok_putRow (ok_putRow (ok_putRow (ok_putRow (ok_putRow (ok_putRow (ok_putRow (ok_putRow hk))))))))

/-- Two experts on the rows of a tile. -/
def tileV (X : Vec F S2304x128 .f32) (gs us : Vec F S4x1024x256 .bf16) (ds : Vec F S4x256x1024 .bf16) (i : grid0.Coords) (v0 v61 : BitVec 32) (hw : k0_chk3 i v0 v61)
    (hc : k0_cond2 i v0 = 1#1) : FVec F S256x1024 .f32 :=
  let row (r : Fin 9) : Vec F S256x128 .f32 := fun y => X ((rowL r).idx y)
  let v130 : Vec F S1x1024x256 .bf16 := fun y => gs ((Rect.unit (s := S4x1024x256) (k0_off5 v61) S1x1024x256.size (k0_off5_inb i v0 v61 hw hc)).toLoadRect.idx y)
  let v134 : Vec F S1x1024x256 .bf16 := fun y => us ((Rect.unit (s := S4x1024x256) (k0_off5 v61) S1x1024x256.size (k0_off5_inb i v0 v61 hw hc)).toLoadRect.idx y)
  let v150 : Vec F S1x256x1024 .bf16 := fun y => ds ((Rect.unit (s := S4x256x1024) (k0_off6 v61) S1x256x1024.size (k0_off6_inb i v0 v61 hw hc)).toLoadRect.idx y)
  let v155 : Vec F S1x1024x256 .bf16 := fun y => gs ((Rect.unit (s := S4x1024x256) (k0_off7 v61) S1x1024x256.size (k0_off7_inb i v0 v61 hw hc)).toLoadRect.idx y)
  let v159 : Vec F S1x1024x256 .bf16 := fun y => us ((Rect.unit (s := S4x1024x256) (k0_off7 v61) S1x1024x256.size (k0_off7_inb i v0 v61 hw hc)).toLoadRect.idx y)
  let v175 : Vec F S1x256x1024 .bf16 := fun y => ds ((Rect.unit (s := S4x256x1024) (k0_off8 v61) S1x256x1024.size (k0_off8_inb i v0 v61 hw hc)).toLoadRect.idx y)
  k0_pay19 (k0_pay14 (row 0) (row 1) (row 2) (row 3) (row 4) (row 5) (row 6) (row 7)) (k0_pay15 (row 8)) (k0_pay16 (row 8))
    (k0_pay17 (row 0) (row 1) (row 2) (row 3) (row 4) (row 5) (row 6) (row 7) v130) (k0_pay18 (row 0) (row 1) (row 2) (row 3) (row 4) (row 5) (row 6) (row 7) v134) v150 v155 v159 v175

theorem ok_tileW {i : grid0.Coords} {v0 : BitVec 32} {hc : k0_cond2 i v0 = 1#1} {k : Code F} (hw : k0_chk3 i v0 (word s.t (k0_off4 i) (k0_off4_inb i)))
    (hk : Ok defs 𝒱 c bd E q R C Q { s with o := rows s.o (tileV s.x s.gs s.us s.ds i v0 _ hw hc) } k) :
    Ok defs 𝒱 c bd E q R C Q s (tileW i v0 hc R.t R.x R.o R.gs R.us R.ds k) := by
  unfold tileW
  refine ok_rd (ok_assume hw ?_)
  iterate 9 refine ok_ld (slot_x c q R C s) ?_
  refine ok_ld (slot_gs c q R C s) (ok_ld (slot_us c q R C s) (ok_ld (slot_ds c q R C s) (ok_ld (slot_gs c q R C s) (ok_ld (slot_us c q R C s) (ok_ld (slot_ds c q R C s) ?_)))))
  exact ok_putRows hk

/-- An array overwritten whole. -/
theorem putR_all {s : Shape} {α : Type} (X : s.Idx → α) (off : Fin s.rank → ℕ) (h0 : ∀ a, off a = 0) (inb) (w : s.Idx → α) : putR X (Rect.unit off s.size inb) w = w := by
  funext y
  have e : (Rect.unit off s.size inb).emb y = y := by
    funext a; apply Fin.ext
    show off a + 1 * (y a).val = (y a).val
    rw [h0]; omega
  exact (congrArg _ e.symm).trans (putR_emb X (Rect.unit off s.size inb) w y)

/-- An array read whole. -/
theorem idx_all {s : Shape} {α : Type} (X : s.Idx → α) (off : Fin s.rank → ℕ) (h0 : ∀ a, off a = 0) (inb) : (fun y : (Rect.unit off s.size inb).toLoadRect.shape.Idx => X ((Rect.unit off s.size inb).toLoadRect.idx y)) = X := by
  funext y
  congr 1
  funext a; apply Fin.ext
  show off a + 1 * (y a).val = (y a).val
  rw [h0]; omega

theorem ok_zeroW {k : Code F} (hk : Ok defs 𝒱 c bd E q R C Q { s with o := k0_pay13 } k) : Ok defs 𝒱 c bd E q R C Q s (zeroW R.o k) := by
  unfold zeroW
  refine ok_ld (slot_o c q R C s) (ok_st (slot_o c q R C s) ?_)
  rw [putR_all s.o ![0, 0] (by decide)]
  exact hk

theorem ok_copyW {h8 h9 h10} {k : Code F} (hk : Ok defs 𝒱 c bd E q R C Q { s with gs := k0_pay1 s.g, us := k0_pay2 s.u, ds := k0_pay3 s.d } k) :
    Ok defs 𝒱 c bd E q R C Q s (copyW R.g R.u R.d R.gs h8 R.us h9 R.ds h10 k) := by
  unfold copyW
  refine ok_ld (slot_g c q R C s) (ok_ld (slot_gs c q R C s) (ok_st (slot_gs c q R C s) ?_))
  rw [putR_all s.gs ![0, 0, 0] (by decide), idx_all s.g ![0, 0, 0, 0, 0] (by decide)]
  refine ok_ld (slot_u c q R C _) (ok_ld (slot_us c q R C _) (ok_st (slot_us c q R C _) ?_))
  rw [putR_all s.us ![0, 0, 0] (by decide), idx_all s.u ![0, 0, 0, 0, 0] (by decide)]
  refine ok_ld (slot_d c q R C _) (ok_ld (slot_ds c q R C _) (ok_st (slot_ds c q R C _) ?_))
  rw [putR_all s.ds ![0, 0, 0] (by decide), idx_all s.d ![0, 0, 0, 0, 0] (by decide)]
  exact hk

/-- What the result tile holds after the body. -/
def outV (X : Vec F S2304x128 .f32) (gs us : Vec F S4x1024x256 .bf16) (ds : Vec F S4x256x1024 .bf16) (O : Vec F S2304x128 .f32) (i : grid0.Coords) (v0 v61 : BitVec 32) : Vec F S2304x128 .f32 :=
  open Classical in
  if h : k0_chk3 i v0 v61 ∧ k0_cond2 i v0 = 1#1 then rows O (tileV X gs us ds i v0 v61 h.1 h.2) else k0_pay13

theorem ok_body2 {i : grid0.Coords} {v0 : BitVec 32} (hw : k0_cond2 i v0 = 1#1 → k0_chk3 i v0 (word s.t (k0_off4 i) (k0_off4_inb i)))
    (h3 : k0_cond3 i v0 = 1#1 ↔ ¬ k0_cond2 i v0 = 1#1)
    (hk : iprop((Own c q R { s with o := outV s.x s.gs s.us s.ds s.o i v0 (word s.t (k0_off4 i) (k0_off4_inb i)) } : SP F) ∗ C) ⊢ Q ⟨⟩) :
    Ok defs 𝒱 c bd E q R C Q s (body2 i v0 R.t R.x R.o R.gs R.us R.ds) := by
  unfold body2 body3
  by_cases hc : k0_cond2 i v0 = 1#1
  · rw [dif_pos hc]
    refine ok_tileW (hw hc) ?_
    rw [dif_neg (fun h => (h3.mp h) hc)]
    rw [outV, dif_pos ⟨hw hc, hc⟩] at hk
    exact hk.trans fupd_intro
  · rw [dif_neg hc, dif_pos (h3.mpr hc)]
    refine ok_zeroW ?_
    rw [outV, dif_neg (fun h => hc h.2)] at hk
    exact hk.trans fupd_intro

/-- The body, from the facts of the words it reads. -/
theorem ok_body1 {i : grid0.Coords} {h8 h9 h10}
    (h1 : k0_chk1 i (word s.t ![127] inb_S128_S1_127)) (h2 : k0_chk2 i (word s.t ![127] inb_S128_S1_127))
    (hw : k0_cond2 i (word s.t ![127] inb_S128_S1_127) = 1#1 → k0_chk3 i (word s.t ![127] inb_S128_S1_127) (word s.t (k0_off4 i) (k0_off4_inb i)))
    (h3 : k0_cond3 i (word s.t ![127] inb_S128_S1_127) = 1#1 ↔ ¬ k0_cond2 i (word s.t ![127] inb_S128_S1_127) = 1#1)
    (hf : ¬ fresh i (word s.t ![127] inb_S128_S1_127) (word s.t (k0_off2 i (word s.t ![127] inb_S128_S1_127)) (k0_off2_inb i _ h1)) (word s.t (k0_off3 i (word s.t ![127] inb_S128_S1_127)) (k0_off3_inb i _ h2)) = 1#1 →
      s.gs = k0_pay1 s.g ∧ s.us = k0_pay2 s.u ∧ s.ds = k0_pay3 s.d)
    (hk : iprop((Own c q R { s with
        o := outV s.x (k0_pay1 s.g) (k0_pay2 s.u) (k0_pay3 s.d) s.o i (word s.t ![127] inb_S128_S1_127) (word s.t (k0_off4 i) (k0_off4_inb i))
        gs := k0_pay1 s.g, us := k0_pay2 s.u, ds := k0_pay3 s.d } : SP F) ∗ C) ⊢ Q ⟨⟩) :
    Ok defs 𝒱 c bd E q R C Q s (body1 i R.t R.x R.g R.u R.d R.o R.gs h8 R.us h9 R.ds h10) := by
  unfold body1
  refine ok_rd (ok_rd (ok_assume h1 (ok_rd (ok_rd (ok_assume h2 (ok_rd ?_))))))
  by_cases hc : fresh i (word s.t ![127] inb_S128_S1_127) (word s.t (k0_off2 i (word s.t ![127] inb_S128_S1_127)) (k0_off2_inb i _ h1)) (word s.t (k0_off3 i (word s.t ![127] inb_S128_S1_127)) (k0_off3_inb i _ h2)) = 1#1
  · rw [if_pos hc]
    exact ok_copyW (ok_body2 hw h3 hk)
  · rw [if_neg hc]
    obtain ⟨e1, e2, e3⟩ := hf hc
    refine ok_body2 hw h3 ?_
    rw [← e1, ← e2, ← e3] at hk
    exact hk

end Cert.Kernel2Ideal.Own
-- ==== Proof.MoeTable.lean ====
/- What the tables of the tiles say at a grid point: which word is read, which weights are in use, whether they changed. -/
module

public import proofs.«01_k».proof.Proof.MoeStep

@[expose] public section

set_option maxRecDepth 65536

noncomputable section

namespace Cert.Kernel2Ideal.Own

open Cert.Kernel2Ideal Cert.Kernel2Ideal.Gen
open Idealize.ShloMosaic Idealize.ShloMosaic.TcCoe Idealize.ShloMosaic.Tactic

/-- Entry `n` of the table. -/
def ent (T : S128.Idx → BitVec 32) (n : ℕ) : BitVec 32 := T (fun a => ⟨n % 128, by obtain rfl : a = 0 := Subsingleton.elim _ _; exact Nat.mod_lt _ (by decide)⟩)

/-- The number of tiles in use is in the last entry; the entries of the tiles in use name a pair of experts. -/
structure Good (T : S128.Idx → BitVec 32) : Prop where
  pos : 1 ≤ (ent T 127).toNat
  le : (ent T 127).toNat ≤ 88
  lt : ∀ n, n < (ent T 127).toNat → (ent T n).toNat < 24

theorem word_eq (T : S128.Idx → BitVec 32) (off : Fin 1 → ℕ) (h : ∀ a, off a + S1.size a ≤ S128.size a) (n : ℕ) (hn : off 0 = n) : word T off h = ent T n := by
  unfold ent
  refine congrArg T (funext fun a => Fin.ext ?_)
  have h0 := h 0
  have e1 : S1.size 0 = 1 := rfl
  have e2 : S128.size 0 = 128 := rfl
  rw [e1, e2] at h0
  obtain rfl : a = 0 := Subsingleton.elim _ _
  show off 0 + 1 * 0 = n % 128
  rw [← hn, Nat.mod_eq_of_lt (by omega)]; omega

theorem toInt_small {x : BitVec 32} (h : x.toNat < 2147483648) : x.toInt = (x.toNat : ℤ) := by
  rw [BitVec.toInt_eq_toNat_cond, if_pos (by omega)]

theorem slt_small {x y : BitVec 32} (hx : x.toNat < 2147483648) (hy : y.toNat < 2147483648) : x.slt y = decide (x.toNat < y.toNat) := by
  rw [BitVec.slt_eq_decide, toInt_small hx, toInt_small hy]
  exact decide_eq_decide.mpr Int.ofNat_lt

theorem sle_small {x y : BitVec 32} (hx : x.toNat < 2147483648) (hy : y.toNat < 2147483648) : x.sle y = decide (x.toNat ≤ y.toNat) := by
  rw [BitVec.sle_eq_decide, toInt_small hx, toInt_small hy]
  exact decide_eq_decide.mpr Int.ofNat_le

theorem minsi_small {x y : BitVec 32} (hx : x.toNat < 2147483648) (hy : y.toNat < 2147483648) : (Scalar.minsi x y).toNat = min x.toNat y.toNat := by
  show (if x.slt y then x else y).toNat = _
  rw [slt_small hx hy]
  by_cases h : x.toNat < y.toNat
  · simp only [h, decide_true, if_true]; omega
  · simp only [h, decide_false, Bool.false_eq_true, if_false]; omega

theorem pred_small {x : BitVec 32} (hx : 1 ≤ x.toNat) : (x - 1#32).toNat = x.toNat - 1 := by
  have := x.isLt
  rw [BitVec.toNat_sub]
  show (2 ^ 32 - 1 + x.toNat) % 2 ^ 32 = _
  omega

/-- The grid coordinate. -/
abbrev co (i : grid0.Coords) : ℕ := (i 0).val

theorem co_lt (i : grid0.Coords) : co i < 88 := (i 0).isLt

theorem coord (i : grid0.Coords) : (BitVec.ofNat 32 (i 0).val).toNat = co i := by
  have := co_lt i
  rw [BitVec.toNat_ofNat]; exact Nat.mod_eq_of_lt (by unfold co at this; omega)

variable {T : S128.Idx → BitVec 32} (hT : Good T) (i : grid0.Coords)

/-- The point whose weights are in use at a point. -/
def last (u : BitVec 32) (i : grid0.Coords) : ℕ := min (co i) (u.toNat - 1)

include hT in
theorem used_small : (ent T 127).toNat < 2147483648 := by have := hT.le; omega

include hT in
theorem min_eq : (Scalar.minsi (BitVec.ofNat 32 (i 0).val) (ent T 127 - 1#32)).toNat = last (ent T 127) i := by
  have h1 := hT.pos
  have h2 := hT.le
  have h3 := co_lt i
  rw [minsi_small (by rw [coord]; omega) (by rw [pred_small h1]; omega), coord, pred_small h1]
  rfl

include hT in
theorem off2_eq : k0_off2 i (ent T 127) 0 = last (ent T 127) i := min_eq hT i

include hT in
theorem off3_eq : k0_off3 i (ent T 127) 0 = min (co i - 1) ((ent T 127).toNat - 1) := by
  have h1 := hT.pos
  have h2 := hT.le
  have h3 := co_lt i
  have e : (Scalar.maxsi (BitVec.ofNat 32 (i 0).val) 1#32).toNat = max (co i) 1 := by
    show (if (1#32 : BitVec 32).slt (BitVec.ofNat 32 (i 0).val) then BitVec.ofNat 32 (i 0).val else 1#32).toNat = _
    rw [slt_small (by decide) (by rw [coord]; omega), coord]
    by_cases h : 1 < co i
    · simp only [show (1#32 : BitVec 32).toNat = 1 from rfl, h, decide_true, if_true, coord]; omega
    · simp only [show (1#32 : BitVec 32).toNat = 1 from rfl, h, decide_false, Bool.false_eq_true, if_false]; omega
  have e' : (Scalar.maxsi (BitVec.ofNat 32 (i 0).val) 1#32 - 1#32).toNat = co i - 1 := by rw [pred_small (by rw [e]; omega), e]; omega
  show (Scalar.minsi (Scalar.maxsi (BitVec.ofNat 32 (i 0).val) 1#32 - 1#32) (ent T 127 - 1#32)).toNat = _
  rw [minsi_small (by rw [e']; omega) (by rw [pred_small h1]; omega), e', pred_small h1]

theorem off4_eq : k0_off4 i 0 = co i := coord i

include hT in
theorem chk1 : k0_chk1 i (ent T 127) := fun a => by
  obtain rfl : a = 0 := Subsingleton.elim _ _
  rw [off2_eq hT]
  have h3 := co_lt i
  show last _ i + 1 ≤ 128
  unfold last; omega

include hT in
theorem chk2 : k0_chk2 i (ent T 127) := fun a => by
  obtain rfl : a = 0 := Subsingleton.elim _ _
  rw [off3_eq hT]
  have h3 := co_lt i
  show _ + 1 ≤ 128
  omega

theorem bit_ext (b : Bool) : Scalar.cmpi .ne (Scalar.extui (BitVec.ofBool b) : BitVec 32) 0#32 = BitVec.ofBool b := by cases b <;> decide

include hT in
theorem cond2_iff : k0_cond2 i (ent T 127) = 1#1 ↔ co i < (ent T 127).toNat := by
  have h3 := co_lt i
  have e : k0_cond2 i (ent T 127) = BitVec.ofBool ((BitVec.ofNat 32 (i 0).val).slt (ent T 127)) := bit_ext _
  rw [e, slt_small (by rw [coord]; omega) (used_small hT), coord]
  by_cases h : co i < (ent T 127).toNat <;> simp [h]

include hT in
theorem cond3_iff : k0_cond3 i (ent T 127) = 1#1 ↔ ¬ k0_cond2 i (ent T 127) = 1#1 := by
  have h3 := co_lt i
  have e : k0_cond3 i (ent T 127) = BitVec.ofBool ((ent T 127).sle (BitVec.ofNat 32 (i 0).val)) := bit_ext _
  rw [cond2_iff hT, e, sle_small (used_small hT) (by rw [coord]; omega), coord]
  by_cases h : (ent T 127).toNat ≤ co i <;> simp [h] <;> omega

/-- The first expert of a pair of a group of four, -/
def eLo (p : ℕ) : ℕ := if p < 3 then 0 else if p < 5 then 1 else 2
/-- and the second. -/
def eHi (p : ℕ) : ℕ := if p < 3 then p + 1 else if p < 5 then p - 1 else 3

theorem offs_fin : ∀ w : Fin 24, (k0_off5 (BitVec.ofNat 32 w.val) = ![eLo (w.val % 6), 0, 0] ∧ k0_off6 (BitVec.ofNat 32 w.val) = ![eLo (w.val % 6), 0, 0])
    ∧ (k0_off7 (BitVec.ofNat 32 w.val) = ![eHi (w.val % 6), 0, 0] ∧ k0_off8 (BitVec.ofNat 32 w.val) = ![eHi (w.val % 6), 0, 0]) := by decide +kernel

theorem word_of {w : BitVec 32} : w = BitVec.ofNat 32 w.toNat := (BitVec.ofNat_toNat 32 w ▸ (BitVec.setWidth_eq w).symm)

theorem offs {w : BitVec 32} (h : w.toNat < 24) : (k0_off5 w = ![eLo (w.toNat % 6), 0, 0] ∧ k0_off6 w = ![eLo (w.toNat % 6), 0, 0])
    ∧ (k0_off7 w = ![eHi (w.toNat % 6), 0, 0] ∧ k0_off8 w = ![eHi (w.toNat % 6), 0, 0]) := by
  have := offs_fin ⟨w.toNat, h⟩
  simpa only [← word_of] using this

theorem eLo_lt (p : ℕ) : eLo p < 4 := by unfold eLo; split_ifs <;> omega
theorem eHi_lt (p : ℕ) (h : p < 6) : eHi p < 4 := by unfold eHi; split_ifs <;> omega

theorem chk3 {w : BitVec 32} (h : w.toNat < 24) (u : BitVec 32) : k0_chk3 i u w := by
  obtain ⟨⟨h5, h6⟩, h7, h8⟩ := offs h
  have l := eLo_lt (w.toNat % 6)
  have r := eHi_lt (w.toNat % 6) (Nat.mod_lt _ (by decide))
  refine ⟨fun _ a => ?_, fun _ a => ?_, fun _ a => ?_, fun _ a => ?_⟩
  · rw [h5]; revert a; rw [Fin.forall_fin_succ]; refine ⟨?_, fun j => by fin_cases j <;> exact Nat.le_refl _⟩; show eLo _ + 1 ≤ 4; omega
  · rw [h6]; revert a; rw [Fin.forall_fin_succ]; refine ⟨?_, fun j => by fin_cases j <;> exact Nat.le_refl _⟩; show eLo _ + 1 ≤ 4; omega
  · rw [h7]; revert a; rw [Fin.forall_fin_succ]; refine ⟨?_, fun j => by fin_cases j <;> exact Nat.le_refl _⟩; show eHi _ + 1 ≤ 4; omega
  · rw [h8]; revert a; rw [Fin.forall_fin_succ]; refine ⟨?_, fun j => by fin_cases j <;> exact Nat.le_refl _⟩; show eHi _ + 1 ≤ 4; omega

/-- Division by six, as the body writes it. -/
def sixth (v : BitVec 32) : BitVec 32 :=
  Scalar.select (Scalar.andi (Scalar.cmpi .ne (Scalar.subi (Scalar.extui (Scalar.cmpi .sgt v 0#32) : BitVec 32) (Scalar.extui (Scalar.cmpi .slt v 0#32)))
      (Scalar.subi (Scalar.extui (Scalar.cmpi .sgt 6#32 0#32) : BitVec 32) (Scalar.extui (Scalar.cmpi .slt 6#32 0#32))))
    (Scalar.cmpi .ne (Scalar.remsi v 6#32) 0#32)) (Scalar.subi (Scalar.divsi v 6#32) 1#32) (Scalar.divsi v 6#32)

theorem sixth_fin : ∀ w : Fin 24, sixth (BitVec.ofNat 32 w.val) = BitVec.ofNat 32 (w.val / 6) := by decide +kernel

theorem sixth_eq {w : BitVec 32} (h : w.toNat < 24) : sixth w = BitVec.ofNat 32 (w.toNat / 6) := by
  have := sixth_fin ⟨w.toNat, h⟩
  simpa only [← word_of] using this

theorem fresh_eq (u a b : BitVec 32) : fresh i u a b = Scalar.cmpi .ne (Scalar.extui (Scalar.ori (Scalar.cmpi .eq (BitVec.ofNat 32 (i 0).val) 0#32)
    (Scalar.andi (Scalar.cmpi .slt (BitVec.ofNat 32 (i 0).val) u) (Scalar.cmpi .ne (sixth a) (sixth b)))) : BitVec 32) 0#32 := rfl

theorem bits (x y z : Bool) : Scalar.cmpi .ne (Scalar.extui (Scalar.ori (BitVec.ofBool x) (Scalar.andi (BitVec.ofBool y) (BitVec.ofBool z))) : BitVec 32) 0#32
    = BitVec.ofBool (x || (y && z)) := by cases x <;> cases y <;> cases z <;> decide

/-- The group of experts whose weights are in use at a point. -/
def grp (T : S128.Idx → BitVec 32) (n : ℕ) : ℕ := (ent T (min n ((ent T 127).toNat - 1))).toNat / 6

include hT in
theorem grp_lt (n : ℕ) : grp T n < 4 := by
  have h1 := hT.pos
  have := hT.lt (min n ((ent T 127).toNat - 1)) (by omega)
  unfold grp; omega

include hT in
/-- Where the weights are kept, they are those of the point before. -/
theorem kept (hf : ¬ fresh i (ent T 127) (ent T (last (ent T 127) i)) (ent T (min (co i - 1) ((ent T 127).toNat - 1))) = 1#1) :
    0 < co i ∧ grp T (co i) = grp T (co i - 1) := by
  have h1 := hT.pos
  have h2 := hT.le
  have h3 := co_lt i
  have hf' : ¬ BitVec.ofBool (((BitVec.ofNat 32 (i 0).val) == 0#32) || ((BitVec.ofNat 32 (i 0).val).slt (ent T 127)
      && (sixth (ent T (last (ent T 127) i)) != sixth (ent T (min (co i - 1) ((ent T 127).toNat - 1)))))) = 1#1 := by
    rw [← bits]; exact hf
  have l1 : (ent T (last (ent T 127) i)).toNat < 24 := hT.lt _ (by unfold last; omega)
  have l2 : (ent T (min (co i - 1) ((ent T 127).toNat - 1))).toNat < 24 := hT.lt _ (by omega)
  rw [slt_small (by rw [coord]; omega) (used_small hT), coord, sixth_eq l1, sixth_eq l2] at hf'
  have hb : ((BitVec.ofNat 32 (i 0).val == 0#32) || (decide (co i < (ent T 127).toNat) && (BitVec.ofNat 32 ((ent T (last (ent T 127) i)).toNat / 6) != BitVec.ofNat 32 ((ent T (min (co i - 1) ((ent T 127).toNat - 1))).toNat / 6)))) = false := by
    revert hf'; generalize (_ || _ : Bool) = b; cases b <;> simp
  rw [Bool.or_eq_false_iff, Bool.and_eq_false_iff] at hb
  have hne : co i ≠ 0 := fun h => by
    have : BitVec.ofNat 32 (i 0).val = 0#32 := by rw [show (i 0).val = 0 from h]
    rw [this] at hb; exact absurd hb.1 (by decide)
  refine ⟨Nat.pos_of_ne_zero hne, ?_⟩
  rcases hb.2 with h | h
  · have hge : ¬ co i < (ent T 127).toNat := by simpa using h
    unfold grp
    rw [show min (co i) ((ent T 127).toNat - 1) = min (co i - 1) ((ent T 127).toNat - 1) by omega]
  · have he : BitVec.ofNat 32 ((ent T (last (ent T 127) i)).toNat / 6) = BitVec.ofNat 32 ((ent T (min (co i - 1) ((ent T 127).toNat - 1))).toNat / 6) := by simpa using h
    have := congrArg BitVec.toNat he
    rw [BitVec.toNat_ofNat, BitVec.toNat_ofNat, Nat.mod_eq_of_lt (by omega), Nat.mod_eq_of_lt (by omega)] at this
    exact this

end Cert.Kernel2Ideal.Own
-- ==== Proof.MoeEntry.lean ====
/- What the host leaves for the expert kernel: the table of groups, and the arguments as they were. -/
module

public import proofs.«01_k».proof.Proof.MoeTable
public import Idealize.ShloMosaic.Lib.ValueIdx
public import Idealize.ShloMosaic.Lib.Pipeline.Value

@[expose] public section

set_option maxRecDepth 65536

noncomputable section

namespace Cert.Kernel2Ideal.Own

open Cert.Kernel2Ideal Cert.Kernel2Ideal.Gen
open Idealize.ShloMosaic Idealize.ShloMosaic.TcCoe Idealize.ShloMosaic.Tactic Idealize.ShloMosaic.ValueIdx

variable {F : FTy → Type} [FloatOps F]

/-- The number of tiles in use, from the table. -/
def usedOf (T : S128.Idx → BitVec 32) : S_.Idx → BitVec 32 := shapeCast (s := S1) S_ (extractStridedSlice S1 ![127] T slices_S128_S1_127) shapeCasts_S1_S_

/-- The entry whose group a point uses: the point's, or the last tile's in use. -/
def preIdx (T : S128.Idx → BitVec 32) : S88.Idx → BitVec 32 :=
  minsi (iotaInDim S88 32 0) (broadcastInDim S88 ![] bcast_S_S88 (subi (usedOf T) (constantI S_ 32 1#32)))

/-- The same, counted from the end where negative. -/
def selIdx (T : S128.Idx → BitVec 32) : S88.Idx → BitVec 32 :=
  select (cmpi .slt (preIdx T) (broadcastInDim S88 ![] bcast_S_S88 (constantI S_ 32 0#32))) (addi (preIdx T) (broadcastInDim S88 ![] bcast_S_S88 (constantI S_ 32 128#32))) (preIdx T)

/-- Those entries. -/
def picked (T : S128.Idx → BitVec 32) : S88.Idx → BitVec 32 :=
  Host.gather gather_S128_S88x1_S88_n_0_n_n_0_1_1 T (broadcastInDim S88x1 ![0] bcast_S88_S88x1_0 (selIdx T))

/-- Division by six of every entry. -/
def sixthOf (g : S88.Idx → BitVec 32) : S88.Idx → BitVec 32 :=
  select (andi (cmpi .ne (signi g) (broadcastInDim S88 ![] bcast_S_S88 (signi (constantI S_ 32 6#32))))
      (cmpi .ne (Host.remsi g (broadcastInDim S88 ![] bcast_S_S88 (constantI S_ 32 6#32))) (broadcastInDim S88 ![] bcast_S_S88 (constantI S_ 32 0#32))))
    (subi (Host.divsi g (broadcastInDim S88 ![] bcast_S_S88 (constantI S_ 32 6#32))) (broadcastInDim S88 ![] bcast_S_S88 (constantI S_ 32 1#32)))
    (Host.divsi g (broadcastInDim S88 ![] bcast_S_S88 (constantI S_ 32 6#32)))

/-- The table of groups. -/
def groups (T : S128.Idx → BitVec 32) : S88.Idx → BitVec 32 := sixthOf (picked T)

theorem sixthH_fin : ∀ w : Fin 24, (Scalar.select (IntOp.andi (IntOp.cmpi .ne (if BitVec.ofNat 32 w.val = 0 then (0 : BitVec 32) else if (BitVec.ofNat 32 w.val).msb then -1 else 1) (if (6#32 : BitVec 32) = 0 then (0 : BitVec 32) else if (6#32 : BitVec 32).msb then -1 else 1))
      (IntOp.cmpi .ne (IntOp.remsi .host (BitVec.ofNat 32 w.val) 6#32) 0#32)) (IntOp.subi (IntOp.divsi .host (BitVec.ofNat 32 w.val) 6#32) 1#32) (IntOp.divsi .host (BitVec.ofNat 32 w.val) 6#32))
    = BitVec.ofNat 32 (w.val / 6) := by decide +kernel

theorem sixthOf_eq (g : S88.Idx → BitVec 32) (y : S88.Idx) (h : (g y).toNat < 24) : sixthOf g y = BitVec.ofNat 32 ((g y).toNat / 6) := by
  refine Eq.trans ?_ (sixthH_fin ⟨(g y).toNat, h⟩)
  show Scalar.select (IntOp.andi (IntOp.cmpi .ne (if g y = 0 then (0 : BitVec 32) else if (g y).msb then -1 else 1) (if (6#32 : BitVec 32) = 0 then (0 : BitVec 32) else if (6#32 : BitVec 32).msb then -1 else 1))
      (IntOp.cmpi .ne (IntOp.remsi .host (g y) 6#32) 0#32)) (IntOp.subi (IntOp.divsi .host (g y) 6#32) 1#32) (IntOp.divsi .host (g y) 6#32) = _
  simp only [← word_of]

theorem usedOf_eq (T : S128.Idx → BitVec 32) (y : S_.Idx) : usedOf T y = ent T 127 := by
  unfold usedOf
  refine (shapeCast_apply (s := S1) (t := S_) _ _ _ (ix1 ⟨0, by decide⟩) ?_).trans ?_
  · have h1 := (Shape.rowMajor S_ y).isLt
    have h2 := (Shape.rowMajor S1 (ix1 ⟨0, by decide⟩)).isLt
    have e1 : S_.numel = 1 := by decide
    have e2 : S1.numel = 1 := by decide
    omega
  · refine congrArg T (funext fun a => Fin.ext ?_)
    obtain rfl : a = 0 := Subsingleton.elim _ _
    rfl

/-- The grid point a table's place is of. -/
abbrev crd (y : S88.Idx) : grid0.Coords := fun a => ⟨(y 0).val, by obtain rfl : a = 0 := Subsingleton.elim _ _; exact (y 0).isLt⟩

theorem preIdx_eq {T : S128.Idx → BitVec 32} (hT : Good T) (y : S88.Idx) : (preIdx T y).toNat = min (y 0).val ((ent T 127).toNat - 1) := by
  have e : preIdx T y = Scalar.minsi (BitVec.ofNat 32 (y 0).val) (ent T 127 - 1#32) := by
    show IntOp.minsi (BitVec.ofNat 32 (y 0).val) (IntOp.subi (usedOf T _) 1#32) = _
    rw [usedOf_eq]; rfl
  rw [e]
  exact min_eq hT (crd y)

theorem selIdx_eq {T : S128.Idx → BitVec 32} (hT : Good T) (y : S88.Idx) : selIdx T y = preIdx T y := by
  have h1 := hT.le
  have h := preIdx_eq hT y
  have e : selIdx T y = Scalar.select (BitVec.ofBool ((preIdx T y).slt 0#32)) (preIdx T y + 128#32) (preIdx T y) := rfl
  rw [e, slt_small (by omega) (by decide)]
  rfl

theorem picked_eq {T : S128.Idx → BitVec 32} (hT : Good T) (y : S88.Idx) : picked T y = ent T (min (y 0).val ((ent T 127).toNat - 1)) := by
  have h1 := hT.le
  have h2 : (y 0).val < 88 := (y 0).isLt
  have key : picked T y = T (ix1 ⟨min (selIdx T y).toInt.toNat 127, by omega⟩) := by
    unfold picked Host.gather
    congr 1
    funext a
    obtain rfl : a = 0 := Subsingleton.elim _ _
    refine Fin.ext ?_
    show (gather_S128_S88x1_S88_n_0_n_n_0_1_1).start y _ 0 + (gather_S128_S88x1_S88_n_0_n_n_0_1_1).batchCoord y 0 + (gather_S128_S88x1_S88_n_0_n_n_0_1_1).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather_S128_S88x1_S88_n_0_n_n_0_1_1).startIndexMap from List.mem_singleton.mpr rfl)]
    have hsi : ∀ k, (broadcastInDim S88x1 ![0] bcast_S88_S88x1_0 (selIdx T)) ((gather_S128_S88x1_S88_n_0_n_n_0_1_1).siIdx y k) = selIdx T y := fun k => by
      refine broadcastInDim_apply _ _ _ _ y fun b => ?_
      obtain rfl : b = 0 := Subsingleton.elim _ _
      rfl
    rw [hsi]
    rfl
  rw [key]
  unfold ent
  refine congrArg T (funext fun a => Fin.ext ?_)
  obtain rfl : a = 0 := Subsingleton.elim _ _
  show min (selIdx T y).toInt.toNat 127 = (min (y 0).val ((ent T 127).toNat - 1)) % 128
  rw [selIdx_eq hT, toInt_small (by rw [preIdx_eq hT]; omega), preIdx_eq hT, Int.toNat_natCast]
  omega

theorem groups_eq {T : S128.Idx → BitVec 32} (hT : Good T) (y : S88.Idx) : (groups T y).toNat = grp T (y 0).val := by
  have h1 := hT.pos
  have h2 := hT.le
  have h3 := hT.lt (min (y 0).val ((ent T 127).toNat - 1)) (by omega)
  unfold groups
  rw [sixthOf_eq _ _ (by rw [picked_eq hT]; exact h3), picked_eq hT]
  unfold grp
  rw [BitVec.toNat_ofNat]
  exact Nat.mod_eq_of_lt (by omega)

variable (m : (ℓ : Loc nD τ sig) → Buf (Elt F) ℓ)

/-- The host's operations before the kernel. -/
abbrev hostAll : List (List (HloOp τ sig (Elt F))) := [hostOps0, hostOps0_1, hostOps0_2, hostOps0_3, hostOps0_4]

/-- The buffers when the kernel starts. -/
def V (c : Dev nD) (b : Ref sig .tc) : Buf (Elt F) ((c.tc : Thread nD τ).loc b) := StableHlo.after hostAll.flatten (fun b => m (c, b)) b

/-- An argument is as it was. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- An argument is as it was. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- An argument is as it was. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- An argument is as it was. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostAll, hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- An argument is as it was. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostAll, hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- An argument is as it was. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostAll, hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_v18 (c : Dev nD) : V m c main_v18 = groups (m ((c : Thread nD τ).loc main_arg0)) := by
  show StableHlo.after hostAll.flatten _ main_v18 = _
  simp only [hostAll, hostOps0, hostOps0_1, hostOps0_2, hostOps0_3, hostOps0_4, List.flatten_cons, List.flatten_nil, List.append_nil, List.cons_append, List.nil_append]
  after_results_simp
  rfl

/-- The activations and the gates, row after row: eight rows of the tile's lanes and one of gates. -/
def laid (h : S22528x1024.Idx → F .f32) (g : S22528x2.Idx → F .f32) : S202752x128.Idx → F .f32 :=
  shapeCast (s := S22528x9x128) S202752x128 (concatenate S22528x9x128 1
    [⟨S22528x8x128, shapeCast (s := S22528x1024) S22528x8x128 h shapeCasts_S22528x1024_S22528x8x128⟩,
     ⟨S22528x1x128, broadcastInDim S22528x1x128 ![0, 2] bcast_S22528x128_S22528x1x128_0_2
        (pad S22528x128 ![0, 0] ![0, 126] ![0, 0] g (sitofp .f32 (constantI S_ 32 0#32)) pads_S22528x2_S22528x128_000_01260 h_S_)⟩]
    concatenates_S22528x8x128_S22528x1x128_S22528x9x128_d1) shapeCasts_S22528x9x128_S202752x128

theorem V_v4 (c : Dev nD) : V m c main_v4 = laid (m ((c : Thread nD τ).loc main_arg1)) (m ((c : Thread nD τ).loc main_arg2)) := by
  show StableHlo.after hostAll.flatten _ main_v4 = _
  simp only [hostAll, hostOps0, hostOps0_1, hostOps0_2, hostOps0_3, hostOps0_4, List.flatten_cons, List.flatten_nil, List.append_nil, List.cons_append, List.nil_append]
  after_results_simp
  rfl

theorem V_v19 (c : Dev nD) : V m c main_v19 = shapeCast (s := S4x16x1024x256) S4x4x4x1024x256 (m ((c : Thread nD τ).loc main_arg3)) shapeCasts_S4x16x1024x256_S4x4x4x1024x256 := by
  show StableHlo.after hostAll.flatten _ main_v19 = _
  simp only [hostAll, hostOps0, hostOps0_1, hostOps0_2, hostOps0_3, hostOps0_4, List.flatten_cons, List.flatten_nil, List.append_nil, List.cons_append, List.nil_append]
  after_results_simp
  rfl

theorem V_v20 (c : Dev nD) : V m c main_v20 = shapeCast (s := S4x16x1024x256) S4x4x4x1024x256 (m ((c : Thread nD τ).loc main_arg4)) shapeCasts_S4x16x1024x256_S4x4x4x1024x256 := by
  show StableHlo.after hostAll.flatten _ main_v20 = _
  simp only [hostAll, hostOps0, hostOps0_1, hostOps0_2, hostOps0_3, hostOps0_4, List.flatten_cons, List.flatten_nil, List.append_nil, List.cons_append, List.nil_append]
  after_results_simp
  rfl

theorem V_v21 (c : Dev nD) : V m c main_v21 = shapeCast (s := S4x16x256x1024) S4x4x4x256x1024 (m ((c : Thread nD τ).loc main_arg5)) shapeCasts_S4x16x256x1024_S4x4x4x256x1024 := by
  show StableHlo.after hostAll.flatten _ main_v21 = _
  simp only [hostAll, hostOps0, hostOps0_1, hostOps0_2, hostOps0_3, hostOps0_4, List.flatten_cons, List.flatten_nil, List.append_nil, List.cons_append, List.nil_append]
  after_results_simp
  rfl

end Cert.Kernel2Ideal.Own
-- ==== Proof.MoeRows.lean ====
/- The rows of a result tile: nine interleaved groups of them, each written once. -/
module

public import proofs.«01_k».proof.Proof.MoeTable
public import Idealize.ShloMosaic.Lib.ValueIdx

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic Idealize.ShloMosaic.ValueIdx

variable {F : FTy → Type} [FloatOps F]

theorem emb0 (r : Fin 9) (x : S256x128.Idx) : ((rowR r).emb x 0).val = r.val + 9 * (x 0).val := rfl
theorem emb1 (r : Fin 9) (x : S256x128.Idx) : ((rowR r).emb x 1).val = (x 1).val := by
  show 0 + 1 * (x 1).val = _; omega

theorem miss {r r' : Fin 9} (h : r' ≠ r) (x : S256x128.Idx) : ¬ ∃ x', (rowR r').emb x' = (rowR r).emb x := fun ⟨x', e⟩ => h (Fin.ext (by
  have := congrArg Fin.val (congrFun e 0)
  rw [emb0, emb0] at this
  omega))

/-- The rows of one residue. -/
def part (v : FVec F S256x1024 .f32) : Fin 9 → FVec F S256x128 .f32 :=
  ![k0_pay4 v, k0_pay5 v, k0_pay6 v, k0_pay7 v, k0_pay8 v, k0_pay9 v, k0_pay10 v, k0_pay11 v, k0_pay12 (F := F)]

theorem rows_emb (O : Vec F S2304x128 .f32) (v : FVec F S256x1024 .f32) (r : Fin 9) (x : S256x128.Idx) : rows O v ((rowR r).emb x) = part v r x := by
  unfold rows
  by_cases h8 : r = 8
  · subst h8; exact putR_emb _ _ _ _
  rw [putR_miss _ _ _ _ (miss (Ne.symm h8) x)]
  by_cases h7 : r = 7
  · subst h7; exact putR_emb _ _ _ _
  rw [putR_miss _ _ _ _ (miss (Ne.symm h7) x)]
  by_cases h6 : r = 6
  · subst h6; exact putR_emb _ _ _ _
  rw [putR_miss _ _ _ _ (miss (Ne.symm h6) x)]
  by_cases h5 : r = 5
  · subst h5; exact putR_emb _ _ _ _
  rw [putR_miss _ _ _ _ (miss (Ne.symm h5) x)]
  by_cases h4 : r = 4
  · subst h4; exact putR_emb _ _ _ _
  rw [putR_miss _ _ _ _ (miss (Ne.symm h4) x)]
  by_cases h3 : r = 3
  · subst h3; exact putR_emb _ _ _ _
  rw [putR_miss _ _ _ _ (miss (Ne.symm h3) x)]
  by_cases h2 : r = 2
  · subst h2; exact putR_emb _ _ _ _
  rw [putR_miss _ _ _ _ (miss (Ne.symm h2) x)]
  by_cases h1 : r = 1
  · subst h1; exact putR_emb _ _ _ _
  rw [putR_miss _ _ _ _ (miss (Ne.symm h1) x)]
  obtain rfl : r = 0 := Fin.ext (by have := r.isLt; simp only [Fin.ext_iff] at *; omega)
  exact putR_emb _ _ _ _

/-- Every place of a tile is in one of the groups. -/
theorem place (y : S2304x128.Idx) : ∃ (r : Fin 9) (x : S256x128.Idx), (rowR r).emb x = y := by
  have h0 : (y 0).val < 2304 := (y 0).isLt
  have h1 : (y 1).val < 128 := (y 1).isLt
  refine ⟨⟨(y 0).val % 9, by omega⟩, ix2 ⟨(y 0).val / 9, by omega⟩ ⟨(y 1).val, h1⟩, funext fun a => Fin.ext ?_⟩
  fin_cases a
  · refine (emb0 _ _).trans ?_
    show (y 0).val % 9 + 9 * ((y 0).val / 9) = (y 0).val
    omega
  · exact emb1 _ _

theorem rows_any (O O' : Vec F S2304x128 .f32) (v : FVec F S256x1024 .f32) : rows O v = rows O' v := by
  funext y
  obtain ⟨r, x, rfl⟩ := place y
  rw [rows_emb, rows_emb]

theorem outV_any (X : Vec F S2304x128 .f32) (gs us : Vec F S4x1024x256 .bf16) (ds : Vec F S4x256x1024 .bf16) (O O' : Vec F S2304x128 .f32) (i : grid0.Coords) (v0 v61 : BitVec 32) :
    outV X gs us ds O i v0 v61 = outV X gs us ds O' i v0 v61 := by
  unfold outV
  split
  · exact rows_any _ _ _
  · rfl

end Cert.Kernel2Ideal.Own
-- ==== Proof.MoeRun.lean ====
/- The run of the expert kernel: what each tile of its result holds when it ends. -/
module

public import proofs.«01_k».proof.Proof.MoeEntry
public import proofs.«01_k».proof.Proof.MoeRows
public import Idealize.ShloMosaic.Lib.Claim

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

/-! ## The index maps at the tables' words -/

theorem ix_0 (pf : pre0.Contents (Elt F)) {T : S128.Idx → BitVec 32} (hT : Good T) (h0 : pf 0 = T) (i : grid0.Coords) :
    cc0_transform_0 inb_S128_S1_127 numel1_S1 pf i = ![last (ent T 127) i, 0] := by
  have e : (Scalar.minsi (BitVec.ofNat 32 (i 0).val) (word T ![127] inb_S128_S1_127 - 1#32)).toNat = last (ent T 127) i := by
    rw [word_eq _ _ _ 127 rfl, min_eq hT]
  subst h0
  exact congrArg (fun n => ![n, 0]) e

theorem tab_1 (pf : pre0.Contents (Elt F)) {T : S128.Idx → BitVec 32} (hT : Good T) (h1 : pf 1 = groups T) (i : grid0.Coords) :
    ![0, (pf.at 1 (Rect.unit (s := S88) (k0_off1 i) S1.size (k0_off1_inb i)) numel1_S1 : BitVec 32).toNat, 0, 0, 0] = ![0, grp T (co i), 0, 0, 0] := by
  have e : (pf.at 1 (Rect.unit (s := S88) (k0_off1 i) S1.size (k0_off1_inb i)) numel1_S1 : BitVec 32).toNat = grp T (co i) := by
    refine (congrArg BitVec.toNat (congrFun h1 _)).trans ((groups_eq hT _).trans (congrArg (grp T) ?_))
    show k0_off1 i 0 + 1 * 0 = co i
    have : k0_off1 i 0 = co i := coord i
    omega
  rw [e]

theorem ix_1 (pf : pre0.Contents (Elt F)) {T : S128.Idx → BitVec 32} (hT : Good T) (h1 : pf 1 = groups T) (i : grid0.Coords) :
    cc0_transform_1 k0_off1_inb numel1_S1 pf i = ![0, grp T (co i), 0, 0, 0] := tab_1 pf hT h1 i

theorem ix_2 (pf : pre0.Contents (Elt F)) {T : S128.Idx → BitVec 32} (hT : Good T) (h1 : pf 1 = groups T) (i : grid0.Coords) :
    cc0_transform_2 k0_off1_inb numel1_S1 pf i = ![0, grp T (co i), 0, 0, 0] := tab_1 pf hT h1 i

theorem ix_3 (pf : pre0.Contents (Elt F)) {T : S128.Idx → BitVec 32} (hT : Good T) (h1 : pf 1 = groups T) (i : grid0.Coords) :
    cc0_transform_3 k0_off1_inb numel1_S1 pf i = ![0, grp T (co i), 0, 0, 0] := tab_1 pf hT h1 i

/-- The tables' words keep every block inside its array. -/
theorem ok_of (pf : pre0.Contents (Elt F)) {T : S128.Idx → BitVec 32} (hT : Good T) (h0 : pf 0 = T) (h1 : pf 1 = groups T) : ok0 pf := by
  have hg := fun n => grp_lt hT n
  refine ⟨fun i => ⟨?_, .inl rfl⟩, fun i => ⟨?_, .inl rfl⟩, fun i => ⟨?_, .inl rfl⟩, fun i => ⟨?_, .inl rfl⟩⟩
  · rw [ix_0 pf hT h0]
    have h3 := co_lt i
    intro a; fin_cases a
    · show (last (ent T 127) i + 1) * 2304 ≤ 202752
      unfold last; omega
    · exact Nat.le_refl _
  · rw [ix_1 pf hT h1]
    have := hg (co i)
    intro a; fin_cases a
    · show (0 + 1) * 1 ≤ 4; omega
    · show (grp T (co i) + 1) * 1 ≤ 4; omega
    all_goals exact Nat.le_refl _
  · rw [ix_2 pf hT h1]
    have := hg (co i)
    intro a; fin_cases a
    · show (0 + 1) * 1 ≤ 4; omega
    · show (grp T (co i) + 1) * 1 ≤ 4; omega
    all_goals exact Nat.le_refl _
  · rw [ix_3 pf hT h1]
    have := hg (co i)
    intro a; fin_cases a
    · show (0 + 1) * 1 ≤ 4; omega
    · show (grp T (co i) + 1) * 1 ≤ 4; omega
    all_goals exact Nat.le_refl _

variable (m : (ℓ : Loc nD τ sig) → Buf (Elt F) ℓ) (ρ : Dev nD → PrngReg)

/-- The table of the tiles. -/
abbrev tab (c : Dev nD) : S128.Idx → BitVec 32 := m ((c : Thread nD τ).loc main_arg0)

/-- The tables as the kernel finds them. -/
def pfOf (c : Dev nD) : pre0.Contents (Elt F) := fun k => V m c (pre0.ref k)

theorem pf_0 (c : Dev nD) : pfOf m c 0 = tab m c := V_arg0 m c
theorem pf_1 (c : Dev nD) : pfOf m c 1 = groups (tab m c) := V_v18 m c

/-- The tables, which keep every block inside its array. -/
def adm (c : Dev nD) (hT : Good (tab m c)) : (pcfg0 (F := F)).Adm := ⟨pfOf m c, ok_of _ hT (pf_0 m c) (pf_1 m c)⟩

variable (a : (pcfg0 (F := F)).Adm)

/-- A window's block at a point. -/
def iblk (c : Dev nD) (w : Fin (cfg0 a).W) (t : Fin (cfg0 a).N) : ((cfg0 a).win w).block.Idx → Elt F ((cfg0 a).win w).elt :=
  (((cfg0 a).win w).blk t).view.read (Elt F) (V m c (Pipeline.arrRef spec0 w))

/-- The tile of the result at a point. -/
def tile (c : Dev nD) (t : Fin (cfg0 a).N) : Vec F S2304x128 .f32 :=
  outV (iblk m a c 0 t) (k0_pay1 (iblk m a c 1 t)) (k0_pay2 (iblk m a c 2 t)) (k0_pay3 (iblk m a c 3 t)) k0_pay13 (grid0.coords t) (ent (tab m c) 127) (ent (tab m c) (co (grid0.coords t)))

/-- What the body keeps from one point to the next: the weights of the point before, in the scratch. -/
def kept_ (c : Dev nD) (t : Fin ((cfg0 a).N + 1)) : SP F :=
  iprop((∃ e0 e1 e2, ⌜∀ s : Fin (cfg0 a).N, s.val + 1 = t.val → e0 = k0_pay1 (iblk m a c 1 s) ∧ e1 = k0_pay2 (iblk m a c 2 s) ∧ e2 = k0_pay3 (iblk m a c 3 s)⌝
      ∗ owns (c : Thread nD τ) (Memref.whole cc0_scratch0) fullShare e0 ∗ owns (c : Thread nD τ) (Memref.whole cc0_scratch1) fullShare e1 ∗ owns (c : Thread nD τ) (Memref.whole cc0_scratch2) fullShare e2)
    ∗ (∃ r, prngReg c r) ∗ Pipeline.ΦT pre0 a.1 c)

/-- What each window's buffer holds after the body, and what the body keeps of the rest. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => tile m a c t
  Φ t := kept_ m a c t
  q _ := fullShare
  owed _ := 0

theorem A_eq (c : Dev nD) (w : Fin (cfg0 a).W) : (dats m a 0 c).A w = V m c (Pipeline.arrRef spec0 w) := by dsimp only [dats]
theorem after_0 (c : Dev nD) (t : Fin (cfg0 a).N) : (dats m a 0 c).after 0 t = iblk m a c 0 t := rfl
theorem after_1 (c : Dev nD) (t : Fin (cfg0 a).N) : (dats m a 0 c).after 1 t = iblk m a c 1 t := rfl
theorem after_2 (c : Dev nD) (t : Fin (cfg0 a).N) : (dats m a 0 c).after 2 t = iblk m a c 2 t := rfl
theorem after_3 (c : Dev nD) (t : Fin (cfg0 a).N) : (dats m a 0 c).after 3 t = iblk m a c 3 t := rfl
theorem after_4 (c : Dev nD) (t : Fin (cfg0 a).N) : (dats m a 0 c).after 4 t = tile m a c t := rfl

theorem before_0 (c : Dev nD) (t : Fin (cfg0 a).N) (d) : (dats m a 0 c).before 0 t d = iblk m a c 0 t :=
  ((dats m a 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dats m a 0 c).before 1 t d = iblk m a c 1 t :=
  ((dats m a 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 a).N) (d) : (dats m a 0 c).before 2 t d = iblk m a c 2 t :=
  ((dats m a 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 a).N) (d) : (dats m a 0 c).before 3 t d = iblk m a c 3 t :=
  ((dats m a 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The buffers of the body at a grid point. -/
abbrev refs (t : Fin (cfg0 a).N) : Refs :=
  ⟨Memref.whole main_arg0, spec0_0.stage ((cfg0 a).slots t 0), spec0_1.stage ((cfg0 a).slots t 1), spec0_2.stage ((cfg0 a).slots t 2), spec0_3.stage ((cfg0 a).slots t 3),
    spec0_4.stage ((cfg0 a).slots t 4), Memref.whole cc0_scratch0, Memref.whole cc0_scratch1, Memref.whole cc0_scratch2⟩

/-- The body at a grid point. -/
abbrev bodyAt (t : Fin (cfg0 a).N) : Code F :=
  body1 (grid0.coords t) (refs a t).t (refs a t).x (refs a t).g (refs a t).u (refs a t).d (refs a t).o (refs a t).gs (Memref.isWhole_whole _) (refs a t).us (Memref.isWhole_whole _) (refs a t).ds (Memref.isWhole_whole _)

/-- The table's row for the body. -/
theorem row (t : Fin (cfg0 a).N) : defs₀ (F := F) .tc (cfg0 a).body ((cfg0 a).bodyArgs t ((cfg0 a).slots t)) = bodyAt a t := by
  unfold defs₀; rw [Defs.onTc_tc]
  exact body_eq _ _ _ _ _ _ _ _ _ _ _ _ _ _ _ _ _ _ _ _ _

theorem coords_val : ∀ t : Fin grid0.N, co (grid0.coords t) = t.val := by decide +kernel

/-- The tables' hold, written out. -/
theorem PhiT_eq (c : Dev nD) (h0 : a.1 0 = tab m c) (h1 : a.1 1 = groups (tab m c)) :
    (Pipeline.ΦT pre0 a.1 c : SP F) = iprop(owns (c : Thread nD τ) (Memref.whole main_arg0) fullShare.right (tab m c)
      ∗ owns (c : Thread nD τ) (Memref.whole main_v18) fullShare.right (groups (tab m c))) := by
  simp only [owns_whole]
  rw [← h1, ← h0]
  exact bigSep_univ_eq_bigSepL (M := MT nD τ sig Unit (Elt F) ℕ (UR sig nD τ) ℕ) [(0 : Fin 2), (1 : Fin 2)] (by decide) (by decide) _

theorem emb_same (w : Fin (cfg0 a).W) (hk : ((cfg0 a).win w).kind = .blocked) {t t' : Fin (cfg0 a).N} (h : ((cfg0 a).win w).index t = ((cfg0 a).win w).index t') (y : ((cfg0 a).win w).block.Idx) :
    (((cfg0 a).win w).rect t).emb y = (((cfg0 a).win w).rect t').emb y := funext fun b => Fin.ext (by
  rw [Pipeline.Window.rect_emb_val (hk := hk), Pipeline.Window.rect_emb_val (hk := hk), h])

/-! Two points of one group read the same weights. -/

theorem same_1 {c : Dev nD} (hT : Good (tab m c)) (h1 : a.1 1 = groups (tab m c)) {t t' : Fin (cfg0 a).N} (h : grp (tab m c) (co (grid0.coords t)) = grp (tab m c) (co (grid0.coords t'))) : iblk m a c 1 t = iblk m a c 1 t' :=
  funext fun y => congrArg (V m c main_v19) (emb_same a 1 rfl ((ix_1 a.1 hT h1 (grid0.coords t)).trans ((congrArg (fun n => ![0, n, 0, 0, 0]) h).trans (ix_1 a.1 hT h1 (grid0.coords t')).symm)) y)

theorem same_2 {c : Dev nD} (hT : Good (tab m c)) (h1 : a.1 1 = groups (tab m c)) {t t' : Fin (cfg0 a).N} (h : grp (tab m c) (co (grid0.coords t)) = grp (tab m c) (co (grid0.coords t'))) : iblk m a c 2 t = iblk m a c 2 t' :=
  funext fun y => congrArg (V m c main_v20) (emb_same a 2 rfl ((ix_2 a.1 hT h1 (grid0.coords t)).trans ((congrArg (fun n => ![0, n, 0, 0, 0]) h).trans (ix_2 a.1 hT h1 (grid0.coords t')).symm)) y)

theorem same_3 {c : Dev nD} (hT : Good (tab m c)) (h1 : a.1 1 = groups (tab m c)) {t t' : Fin (cfg0 a).N} (h : grp (tab m c) (co (grid0.coords t)) = grp (tab m c) (co (grid0.coords t'))) : iblk m a c 3 t = iblk m a c 3 t' :=
  funext fun y => congrArg (V m c main_v21) (emb_same a 3 rfl ((ix_3 a.1 hT h1 (grid0.coords t)).trans ((congrArg (fun n => ![0, n, 0, 0, 0]) h).trans (ix_3 a.1 hT h1 (grid0.coords t')).symm)) y)

/-- What the body is given at a grid point, -/
def pre (c : Dev nD) (t : Fin (cfg0 a).N) : SP F :=
  iprop((dats m a 0 c).Φ t.castSucc ∗ (dats m a 0 c).owesAt () t.castSucc
    ∗ (∃ d, owns (c : Thread nD τ) (refs a t).x fullShare ((dats m a 0 c).before 0 t d))
    ∗ (∃ d, owns (c : Thread nD τ) (refs a t).g fullShare ((dats m a 0 c).before 1 t d))
    ∗ (∃ d, owns (c : Thread nD τ) (refs a t).u fullShare ((dats m a 0 c).before 2 t d))
    ∗ (∃ d, owns (c : Thread nD τ) (refs a t).d fullShare ((dats m a 0 c).before 3 t d))
    ∗ (∃ d, owns (c : Thread nD τ) (refs a t).o fullShare ((dats m a 0 c).before 4 t d)))

/-- and what it gives back. -/
def post (c : Dev nD) (t : Fin (cfg0 a).N) : SP F :=
  iprop((dats m a 0 c).Φ t.succ ∗ (dats m a 0 c).owesAt () t.succ
    ∗ owns (c : Thread nD τ) (refs a t).x fullShare ((dats m a 0 c).after 0 t)
    ∗ owns (c : Thread nD τ) (refs a t).g fullShare ((dats m a 0 c).after 1 t)
    ∗ owns (c : Thread nD τ) (refs a t).u fullShare ((dats m a 0 c).after 2 t)
    ∗ owns (c : Thread nD τ) (refs a t).d fullShare ((dats m a 0 c).after 3 t)
    ∗ owns (c : Thread nD τ) (refs a t).o fullShare ((dats m a 0 c).after 4 t))

theorem fresh_congr (i : grid0.Coords) {x x' y y' z z' : BitVec 32} (hx : x = x') (hy : y = y') (hz : z = z') : fresh i x y z = fresh i x' y' z' := by
  subst hx hy hz; rfl

/-- One run of the body, from weights in the scratch that are the group's whenever the point before was of the same group. -/
theorem step {T : S128.Idx → BitVec 32} (hT : Good T) (i : grid0.Coords) (c : Dev nD) (R : Refs) (C : SP F) {h8 h9 h10}
    (x : Vec F S2304x128 .f32) (g u : Vec F S1x1x4x1024x256 .f32) (d : Vec F S1x1x4x256x1024 .f32) (o : Vec F S2304x128 .f32)
    (e0 : Vec F S4x1024x256 .bf16) (e1 : Vec F S4x1024x256 .bf16) (e2 : Vec F S4x256x1024 .bf16)
    (he : 0 < co i ∧ grp T (co i) = grp T (co i - 1) → e0 = k0_pay1 g ∧ e1 = k0_pay2 u ∧ e2 = k0_pay3 d) (Q : PUnit → SP F)
    (hQ : iprop((Own c fullShare.right R ⟨T, x, g, u, d, outV x (k0_pay1 g) (k0_pay2 u) (k0_pay3 d) k0_pay13 i (ent T 127) (ent T (co i)), k0_pay1 g, k0_pay2 u, k0_pay3 d⟩ : SP F) ∗ C) ⊢ Q ⟨⟩) :
    Ok (defs₀ (F := F)) Variants.none c none Set.univ fullShare.right R C Q ⟨T, x, g, u, d, o, e0, e1, e2⟩ (body1 i R.t R.x R.g R.u R.d R.o R.gs h8 R.us h9 R.ds h10) := by
  have hu : word T ![127] inb_S128_S1_127 = ent T 127 := word_eq _ _ _ 127 rfl
  have hw4 : word T (k0_off4 i) (k0_off4_inb i) = ent T (co i) := word_eq _ _ _ _ (off4_eq _)
  have p1 : k0_chk1 i (word T ![127] inb_S128_S1_127) := hu ▸ chk1 hT i
  have p2 : k0_chk2 i (word T ![127] inb_S128_S1_127) := hu ▸ chk2 hT i
  have p4 : k0_cond2 i (word T ![127] inb_S128_S1_127) = 1#1 → k0_chk3 i (word T ![127] inb_S128_S1_127) (word T (k0_off4 i) (k0_off4_inb i)) := by
    rw [hw4, hu]; exact fun hc => chk3 _ (hT.lt _ ((cond2_iff hT _).mp hc)) _
  have p5 : k0_cond3 i (word T ![127] inb_S128_S1_127) = 1#1 ↔ ¬ k0_cond2 i (word T ![127] inb_S128_S1_127) = 1#1 := by
    rw [hu]; exact cond3_iff hT _
  have ea : word T (k0_off2 i (word T ![127] inb_S128_S1_127)) (k0_off2_inb i _ p1) = ent T (last (ent T 127) i) :=
    word_eq _ _ _ _ (by rw [hu]; exact off2_eq hT i)
  have eb : word T (k0_off3 i (word T ![127] inb_S128_S1_127)) (k0_off3_inb i _ p2) = ent T (min (co i - 1) ((ent T 127).toNat - 1)) :=
    word_eq _ _ _ _ (by rw [hu]; exact off3_eq hT i)
  refine ok_body1 (s := ⟨T, x, g, u, d, o, e0, e1, e2⟩) p1 p2 p4 p5 ?_ ?_
  · exact fun hf => he (kept hT i fun hc => hf ((fresh_congr i hu ea eb).trans hc))
  · have eo : outV x (k0_pay1 g) (k0_pay2 u) (k0_pay3 d) o i (word T ![127] inb_S128_S1_127) (word T (k0_off4 i) (k0_off4_inb i))
        = outV x (k0_pay1 g) (k0_pay2 u) (k0_pay3 d) k0_pay13 i (ent T 127) (ent T (co i)) := by
      rw [hw4, hu]; exact outV_any _ _ _ _ _ _ _ _ _
    exact (congrArg (fun o' => iprop((Own c fullShare.right R ⟨T, x, g, u, d, o', k0_pay1 g, k0_pay2 u, k0_pay3 d⟩ : SP F) ∗ C)) eo) ▸ hQ

/-- The body from blocks and scratch that agree with the point before. -/
theorem leads (c : Dev nD) (hT : Good (tab m c)) (h1 : a.1 1 = groups (tab m c)) (t : Fin (cfg0 a).N) (C : SP F) (o : Vec F S2304x128 .f32)
    (e0 : Vec F S4x1024x256 .bf16) (e1 : Vec F S4x1024x256 .bf16) (e2 : Vec F S4x256x1024 .bf16)
    (he : ∀ s : Fin (cfg0 a).N, s.val + 1 = t.val → e0 = k0_pay1 (iblk m a c 1 s) ∧ e1 = k0_pay2 (iblk m a c 2 s) ∧ e2 = k0_pay3 (iblk m a c 3 s)) (Q : PUnit → SP F)
    (hQ : iprop((Own c fullShare.right (refs a t) ⟨tab m c, iblk m a c 0 t, iblk m a c 1 t, iblk m a c 2 t, iblk m a c 3 t, tile m a c t,
      k0_pay1 (iblk m a c 1 t), k0_pay2 (iblk m a c 2 t), k0_pay3 (iblk m a c 3 t)⟩ : SP F) ∗ C) ⊢ Q ⟨⟩) :
    iprop((Own c fullShare.right (refs a t) ⟨tab m c, iblk m a c 0 t, iblk m a c 1 t, iblk m a c 2 t, iblk m a c 3 t, o, e0, e1, e2⟩ : SP F) ∗ C)
      ⊢ wp frame (wpE (defs₀ (F := F)) Variants.none c none) Set.univ (bodyAt a t) Q := by
  refine step hT (grid0.coords t) c (refs a t) C (iblk m a c 0 t) (iblk m a c 1 t) (iblk m a c 2 t) (iblk m a c 3 t) o e0 e1 e2 ?_ Q hQ
  intro hk
  rw [coords_val t] at hk
  have hlt : t.val < 88 := t.isLt
  obtain ⟨p0, p1, p2⟩ := he ⟨t.val - 1, by show t.val - 1 < 88; omega⟩ (by show t.val - 1 + 1 = t.val; omega)
  have hg : grp (tab m c) (co (grid0.coords (⟨t.val - 1, by show t.val - 1 < 88; omega⟩ : Fin grid0.N))) = grp (tab m c) (co (grid0.coords t)) := by
    rw [coords_val, coords_val]; exact hk.2.symm
  exact ⟨p0.trans (congrArg k0_pay1 (same_1 m a hT h1 hg)), p1.trans (congrArg k0_pay2 (same_2 m a hT h1 hg)), p2.trans (congrArg k0_pay3 (same_3 m a hT h1 hg))⟩

/-- At every grid point the body leaves the tile. -/
theorem sound (c : Dev nD) (hT : Good (tab m c)) (h0 : a.1 0 = tab m c) (h1 : a.1 1 = groups (tab m c)) (t : Fin (cfg0 a).N) :
    pre m a c t ⊢ wp frame (wpE (defs₀ (F := F)) Variants.none c none) Set.univ (bodyAt a t) (fun _ => post m a c t) := by
  unfold pre post
  simp only [before_0, before_1, before_2, before_3]
  rw [show (dats m a 0 c).owesAt () t.succ = (dats m a 0 c).owesAt () t.castSucc from rfl,
    after_0, after_1, after_2, after_3, after_4,
    show (dats m a 0 c).Φ t.succ = kept_ m a c t.succ from rfl, show (dats m a 0 c).Φ t.castSucc = kept_ m a c t.castSucc from rfl]
  unfold kept_
  rw [PhiT_eq m a c h0 h1]
  iintro ⟨⟨⟨%e0, %e1, %e2, %he, HS0, HS1, HS2⟩, Hg, HT, HG⟩, Ho, ⟨%d0, H0⟩, ⟨%d1, H1⟩, ⟨%d2, H2⟩, ⟨%d3, H3⟩, ⟨%d4, H4⟩⟩
  iapply (leads m a c hT h1 t iprop((∃ r, prngReg c r) ∗ owns (c : Thread nD τ) (Memref.whole main_v18) fullShare.right (groups (tab m c)) ∗ (dats m a 0 c).owesAt () t.castSucc)
    ((dats m a 0 c).before 4 t d4) e0 e1 e2 he _ ?_)
  · unfold Own
    iintro ⟨⟨HT, H0, H1, H2, H3, H4, HS0, HS1, HS2⟩, Hg, HG, Ho⟩
    isplitl [HT HS0 HS1 HS2 Hg HG]
    · isplitl [HS0 HS1 HS2]
      · iexists _, _, _
        isplitr [HS0 HS1 HS2]
        · ipureintro
          intro s hs
          obtain rfl : s = t := Fin.ext (Nat.succ.inj hs)
          exact ⟨rfl, rfl, rfl⟩
        isplitl [HS0]; · iexact HS0
        isplitl [HS1]; · iexact HS1
        iexact HS2
      isplitl [Hg]; · iexact Hg
      isplitl [HT]; · iexact HT
      iexact HG
    isplitl [Ho]; · iexact Ho
    isplitl [H0]; · iexact H0
    isplitl [H1]; · iexact H1
    isplitl [H2]; · iexact H2
    isplitl [H3]; · iexact H3
    iexact H4
  · unfold Own
    isplitl [HT H0 H1 H2 H3 H4 HS0 HS1 HS2]
    · isplitl [HT]; · iexact HT
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iexact HS2
    isplitl [Hg]; · iexact Hg
    isplitl [HG]; · iexact HG
    iexact Ho

/-- Whatever the first table's last word, a tile of the result is written. -/
theorem idle_4 (c : Dev nD) (hT : Good (tab m c)) (h0 : a.1 0 = tab m c) (t : Fin (cfg0 a).N) : (cfg0 a).idle 4 ((cfg0 a).grid.coords t) = false := by
  have e : a.1.atD 0 ![127] = ent (tab m c) 127 := by
    refine (dif_pos (by intro b; fin_cases b; exact Nat.le_refl _)).trans ((congrFun h0 _).trans ?_)
    unfold ent
    exact congrArg (tab m c) (funext fun b => Fin.ext (by fin_cases b; rfl))
  show (!(k0_cond2 (grid0.coords t) (a.1.atD 0 ![127]) == 1#1) && !(k0_cond3 (grid0.coords t) (a.1.atD 0 ![127]) == 1#1)) = false
  rw [e]
  have h := cond3_iff hT (grid0.coords t)
  by_cases hc : k0_cond2 (grid0.coords t) (ent (tab m c) 127) = 1#1
  · simp [hc]
  · simp [h.mpr hc]

/-- The body meets its obligation at every grid point. -/
theorem obligation (c : Dev nD) (hT : Good (tab m c)) (h0 : a.1 0 = tab m c) (h1 : a.1 1 = groups (tab m c)) :
    BodyObligation (dats m a 0 c) (defs₀ (F := F)) Variants.none () Set.univ := fun t => by
  rw [bigSep_W0, bigSep_W0, row]
  rw [show (cfg0 a).idle (4 : Fin 5) ((cfg0 a).grid.coords t) = false from idle_4 m a c hT h0 t]
  exact triple_restated (sound m a c hT h0 h1 t) rfl .rfl fun _ => .rfl

/-- The host's operations run before the kernel. -/
theorem hmain (𝒱 : Variants) : Pipeline.HMainP (Ix := Unit) (Name := ℕ) (U := UR sig nD τ) (Lvl := ℕ) pcfgs 0 (defs₀ (F := F)) 𝒱 m main (V m) :=
  Pipeline.hmainP_prefixes pcfgs 0 defs₀ 𝒱 m main hostAll
    ⟨hostOps0_sub, hostOps0_1_sub, hostOps0_2_sub, hostOps0_3_sub, hostOps0_4_sub⟩ (by simp only [List.Forall]; repeat' constructor) main_chain

/-- Before the first point nothing is asked of the scratch. -/
theorem enter (c : Dev nD) : iprop(Pipeline.ΦA spec0 c ∗ Pipeline.ΦT pre0 a.1 c) ⊢ (kept_ m a c 0 : SP F) := by
  unfold Pipeline.ΦA kept_
  rw [scopedRest0_eq]
  simp only [owns_whole]
  iintro ⟨⟨⟨⟨%e0, H0⟩, ⟨%e1, H1⟩, ⟨%e2, H2⟩⟩, Hg⟩, HT⟩
  isplitl [H0 H1 H2]
  · iexists e0, e1, e2
    isplitr [H0 H1 H2]
    · ipureintro
      intro s hs
      exact absurd hs (Nat.succ_ne_zero _)
    isplitl [H0]; · iexact H0
    isplitl [H1]; · iexact H1
    iexact H2
  isplitl [Hg]; · iexact Hg
  iexact HT

/-- After the last point the scratch is given back. -/
theorem leave (c : Dev nD) (t : Fin ((cfg0 a).N + 1)) : (kept_ m a c t : SP F) ⊢ Pipeline.ΦA spec0 c := by
  unfold Pipeline.ΦA kept_
  rw [scopedRest0_eq]
  simp only [owns_whole]
  iintro ⟨⟨%e0, %e1, %e2, %he, H0, H1, H2⟩, Hg, HT⟩
  isplitl [H0 H1 H2]
  · isplitl [H0]; · iexists e0; iexact H0
    isplitl [H1]; · iexists e1; iexact H1
    iexists e2; iexact H2
  iexact Hg

set_option backward.isDefEq.respectTransparency.types false in
/-- The program ends, with every array as the data say and every counter at zero. -/
theorem run_all (hT : ∀ c, Good (tab m c)) (h : ∀ c k, V m c (pre0.ref k) = a.1 k) :
    θ_run defs (onTc (τ := τ) (main (F := F))) (s₀ m ρ) (fun r => (Pipeline.FramePost (Pipeline.pin pcfgs fun _ => a) (dats m a) 0 (V m)) r ∧ r.2.sem = fun _ => 0) :=
  have h0 : ∀ c, a.1 0 = tab m c := fun c => (h c 0).symm.trans (pf_0 m c)
  have h1 : ∀ c, a.1 1 = groups (tab m c) := fun c => (h c 1).symm.trans (pf_1 m c)
  Pipeline.θ_run_frameP_track (Q' := _) pcfgs (fun _ => a) (dats m a) 0 launch0 defs₀ Variants.none m ρ main
    (hbody := fun c => (obligation m a c (hT c) (h0 c) (h1 c)).loose) (hshare := fun c => (dats m a 0 c).share_full fun _ => rfl)
    (howed := fun _ _ => rfl) (V := V m) (hmain := hmain m Variants.none) (hA := A_eq m a) (hpf := h)
    (hin := fun c => enter m a c) (hout := fun c => leave m a c _)

/-- The tables the launch finds, on the one device. -/
def admOf (hT : ∀ c, Good (tab m c)) : (pcfg0 (F := F)).Adm := adm m default (hT default)

theorem admOf_eq (hT : ∀ c, Good (tab m c)) (c : Dev nD) (k) : V m c (pre0.ref k) = (admOf m hT).1 k := by
  obtain rfl : c = default := Subsingleton.elim _ _
  rfl

/-- Distinct grid points write distinct tiles. -/
theorem idx_inj (t t' : Fin (cfg0 a).N) (h : ((cfg0 a).win 4).index t = ((cfg0 a).win 4).index t') : t = t' :=
  Fin.ext ((coords_val t).symm.trans ((coord _).symm.trans ((congrFun h (0 : Fin 2)).trans ((coord _).trans (coords_val t')))))

theorem disjoint (t t' : Fin (cfg0 a).N) (_ : ((cfg0 a).win 4).flush t = true) (_ : ((cfg0 a).win 4).flush t' = true) (hne : t ≠ t') :
    Disjoint (((cfg0 a).win 4).blk t).view.set (((cfg0 a).win 4).blk t').view.set :=
  ((cfg0 a).win 4).disjoint_blk fun h => hne (idx_inj a t t' h)

/-- Every grid point writes its tile back. -/
theorem flushes (t : Fin (cfg0 a).N) : ((cfg0 a).win 4).flush t = true :=
  (by decide +kernel : ∀ t : Fin grid0.N, Pipeline.Window.flushOf grid0 true cc0_transform_4 t = true) t

/-- A tile of the final result is what its grid point wrote. -/
theorem blocks (c : Dev nD) (t : Fin (cfg0 a).N) :
    (((cfg0 a).win 4).blk t).view.read (Elt F) ((dats m a 0 c).arrAt 4 (cfg0 a).N) = ((cfg0 a).win 4).cut (grid0.coords t) (tile m a c t) :=
  ((dats m a 0 c).read_blk_arrAt_eq_flushed 4 (disjoint a) (cfg0 a).N t t.isLt (flushes a t)).trans <| by
    show ((cfg0 a).win 4).cut (grid0.coords t) ((dats m a 0 c).after 4 t) = _
    rw [after_4]

/-- The program ends, every tile of the result being what its grid point computed, the arguments as they were and every counter at zero. -/
theorem run_blocks (hT : ∀ c, Good (tab m c)) : θ_run defs (onTc (τ := τ) (main (F := F))) ⟨m, fun _ => 0, ρ⟩ fun r => (∀ c : Dev nD,
      (∀ t : Fin (cfg0 (admOf m hT)).N, (((cfg0 (admOf m hT)).win 4).blk t).view.read (Elt F) (r.2.mem ((c : Thread nD τ).loc main_v22)) = ((cfg0 (admOf m hT)).win 4).cut (grid0.coords t) (tile m (admOf m hT) c t))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 :=
  (θ_run defs _ _).mono (fun r h => ⟨fun c => ⟨fun t => (congrArg ((((cfg0 (admOf m hT)).win 4).blk t).view.read (Elt F)) ((h.1 c).1 4)).trans (blocks m (admOf m hT) c t),
      ((h.1 c).2 main_arg0 (Pipeline.mem_restRefs_of main_arg0 (by decide) (by decide : ∀ w : Fin 5, (spec0 w).arr.view.ref ≠ main_arg0))).trans (V_arg0 m c),
      ((h.1 c).2 main_arg1 (Pipeline.mem_restRefs_of main_arg1 (by decide) (by decide : ∀ w : Fin 5, (spec0 w).arr.view.ref ≠ main_arg1))).trans (V_arg1 m c),
      ((h.1 c).2 main_arg2 (Pipeline.mem_restRefs_of main_arg2 (by decide) (by decide : ∀ w : Fin 5, (spec0 w).arr.view.ref ≠ main_arg2))).trans (V_arg2 m c),
      ((h.1 c).2 main_arg3 (Pipeline.mem_restRefs_of main_arg3 (by decide) (by decide : ∀ w : Fin 5, (spec0 w).arr.view.ref ≠ main_arg3))).trans (V_arg3 m c),
      ((h.1 c).2 main_arg4 (Pipeline.mem_restRefs_of main_arg4 (by decide) (by decide : ∀ w : Fin 5, (spec0 w).arr.view.ref ≠ main_arg4))).trans (V_arg4 m c),
      ((h.1 c).2 main_arg5 (Pipeline.mem_restRefs_of main_arg5 (by decide) (by decide : ∀ w : Fin 5, (spec0 w).arr.view.ref ≠ main_arg5))).trans (V_arg5 m c)⟩, h.2⟩)
    (run_all m ρ (admOf m hT) hT (admOf_eq m hT))

end Cert.Kernel2Ideal.Own
-- ==== Proof.MoePre.lean ====
/- The precondition of the experts, read off its program. -/
module

public import proofs.«01_k».proof.Pre_bucketed
public import proofs.«01_k».proof.Proof.MoeTable
public import Idealize.ShloMosaic.Lib.ReduceAll
public import Idealize.ShloMosaic.Lib.ValueIdx

@[expose] public section

set_option maxRecDepth 16384

noncomputable section

namespace Cert.Kernel2Ideal.Own

open Cert.Kernel2Ideal Cert.Kernel2Ideal.Gen
open Idealize.ShloMosaic Idealize.ShloMosaic.ValueIdx

variable {F : FTy → Type} [FloatOps F]

theorem bit_and {x y : BitVec 1} : x &&& y = 1#1 ↔ x = 1#1 ∧ y = 1#1 := by revert x y; decide
theorem bit_or {x y : BitVec 1} : x ||| y = 1#1 ↔ x = 1#1 ∨ y = 1#1 := by revert x y; decide
theorem bit_of {b : Bool} : BitVec.ofBool b = 1#1 ↔ b = true := by cases b <;> decide

/-- The side conditions of the precondition. -/
theorem bucketedFacts : Cert.Pre_bucketed.Facts := ⟨by decide, by decide, by decide, by decide, by decide⟩

theorem sge_nat {x y : BitVec 32} (hy : y.toNat < 2 ^ 31) (h : y.sle x = true) : y.toNat ≤ x.toNat ∧ x.toNat < 2 ^ 31 := by
  rw [BitVec.sle, decide_eq_true_iff, BitVec.toInt_eq_toNat_cond, BitVec.toInt_eq_toNat_cond] at h
  have := x.isLt
  split at h <;> split at h <;> omega

theorem slt_nat {x y : BitVec 32} (hx : x.toNat < 2 ^ 31) (hy : y.toNat < 2 ^ 31) (h : x.slt y = true) : x.toNat < y.toNat := by
  rw [BitVec.slt, decide_eq_true_iff, BitVec.toInt_eq_toNat_cond, BitVec.toInt_eq_toNat_cond] at h
  split at h <;> split at h <;> omega

attribute [local instance] bucketedFacts in
/-- The precondition says of the table what the proof needs. -/
theorem good_of (T : S128.Idx → BitVec 32) (h g w₁ w₂ w₃) (hp : Cert.Pre_bucketed.fn (F := F) T h g w₁ w₂ w₃ = fun _ => 1#1) : Good T := by
  haveI : Subsingleton Cert.Pre_bucketed.S_.Idx := ⟨fun a b => funext fun k => k.elim0⟩
  have h0 := congrFun hp (fun k => k.elim0)
  unfold Cert.Pre_bucketed.fn at h0
  obtain ⟨h1, h2⟩ := bit_and.mp h0
  obtain ⟨h3, h4⟩ := bit_and.mp h1
  have hu : ∀ j, shapeCast Cert.Pre_bucketed.S_ (extractStridedSlice Cert.Pre_bucketed.S1 ![127] T Cert.Pre_bucketed.Facts.slices_S128_S1_127) Cert.Pre_bucketed.Facts.shapeCasts_S1_S_ j = ent T 127 := by
    intro j
    unfold ent
    refine congrArg T (funext fun a => Fin.ext ?_)
    obtain rfl : a = 0 := Subsingleton.elim _ _
    have e : ∀ z : Cert.Pre_bucketed.S1.Idx, (z 0).val = 0 := fun z => Nat.lt_one_iff.mp (z 0).isLt
    show 127 + _ = 127
    exact congrArg (127 + ·) (e _)
  have g3 := bit_of.mp h3
  have g4 := bit_of.mp h4
  rw [hu] at g3 g4
  have k3 : 1 ≤ (ent T 127).toNat ∧ (ent T 127).toNat < 2 ^ 31 := sge_nat (y := 1#32) (by decide) g3
  have k4 : (ent T 127).toNat ≤ 88 := (sge_nat (x := 88#32) (y := ent T 127) k3.2 g4).1
  refine ⟨k3.1, k4, fun n hn => ?_⟩
  have hn' : n < 128 := by omega
  have h5 := Host.reduce_andi_all _ _ _ _ (fun k => k.elim0) h2 (ix1 ⟨n, hn'⟩)
  have hent : T (ix1 ⟨n, hn'⟩) = ent T n := by
    unfold ent
    refine congrArg T (funext fun a => Fin.ext ?_)
    obtain rfl : a = 0 := Subsingleton.elim _ _
    exact (Nat.mod_eq_of_lt hn').symm
  rcases bit_or.mp h5 with h6 | h6
  · obtain ⟨h7, h8⟩ := bit_and.mp h6
    have g7 := bit_of.mp h7
    have g8 := bit_of.mp h8
    rw [hent] at g7 g8
    have k7 := sge_nat (y := 0#32) (by decide) g7
    exact slt_nat (y := 24#32) k7.2 (by decide) g8
  · have g6 := bit_of.mp h6
    have e9 : broadcastInDim Cert.Pre_bucketed.S128 ![] Cert.Pre_bucketed.Facts.bcast_S_S128 (shapeCast Cert.Pre_bucketed.S_ (extractStridedSlice Cert.Pre_bucketed.S1 ![127] T Cert.Pre_bucketed.Facts.slices_S128_S1_127) Cert.Pre_bucketed.Facts.shapeCasts_S1_S_) (ix1 ⟨n, hn'⟩) = ent T 127 := hu _
    have g9 : (ent T 127).sle (BitVec.ofNat 32 n) = true := by rw [← e9]; exact g6
    have k9 := (sge_nat k3.2 g9).1
    rw [BitVec.toNat_ofNat, Nat.mod_eq_of_lt (by omega)] at k9
    omega

end Cert.Kernel2Ideal.Own
-- ==== Proof.MoeSpec.lean ====
/- Two experts on every token of the used tiles, over the extended reals. -/
module

public import proofs.«01_k».proof.Proof.MoeRows
public import Idealize.ShloMosaic.Lib.ValueIdx
public import Idealize.ShloMosaic.PureOps.Ideal.Laws

@[expose] public section

noncomputable section

namespace Cert.Kernel2Ideal.Own

open Cert.Kernel2Ideal Cert.Kernel2Ideal.Gen
open Idealize.ShloMosaic
open Idealize.ShloMosaic.ValueIdx

/-- The gated linear unit: `a` times its logistic value times `b`. -/
def glu (a b : EReal) : EReal := a * Ideal.div (Ideal.ofBits .f32 0x3F800000#32) (Ideal.ofBits .f32 0x3F800000#32 + Ideal.exp (-a)) * b

/-- One expert's contribution to a token at a lane: the token's lanes `x`, the gate `γ`. -/
def expert (x : Fin 1024 → EReal) (wg wu : Fin 1024 → Fin 256 → EReal) (wd : Fin 256 → Fin 1024 → EReal) (γ : EReal) (d : Fin 1024) : EReal :=
  ∑ f : Fin 256, glu (∑ k : Fin 1024, x k * wg k f) (∑ k : Fin 1024, x k * wu k f) * γ * wd f d

/-- The `e`-th expert of the first layer. -/
def up (w : S4x16x1024x256.Idx → EReal) (e : Fin 16) : Fin 1024 → Fin 256 → EReal := fun k f => w (ix4 0 e k f)
def down (w : S4x16x256x1024.Idx → EReal) (e : Fin 16) : Fin 256 → Fin 1024 → EReal := fun f k => w (ix4 0 e f k)

section
variable (T : S128.Idx → BitVec 32) (h : S22528x1024.Idx → EReal) (g : S22528x2.Idx → EReal) (wg wu : S4x16x1024x256.Idx → EReal) (wd : S4x16x256x1024.Idx → EReal)

/-- The contribution of the `e`-th expert to token `p`, by gate `γ`. -/
def contrib (p : Fin 22528) (e : Fin 16) (γ : Fin 2) (d : Fin 1024) : EReal :=
  expert (fun k => h (ix2 p k)) (up wg e) (up wu e) (down wd e) (g (ix2 p γ)) d

/-- The lower and the higher expert of a bucket: its group's four experts, by pairs. -/
def idLo (w : ℕ) : Fin 16 := ⟨(4 * (w / 6) + eLo (w % 6)) % 16, Nat.mod_lt _ (by norm_num)⟩
def idHi (w : ℕ) : Fin 16 := ⟨(4 * (w / 6) + eHi (w % 6)) % 16, Nat.mod_lt _ (by norm_num)⟩

/-- The result of a token at a lane. -/
def tok (p : Fin 22528) (d : Fin 1024) : EReal :=
  if p.val / 256 < (ent T 127).toNat then
    contrib h g wg wu wd p (idLo (ent T (p.val / 256)).toNat) 0 d + contrib h g wg wu wd p (idHi (ent T (p.val / 256)).toNat) 1 d
  else 0

/-- The whole result: nine rows to a token, the last of zeros. -/
def moeArr : S202752x128.Idx → EReal := fun y =>
  if hr : (y 0).val % 9 < 8 then
    tok T h g wg wu wd ⟨(y 0).val / 9, by have h := (y 0).isLt; have h : (y 0).val < 202752 := h; omega⟩
      ⟨128 * ((y 0).val % 9) + (y 1).val, by have h := (y 1).isLt; have h : (y 1).val < 128 := h; omega⟩
  else 0

end

end Cert.Kernel2Ideal.Own

end
-- ==== Proof.MoeTile.lean ====
/- A tile's result over the extended reals: at each token and lane the sum of its two experts' contributions. -/
module

public import proofs.«01_k».proof.Proof.MoeSpec
public import Idealize.ShloMosaic.Lib.Pointwise.Contract
public import Idealize.ShloMosaic.Lib.Pipeline.ValueKit
public import Idealize.ShloMosaic.PureOps.Ideal.Laws

@[expose] public section

set_option maxRecDepth 16384

noncomputable section

namespace Cert.Kernel2Ideal.Own

open Cert.Kernel2Ideal Cert.Kernel2Ideal.Gen
open Idealize.ShloMosaic hiding ix0 ix1 ix2 ix3 ix4 ix5 ix6
open Idealize.ShloMosaic.ValueIdx

theorem dotUp_at (x : FVec Ideal S256x1024 .bf16) (y : FVec Ideal S1024x256 .bf16) (j : Fin 256) (f : Fin 256) :
    matmul dot_S256x1024_S1024x256_S256x256_1_0_0_1_n_n none x y (constant S256x256 .f32 0x00000000#32) (ix2 j f)
      = (∑ k : Fin 1024, x (ix2 j k) * y (ix2 k f) : EReal) := by
  refine (Ideal.matmul_apply₁_of dot_S256x1024_S1024x256_S256x256_1_0_0_1_n_n (a := 1) rfl (K := 1024) rfl x y _ _ (fun k => ix2 j k) (fun k => ix2 k f) ?_ ?_).trans ?_
  · intro k; funext a; apply Fin.ext; fin_cases a <;> rfl
  · intro k; funext a; apply Fin.ext; fin_cases a <;> rfl
  · refine (congrArg (· + _) ?_).trans (zero_add _)
    exact Ideal.ofBits_zero_f32

theorem dotDown_at (x : FVec Ideal S256x256 .bf16) (y : FVec Ideal S256x1024 .bf16) (j : Fin 256) (d : Fin 1024) :
    matmul dot_S256x256_S256x1024_S256x1024_1_0_0_1_n_n none x y (constant S256x1024 .f32 0x00000000#32) (ix2 j d)
      = (∑ f : Fin 256, x (ix2 j f) * y (ix2 f d) : EReal) := by
  refine (Ideal.matmul_apply₁_of dot_S256x256_S256x1024_S256x1024_1_0_0_1_n_n (a := 1) rfl (K := 256) rfl x y _ _ (fun k => ix2 j k) (fun k => ix2 k d) ?_ ?_).trans ?_
  · intro k; funext a; apply Fin.ext; fin_cases a <;> rfl
  · intro k; funext a; apply Fin.ext; fin_cases a <;> rfl
  · refine (congrArg (· + _) ?_).trans (zero_add _)
    exact Ideal.ofBits_zero_f32

theorem up_at (v : Vec Ideal S1x1024x256 .bf16) (k : Fin 1024) (f : Fin 256) :
    shapeCast S1024x256 v shapeCasts_S1x1024x256_S1024x256 (ix2 k f) = v (ix3 0 k f) := by
  refine shapeCast_apply (s := S1x1024x256) (t := S1024x256) _ _ _ _ ?_
  rw [Shape.rowMajor_val_two, Shape.rowMajor_val_three]
  show (0 * 1024 + k.val) * 256 + f.val = k.val * 256 + f.val
  omega

theorem down_at (v : Vec Ideal S1x256x1024 .bf16) (f : Fin 256) (d : Fin 1024) :
    shapeCast S256x1024 v shapeCasts_S1x256x1024_S256x1024 (ix2 f d) = v (ix3 0 f d) := by
  refine shapeCast_apply (s := S1x256x1024) (t := S256x1024) _ _ _ _ ?_
  rw [Shape.rowMajor_val_two, Shape.rowMajor_val_three]
  show (0 * 256 + f.val) * 1024 + d.val = f.val * 1024 + d.val
  omega

/-- The lanes of a token, from the eight rows of its lanes. -/
theorem pay14_at (row : Fin 9 → Vec Ideal S256x128 .f32) (j : Fin 256) (k : Fin 1024) :
    k0_pay14 (row 0) (row 1) (row 2) (row 3) (row 4) (row 5) (row 6) (row 7) (ix2 j k)
      = row ⟨k.val / 128, by omega⟩ (ix2 j ⟨k.val % 128, Nat.mod_lt _ (by norm_num)⟩) := by
  have hk := k.isLt
  have leaf : ∀ r : Fin 9, (truncf .bf16 (shapeCast S256x128 (row r) shapeCasts_S256x128_S256x128 : FVec Ideal S256x128 .f32) bitsLt_bf16_f32 : FVec Ideal S256x128 .bf16)
      (ix2 j ⟨k.val % 128, Nat.mod_lt _ (by norm_num)⟩) = row r (ix2 j ⟨k.val % 128, Nat.mod_lt _ (by norm_num)⟩) :=
    fun r => congrFun (shapeCast_self (row r) shapeCasts_S256x128_S256x128) _
  have side : ∀ b : Fin S256x128.rank, b.cast (rfl : S256x128.rank = S256x1024.rank) ≠ 1 → ((ix2 j ⟨k.val % 128, Nat.mod_lt _ (by norm_num)⟩ : S256x128.Idx) b).val
      = ((ix2 j k : S256x1024.Idx) (b.cast (rfl : S256x128.rank = S256x1024.rank))).val := fun b hb => by
    match b, hb with
    | ⟨0, _⟩, _ => rfl
    | ⟨1, _⟩, hb => exact absurd rfl hb
  unfold k0_pay14
  obtain ⟨r, hr⟩ : ∃ r : Fin 8, r.val = k.val / 128 := ⟨⟨k.val / 128, by omega⟩, rfl⟩
  refine Eq.trans ?_ (leaf ⟨k.val / 128, by omega⟩)
  have e : (⟨k.val / 128, by omega⟩ : Fin 9) = ⟨r.val, by omega⟩ := Fin.ext hr.symm
  rw [e]
  fin_cases r
  · exact concatenate_apply_piece (t := S256x1024) 1 _ _ _ 0 (by exact (show 0 < 8 by decide)) S256x128 _ rfl rfl 0 rfl _ side (by change 0 = k.val / 128 at hr; show 0 + k.val % 128 = k.val; omega)
  · exact concatenate_apply_piece (t := S256x1024) 1 _ _ _ 1 (by exact (show 1 < 8 by decide)) S256x128 _ rfl rfl 128 rfl _ side (by change 1 = k.val / 128 at hr; show 128 + k.val % 128 = k.val; omega)
  · exact concatenate_apply_piece (t := S256x1024) 1 _ _ _ 2 (by exact (show 2 < 8 by decide)) S256x128 _ rfl rfl 256 rfl _ side (by change 2 = k.val / 128 at hr; show 256 + k.val % 128 = k.val; omega)
  · exact concatenate_apply_piece (t := S256x1024) 1 _ _ _ 3 (by exact (show 3 < 8 by decide)) S256x128 _ rfl rfl 384 rfl _ side (by change 3 = k.val / 128 at hr; show 384 + k.val % 128 = k.val; omega)
  · exact concatenate_apply_piece (t := S256x1024) 1 _ _ _ 4 (by exact (show 4 < 8 by decide)) S256x128 _ rfl rfl 512 rfl _ side (by change 4 = k.val / 128 at hr; show 512 + k.val % 128 = k.val; omega)
  · exact concatenate_apply_piece (t := S256x1024) 1 _ _ _ 5 (by exact (show 5 < 8 by decide)) S256x128 _ rfl rfl 640 rfl _ side (by change 5 = k.val / 128 at hr; show 640 + k.val % 128 = k.val; omega)
  · exact concatenate_apply_piece (t := S256x1024) 1 _ _ _ 6 (by exact (show 6 < 8 by decide)) S256x128 _ rfl rfl 768 rfl _ side (by change 6 = k.val / 128 at hr; show 768 + k.val % 128 = k.val; omega)
  · exact concatenate_apply_piece (t := S256x1024) 1 _ _ _ 7 (by exact (show 7 < 8 by decide)) S256x128 _ rfl rfl 896 rfl _ side (by change 7 = k.val / 128 at hr; show 896 + k.val % 128 = k.val; omega)

theorem pay15_eq (v : Vec Ideal S256x128 .f32) : k0_pay15 v = v := shapeCast_self v shapeCasts_S256x128_S256x128

/-- A lane of the gates' row, spread over the lanes. -/
theorem gate_at (v : FVec Ideal S256x128 .f32) (off : Fin 2 → ℕ) (h : S256x128.Slices off S256x1) (h' : S256x1.Broadcasts S256x256) (l : Fin 128)
    (h0 : off 0 = 0) (h1 : off 1 = l.val) (j f : Fin 256) :
    broadcastTo S256x256 (extractStridedSlice S256x1 off v h) h' (ix2 j f) = v (ix2 j l) := by
  refine (broadcastTo_apply (s := S256x1) (t := S256x256) _ _ _ (ix2 j 0) ?_).trans ?_
  · intro a; fin_cases a <;> rfl
  · refine extractStridedSlice_apply (s := S256x128) (t := S256x1) _ _ _ _ _ ?_
    intro a; fin_cases a
    · show j.val = off 0 + j.val; omega
    · show l.val = off 1 + 0; omega

theorem pay17_at (row : Fin 9 → Vec Ideal S256x128 .f32) (v : Vec Ideal S1x1024x256 .bf16) (j f : Fin 256) :
    k0_pay17 (row 0) (row 1) (row 2) (row 3) (row 4) (row 5) (row 6) (row 7) v (ix2 j f)
      = (∑ k : Fin 1024, row ⟨k.val / 128, by omega⟩ (ix2 j ⟨k.val % 128, Nat.mod_lt _ (by norm_num)⟩) * v (ix3 0 k f) : EReal) := by
  refine (dotUp_at _ _ j f).trans (Finset.sum_congr rfl fun k _ => ?_)
  exact congrArg₂ (· * ·) (pay14_at row j k) (up_at v k f)

theorem pay18_at (row : Fin 9 → Vec Ideal S256x128 .f32) (v : Vec Ideal S1x1024x256 .bf16) (j f : Fin 256) :
    k0_pay18 (row 0) (row 1) (row 2) (row 3) (row 4) (row 5) (row 6) (row 7) v (ix2 j f)
      = (∑ k : Fin 1024, row ⟨k.val / 128, by omega⟩ (ix2 j ⟨k.val % 128, Nat.mod_lt _ (by norm_num)⟩) * v (ix3 0 k f) : EReal) := by
  refine (dotUp_at _ _ j f).trans (Finset.sum_congr rfl fun k _ => ?_)
  exact congrArg₂ (· * ·) (pay14_at row j k) (up_at v k f)

/-- A gated unit's value, where the numbers it takes are known. -/
theorem glu_of {a b c : EReal} {a' b' c' : EReal} (ha : a = a') (hb : b = b') (hc : c = c') :
    a * Ideal.div (Ideal.ofBits .f32 0x3F800000#32) (Ideal.ofBits .f32 0x3F800000#32 + Ideal.exp (Ideal.ofBits .f32 0x00000000#32 - a)) * b * c = glu a' b' * c' := by
  subst ha hb hc
  have e : Ideal.ofBits .f32 0x00000000#32 - a = -a := by
    rw [Ideal.ofBits_zero_f32, sub_eq_add_neg, zero_add]
  rw [e]
  rfl

theorem pay19_at (row : Fin 9 → Vec Ideal S256x128 .f32) (g₁ u₁ g₂ u₂ : Vec Ideal S1x1024x256 .bf16) (d₁ d₂ : Vec Ideal S1x256x1024 .bf16) (j : Fin 256) (d : Fin 1024) :
    k0_pay19 (k0_pay14 (row 0) (row 1) (row 2) (row 3) (row 4) (row 5) (row 6) (row 7)) (k0_pay15 (row 8)) (k0_pay16 (row 8))
      (k0_pay17 (row 0) (row 1) (row 2) (row 3) (row 4) (row 5) (row 6) (row 7) g₁) (k0_pay18 (row 0) (row 1) (row 2) (row 3) (row 4) (row 5) (row 6) (row 7) u₁) d₁ g₂ u₂ d₂ (ix2 j d)
      = (expert (fun k => row ⟨k.val / 128, by omega⟩ (ix2 j ⟨k.val % 128, Nat.mod_lt _ (by norm_num)⟩)) (fun k f => g₁ (ix3 0 k f)) (fun k f => u₁ (ix3 0 k f)) (fun f k => d₁ (ix3 0 f k)) (row 8 (ix2 j 0)) d
        + expert (fun k => row ⟨k.val / 128, by omega⟩ (ix2 j ⟨k.val % 128, Nat.mod_lt _ (by norm_num)⟩)) (fun k f => g₂ (ix3 0 k f)) (fun k f => u₂ (ix3 0 k f)) (fun f k => d₂ (ix3 0 f k)) (row 8 (ix2 j 1)) d : EReal) := by
  unfold k0_pay19
  refine congrArg₂ (fun a b : EReal => a + b) ?_ ?_
  · refine (dotDown_at _ _ j d).trans (Finset.sum_congr rfl fun f _ => ?_)
    refine congrArg₂ (fun a b : EReal => a * b) ?_ (down_at d₁ f d)
    refine glu_of (pay17_at row g₁ j f) (pay18_at row u₁ j f) ?_
    refine (gate_at _ ![0, 0] slices_S256x128_o0_0_S256x1 _ 0 rfl rfl j f).trans ?_
    exact congrFun (pay15_eq (row 8)) _
  · refine (dotDown_at _ _ j d).trans (Finset.sum_congr rfl fun f _ => ?_)
    refine congrArg₂ (fun a b : EReal => a * b) ?_ (down_at d₂ f d)
    refine glu_of (pay17_at row g₂ j f) (pay18_at row u₂ j f) ?_
    refine (gate_at _ ![0, 1] slices_S256x128_o0_1_S256x1 _ 1 rfl rfl j f).trans ?_
    exact congrFun (pay15_eq (row 8)) _

/-- Where a token's row lies in the tile. -/
theorem rowL_at (r : Fin 9) (j : Fin 256) (l : Fin 128) : (rowL r).idx (ix2 j l) = (ix2 ⟨9 * j.val + r.val, by omega⟩ l : S2304x128.Idx) := by
  funext a; apply Fin.ext; fin_cases a
  · show r.val + 9 * j.val = 9 * j.val + r.val; omega
  · show 0 + 1 * l.val = l.val; omega

theorem at_up (w : Vec Ideal S4x1024x256 .bf16) (off : Fin 3 → ℕ) (e : ℕ) (he : e < 4) (h : off = ![e, 0, 0]) (inb) (k : Fin 1024) (f : Fin 256) :
    w ((Rect.unit (s := S4x1024x256) off S1x1024x256.size inb).toLoadRect.idx (ix3 0 k f)) = w (ix3 ⟨e, he⟩ k f) := by
  subst h
  refine congrArg w (funext fun a => Fin.ext ?_)
  fin_cases a
  · show e + 1 * 0 = e; omega
  · show 0 + 1 * k.val = k.val; omega
  · show 0 + 1 * f.val = f.val; omega

theorem at_down (w : Vec Ideal S4x256x1024 .bf16) (off : Fin 3 → ℕ) (e : ℕ) (he : e < 4) (h : off = ![e, 0, 0]) (inb) (f : Fin 256) (d : Fin 1024) :
    w ((Rect.unit (s := S4x256x1024) off S1x256x1024.size inb).toLoadRect.idx (ix3 0 f d)) = w (ix3 ⟨e, he⟩ f d) := by
  subst h
  refine congrArg w (funext fun a => Fin.ext ?_)
  fin_cases a
  · show e + 1 * 0 = e; omega
  · show 0 + 1 * f.val = f.val; omega
  · show 0 + 1 * d.val = d.val; omega

/-- An expert's contribution, where the numbers it takes are known. -/
theorem expert_of {x x' : Fin 1024 → EReal} {wg wg' wu wu' : Fin 1024 → Fin 256 → EReal} {wd wd' : Fin 256 → Fin 1024 → EReal} {γ γ' : EReal}
    (hx : ∀ k, x k = x' k) (hg : ∀ k f, wg k f = wg' k f) (hu : ∀ k f, wu k f = wu' k f) (hd : ∀ f k, wd f k = wd' f k) (hγ : γ = γ') (d : Fin 1024) :
    expert x wg wu wd γ d = expert x' wg' wu' wd' γ' d := by
  obtain rfl : x = x' := funext hx
  obtain rfl : wg = wg' := funext fun k => funext fun f => hg k f
  obtain rfl : wu = wu' := funext fun k => funext fun f => hu k f
  obtain rfl : wd = wd' := funext fun k => funext fun f => hd k f
  rw [hγ]

/-- A tile's token at a lane. -/
theorem tileV_at (X : Vec Ideal S2304x128 .f32) (gs us : Vec Ideal S4x1024x256 .bf16) (ds : Vec Ideal S4x256x1024 .bf16) (i : grid0.Coords) (v0 v61 : BitVec 32)
    (hw : k0_chk3 i v0 v61) (hc : k0_cond2 i v0 = 1#1) (h : v61.toNat < 24) (j : Fin 256) (d : Fin 1024) :
    tileV X gs us ds i v0 v61 hw hc (ix2 j d)
      = (expert (fun k => X (ix2 ⟨9 * j.val + k.val / 128, by omega⟩ ⟨k.val % 128, Nat.mod_lt _ (by norm_num)⟩)) (fun k f => gs (ix3 ⟨eLo (v61.toNat % 6), eLo_lt _⟩ k f))
          (fun k f => us (ix3 ⟨eLo (v61.toNat % 6), eLo_lt _⟩ k f)) (fun f k => ds (ix3 ⟨eLo (v61.toNat % 6), eLo_lt _⟩ f k)) (X (ix2 ⟨9 * j.val + 8, by omega⟩ 0)) d
        + expert (fun k => X (ix2 ⟨9 * j.val + k.val / 128, by omega⟩ ⟨k.val % 128, Nat.mod_lt _ (by norm_num)⟩)) (fun k f => gs (ix3 ⟨eHi (v61.toNat % 6), eHi_lt _ (Nat.mod_lt _ (by norm_num))⟩ k f))
          (fun k f => us (ix3 ⟨eHi (v61.toNat % 6), eHi_lt _ (Nat.mod_lt _ (by norm_num))⟩ k f)) (fun f k => ds (ix3 ⟨eHi (v61.toNat % 6), eHi_lt _ (Nat.mod_lt _ (by norm_num))⟩ f k)) (X (ix2 ⟨9 * j.val + 8, by omega⟩ 1)) d : EReal) := by
  have o := offs h
  unfold tileV
  refine (pay19_at (fun r y => X ((rowL r).idx y)) _ _ _ _ _ _ j d).trans ?_
  refine congrArg₂ (fun a b : EReal => a + b) ?_ ?_
  · exact expert_of (fun k => congrArg X (rowL_at _ j _)) (fun k f => at_up gs _ _ _ o.1.1 _ k f) (fun k f => at_up us _ _ _ o.1.1 _ k f)
      (fun f k => at_down ds _ _ _ o.1.2 _ f k) (congrArg X (rowL_at 8 j 0)) d
  · exact expert_of (fun k => congrArg X (rowL_at _ j _)) (fun k f => at_up gs _ _ _ o.2.1 _ k f) (fun k f => at_up us _ _ _ o.2.1 _ k f)
      (fun f k => at_down ds _ _ _ o.2.2 _ f k) (congrArg X (rowL_at 8 j 1)) d

end Cert.Kernel2Ideal.Own

end
-- ==== Proof.MoeValue.lean ====
/- The expert kernel's whole result from its arguments. -/
module

public import proofs.«01_k».proof.Proof.MoeRun
public import proofs.«01_k».proof.Proof.MoeTile
public import Idealize.ShloMosaic.Lib.KernelVsHost

@[expose] public section

set_option maxRecDepth 16384

noncomputable section

namespace Cert.Kernel2Ideal.Own

open Cert.Kernel2Ideal Cert.Kernel2Ideal.Gen
open Idealize.ShloMosaic hiding ix0 ix1 ix2 ix3 ix4 ix5 ix6
open Idealize.ShloMosaic.ValueIdx
open Idealize.ShloMosaic.TcCoe Idealize.ShloMosaic.Tactic
open Idealize.SL.Sem

section
variable (h : S22528x1024.Idx → EReal) (g : S22528x2.Idx → EReal)

/-- The lanes of a token, in the array's rows. -/
theorem laid_lane (R : Fin 202752) (l : Fin 128) (p : Fin 22528) (k : Fin 1024) (hR : R.val = 9 * p.val + k.val / 128) (hl : l.val = k.val % 128) :
    laid (F := Ideal) h g (ix2 R l) = h (ix2 p k) := by
  have hk := k.isLt
  have hp := p.isLt
  have h8 : k.val / 128 < 9 := by omega
  have h8' : k.val / 128 < 8 := by omega
  unfold laid
  refine (shapeCast_apply (s := S22528x9x128) (t := S202752x128) _ _ _ (ix3 p ⟨k.val / 128, h8⟩ l) ?_).trans ?_
  · rw [Shape.rowMajor_val_two, Shape.rowMajor_val_three]
    show (p.val * 9 + k.val / 128) * 128 + l.val = R.val * 128 + l.val
    omega
  refine (concatenate_apply_piece (t := S22528x9x128) 1 _ _ _ 0 (by exact (show 0 < 2 by decide)) S22528x8x128 _ rfl rfl 0 rfl (ix3 p ⟨k.val / 128, h8'⟩ l) ?_ ?_).trans ?_
  · intro b hb; fin_cases b <;> first | rfl | exact absurd rfl hb
  · show 0 + k.val / 128 = k.val / 128; omega
  refine shapeCast_apply (s := S22528x1024) (t := S22528x8x128) _ _ _ (ix2 p k) ?_
  rw [Shape.rowMajor_val_two, Shape.rowMajor_val_three]
  show p.val * 1024 + k.val = (p.val * 8 + k.val / 128) * 128 + l.val
  omega

/-- The gates of a token, in the array's rows. -/
theorem laid_gate (R : Fin 202752) (l : Fin 128) (p : Fin 22528) (γ : Fin 2) (hR : R.val = 9 * p.val + 8) (hl : l.val = γ.val) :
    laid (F := Ideal) h g (ix2 R l) = g (ix2 p γ) := by
  unfold laid
  refine (shapeCast_apply (s := S22528x9x128) (t := S202752x128) _ _ _ (ix3 p 8 l) ?_).trans ?_
  · rw [Shape.rowMajor_val_two, Shape.rowMajor_val_three]
    show (p.val * 9 + 8) * 128 + l.val = R.val * 128 + l.val
    omega
  refine (concatenate_apply_piece (t := S22528x9x128) 1 _ _ _ 1 (by exact (show 1 < 2 by decide)) S22528x1x128 _ rfl rfl 8 rfl (ix3 p 0 l) ?_ ?_).trans ?_
  · intro b hb; fin_cases b <;> first | rfl | exact absurd rfl hb
  · rfl
  refine (broadcastInDim_apply _ _ _ _ (ix2 p l) fun a => ?_).trans ?_
  · fin_cases a <;> rfl
  refine pad_apply_of_inside _ _ _ _ _ _ _ _ (ix2 p γ) fun a => ?_
  fin_cases a
  · show p.val = 0 + p.val * (0 + 1); omega
  · show l.val = 0 + γ.val * (0 + 1); omega

end

theorem pay1_at (v : Vec Ideal S1x1x4x1024x256 .f32) (e : Fin 4) (k : Fin 1024) (f : Fin 256) : k0_pay1 v (ix3 e k f) = v (ix5 0 0 e k f) := by
  unfold k0_pay1
  refine (congrFun (shapeCast_self _ shapeCasts_S4x1024x256_S4x1024x256) _).trans ?_
  refine shapeCast_apply (s := S1x1x4x1024x256) (t := S4x1024x256) _ _ _ _ ?_
  rw [Shape.rowMajor_val_three, Shape.rowMajor_val_five]
  show (((0 * 1 + 0) * 4 + e.val) * 1024 + k.val) * 256 + f.val = (e.val * 1024 + k.val) * 256 + f.val
  omega

theorem pay2_at (v : Vec Ideal S1x1x4x1024x256 .f32) (e : Fin 4) (k : Fin 1024) (f : Fin 256) : k0_pay2 v (ix3 e k f) = v (ix5 0 0 e k f) := pay1_at v e k f

theorem pay3_at (v : Vec Ideal S1x1x4x256x1024 .f32) (e : Fin 4) (f : Fin 256) (k : Fin 1024) : k0_pay3 v (ix3 e f k) = v (ix5 0 0 e f k) := by
  unfold k0_pay3
  refine (congrFun (shapeCast_self _ shapeCasts_S4x256x1024_S4x256x1024) _).trans ?_
  refine shapeCast_apply (s := S1x1x4x256x1024) (t := S4x256x1024) _ _ _ _ ?_
  rw [Shape.rowMajor_val_three, Shape.rowMajor_val_five]
  show (((0 * 1 + 0) * 4 + e.val) * 256 + f.val) * 1024 + k.val = (e.val * 256 + f.val) * 1024 + k.val
  omega

/-- The weights of a group, in the array of groups. -/
theorem up_group (w : S4x16x1024x256.Idx → EReal) (y : S4x4x4x1024x256.Idx) (γ : Fin 4) (e : Fin 4) (k : Fin 1024) (f : Fin 256)
    (h0 : (y 0).val = 0) (h1 : (y 1).val = γ.val) (h2 : (y 2).val = e.val) (h3 : (y 3).val = k.val) (h4 : (y 4).val = f.val) :
    shapeCast (s := S4x16x1024x256) S4x4x4x1024x256 w shapeCasts_S4x16x1024x256_S4x4x4x1024x256 y = w (ix4 0 ⟨4 * γ.val + e.val, by omega⟩ k f) := by
  refine shapeCast_apply (s := S4x16x1024x256) (t := S4x4x4x1024x256) _ _ _ _ ?_
  rw [Shape.rowMajor_val_four, Shape.rowMajor_val_five]
  show ((0 * 16 + (4 * γ.val + e.val)) * 1024 + k.val) * 256 + f.val = (((((y 0).val * 4 + (y 1).val) * 4 + (y 2).val) * 1024 + (y 3).val) * 256 + (y 4).val)
  rw [h0, h1, h2, h3, h4]
  omega

theorem down_group (w : S4x16x256x1024.Idx → EReal) (y : S4x4x4x256x1024.Idx) (γ : Fin 4) (e : Fin 4) (f : Fin 256) (k : Fin 1024)
    (h0 : (y 0).val = 0) (h1 : (y 1).val = γ.val) (h2 : (y 2).val = e.val) (h3 : (y 3).val = f.val) (h4 : (y 4).val = k.val) :
    shapeCast (s := S4x16x256x1024) S4x4x4x256x1024 w shapeCasts_S4x16x256x1024_S4x4x4x256x1024 y = w (ix4 0 ⟨4 * γ.val + e.val, by omega⟩ f k) := by
  refine shapeCast_apply (s := S4x16x256x1024) (t := S4x4x4x256x1024) _ _ _ _ ?_
  rw [Shape.rowMajor_val_four, Shape.rowMajor_val_five]
  show ((0 * 16 + (4 * γ.val + e.val)) * 256 + f.val) * 1024 + k.val = (((((y 0).val * 4 + (y 1).val) * 4 + (y 2).val) * 256 + (y 3).val) * 1024 + (y 4).val)
  rw [h0, h1, h2, h3, h4]
  omega

/-- The nine rows of a token: its lanes, and zeros. -/
theorem part_at (v : FVec Ideal S256x1024 .f32) (r : Fin 9) (j : Fin 256) (l : Fin 128) :
    part v r (ix2 j l) = if hr : r.val < 8 then v (ix2 j ⟨128 * r.val + l.val, by omega⟩) else (0 : EReal) := by
  have slice : ∀ (n : ℕ) (hs : S256x1024.Slices ![0, n] S256x128) (q : Fin 1024), q.val = n + l.val →
      extractStridedSlice S256x128 ![0, n] v hs (ix2 j l) = v (ix2 j q) := fun n hs q hq =>
    extractStridedSlice_apply (s := S256x1024) (t := S256x128) _ _ _ _ _ (fun a => by
      fin_cases a
      · show j.val = 0 + j.val; omega
      · exact hq)
  fin_cases r
  · exact slice 0 slices_S256x1024_o0_0_S256x128 _ rfl
  · exact slice 128 slices_S256x1024_o0_128_S256x128 _ rfl
  · exact slice 256 slices_S256x1024_o0_256_S256x128 _ rfl
  · exact slice 384 slices_S256x1024_o0_384_S256x128 _ rfl
  · exact slice 512 slices_S256x1024_o0_512_S256x128 _ rfl
  · exact slice 640 slices_S256x1024_o0_640_S256x128 _ rfl
  · exact slice 768 slices_S256x1024_o0_768_S256x128 _ rfl
  · exact slice 896 slices_S256x1024_o0_896_S256x128 _ rfl
  · exact Ideal.ofBits_zero_f32

section Tile

variable (m : (ℓ : Loc nD τ sig) → Buf (Elt Ideal) ℓ) (ρ : Dev nD → PrngReg) (a : (pcfg0 (F := Ideal)).Adm) {c : Dev nD}

abbrev aH (c : Dev nD) : S22528x1024.Idx → EReal := m ((c : Thread nD τ).loc main_arg1)
abbrev aG (c : Dev nD) : S22528x2.Idx → EReal := m ((c : Thread nD τ).loc main_arg2)
abbrev wG (c : Dev nD) : S4x16x1024x256.Idx → EReal := m ((c : Thread nD τ).loc main_arg3)
abbrev wU (c : Dev nD) : S4x16x1024x256.Idx → EReal := m ((c : Thread nD τ).loc main_arg4)
abbrev wD (c : Dev nD) : S4x16x256x1024.Idx → EReal := m ((c : Thread nD τ).loc main_arg5)

variable (hT : Good (tab m c)) (h0 : a.1 0 = tab m c) (h1 : a.1 1 = groups (tab m c)) (t : Fin (cfg0 a).N)

include hT h0 in
/-- The rows of a used tile. -/
theorem iblk0_at (hu : t.val < (ent (tab m c) 127).toNat) (R : Fin 2304) (l : Fin 128) (R' : Fin 202752) (hR : R'.val = 2304 * t.val + R.val) :
    iblk m a c 0 t (ix2 R l) = laid (F := Ideal) (aH m c) (aG m c) (ix2 R' l) := by
  have hl : last (ent (tab m c) 127) (grid0.coords t) = t.val := by
    have := coords_val t
    unfold last
    omega
  have e := ix_0 a.1 hT h0 (grid0.coords t)
  refine Eq.trans ?_ (congrFun (V_v4 m c) _)
  refine congrArg (V m c main_v4) (funext fun b => Fin.ext ?_)
  refine (Pipeline.Window.rect_emb_val (hk := (rfl : ((cfg0 a).win 0).kind = .blocked)) ((cfg0 a).win 0) t (ix2 R l) b).trans ?_
  fin_cases b
  · refine (congrArg (fun f => f * 2304 + R.val) (congrFun e (0 : Fin 2))).trans ?_
    show last (ent (tab m c) 127) (grid0.coords t) * 2304 + R.val = R'.val
    rw [hl, hR]; omega
  · refine (congrArg (fun f => f * 128 + l.val) (congrFun e (1 : Fin 2))).trans ?_
    show 0 * 128 + l.val = l.val
    omega

include hT h1 in
/-- The weights of a tile's group. -/
theorem iblk1_at (e : Fin 4) (k : Fin 1024) (f : Fin 256) (E : Fin 16) (hE : E.val = 4 * grp (tab m c) t.val + e.val) :
    k0_pay1 (iblk m a c 1 t) (ix3 e k f) = up (wG m c) E k f := by
  have hg : grp (tab m c) t.val < 4 := grp_lt hT _
  have x := (ix_1 a.1 hT h1 (grid0.coords t)).trans (congrArg (fun n => ![0, grp (tab m c) n, 0, 0, 0]) (coords_val t))
  refine (pay1_at _ e k f).trans (Eq.trans (b := V m c main_v19 (ix5 0 ⟨_, hg⟩ e k f)) (congrArg (V m c main_v19) (funext fun b => Fin.ext ?_))
    ((congrFun (V_v19 m c) _).trans ((up_group _ _ ⟨_, hg⟩ e k f rfl rfl rfl rfl rfl).trans (congrArg (fun E => up (wG m c) E k f) (Fin.ext hE.symm)))))
  refine (Pipeline.Window.rect_emb_val (hk := (rfl : ((cfg0 a).win 1).kind = .blocked)) ((cfg0 a).win 1) t (ix5 0 0 e k f) b).trans ?_
  fin_cases b
  · refine (congrArg (fun n => n * 1 + 0) (congrFun x (0 : Fin 5))).trans ?_
    rfl
  · refine (congrArg (fun n => n * 1 + 0) (congrFun x (1 : Fin 5))).trans ?_
    show grp (tab m c) t.val * 1 + 0 = grp (tab m c) t.val
    omega
  · refine (congrArg (fun n => n * 4 + e.val) (congrFun x (2 : Fin 5))).trans ?_
    show 0 * 4 + e.val = e.val
    omega
  · refine (congrArg (fun n => n * 1024 + k.val) (congrFun x (3 : Fin 5))).trans ?_
    show 0 * 1024 + k.val = k.val
    omega
  · refine (congrArg (fun n => n * 256 + f.val) (congrFun x (4 : Fin 5))).trans ?_
    show 0 * 256 + f.val = f.val
    omega

include hT h1 in
theorem iblk2_at (e : Fin 4) (k : Fin 1024) (f : Fin 256) (E : Fin 16) (hE : E.val = 4 * grp (tab m c) t.val + e.val) :
    k0_pay2 (iblk m a c 2 t) (ix3 e k f) = up (wU m c) E k f := by
  have hg : grp (tab m c) t.val < 4 := grp_lt hT _
  have x := (ix_2 a.1 hT h1 (grid0.coords t)).trans (congrArg (fun n => ![0, grp (tab m c) n, 0, 0, 0]) (coords_val t))
  refine (pay2_at _ e k f).trans (Eq.trans (b := V m c main_v20 (ix5 0 ⟨_, hg⟩ e k f)) (congrArg (V m c main_v20) (funext fun b => Fin.ext ?_))
    ((congrFun (V_v20 m c) _).trans ((up_group _ _ ⟨_, hg⟩ e k f rfl rfl rfl rfl rfl).trans (congrArg (fun E => up (wU m c) E k f) (Fin.ext hE.symm)))))
  refine (Pipeline.Window.rect_emb_val (hk := (rfl : ((cfg0 a).win 2).kind = .blocked)) ((cfg0 a).win 2) t (ix5 0 0 e k f) b).trans ?_
  fin_cases b
  · refine (congrArg (fun n => n * 1 + 0) (congrFun x (0 : Fin 5))).trans ?_
    rfl
  · refine (congrArg (fun n => n * 1 + 0) (congrFun x (1 : Fin 5))).trans ?_
    show grp (tab m c) t.val * 1 + 0 = grp (tab m c) t.val
    omega
  · refine (congrArg (fun n => n * 4 + e.val) (congrFun x (2 : Fin 5))).trans ?_
    show 0 * 4 + e.val = e.val
    omega
  · refine (congrArg (fun n => n * 1024 + k.val) (congrFun x (3 : Fin 5))).trans ?_
    show 0 * 1024 + k.val = k.val
    omega
  · refine (congrArg (fun n => n * 256 + f.val) (congrFun x (4 : Fin 5))).trans ?_
    show 0 * 256 + f.val = f.val
    omega

include hT h1 in
theorem iblk3_at (e : Fin 4) (f : Fin 256) (k : Fin 1024) (E : Fin 16) (hE : E.val = 4 * grp (tab m c) t.val + e.val) :
    k0_pay3 (iblk m a c 3 t) (ix3 e f k) = down (wD m c) E f k := by
  have hg : grp (tab m c) t.val < 4 := grp_lt hT _
  have x := (ix_3 a.1 hT h1 (grid0.coords t)).trans (congrArg (fun n => ![0, grp (tab m c) n, 0, 0, 0]) (coords_val t))
  refine (pay3_at _ e f k).trans (Eq.trans (b := V m c main_v21 (ix5 0 ⟨_, hg⟩ e f k)) (congrArg (V m c main_v21) (funext fun b => Fin.ext ?_))
    ((congrFun (V_v21 m c) _).trans ((down_group _ _ ⟨_, hg⟩ e f k rfl rfl rfl rfl rfl).trans (congrArg (fun E => down (wD m c) E f k) (Fin.ext hE.symm)))))
  refine (Pipeline.Window.rect_emb_val (hk := (rfl : ((cfg0 a).win 3).kind = .blocked)) ((cfg0 a).win 3) t (ix5 0 0 e f k) b).trans ?_
  fin_cases b
  · refine (congrArg (fun n => n * 1 + 0) (congrFun x (0 : Fin 5))).trans ?_
    rfl
  · refine (congrArg (fun n => n * 1 + 0) (congrFun x (1 : Fin 5))).trans ?_
    show grp (tab m c) t.val * 1 + 0 = grp (tab m c) t.val
    omega
  · refine (congrArg (fun n => n * 4 + e.val) (congrFun x (2 : Fin 5))).trans ?_
    show 0 * 4 + e.val = e.val
    omega
  · refine (congrArg (fun n => n * 256 + f.val) (congrFun x (3 : Fin 5))).trans ?_
    show 0 * 256 + f.val = f.val
    omega
  · refine (congrArg (fun n => n * 1024 + k.val) (congrFun x (4 : Fin 5))).trans ?_
    show 0 * 1024 + k.val = k.val
    omega

/-- The result of a token. -/
abbrev res (c : Dev nD) : Fin 22528 → Fin 1024 → EReal := tok (tab m c) (aH m c) (aG m c) (wG m c) (wU m c) (wD m c)

include hT h0 h1 in
/-- A tile's row and lane. -/
theorem tile_at (j : Fin 256) (r : Fin 9) (l : Fin 128) (y : S2304x128.Idx) (hy0 : (y 0).val = 9 * j.val + r.val) (hy1 : (y 1).val = l.val)
    (p : Fin 22528) (hp : p.val = 256 * t.val + j.val) :
    tile m a c t y = if hr : r.val < 8 then res m c p ⟨128 * r.val + l.val, by omega⟩ else (0 : EReal) := by
  have ht : t.val < 88 := t.isLt
  have hj := j.isLt
  have hpt : p.val / 256 = t.val := by omega
  obtain rfl : (rowR r).emb (ix2 j l) = y := funext fun b => Fin.ext (by
    fin_cases b
    · exact (emb0 r (ix2 j l)).trans (Eq.trans (by show r.val + 9 * j.val = 9 * j.val + r.val; omega) hy0.symm)
    · exact (emb1 r (ix2 j l)).trans hy1.symm)
  have hco := coords_val t
  unfold tile outV
  by_cases hu : t.val < (ent (tab m c) 127).toNat
  · have hw : (ent (tab m c) t.val).toNat < 24 := hT.lt _ hu
    have hw' : (ent (tab m c) (co (grid0.coords t))).toNat < 24 := by rw [hco]; exact hw
    have hgr : grp (tab m c) t.val = (ent (tab m c) t.val).toNat / 6 := by
      unfold grp
      rw [Nat.min_eq_left (by omega)]
    rw [dif_pos ⟨chk3 _ hw' _, (cond2_iff hT _).2 (by rw [hco]; exact hu)⟩, rows_emb, part_at]
    by_cases hr : r.val < 8
    · rw [dif_pos hr, dif_pos hr]
      refine (tileV_at _ _ _ _ _ _ _ _ _ hw' j _).trans ?_
      unfold res tok
      rw [if_pos (by rw [hpt]; exact hu)]
      have ew : (ent (tab m c) (co (grid0.coords t))).toNat = (ent (tab m c) (p.val / 256)).toNat := by rw [hco, hpt]
      have h6 : (ent (tab m c) (p.val / 256)).toNat % 6 < 6 := Nat.mod_lt _ (by norm_num)
      have h24 : (ent (tab m c) (p.val / 256)).toNat < 24 := by rw [hpt]; exact hw
      have hl := eLo_lt ((ent (tab m c) (p.val / 256)).toNat % 6)
      have hh := eHi_lt _ h6
      have lo : (idLo (ent (tab m c) (p.val / 256)).toNat).val = 4 * grp (tab m c) t.val + eLo ((ent (tab m c) (co (grid0.coords t))).toNat % 6) := by
        rw [hgr, ew, ← hpt]
        exact Nat.mod_eq_of_lt (by omega)
      have hi : (idHi (ent (tab m c) (p.val / 256)).toNat).val = 4 * grp (tab m c) t.val + eHi ((ent (tab m c) (co (grid0.coords t))).toNat % 6) := by
        rw [hgr, ew, ← hpt]
        exact Nat.mod_eq_of_lt (by omega)
      have lane : ∀ k : Fin 1024, iblk m a c 0 t (ix2 ⟨9 * j.val + k.val / 128, by omega⟩ ⟨k.val % 128, Nat.mod_lt _ (by norm_num)⟩) = aH m c (ix2 p k) := fun k =>
        (iblk0_at m a hT h0 t hu _ _ ⟨2304 * t.val + (9 * j.val + k.val / 128), by omega⟩ rfl).trans
          (laid_lane _ _ _ _ p k (by show 2304 * t.val + (9 * j.val + k.val / 128) = _; omega) rfl)
      have gate : ∀ γ : Fin 2, ∀ l : Fin 128, l.val = γ.val → iblk m a c 0 t (ix2 ⟨9 * j.val + 8, by omega⟩ l) = aG m c (ix2 p γ) := fun γ l hl =>
        (iblk0_at m a hT h0 t hu _ _ ⟨2304 * t.val + (9 * j.val + 8), by omega⟩ rfl).trans
          (laid_gate _ _ _ _ p γ (by show 2304 * t.val + (9 * j.val + 8) = _; omega) hl)
      refine congrArg₂ (fun a b : EReal => a + b) ?_ ?_
      · exact expert_of lane (fun k f => iblk1_at m a hT h1 t _ k f _ lo) (fun k f => iblk2_at m a hT h1 t _ k f _ lo) (fun f k => iblk3_at m a hT h1 t _ f k _ lo) (gate 0 0 rfl) _
      · exact expert_of lane (fun k f => iblk1_at m a hT h1 t _ k f _ hi) (fun k f => iblk2_at m a hT h1 t _ k f _ hi) (fun f k => iblk3_at m a hT h1 t _ f k _ hi) (gate 1 1 rfl) _
    · rw [dif_neg hr, dif_neg hr]
  · rw [dif_neg (fun h => hu (by have := (cond2_iff hT _).1 h.2; rwa [hco] at this))]
    refine Eq.trans (b := (0 : EReal)) Ideal.ofBits_zero_f32 ?_
    split
    · unfold res tok
      rw [if_neg (by rw [hpt]; exact hu)]
    · rfl

end Tile

/-- The program ends with the result of every token, and its arguments unchanged. -/
theorem run_value2 (m : (ℓ : Loc nD τ sig) → Buf (Elt Ideal) ℓ) (ρ : Dev nD → PrngReg) (hT : ∀ c, Good (tab m c)) :
    θ_run defs (onTc (τ := τ) (main (F := Ideal))) ⟨m, fun _ => 0, ρ⟩ fun r => ∀ c : Dev nD,
      r.2.mem ((c : Thread nD τ).loc main_v22) = moeArr (tab m c) (aH m c) (aG m c) (wG m c) (wU m c) (wD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨funext fun y => by
      have hy0 : (y 0).val < 202752 := (y 0).isLt
      have hy1 : (y 1).val < 128 := (y 1).isLt
      let t : Fin (cfg0 (admOf m hT)).N := ⟨(y 0).val / 2304, (by omega : (y 0).val / 2304 < 88)⟩
      let z : S2304x128.Idx := ix2 ⟨(y 0).val % 2304, Nat.mod_lt _ (by norm_num)⟩ ⟨(y 1).val, hy1⟩
      have k := congrFun ((h.1 c).1 t) z
      have k1 : (((cfg0 (admOf m hT)).win 4).blk t).view.read (Elt Ideal) (r.2.mem ((c : Thread nD τ).loc main_v22)) z = r.2.mem ((c : Thread nD τ).loc main_v22) y := by
        refine congrArg (r.2.mem ((c : Thread nD τ).loc main_v22)) (funext fun b => Fin.ext ?_)
        refine (Pipeline.Window.rect_emb_val (hk := (rfl : ((cfg0 (admOf m hT)).win 4).kind = .blocked)) ((cfg0 (admOf m hT)).win 4) t z b).trans ?_
        fin_cases b
        · refine (congrArg (fun n => n * 2304 + (y 0).val % 2304) ((coord (grid0.coords t)).trans (coords_val t))).trans ?_
          show (y 0).val / 2304 * 2304 + (y 0).val % 2304 = (y 0).val
          omega
        · show 0 * 128 + (y 1).val = (y 1).val
          omega
      refine k1.symm.trans (k.trans ?_)
      refine (tile_at m (admOf m hT) (hT c) ((admOf_eq m hT c 0).symm.trans (pf_0 m c)) ((admOf_eq m hT c 1).symm.trans (pf_1 m c)) t
        ⟨(y 0).val % 2304 / 9, by omega⟩ ⟨(y 0).val % 9, by omega⟩ ⟨(y 1).val, hy1⟩ z
        (by show (y 0).val % 2304 = 9 * ((y 0).val % 2304 / 9) + (y 0).val % 9; omega) rfl
        ⟨(y 0).val / 9, by omega⟩ (by show (y 0).val / 9 = 256 * ((y 0).val / 2304) + (y 0).val % 2304 / 9; omega)).trans ?_
      rfl, (h.1 c).2⟩)
    (run_blocks m ρ hT)

end Cert.Kernel2Ideal.Own

end
-- ==== Proof.MoeRef.lean ====
/- The reference's whole result: each token's two experts, the others weighted by zero. -/
module

public import proofs.«01_k».proof.Proof.MoeSpec
public import proofs.«01_k».proof.Proof.Gen.Reference2Ideal.Run
public import Idealize.ShloMosaic.Lib.Pointwise.Contract
public import Idealize.ShloMosaic.Lib.IdealHost
public import Idealize.ShloMosaic.Lib.KernelVsHost
public import Idealize.ShloMosaic.Lib.Pipeline.ValueKit

@[expose] public section

set_option maxRecDepth 16384

noncomputable section

namespace Cert.Reference2Ideal.Own

open Cert.Reference2Ideal Cert.Reference2Ideal.Gen
open Idealize.ShloMosaic hiding ix0 ix1 ix2 ix3 ix4 ix5 ix6
open Idealize.ShloMosaic.ValueIdx
open Idealize.ShloMosaic.TcCoe
open Idealize.SL.Sem
open Cert.Kernel2Ideal.Own (ent Good eLo eHi eLo_lt eHi_lt idLo idHi up down glu expert contrib tok moeArr slt_small)

theorem dotUp_at (x : FVec Ideal S22528x1024 .f32) (y : FVec Ideal S16x1024x256 .f32) (p : Fin 22528) (e : Fin 16) (f : Fin 256) :
    Host.dotGeneral dot_S22528x1024_S16x1024x256_S22528x16x256_1_1_0_02_n_n none x y (ix3 p e f) = (∑ k : Fin 1024, x (ix2 p k) * y (ix3 e k f) : EReal) := by
  refine (Ideal.dotGeneral_apply dot_S22528x1024_S16x1024x256_S22528x16x256_1_1_0_02_n_n none _ x y _).trans
    ((dot_S22528x1024_S16x1024x256_S22528x16x256_1_1_0_02_n_n.sum_contr₁ (a := 1) rfl (K := 1024) rfl _).trans ?_)
  refine Finset.sum_congr rfl fun k _ => ?_
  congr 1
  · refine congrArg x (funext fun c => Fin.ext ?_)
    fin_cases c <;> rfl
  · refine congrArg y (funext fun c => Fin.ext ?_)
    fin_cases c <;> rfl

theorem dotDown_at (x : FVec Ideal S22528x16x256 .f32) (y : FVec Ideal S16x256x1024 .f32) (p : Fin 22528) (d : Fin 1024) :
    Host.dotGeneral dot_S22528x16x256_S16x256x1024_S22528x1024_12_01_0_2_n_n none x y (ix2 p d)
      = (∑ e : Fin 16, ∑ f : Fin 256, x (ix3 p e f) * y (ix3 e f d) : EReal) := by
  refine (Ideal.dotGeneral_apply dot_S22528x16x256_S16x256x1024_S22528x1024_12_01_0_2_n_n none _ x y _).trans
    ((dot_S22528x16x256_S16x256x1024_S22528x1024_12_01_0_2_n_n.sum_contr₂ (a := 1) (b := 2) rfl (K₁ := 16) (K₂ := 256) rfl rfl _).trans ?_)
  refine Finset.sum_congr rfl fun e _ => Finset.sum_congr rfl fun f _ => ?_
  congr 1
  · refine congrArg x (funext fun c => Fin.ext ?_)
    fin_cases c <;> rfl
  · refine congrArg y (funext fun c => Fin.ext ?_)
    fin_cases c <;> rfl

/-- A word spread over the tokens. -/
abbrev cw (w : BitVec 32) : IVec S22528 32 := broadcastInDim S22528 ![] bcast_S_S22528 (constantI S_ 32 w)

/-- The expert a bucket's words name, by its pair's entries. -/
abbrev pick (n0 n1 n2 n3 n4 n5 : BitVec 32) (v7 v9 : IVec S22528 32) : IVec S22528 32 :=
  addi (muli v7 (cw 4#32)) (id (addi (addi (addi (addi (addi (addi (cw 0#32) (select (cmpi .eq v9 (cw 0#32)) (cw n0) (cw 0#32))) (select (cmpi .eq v9 (cw 1#32)) (cw n1) (cw 0#32)))
    (select (cmpi .eq v9 (cw 2#32)) (cw n2) (cw 0#32))) (select (cmpi .eq v9 (cw 3#32)) (cw n3) (cw 0#32))) (select (cmpi .eq v9 (cw 4#32)) (cw n4) (cw 0#32)))
    (select (cmpi .eq v9 (cw 5#32)) (cw n5) (cw 0#32))))

abbrev lows (v5 : IVec S22528 32) : IVec S22528 32 := pick 0#32 0#32 0#32 1#32 1#32 2#32 (Host.divsi v5 (cw 6#32)) (Host.remsi v5 (cw 6#32))
abbrev highs (v5 : IVec S22528 32) : IVec S22528 32 := pick 1#32 2#32 3#32 2#32 3#32 3#32 (Host.divsi v5 (cw 6#32)) (Host.remsi v5 (cw 6#32))

/-- The same of words. -/
def pk (n0 n1 n2 n3 n4 n5 w7 w9 : BitVec 32) : BitVec 32 :=
  IntOp.addi (IntOp.muli w7 4#32) (IntOp.addi (IntOp.addi (IntOp.addi (IntOp.addi (IntOp.addi (IntOp.addi 0#32 (Scalar.select (IntOp.cmpi .eq w9 0#32) n0 0#32)) (Scalar.select (IntOp.cmpi .eq w9 1#32) n1 0#32))
    (Scalar.select (IntOp.cmpi .eq w9 2#32) n2 0#32)) (Scalar.select (IntOp.cmpi .eq w9 3#32) n3 0#32)) (Scalar.select (IntOp.cmpi .eq w9 4#32) n4 0#32))
    (Scalar.select (IntOp.cmpi .eq w9 5#32) n5 0#32))

def lowW (w : BitVec 32) : BitVec 32 := pk 0#32 0#32 0#32 1#32 1#32 2#32 (IntOp.divsi .host w 6#32) (IntOp.remsi .host w 6#32)
def highW (w : BitVec 32) : BitVec 32 := pk 1#32 2#32 3#32 2#32 3#32 3#32 (IntOp.divsi .host w 6#32) (IntOp.remsi .host w 6#32)

theorem lows_fin : ∀ n : Fin 24, lowW (BitVec.ofNat 32 n.val) = BitVec.ofNat 32 (idLo n.val).val := by decide +kernel
theorem highs_fin : ∀ n : Fin 24, highW (BitVec.ofNat 32 n.val) = BitVec.ofNat 32 (idHi n.val).val := by decide +kernel
theorem ids_ne : ∀ n : Fin 24, idLo n.val ≠ idHi n.val := by decide +kernel

theorem ofNat_self (w : BitVec 32) : BitVec.ofNat 32 w.toNat = w :=
  BitVec.eq_of_toNat_eq (by rw [BitVec.toNat_ofNat]; exact Nat.mod_eq_of_lt w.isLt)

theorem lows_at (v5 : IVec S22528 32) (i : S22528.Idx) (h : (v5 i).toNat < 24) : lows v5 i = BitVec.ofNat 32 (idLo (v5 i).toNat).val :=
  (show lows v5 i = lowW (v5 i) from rfl).trans ((congrArg lowW (ofNat_self _).symm).trans (lows_fin ⟨_, h⟩))

theorem highs_at (v5 : IVec S22528 32) (i : S22528.Idx) (h : (v5 i).toNat < 24) : highs v5 i = BitVec.ofNat 32 (idHi (v5 i).toNat).val :=
  (show highs v5 i = highW (v5 i) from rfl).trans ((congrArg highW (ofNat_self _).symm).trans (highs_fin ⟨_, h⟩))

/-- One at the named expert, zero at the others. -/
abbrev hot (ids : IVec S22528 32) : FVec Ideal S22528x16 .f32 :=
  uitofp .f32 (cmpi .eq (broadcastInDim S22528x16 ![0, 1] bcast_S22528x1_S22528x16_0_1 (broadcastInDim S22528x1 ![0] bcast_S22528_S22528x1_0 ids))
    (broadcastInDim S22528x16 ![0, 1] bcast_S1x16_S22528x16_0_1 (iotaInDim S1x16 32 1)))

theorem hot_at (ids : IVec S22528 32) (p : Fin 22528) (e E : Fin 16) (h : ids (ix1 p) = BitVec.ofNat 32 E.val) :
    hot ids (ix2 p e) = if e = E then (1 : EReal) else 0 := by
  have a : broadcastInDim S22528x16 ![0, 1] bcast_S22528x1_S22528x16_0_1 (broadcastInDim S22528x1 ![0] bcast_S22528_S22528x1_0 ids) (ix2 p e) = BitVec.ofNat 32 E.val := by
    refine (broadcastInDim_apply _ _ _ _ (ix2 p 0) fun b => by fin_cases b <;> rfl).trans ?_
    refine (broadcastInDim_apply _ _ _ _ (ix1 p) fun b => by fin_cases b; rfl).trans h
  have b : broadcastInDim S22528x16 ![0, 1] bcast_S1x16_S22528x16_0_1 (iotaInDim S1x16 32 1) (ix2 p e) = BitVec.ofNat 32 e.val :=
    (broadcastInDim_apply _ _ _ _ (ix2 0 e) fun b => by fin_cases b <;> rfl).trans rfl
  refine Eq.trans (b := (((IntOp.cmpi .eq (BitVec.ofNat 32 E.val) (BitVec.ofNat 32 e.val)).toNat : ℝ) : EReal)) ?_ ?_
  · exact congrArg₂ (fun x y : BitVec 32 => (((IntOp.cmpi .eq x y).toNat : ℝ) : EReal)) a b
  · have key : ∀ E e : Fin 16, (IntOp.cmpi .eq (BitVec.ofNat 32 E.val) (BitVec.ofNat 32 e.val)).toNat = if e = E then 1 else 0 := by decide +kernel
    rw [key]
    split <;> simp

/-- The first layer's weights. -/
theorem up_at (w : S4x16x1024x256.Idx → EReal) (e : Fin 16) (k : Fin 1024) (f : Fin 256) :
    shapeCast S16x1024x256 (extractStridedSlice S1x16x1024x256 ![0, 0, 0, 0] w slices_S4x16x1024x256_S1x16x1024x256_0_0_0_0) shapeCasts_S1x16x1024x256_S16x1024x256 (ix3 e k f) = up w e k f := by
  refine (shapeCast_apply (s := S1x16x1024x256) (t := S16x1024x256) _ _ _ (ix4 0 e k f) ?_).trans ?_
  · rw [Shape.rowMajor_val_three, Shape.rowMajor_val_four]
    show ((0 * 16 + e.val) * 1024 + k.val) * 256 + f.val = (e.val * 1024 + k.val) * 256 + f.val
    omega
  · refine extractStridedSlice_apply (s := S4x16x1024x256) (t := S1x16x1024x256) _ _ _ _ _ fun b => ?_
    fin_cases b
    · rfl
    · exact (Nat.zero_add _).symm
    · exact (Nat.zero_add _).symm
    · exact (Nat.zero_add _).symm

theorem down_at (w : S4x16x256x1024.Idx → EReal) (e : Fin 16) (f : Fin 256) (k : Fin 1024) :
    shapeCast S16x256x1024 (extractStridedSlice S1x16x256x1024 ![0, 0, 0, 0] w slices_S4x16x256x1024_S1x16x256x1024_0_0_0_0) shapeCasts_S1x16x256x1024_S16x256x1024 (ix3 e f k) = down w e f k := by
  refine (shapeCast_apply (s := S1x16x256x1024) (t := S16x256x1024) _ _ _ (ix4 0 e f k) ?_).trans ?_
  · rw [Shape.rowMajor_val_three, Shape.rowMajor_val_four]
    show ((0 * 16 + e.val) * 256 + f.val) * 1024 + k.val = (e.val * 256 + f.val) * 1024 + k.val
    omega
  · refine extractStridedSlice_apply (s := S4x16x256x1024) (t := S1x16x256x1024) _ _ _ _ _ fun b => ?_
    fin_cases b
    · rfl
    · exact (Nat.zero_add _).symm
    · exact (Nat.zero_add _).symm
    · exact (Nat.zero_add _).symm

section
variable (T : S128.Idx → BitVec 32) (h : S22528x1024.Idx → EReal) (g : S22528x2.Idx → EReal) (wg wu : S4x16x1024x256.Idx → EReal) (wd : S4x16x256x1024.Idx → EReal)

/-- The bucket of each token's tile. -/
abbrev bucket : IVec S22528 32 :=
  shapeCast _ (broadcastInDim S88x256 ![0] bcast_S88_S88x256_0 (extractStridedSlice S88 ![0] T slices_S128_S88_0)) shapeCasts_S88x256_S22528

theorem bucket_at (p : Fin 22528) : bucket T (ix1 p) = ent T (p.val / 256) := by
  have hp := p.isLt
  have h0 : p.val / 256 < 88 := by omega
  refine (shapeCast_apply (s := S88x256) (t := S22528) _ _ _ (ix2 ⟨_, h0⟩ ⟨p.val % 256, Nat.mod_lt _ (by norm_num)⟩) ?_).trans ?_
  · rw [Shape.rowMajor_val_one, Shape.rowMajor_val_two]
    show p.val / 256 * 256 + p.val % 256 = p.val
    omega
  refine (broadcastInDim_apply _ _ _ _ (ix1 ⟨_, h0⟩) fun b => by fin_cases b; rfl).trans ?_
  refine (extractStridedSlice_apply (s := S128) (t := S88) _ _ _ _ (ix1 ⟨p.val / 256, by omega⟩) fun b => ?_).trans ?_
  · fin_cases b; exact (Nat.zero_add _).symm
  · unfold ent
    refine congrArg T (funext fun b => Fin.ext ?_)
    obtain rfl : b = 0 := Subsingleton.elim _ _
    exact (Nat.mod_eq_of_lt (show p.val / 256 < 128 by omega)).symm

/-- Each token's tile. -/
theorem tile_at (p : Fin 22528) :
    shapeCast S22528 (broadcastInDim S88x256 ![0] bcast_S88_S88x256_0 (iotaInDim S88 32 0)) shapeCasts_S88x256_S22528 (ix1 p) = BitVec.ofNat 32 (p.val / 256) := by
  have hp := p.isLt
  have h0 : p.val / 256 < 88 := by omega
  refine (shapeCast_apply (s := S88x256) (t := S22528) _ _ _ (ix2 ⟨_, h0⟩ ⟨p.val % 256, Nat.mod_lt _ (by norm_num)⟩) ?_).trans ?_
  · rw [Shape.rowMajor_val_one, Shape.rowMajor_val_two]
    show p.val / 256 * 256 + p.val % 256 = p.val
    omega
  exact (broadcastInDim_apply _ _ _ _ (ix1 ⟨_, h0⟩) fun b => by fin_cases b; rfl).trans rfl

theorem used_at (j : S_.Idx) : shapeCast S_ (extractStridedSlice S1 ![127] T slices_S128_S1_127) shapeCasts_S1_S_ j = ent T 127 := by
  refine (shapeCast_apply (s := S1) (t := S_) _ _ _ (ix1 0) ?_).trans ?_
  · rw [Shape.rowMajor_val_one]
    have := ((Shape.rowMajor (s := S_)) j).isLt
    exact (Nat.lt_one_iff.mp (this : _ < 1)).symm
  · exact (extractStridedSlice_apply (s := S128) (t := S1) _ _ _ _ (ix1 127) fun b => by fin_cases b; rfl).trans
      (congrArg T (funext fun b => Fin.ext (by obtain rfl : b = 0 := Subsingleton.elim _ _; rfl)))

/-- The weight of an expert for a token. -/
abbrev weights : FVec Ideal S22528x16 .f32 :=
  addf (addf (broadcastInDim S22528x16 ![] bcast_S_S22528x16 (constant S_ .f32 0x00000000#32))
    (mulf (hot (lows (bucket T))) (broadcastInDim S22528x16 ![0, 1] bcast_S22528x1_S22528x16_0_1 (extractStridedSlice S22528x1 ![0, 0] g slices_S22528x2_S22528x1_0_0))))
    (mulf (hot (highs (bucket T))) (broadcastInDim S22528x16 ![0, 1] bcast_S22528x1_S22528x16_0_1 (extractStridedSlice S22528x1 ![0, 1] g slices_S22528x2_S22528x1_0_1)))

theorem weights_at (p : Fin 22528) (e : Fin 16) (hw : (ent T (p.val / 256)).toNat < 24) :
    weights T g (ix2 p e) = ((0 + (if e = idLo (ent T (p.val / 256)).toNat then (1 : EReal) else 0) * g (ix2 p 0)) + (if e = idHi (ent T (p.val / 256)).toNat then (1 : EReal) else 0) * g (ix2 p 1) : EReal) := by
  have hb := bucket_at T p
  have gate : ∀ (γ : Fin 2) (off : Fin 2 → ℕ) (hs : S22528x2.Slices off S22528x1), off 0 = 0 → off 1 = γ.val →
      broadcastInDim S22528x16 ![0, 1] bcast_S22528x1_S22528x16_0_1 (extractStridedSlice S22528x1 off g hs) (ix2 p e) = g (ix2 p γ) := fun γ off hs o0 o1 => by
    refine (broadcastInDim_apply _ _ _ _ (ix2 p 0) fun b => by fin_cases b <;> rfl).trans ?_
    refine extractStridedSlice_apply (s := S22528x2) (t := S22528x1) _ _ _ _ _ fun b => ?_
    fin_cases b
    · show p.val = off 0 + p.val; omega
    · show γ.val = off 1 + 0; omega
  refine congrArg₂ (fun a b : EReal => a + b) (congrArg₂ (fun a b : EReal => a + b) Ideal.ofBits_zero_f32 (congrArg₂ (fun a b : EReal => a * b) ?_ (gate 0 _ _ rfl rfl))) (congrArg₂ (fun a b : EReal => a * b) ?_ (gate 1 _ _ rfl rfl))
  · refine hot_at _ p e _ ((lows_at _ _ (by rw [hb]; exact hw)).trans ?_)
    rw [hb]
  · refine hot_at _ p e _ ((highs_at _ _ (by rw [hb]; exact hw)).trans ?_)
    rw [hb]

/-- What a token's gated hidden lanes are, at an expert's. -/
abbrev hidden : FVec Ideal S22528x16x256 .f32 :=
  mulf (mulf (mulf (Host.dotGeneral (F := Ideal) (φ₁ := .f32) (φ₂ := .f32) dot_S22528x1024_S16x1024x256_S22528x16x256_1_1_0_02_n_n none h (shapeCast _ (extractStridedSlice S1x16x1024x256 ![0, 0, 0, 0] wg slices_S4x16x1024x256_S1x16x1024x256_0_0_0_0) shapeCasts_S1x16x1024x256_S16x1024x256))
    (Host.divf (broadcastInDim S22528x16x256 ![] bcast_S_S22528x16x256 (constant S_ .f32 0x3F800000#32)) (addf (broadcastInDim S22528x16x256 ![] bcast_S_S22528x16x256 (constant S_ .f32 0x3F800000#32)) (Host.exp (Host.negf (Host.dotGeneral (F := Ideal) (φ₁ := .f32) (φ₂ := .f32) dot_S22528x1024_S16x1024x256_S22528x16x256_1_1_0_02_n_n none h (shapeCast _ (extractStridedSlice S1x16x1024x256 ![0, 0, 0, 0] wg slices_S4x16x1024x256_S1x16x1024x256_0_0_0_0) shapeCasts_S1x16x1024x256_S16x1024x256)))))))
    (Host.dotGeneral (F := Ideal) (φ₁ := .f32) (φ₂ := .f32) dot_S22528x1024_S16x1024x256_S22528x16x256_1_1_0_02_n_n none h (shapeCast _ (extractStridedSlice S1x16x1024x256 ![0, 0, 0, 0] wu slices_S4x16x1024x256_S1x16x1024x256_0_0_0_0) shapeCasts_S1x16x1024x256_S16x1024x256)))
    (broadcastInDim S22528x16x256 ![0, 1, 2] bcast_S22528x16x1_S22528x16x256_0_1_2 (broadcastInDim S22528x16x1 ![0, 1] bcast_S22528x16_S22528x16x1_0_1 (weights T g)))

theorem upDot_at (w : S4x16x1024x256.Idx → EReal) (p : Fin 22528) (e : Fin 16) (f : Fin 256) :
    Host.dotGeneral (F := Ideal) (φ₁ := .f32) (φ₂ := .f32) dot_S22528x1024_S16x1024x256_S22528x16x256_1_1_0_02_n_n none h (shapeCast _ (extractStridedSlice S1x16x1024x256 ![0, 0, 0, 0] w slices_S4x16x1024x256_S1x16x1024x256_0_0_0_0) shapeCasts_S1x16x1024x256_S16x1024x256) (ix3 p e f)
      = (∑ k : Fin 1024, h (ix2 p k) * up w e k f : EReal) :=
  (dotUp_at _ _ p e f).trans (Finset.sum_congr rfl fun k _ => congrArg (fun x : EReal => h (ix2 p k) * x) (up_at w e k f))

theorem hidden_at (p : Fin 22528) (e : Fin 16) (f : Fin 256) :
    hidden T h g wg wu (ix3 p e f) = (glu (∑ k : Fin 1024, h (ix2 p k) * up wg e k f) (∑ k : Fin 1024, h (ix2 p k) * up wu e k f) * weights T g (ix2 p e) : EReal) := by
  refine congrArg₂ (fun a b : EReal => a * b) ?_ ?_
  · exact congrArg₂ glu (upDot_at h wg p e f) (upDot_at h wu p e f)
  · exact (broadcastInDim_apply _ _ _ _ (ix3 p e 0) fun b => by fin_cases b <;> rfl).trans
      (broadcastInDim_apply _ _ _ _ (ix2 p e) fun b => by fin_cases b <;> rfl)

/-- Every expert's sum: the two named ones remain. -/
theorem total_at (p : Fin 22528) (d : Fin 1024) (hw : (ent T (p.val / 256)).toNat < 24) :
    Host.dotGeneral (F := Ideal) (φ₁ := .f32) (φ₂ := .f32) dot_S22528x16x256_S16x256x1024_S22528x1024_12_01_0_2_n_n none (hidden T h g wg wu) (shapeCast _ (extractStridedSlice S1x16x256x1024 ![0, 0, 0, 0] wd slices_S4x16x256x1024_S1x16x256x1024_0_0_0_0) shapeCasts_S1x16x256x1024_S16x256x1024) (ix2 p d)
      = contrib h g wg wu wd p (idLo (ent T (p.val / 256)).toNat) 0 d + contrib h g wg wu wd p (idHi (ent T (p.val / 256)).toNat) 1 d := by
  have ne := ids_ne ⟨_, hw⟩
  have term : ∀ e : Fin 16, (∑ f : Fin 256, hidden T h g wg wu (ix3 p e f) * shapeCast S16x256x1024 (extractStridedSlice S1x16x256x1024 ![0, 0, 0, 0] wd slices_S4x16x256x1024_S1x16x256x1024_0_0_0_0) shapeCasts_S1x16x256x1024_S16x256x1024 (ix3 e f d) : EReal)
      = expert (fun k => h (ix2 p k)) (up wg e) (up wu e) (down wd e) ((0 + (if e = idLo (ent T (p.val / 256)).toNat then (1 : EReal) else 0) * g (ix2 p 0)) + (if e = idHi (ent T (p.val / 256)).toNat then (1 : EReal) else 0) * g (ix2 p 1)) d := fun e => by
    unfold expert
    refine Finset.sum_congr rfl fun f _ => congrArg₂ (fun a b : EReal => a * b) ?_ (down_at wd e f d)
    exact (hidden_at T h g wg wu p e f).trans (congrArg (fun x : EReal => glu (∑ k : Fin 1024, h (ix2 p k) * up wg e k f) (∑ k : Fin 1024, h (ix2 p k) * up wu e k f) * x) (weights_at T g p e hw))
  refine (dotDown_at _ _ p d).trans ((Finset.sum_congr rfl fun e _ => term e).trans ((Fintype.sum_eq_add (idLo (ent T (p.val / 256)).toNat) (idHi (ent T (p.val / 256)).toNat) ne fun e he => ?_).trans ?_))
  · rw [if_neg he.1, if_neg he.2, zero_mul, zero_mul, zero_add, add_zero]
    unfold expert
    exact Finset.sum_eq_zero fun f _ => by rw [mul_zero, zero_mul]
  · unfold contrib
    simp only [if_pos, if_neg ne, if_neg ne.symm, zero_mul, one_mul, zero_add, add_zero]

/-- The tokens of the tiles in use, the others at zero. -/
abbrev masked : FVec Ideal S22528x1024 .f32 :=
  select (broadcastInDim S22528x1024 ![0, 1] bcast_S22528x1_S22528x1024_0_1 (broadcastInDim S22528x1 ![0] bcast_S22528_S22528x1_0 (cmpi .slt (shapeCast _ (broadcastInDim S88x256 ![0] bcast_S88_S88x256_0 (iotaInDim S88 32 0)) shapeCasts_S88x256_S22528) (broadcastInDim S22528 ![] bcast_S_S22528 (shapeCast _ (extractStridedSlice S1 ![127] T slices_S128_S1_127) shapeCasts_S1_S_)))))
    (Host.dotGeneral (F := Ideal) (φ₁ := .f32) (φ₂ := .f32) dot_S22528x16x256_S16x256x1024_S22528x1024_12_01_0_2_n_n none (hidden T h g wg wu) (shapeCast _ (extractStridedSlice S1x16x256x1024 ![0, 0, 0, 0] wd slices_S4x16x256x1024_S1x16x256x1024_0_0_0_0) shapeCasts_S1x16x256x1024_S16x256x1024))
    (broadcastInDim S22528x1024 ![] bcast_S_S22528x1024 (id (constant S_ .f32 0x00000000#32)))

theorem masked_at (hT : Good T) (p : Fin 22528) (d : Fin 1024) : masked T h g wg wu wd (ix2 p d) = tok T h g wg wu wd p d := by
  have hp := p.isLt
  have h88 := hT.le
  have hmask : broadcastInDim S22528x1024 ![0, 1] bcast_S22528x1_S22528x1024_0_1 (broadcastInDim S22528x1 ![0] bcast_S22528_S22528x1_0 (cmpi .slt (shapeCast _ (broadcastInDim S88x256 ![0] bcast_S88_S88x256_0 (iotaInDim S88 32 0)) shapeCasts_S88x256_S22528) (broadcastInDim S22528 ![] bcast_S_S22528 (shapeCast _ (extractStridedSlice S1 ![127] T slices_S128_S1_127) shapeCasts_S1_S_)))) (ix2 p d)
      = BitVec.ofBool (decide (p.val / 256 < (ent T 127).toNat)) := by
    refine (broadcastInDim_apply _ _ _ _ (ix2 p 0) fun b => by fin_cases b <;> rfl).trans ?_
    refine (broadcastInDim_apply _ _ _ _ (ix1 p) fun b => by fin_cases b; rfl).trans ?_
    refine (congrArg₂ (fun a b : BitVec 32 => IntOp.cmpi .slt a b) (tile_at p) ((broadcastInDim_apply _ _ _ _ ix0 fun b => b.elim0).trans (used_at T ix0))).trans ?_
    have hn : (BitVec.ofNat 32 (p.val / 256)).toNat = p.val / 256 := by
      rw [BitVec.toNat_ofNat]; exact Nat.mod_eq_of_lt (by omega)
    show BitVec.ofBool (BitVec.slt _ _) = _
    rw [slt_small (by omega) (by omega), hn]
  refine (congrArg (fun b : BitVec 1 => Scalar.select b (Host.dotGeneral (F := Ideal) (φ₁ := .f32) (φ₂ := .f32) dot_S22528x16x256_S16x256x1024_S22528x1024_12_01_0_2_n_n none (hidden T h g wg wu) (shapeCast _ (extractStridedSlice S1x16x256x1024 ![0, 0, 0, 0] wd slices_S4x16x256x1024_S1x16x256x1024_0_0_0_0) shapeCasts_S1x16x256x1024_S16x256x1024) (ix2 p d)) (Ideal.ofBits .f32 0x00000000#32)) hmask).trans ?_
  unfold tok
  by_cases hu : p.val / 256 < (ent T 127).toNat
  · rw [if_pos hu, decide_eq_true hu]
    exact (show Scalar.select (BitVec.ofBool true) _ _ = _ from rfl).trans (total_at T h g wg wu wd p d (hT.lt _ hu))
  · rw [if_neg hu, decide_eq_false hu]
    exact (show Scalar.select (BitVec.ofBool false) _ (Ideal.ofBits .f32 0x00000000#32) = Ideal.ofBits .f32 0x00000000#32 from rfl).trans Ideal.ofBits_zero_f32

/-- Nine rows to a token. -/
theorem whole_eq (hT : Good T) :
    shapeCast S202752x128 (pad S22528x9x128 ![0, 0, 0] ![0, 1, 0] ![0, 0, 0] (shapeCast _ (masked T h g wg wu wd) shapeCasts_S22528x1024_S22528x8x128) (sitofp (F := Ideal) .f32 (constantI S_ 32 0#32)) pads_S22528x8x128_S22528x9x128_000_010_000 h_S_) shapeCasts_S22528x9x128_S202752x128
      = moeArr T h g wg wu wd := funext fun y => by
  have h0 : (y 0).val < 202752 := (y 0).isLt
  have h1 : (y 1).val < 128 := (y 1).isLt
  have hq : (y 0).val / 9 < 22528 := by omega
  have hm : (y 0).val % 9 < 9 := Nat.mod_lt _ (by norm_num)
  refine (shapeCast_apply (s := S22528x9x128) (t := S202752x128) _ _ y (ix3 ⟨_, hq⟩ ⟨_, hm⟩ ⟨(y 1).val, h1⟩) ?_).trans ?_
  · rw [Shape.rowMajor_val_two, Shape.rowMajor_val_three]
    show ((y 0).val / 9 * 9 + (y 0).val % 9) * 128 + (y 1).val = (y 0).val * 128 + (y 1).val
    omega
  unfold moeArr
  by_cases hr : (y 0).val % 9 < 8
  · rw [dif_pos hr]
    refine (pad_apply_of_inside (s := S22528x8x128) (t := S22528x9x128) _ _ _ _ _ _ _ (ix3 ⟨_, hq⟩ ⟨_, hm⟩ ⟨(y 1).val, h1⟩) (ix3 ⟨_, hq⟩ ⟨_, hr⟩ ⟨(y 1).val, h1⟩) fun b => ?_).trans ?_
    · fin_cases b <;> exact ((Nat.zero_add _).trans (Nat.mul_one _)).symm
    refine (shapeCast_apply (s := S22528x1024) (t := S22528x8x128) _ _ _ (ix2 ⟨_, hq⟩ ⟨128 * ((y 0).val % 9) + (y 1).val, by omega⟩) ?_).trans (masked_at T h g wg wu wd hT _ _)
    rw [Shape.rowMajor_val_two, Shape.rowMajor_val_three]
    show (y 0).val / 9 * 1024 + (128 * ((y 0).val % 9) + (y 1).val) = ((y 0).val / 9 * 8 + (y 0).val % 9) * 128 + (y 1).val
    omega
  · rw [dif_neg hr]
    refine (pad_apply_of_not_inside (s := S22528x8x128) (t := S22528x9x128) _ _ _ _ _ _ _ (ix3 ⟨_, hq⟩ ⟨_, hm⟩ ⟨(y 1).val, h1⟩) 1 fun hin => hr ?_).trans ?_
    · exact lt_of_le_of_lt (le_of_eq (by show _ = ((y 0).val % 9 - 0) / (0 + 1); omega)) hin.2.2
    · show (((0#32 : BitVec 32).toInt : ℝ) : EReal) = 0
      simp

end

theorem run_value (m : (ℓ : Loc nD τ sig) → Buf (Elt Ideal) ℓ) (ρ : Dev nD → PrngReg) (hT : ∀ c : Dev nD, Good (m ((c : Thread nD τ).loc main_arg0))) :
    θ_run defs (onTc (τ := τ) (main (F := Ideal))) ⟨m, fun _ => 0, ρ⟩ fun r => ∀ c : Dev nD,
      r.2.mem ((c : Thread nD τ).loc main_v101) = moeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (whole_eq _ _ _ _ _ _ (hT c)), (h c).2⟩) (Value.run (F := Ideal) m ρ)

end Cert.Reference2Ideal.Own

end
-- ==== Proof.MoeFrames.lean ====
/- The experts' kernel and its reference: the runs end with the arguments unchanged, and with the same result. -/
module

public import proofs.«01_k».proof.Defs
public import proofs.«01_k».proof.Proof.MoeSame
public import proofs.«01_k».proof.Proof.MoeRun
public import proofs.«01_k».proof.Proof.MoePre
public import proofs.«01_k».proof.Proof.MoeValue
public import proofs.«01_k».proof.Proof.MoeRef
public import Idealize.ShloMosaic.Lib.Quiescent

@[expose] public section

noncomputable section

namespace Cert.Proof

open Idealize.ShloMosaic Idealize.SL.Sem
open Cert.Kernel2Ideal.Own

theorem kernel2Ideal_frame : @Cert.quiescent_Kernel2Ideal Cert.Kernel2Ideal.Gen.facts bucketedFacts := fun m g hp =>
  (θ_run _ _ _).mono (fun _ h => ⟨fun c => (h.1 c).2, h.2⟩) (run_blocks (F := Ideal) m g fun c => good_of _ _ _ _ _ _ (hp c))

set_option maxHeartbeats 1000000 in
theorem kernel2_frame : @Cert.quiescent_Kernel2 Cert.Kernel2.Gen.facts bucketedFacts := fun m g hp =>
  MoeSame.pass _ _ ((θ_run _ _ _).mono (fun _ h => ⟨fun c => (h.1 c).2, h.2⟩) (run_blocks (F := Bits) m g fun c => good_of _ _ _ _ _ _ (hp c)))

theorem reference2_frame : @Cert.quiescent_Reference2Ideal Cert.Reference2Ideal.Gen.facts := fun m g _ =>
  (θ_run _ _ _).mono (fun r h => ⟨fun c => (h c).2, sem_eq_zero_of_no_sems rfl r.2⟩) (Cert.Reference2Ideal.Value.run (F := Ideal) m g)

theorem reference2_frame_pre : @Cert.quiescent_Reference2Ideal_pre_bucketed Cert.Reference2Ideal.Gen.facts bucketedFacts := fun m g _ =>
  reference2_frame m g trivial

/-- The two results are one function of the arguments. -/
theorem same2 (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    moeArr (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
      = moeArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) := by
  rw [h.1, h.2.1, h.2.2.1, h.2.2.2.1, h.2.2.2.2.1, h.2.2.2.2.2]

theorem algebraic2 : @Cert.algebraic_Kernel2Ideal_Reference2Ideal Cert.Kernel2Ideal.Gen.facts Cert.Reference2Ideal.Gen.facts bucketedFacts := fun m g m' g' hp hm =>
  have hT : ∀ c, Good (tab m c) := fun c => good_of _ _ _ _ _ _ (hp c)
  ⟨fun c => moeArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)),
    run_value2 m g hT,
    (θ_run _ _ _).mono (fun r h c => ⟨(h c).1.trans (same2 m m' c (hm c)), (h c).2⟩)
      (Cert.Reference2Ideal.Own.run_value m' g' fun c => (hm c).1.symm ▸ hT c)⟩

end Cert.Proof

end
-- ==== Proof.lean ====
/- The proof of the claims. -/
module

public import proofs.«01_k».proof.Defs
public import proofs.«01_k».proof.Proof.Gen.Kernel.Frame
public import proofs.«01_k».proof.Proof.RefValue
public import proofs.«01_k».proof.Proof.MoeFrames
public import Idealize.ShloMosaic.Lib.Quiescent
public import Idealize.ShloMosaic.Lib.ReduceAll

@[expose] public section

noncomputable section

namespace Cert.Proof

open Idealize.ShloMosaic Idealize.SL.Sem

/-- The reference ends with its arguments unchanged and every counter at zero: it has no counters. -/
theorem referenceFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run (F := Ideal) m g)

/-- The side conditions of the precondition. -/
theorem finiteFacts : Cert.Pre_finite_q.Facts := ⟨by decide, by decide, by decide⟩

/-- The word of positive infinity is positive infinity. -/
theorem word_top : (Ideal.ofBits .f32 0x7F800000#32 : EReal) = ⊤ := by
  simp [Ideal.ofBits, Ideal.ieee]

/-- A number whose magnitude is below infinity is neither infinity. -/
theorem finite_of (x : EReal) (h : Ideal.cmp .olt (max x (-x)) ⊤ = 1#1) : x ≠ ⊥ ∧ x ≠ ⊤ := by
  refine ⟨?_, ?_⟩ <;> rintro rfl <;> simp [Ideal.cmp] at h

/-- Under the precondition the queries are finite. -/
theorem finite_q (m : (ℓ : Loc Cert.KernelIdeal.nD Cert.KernelIdeal.τ Cert.KernelIdeal.sig) → Buf (Elt Ideal) ℓ)
    (hp : Cert.Pre_KernelIdeal_finite_q (hPre_finite_q := finiteFacts) m) (c : Dev Cert.KernelIdeal.nD) (y) :
    m ((c.tc : Thread Cert.KernelIdeal.nD Cert.KernelIdeal.τ).loc Cert.KernelIdeal.main_arg0) y ≠ (⊥ : EReal)
      ∧ m ((c.tc : Thread Cert.KernelIdeal.nD Cert.KernelIdeal.τ).loc Cert.KernelIdeal.main_arg0) y ≠ (⊤ : EReal) := by
  haveI : Subsingleton Cert.Pre_finite_q.S_.Idx := ⟨fun a b => funext fun k => k.elim0⟩
  have h := Host.reduce_andi_all _ _ _ _ (fun k => k.elim0) (congrFun (hp c) fun k => k.elim0) y
  refine finite_of _ (Eq.trans ?_ h)
  rw [← word_top]
  rfl

/-- The kernel and the reference, on the same arguments, end with the same result. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Own.outArr (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = Cert.KernelIdeal.Own.outArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := by
  rw [h.1, h.2.1, h.2.2]

/-- The claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, finiteFacts, Cert.Kernel2Ideal.Own.bucketedFacts,
  fun m g _ => Cert.Kernel.Gen.frame m g,
  fun m g _ => Cert.KernelIdeal.Own.frame m g,
  fun m g _ => Cert.KernelIdeal.Own.frame m g,
  fun m g _ => referenceFrame m g,
  fun m g _ => referenceFrame m g,
  kernel2_frame, kernel2Ideal_frame, reference2_frame, reference2_frame_pre,
  ⟨IdealRules.named_const.statement _ _ _ _ _ rfl, IdealRules.named_const.statement _ _ _ _ _ rfl⟩,
  fun m g m' g' hp hm => ⟨fun c => Cert.KernelIdeal.Own.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Own.run_value m g (finite_q m hp),
    (θ_run _ _ _).mono (fun r h c => ⟨(h c).1.trans (same m m' c (hm c)), (h c).2⟩) (Cert.ReferenceIdeal.Own.run_value m' g')⟩,
  trivial, algebraic2⟩

end Cert.Proof

end
